-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v285) = v0 c
          ∧ r.2.mem ((c.tc : Thread Cert.Reference3Ideal.nD Cert.Reference3Ideal.τ).loc Cert.Reference3Ideal.main_v300) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S1x8192x2048 : Shape := ⟨3, ![1, 8192, 2048]⟩
abbrev S1x2048 : Shape := ⟨2, ![1, 2048]⟩
abbrev S1x2048x14368 : Shape := ⟨3, ![1, 2048, 14368]⟩
abbrev S7 : Shape := ⟨1, ![7]⟩
abbrev S2048x14368 : Shape := ⟨2, ![2048, 14368]⟩
abbrev S14368x2048 : Shape := ⟨2, ![14368, 2048]⟩
abbrev S32x2048 : Shape := ⟨2, ![32, 2048]⟩
abbrev S_ : Shape := ⟨0, ![]⟩
abbrev S128x2048 : Shape := ⟨2, ![128, 2048]⟩
abbrev S8192x2048 : Shape := ⟨2, ![8192, 2048]⟩
abbrev S2048 : Shape := ⟨1, ![2048]⟩
abbrev S8192x10240 : Shape := ⟨2, ![8192, 10240]⟩
abbrev S8192x128 : Shape := ⟨2, ![8192, 128]⟩
abbrev S1024x2048 : Shape := ⟨2, ![1024, 2048]⟩
abbrev S1 : Shape := ⟨1, ![1]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S256x2048 : Shape := ⟨2, ![256, 2048]⟩
abbrev S256x256 : Shape := ⟨2, ![256, 256]⟩

abbrev nBuf : Space → Nat
  | .hbm => 19
  | .vmem => 15
  | .smem => 2
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x14368, .f32⟩
  | .hbm, ⟨3, _⟩ => ⟨S2048x14368, .f32⟩
  | .hbm, ⟨4, _⟩ => ⟨S14368x2048, .f32⟩
  | .hbm, ⟨5, _⟩ => ⟨S14368x2048, .bf16⟩
  | .hbm, ⟨6, _⟩ => ⟨S2048x14368, .f32⟩
  | .hbm, ⟨7, _⟩ => ⟨S14368x2048, .f32⟩
  | .hbm, ⟨8, _⟩ => ⟨S32x2048, .f32⟩
  | .hbm, ⟨9, _⟩ => ⟨S_, .i32⟩
  | .hbm, ⟨10, _⟩ => ⟨S_, .f32⟩
  | .hbm, ⟨11, _⟩ => ⟨S128x2048, .f32⟩
  | .hbm, ⟨12, _⟩ => ⟨S128x2048, .bf16⟩
  | .hbm, ⟨13, _⟩ => ⟨S8192x2048, .f32⟩
  | .hbm, ⟨14, _⟩ => ⟨S2048, .f32⟩
  | .hbm, ⟨15, _⟩ => ⟨S1x2048, .f32⟩
  | .hbm, ⟨16, _⟩ => ⟨S8192x10240, .bf16⟩
  | .hbm, ⟨17, _⟩ => ⟨S8192x2048, .bf16⟩
  | .hbm, ⟨18, _⟩ => ⟨S8192x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S128x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .bf16⟩
  | .local _ .vmem, ⟨11, _⟩ => ⟨S1024x1024, .bf16⟩
  | .local _ .vmem, ⟨12, _⟩ => ⟨S1024x128, .bf16⟩
  | .local _ .vmem, ⟨13, _⟩ => ⟨S1024x128, .bf16⟩
  | .local _ .vmem, ⟨14, _⟩ => ⟨S1024x2048, .bf16⟩
  | .local _ .smem, ⟨0, _⟩ => ⟨S7, .i32⟩
  | .local _ .smem, ⟨1, _⟩ => ⟨S7, .i32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 7], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c32_i32 : BitVec 32 := 32#32
  let v2 : BitVec 32 := Scalar.muli v1 c32_i32
  v2

def k0_mult2 (pf : pre0.Contents (Elt F)) (i : grid0.Coords) : BitVec 32 :=
  let arg1 : BitVec 32 := BitVec.ofNat 32 (i 1).val
  let v0 : Index := Scalar.indexCast arg1
  let v1 : BitVec 32 := pf.atD 1 ![v0.toNat]
  let c32_i32 : BitVec 32 := 32#32
  let v2 : BitVec 32 := Scalar.muli v1 c32_i32
  v2

def k0_cond2 (i : grid0.Coords) : BitVec 1 :=
  let arg1 : BitVec 32 := BitVec.ofNat 32 (i 1).val
  let c2_i32 : BitVec 32 := 2#32
  let v6 : BitVec 1 := Scalar.cmpi .slt arg1 c2_i32
  let v7 : BitVec 32 := Scalar.extui v6
  let c0_i32_1 : BitVec 32 := 0#32
  let v8 : BitVec 1 := Scalar.cmpi .ne v7 c0_i32_1
  v8

def k0_cond3 (i : grid0.Coords) : BitVec 1 :=
  let arg1 : BitVec 32 := BitVec.ofNat 32 (i 1).val
  let c2_i32_2 : BitVec 32 := 2#32
  let v9 : BitVec 1 := Scalar.cmpi .sge arg1 c2_i32_2
  let c3_i32_3 : BitVec 32 := 3#32
  let v10 : BitVec 1 := Scalar.cmpi .slt arg1 c3_i32_3
  let v11 : BitVec 1 := Scalar.andi v9 v10
  let v12 : BitVec 32 := Scalar.extui v11
  let c0_i32_4 : BitVec 32 := 0#32
  let v13 : BitVec 1 := Scalar.cmpi .ne v12 c0_i32_4
  v13

def k0_cond4 (i : grid0.Coords) : BitVec 1 :=
  let arg1 : BitVec 32 := BitVec.ofNat 32 (i 1).val
  let c5_i32_5 : BitVec 32 := 5#32
  let v14 : BitVec 1 := Scalar.cmpi .sge arg1 c5_i32_5
  let v15 : BitVec 32 := Scalar.extui v14
  let c0_i32_6 : BitVec 32 := 0#32
  let v16 : BitVec 1 := Scalar.cmpi .ne v15 c0_i32_6
  v16

def k0_cond5 (i : grid0.Coords) : BitVec 1 :=
  let arg1 : BitVec 32 := BitVec.ofNat 32 (i 1).val
  let c3_i32 : BitVec 32 := 3#32
  let v3 : BitVec 1 := Scalar.cmpi .sge arg1 c3_i32
  let c5_i32 : BitVec 32 := 5#32
  let v4 : BitVec 1 := Scalar.cmpi .slt arg1 c5_i32
  let v5 : BitVec 1 := Scalar.andi v3 v4
  let v17 : BitVec 32 := Scalar.extui v5
  let c0_i32_7 : BitVec 32 := 0#32
  let v18 : BitVec 1 := Scalar.cmpi .ne v17 c0_i32_7
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S7.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S7) ![v0.toNat] S1.size (k0_off1_inb i)) numel1_S1
  let c32_i32 : BitVec 32 := 32#32
  let v2 : BitVec 32 := Scalar.muli v1 c32_i32
  let v3 : BitVec 32 := v2
  let c0_i32 : BitVec 32 := 0#32
  let c0_i32_0 : BitVec 32 := 0#32
  ![v3.toNat, c0_i32.toNat]

def cc0_transform_4 (k0_off1_inb : ∀ i : grid0.Coords, ∀ a, (k0_off1 i) a + S1.size a ≤ S7.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S7) ![v0.toNat] S1.size (k0_off1_inb i)) numel1_S1
  let c32_i32 : BitVec 32 := 32#32
  let v2 : BitVec 32 := Scalar.muli v1 c32_i32
  let v3 : BitVec 32 := v2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c2_i32 : BitVec 32 := 2#32
  let v1 : BitVec 32 := Scalar.subi arg1 c2_i32
  let c2_i32_0 : BitVec 32 := 2#32
  let v2 : BitVec 32 := Scalar.maxsi v1 c2_i32_0
  let v3 : BitVec 32 := Scalar.select v0 arg1 v2
  let c0_i32 : BitVec 32 := 0#32
  ![arg0.toNat, v3.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S1x8192x2048 : Shape := ⟨3, ![1, 8192, 2048]⟩
abbrev S1x2048 : Shape := ⟨2, ![1, 2048]⟩
abbrev S1x2048x14368 : Shape := ⟨3, ![1, 2048, 14368]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S2048x14368 : Shape := ⟨2, ![2048, 14368]⟩
abbrev S8192x14368 : Shape := ⟨2, ![8192, 14368]⟩
abbrev S8192x1024 : Shape := ⟨2, ![8192, 1024]⟩
abbrev S8192x16 : Shape := ⟨2, ![8192, 16]⟩
abbrev S8192x4096 : Shape := ⟨2, ![8192, 4096]⟩
abbrev S8192x10240 : Shape := ⟨2, ![8192, 10240]⟩
abbrev S8192x32 : Shape := ⟨2, ![8192, 32]⟩
abbrev S8192x128 : Shape := ⟨2, ![8192, 128]⟩

abbrev nBuf : Space → Nat
  | .hbm => 67
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x14368, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x14368, .f32⟩
  | .hbm, ⟨22, _⟩ => ⟨S8192x14368, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x2048, .f32⟩
  | .hbm, ⟨27, _⟩ => ⟨S8192x16, .f32⟩
  | .hbm, ⟨28, _⟩ => ⟨S8192x16, .f32⟩
  | .hbm, ⟨29, _⟩ => ⟨S8192x4096, .f32⟩
  | .hbm, ⟨30, _⟩ => ⟨S8192x4096, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x4096, .f32⟩
  | .hbm, ⟨52, _⟩ => ⟨S8192x4096, .f32⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S_, .f32⟩
  | .hbm, ⟨57, _⟩ => ⟨S8192x4096, .f32⟩
  | .hbm, ⟨58, _⟩ => ⟨S8192x4096, .f32⟩
  | .hbm, ⟨59, _⟩ => ⟨S8192x10240, .f32⟩
  | .hbm, ⟨60, _⟩ => ⟨S8192x32, .f32⟩
  | .hbm, ⟨61, _⟩ => ⟨S_, .i32⟩
  | .hbm, ⟨62, _⟩ => ⟨S_, .f32⟩
  | .hbm, ⟨63, _⟩ => ⟨S8192x128, .f32⟩
  | .hbm, ⟨64, _⟩ => ⟨S8192x10240, .bf16⟩
  | .hbm, ⟨65, _⟩ => ⟨S8192x2048, .bf16⟩
  | .hbm, ⟨66, _⟩ => ⟨S8192x128, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c : Ref sig .tc := ⟨.hbm, 61, rfl⟩
abbrev main_call1_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel2.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S2048 : Shape := ⟨1, ![2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S2048, .f32⟩
  | .hbm, ⟨10, _⟩ => ⟨S1x2048, .f32⟩
  | .hbm, ⟨11, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x8192, .f32⟩
  | .hbm, ⟨3, _⟩ => ⟨S1x8192x2048, .f32⟩
  | .hbm, ⟨4, _⟩ => ⟨S1x2048, .f32⟩
  | .hbm, ⟨5, _⟩ => ⟨S8192x2048, .f32⟩
  | .hbm, ⟨6, _⟩ => ⟨S2048x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel3.lean ====
abbrev S8192x2048 : Shape := ⟨2, ![8192, 2048]⟩
abbrev S8192x10240 : Shape := ⟨2, ![8192, 10240]⟩
abbrev S64x2048 : Shape := ⟨2, ![64, 2048]⟩
abbrev S1x2048x2048 : Shape := ⟨3, ![1, 2048, 2048]⟩
abbrev S1x31x2048 : Shape := ⟨3, ![1, 31, 2048]⟩
abbrev S1x2048 : Shape := ⟨2, ![1, 2048]⟩
abbrev S31x2048 : Shape := ⟨2, ![31, 2048]⟩
abbrev S_ : Shape := ⟨0, ![]⟩
abbrev S32x2048 : Shape := ⟨2, ![32, 2048]⟩
abbrev S32x16x128 : Shape := ⟨3, ![32, 16, 128]⟩
abbrev S16x32x128 : Shape := ⟨3, ![16, 32, 128]⟩
abbrev S2048x2048 : Shape := ⟨2, ![2048, 2048]⟩
abbrev S2048x8x256 : Shape := ⟨3, ![2048, 8, 256]⟩
abbrev S8x2048x256 : Shape := ⟨3, ![8, 2048, 256]⟩
abbrev S2048 : Shape := ⟨1, ![2048]⟩
abbrev S8x1x256 : Shape := ⟨3, ![8, 1, 256]⟩
abbrev S16x1x128 : Shape := ⟨3, ![16, 1, 128]⟩
abbrev S256x2048 : Shape := ⟨2, ![256, 2048]⟩
abbrev S16x2048 : Shape := ⟨2, ![16, 2048]⟩
abbrev S16x288x128 : Shape := ⟨3, ![16, 288, 128]⟩
abbrev S16x256x128 : Shape := ⟨3, ![16, 256, 128]⟩
abbrev S8x256x256 : Shape := ⟨3, ![8, 256, 256]⟩
abbrev S16x128 : Shape := ⟨2, ![16, 128]⟩
abbrev S1x16x128 : Shape := ⟨3, ![1, 16, 128]⟩
abbrev S256x128 : Shape := ⟨2, ![256, 128]⟩
abbrev S1x256x128 : Shape := ⟨3, ![1, 256, 128]⟩
abbrev S64x128 : Shape := ⟨2, ![64, 128]⟩
abbrev S1x64x128 : Shape := ⟨3, ![1, 64, 128]⟩
abbrev S1x1x128 : Shape := ⟨3, ![1, 1, 128]⟩
abbrev S1x128 : Shape := ⟨2, ![1, 128]⟩
abbrev S1x2048x256 : Shape := ⟨3, ![1, 2048, 256]⟩
abbrev S2048x256 : Shape := ⟨2, ![2048, 256]⟩
abbrev S256x256 : Shape := ⟨2, ![256, 256]⟩
abbrev S1x1x256 : Shape := ⟨3, ![1, 1, 256]⟩
abbrev S1x256 : Shape := ⟨2, ![1, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 45
  | .vmem => 33
  | .smem => 0
  | _ => 0

abbrev bufTy : (tb : Table) → Fin (tcTables nBuf tb) → BufTy
  | .hbm, ⟨0, _⟩ => ⟨S8192x2048, .bf16⟩
  | .hbm, ⟨1, _⟩ => ⟨S8192x10240, .bf16⟩
  | .hbm, ⟨2, _⟩ => ⟨S8192x2048, .bf16⟩
  | .hbm, ⟨3, _⟩ => ⟨S64x2048, .bf16⟩
  | .hbm, ⟨4, _⟩ => ⟨S8192x2048, .f32⟩
  | .hbm, ⟨5, _⟩ => ⟨S1x2048x2048, .f32⟩
  | .hbm, ⟨6, _⟩ => ⟨S1x31x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048x2048, .f32⟩
  | .hbm, ⟨11, _⟩ => ⟨S1x2048, .f32⟩
  | .hbm, ⟨12, _⟩ => ⟨S1x2048x2048, .f32⟩
  | .hbm, ⟨13, _⟩ => ⟨S1x2048, .f32⟩
  | .hbm, ⟨14, _⟩ => ⟨S1x2048, .f32⟩
  | .hbm, ⟨15, _⟩ => ⟨S31x2048, .f32⟩
  | .hbm, ⟨16, _⟩ => ⟨S_, .i32⟩
  | .hbm, ⟨17, _⟩ => ⟨S_, .f32⟩
  | .hbm, ⟨18, _⟩ => ⟨S32x2048, .f32⟩
  | .hbm, ⟨19, _⟩ => ⟨S32x16x128, .f32⟩
  | .hbm, ⟨20, _⟩ => ⟨S16x32x128, .f32⟩
  | .hbm, ⟨21, _⟩ => ⟨S2048x2048, .f32⟩
  | .hbm, ⟨22, _⟩ => ⟨S2048x8x256, .f32⟩
  | .hbm, ⟨23, _⟩ => ⟨S8x2048x256, .f32⟩
  | .hbm, ⟨24, _⟩ => ⟨S8x2048x256, .bf16⟩
  | .hbm, ⟨25, _⟩ => ⟨S2048x2048, .f32⟩
  | .hbm, ⟨26, _⟩ => ⟨S2048x8x256, .f32⟩
  | .hbm, ⟨27, _⟩ => ⟨S8x2048x256, .f32⟩
  | .hbm, ⟨28, _⟩ => ⟨S8x2048x256, .bf16⟩
  | .hbm, ⟨29, _⟩ => ⟨S2048x2048, .f32⟩
  | .hbm, ⟨30, _⟩ => ⟨S2048x2048, .bf16⟩
  | .hbm, ⟨31, _⟩ => ⟨S2048, .f32⟩
  | .hbm, ⟨32, _⟩ => ⟨S8x1x256, .f32⟩
  | .hbm, ⟨33, _⟩ => ⟨S2048, .f32⟩
  | .hbm, ⟨34, _⟩ => ⟨S16x1x128, .f32⟩
  | .hbm, ⟨35, _⟩ => ⟨S2048, .f32⟩
  | .hbm, ⟨36, _⟩ => ⟨S16x1x128, .f32⟩
  | .hbm, ⟨37, _⟩ => ⟨S2048, .f32⟩
  | .hbm, ⟨38, _⟩ => ⟨S16x1x128, .f32⟩
  | .hbm, ⟨39, _⟩ => ⟨S2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S16x2048, .bf16⟩
  | .local _ .vmem, ⟨11, _⟩ => ⟨S16x2048, .bf16⟩
  | .local _ .vmem, ⟨12, _⟩ => ⟨S16x2048, .bf16⟩
  | .local _ .vmem, ⟨13, _⟩ => ⟨S16x2048, .bf16⟩
  | .local _ .vmem, ⟨14, _⟩ => ⟨S16x2048, .bf16⟩
  | .local _ .vmem, ⟨15, _⟩ => ⟨S8x2048x256, .bf16⟩
  | .local _ .vmem, ⟨16, _⟩ => ⟨S8x2048x256, .bf16⟩
  | .local _ .vmem, ⟨17, _⟩ => ⟨S2048x2048, .bf16⟩
  | .local _ .vmem, ⟨18, _⟩ => ⟨S16x32x128, .f32⟩
  | .local _ .vmem, ⟨19, _⟩ => ⟨S16x1x128, .f32⟩
  | .local _ .vmem, ⟨20, _⟩ => ⟨S16x1x128, .f32⟩
  | .local _ .vmem, ⟨21, _⟩ => ⟨S16x1x128, .f32⟩
  | .local _ .vmem, ⟨22, _⟩ => ⟨S8x1x256, .f32⟩
  | .local _ .vmem, ⟨23, _⟩ => ⟨S1x2048, .f32⟩
  | .local _ .vmem, ⟨24, _⟩ => ⟨S1x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | .local _ .vmem, ⟨29, _⟩ => ⟨S16x288x128, .f32⟩
  | .local _ .vmem, ⟨30, _⟩ => ⟨S16x256x128, .f32⟩
  | .local _ .vmem, ⟨31, _⟩ => ⟨S256x2048, .bf16⟩
  | .local _ .vmem, ⟨32, _⟩ => ⟨S8x256x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_141 : BitVec 32 := 0#32
  let c8_i32 : BitVec 32 := 8#32
  let v218 : BitVec 32 := Scalar.addi c0_i32_141 c8_i32
  let c1_i32_142 : BitVec 32 := 1#32
  ⟨c0_i32_141, v218, c1_i32_142⟩
def k0_off1 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v848 : Index := Scalar.indexCast v846
  let c1_501 : Index := 1#32
  let c0_502 : Index := 0#32
  ![v848.toNat, 1, 0]
def k0_off2 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v851 : Index := Scalar.indexCast v846
  let c0_503 : Index := 0#32
  let c0_504 : Index := 0#32
  ![v851.toNat, 0, 0]
def k0_off3 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v857 : Index := Scalar.indexCast v846
  let c2_505 : Index := 2#32
  let c0_506 : Index := 0#32
  ![v857.toNat, 2, 0]
def k0_off4 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v860 : Index := Scalar.indexCast v846
  let c1_507 : Index := 1#32
  let c0_508 : Index := 0#32
  ![v860.toNat, 1, 0]
def k0_off5 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v866 : Index := Scalar.indexCast v846
  let c3_509 : Index := 3#32
  let c0_510 : Index := 0#32
  ![v866.toNat, 3, 0]
def k0_off6 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v869 : Index := Scalar.indexCast v846
  let c2_511 : Index := 2#32
  let c0_512 : Index := 0#32
  ![v869.toNat, 2, 0]
def k0_off7 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v875 : Index := Scalar.indexCast v846
  let c4_513 : Index := 4#32
  let c0_514 : Index := 0#32
  ![v875.toNat, 4, 0]
def k0_off8 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v878 : Index := Scalar.indexCast v846
  let c3_515 : Index := 3#32
  let c0_516 : Index := 0#32
  ![v878.toNat, 3, 0]
def k0_off9 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v884 : Index := Scalar.indexCast v846
  let c5_517 : Index := 5#32
  let c0_518 : Index := 0#32
  ![v884.toNat, 5, 0]
def k0_off10 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v887 : Index := Scalar.indexCast v846
  let c4_519 : Index := 4#32
  let c0_520 : Index := 0#32
  ![v887.toNat, 4, 0]
def k0_off11 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v893 : Index := Scalar.indexCast v846
  let c6_521 : Index := 6#32
  let c0_522 : Index := 0#32
  ![v893.toNat, 6, 0]
def k0_off12 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v896 : Index := Scalar.indexCast v846
  let c5_523 : Index := 5#32
  let c0_524 : Index := 0#32
  ![v896.toNat, 5, 0]
def k0_off13 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v902 : Index := Scalar.indexCast v846
  let c7_525 : Index := 7#32
  let c0_526 : Index := 0#32
  ![v902.toNat, 7, 0]
def k0_off14 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v905 : Index := Scalar.indexCast v846
  let c6_527 : Index := 6#32
  let c0_528 : Index := 0#32
  ![v905.toNat, 6, 0]
def k0_off15 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v911 : Index := Scalar.indexCast v846
  let c8_529 : Index := 8#32
  let c0_530 : Index := 0#32
  ![v911.toNat, 8, 0]
def k0_off16 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v914 : Index := Scalar.indexCast v846
  let c7_531 : Index := 7#32
  let c0_532 : Index := 0#32
  ![v914.toNat, 7, 0]
def k0_off17 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v920 : Index := Scalar.indexCast v846
  let c9_533 : Index := 9#32
  let c0_534 : Index := 0#32
  ![v920.toNat, 9, 0]
def k0_off18 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v923 : Index := Scalar.indexCast v846
  let c8_535 : Index := 8#32
  let c0_536 : Index := 0#32
  ![v923.toNat, 8, 0]
def k0_off19 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v929 : Index := Scalar.indexCast v846
  let c10_537 : Index := 10#32
  let c0_538 : Index := 0#32
  ![v929.toNat, 10, 0]
def k0_off20 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v932 : Index := Scalar.indexCast v846
  let c9_539 : Index := 9#32
  let c0_540 : Index := 0#32
  ![v932.toNat, 9, 0]
def k0_off21 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v938 : Index := Scalar.indexCast v846
  let c11_541 : Index := 11#32
  let c0_542 : Index := 0#32
  ![v938.toNat, 11, 0]
def k0_off22 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v941 : Index := Scalar.indexCast v846
  let c10_543 : Index := 10#32
  let c0_544 : Index := 0#32
  ![v941.toNat, 10, 0]
def k0_off23 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v947 : Index := Scalar.indexCast v846
  let c12_545 : Index := 12#32
  let c0_546 : Index := 0#32
  ![v947.toNat, 12, 0]
def k0_off24 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v950 : Index := Scalar.indexCast v846
  let c11_547 : Index := 11#32
  let c0_548 : Index := 0#32
  ![v950.toNat, 11, 0]
def k0_off25 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v956 : Index := Scalar.indexCast v846
  let c13_549 : Index := 13#32
  let c0_550 : Index := 0#32
  ![v956.toNat, 13, 0]
def k0_off26 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v959 : Index := Scalar.indexCast v846
  let c12_551 : Index := 12#32
  let c0_552 : Index := 0#32
  ![v959.toNat, 12, 0]
def k0_off27 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v965 : Index := Scalar.indexCast v846
  let c14_553 : Index := 14#32
  let c0_554 : Index := 0#32
  ![v965.toNat, 14, 0]
def k0_off28 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v968 : Index := Scalar.indexCast v846
  let c13_555 : Index := 13#32
  let c0_556 : Index := 0#32
  ![v968.toNat, 13, 0]
def k0_off29 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v974 : Index := Scalar.indexCast v846
  let c15_557 : Index := 15#32
  let c0_558 : Index := 0#32
  ![v974.toNat, 15, 0]
def k0_off30 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v977 : Index := Scalar.indexCast v846
  let c14_559 : Index := 14#32
  let c0_560 : Index := 0#32
  ![v977.toNat, 14, 0]
def k0_off31 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v983 : Index := Scalar.indexCast v846
  let c16_561 : Index := 16#32
  let c0_562 : Index := 0#32
  ![v983.toNat, 16, 0]
def k0_off32 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v986 : Index := Scalar.indexCast v846
  let c15_563 : Index := 15#32
  let c0_564 : Index := 0#32
  ![v986.toNat, 15, 0]
def k0_off33 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v992 : Index := Scalar.indexCast v846
  let c17 : Index := 17#32
  let c0_565 : Index := 0#32
  ![v992.toNat, 17, 0]
def k0_off34 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v995 : Index := Scalar.indexCast v846
  let c16_566 : Index := 16#32
  let c0_567 : Index := 0#32
  ![v995.toNat, 16, 0]
def k0_off35 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1001 : Index := Scalar.indexCast v846
  let c18 : Index := 18#32
  let c0_568 : Index := 0#32
  ![v1001.toNat, 18, 0]
def k0_off36 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1004 : Index := Scalar.indexCast v846
  let c17_569 : Index := 17#32
  let c0_570 : Index := 0#32
  ![v1004.toNat, 17, 0]
def k0_off37 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1010 : Index := Scalar.indexCast v846
  let c19 : Index := 19#32
  let c0_571 : Index := 0#32
  ![v1010.toNat, 19, 0]
def k0_off38 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1013 : Index := Scalar.indexCast v846
  let c18_572 : Index := 18#32
  let c0_573 : Index := 0#32
  ![v1013.toNat, 18, 0]
def k0_off39 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1019 : Index := Scalar.indexCast v846
  let c20 : Index := 20#32
  let c0_574 : Index := 0#32
  ![v1019.toNat, 20, 0]
def k0_off40 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1022 : Index := Scalar.indexCast v846
  let c19_575 : Index := 19#32
  let c0_576 : Index := 0#32
  ![v1022.toNat, 19, 0]
def k0_off41 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1028 : Index := Scalar.indexCast v846
  let c21 : Index := 21#32
  let c0_577 : Index := 0#32
  ![v1028.toNat, 21, 0]
def k0_off42 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1031 : Index := Scalar.indexCast v846
  let c20_578 : Index := 20#32
  let c0_579 : Index := 0#32
  ![v1031.toNat, 20, 0]
def k0_off43 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1037 : Index := Scalar.indexCast v846
  let c22 : Index := 22#32
  let c0_580 : Index := 0#32
  ![v1037.toNat, 22, 0]
def k0_off44 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1040 : Index := Scalar.indexCast v846
  let c21_581 : Index := 21#32
  let c0_582 : Index := 0#32
  ![v1040.toNat, 21, 0]
def k0_off45 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1046 : Index := Scalar.indexCast v846
  let c23 : Index := 23#32
  let c0_583 : Index := 0#32
  ![v1046.toNat, 23, 0]
def k0_off46 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1049 : Index := Scalar.indexCast v846
  let c22_584 : Index := 22#32
  let c0_585 : Index := 0#32
  ![v1049.toNat, 22, 0]
def k0_off47 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1055 : Index := Scalar.indexCast v846
  let c24 : Index := 24#32
  let c0_586 : Index := 0#32
  ![v1055.toNat, 24, 0]
def k0_off48 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1058 : Index := Scalar.indexCast v846
  let c23_587 : Index := 23#32
  let c0_588 : Index := 0#32
  ![v1058.toNat, 23, 0]
def k0_off49 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1064 : Index := Scalar.indexCast v846
  let c25 : Index := 25#32
  let c0_589 : Index := 0#32
  ![v1064.toNat, 25, 0]
def k0_off50 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1067 : Index := Scalar.indexCast v846
  let c24_590 : Index := 24#32
  let c0_591 : Index := 0#32
  ![v1067.toNat, 24, 0]
def k0_off51 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1073 : Index := Scalar.indexCast v846
  let c26 : Index := 26#32
  let c0_592 : Index := 0#32
  ![v1073.toNat, 26, 0]
def k0_off52 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1076 : Index := Scalar.indexCast v846
  let c25_593 : Index := 25#32
  let c0_594 : Index := 0#32
  ![v1076.toNat, 25, 0]
def k0_off53 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1082 : Index := Scalar.indexCast v846
  let c27 : Index := 27#32
  let c0_595 : Index := 0#32
  ![v1082.toNat, 27, 0]
def k0_off54 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1085 : Index := Scalar.indexCast v846
  let c26_596 : Index := 26#32
  let c0_597 : Index := 0#32
  ![v1085.toNat, 26, 0]
def k0_off55 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1091 : Index := Scalar.indexCast v846
  let c28 : Index := 28#32
  let c0_598 : Index := 0#32
  ![v1091.toNat, 28, 0]
def k0_off56 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1094 : Index := Scalar.indexCast v846
  let c27_599 : Index := 27#32
  let c0_600 : Index := 0#32
  ![v1094.toNat, 27, 0]
def k0_off57 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1100 : Index := Scalar.indexCast v846
  let c29 : Index := 29#32
  let c0_601 : Index := 0#32
  ![v1100.toNat, 29, 0]
def k0_off58 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1103 : Index := Scalar.indexCast v846
  let c28_602 : Index := 28#32
  let c0_603 : Index := 0#32
  ![v1103.toNat, 28, 0]
def k0_off59 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1109 : Index := Scalar.indexCast v846
  let c30 : Index := 30#32
  let c0_604 : Index := 0#32
  ![v1109.toNat, 30, 0]
def k0_off60 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1112 : Index := Scalar.indexCast v846
  let c29_605 : Index := 29#32
  let c0_606 : Index := 0#32
  ![v1112.toNat, 29, 0]
def k0_off61 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1118 : Index := Scalar.indexCast v846
  let c31 : Index := 31#32
  let c0_607 : Index := 0#32
  ![v1118.toNat, 31, 0]
def k0_off62 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1121 : Index := Scalar.indexCast v846
  let c30_608 : Index := 30#32
  let c0_609 : Index := 0#32
  ![v1121.toNat, 30, 0]
def k0_off63 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1127 : Index := Scalar.indexCast v846
  let c0_610 : Index := 0#32
  let c0_611 : Index := 0#32
  ![v1127.toNat, 0, 0]
def k0_off64 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1132 : Index := Scalar.indexCast v846
  let c0_612 : Index := 0#32
  let c0_613 : Index := 0#32
  ![v1132.toNat, 0, 0]
def k0_off65 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1137 : Index := Scalar.indexCast v846
  let c65 : Index := 65#32
  let c0_615 : Index := 0#32
  ![v1137.toNat, 65, 0]
def k0_off66 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1146 : Index := Scalar.indexCast v846
  let c66 : Index := 66#32
  let c0_618 : Index := 0#32
  ![v1146.toNat, 66, 0]
def k0_off67 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1155 : Index := Scalar.indexCast v846
  let c67 : Index := 67#32
  let c0_621 : Index := 0#32
  ![v1155.toNat, 67, 0]
def k0_off68 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1164 : Index := Scalar.indexCast v846
  let c68 : Index := 68#32
  let c0_624 : Index := 0#32
  ![v1164.toNat, 68, 0]
def k0_off69 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1173 : Index := Scalar.indexCast v846
  let c69 : Index := 69#32
  let c0_627 : Index := 0#32
  ![v1173.toNat, 69, 0]
def k0_off70 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1182 : Index := Scalar.indexCast v846
  let c70 : Index := 70#32
  let c0_630 : Index := 0#32
  ![v1182.toNat, 70, 0]
def k0_off71 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1191 : Index := Scalar.indexCast v846
  let c71 : Index := 71#32
  let c0_633 : Index := 0#32
  ![v1191.toNat, 71, 0]
def k0_off72 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1200 : Index := Scalar.indexCast v846
  let c72 : Index := 72#32
  let c0_636 : Index := 0#32
  ![v1200.toNat, 72, 0]
def k0_off73 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1209 : Index := Scalar.indexCast v846
  let c73 : Index := 73#32
  let c0_639 : Index := 0#32
  ![v1209.toNat, 73, 0]
def k0_off74 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1218 : Index := Scalar.indexCast v846
  let c74 : Index := 74#32
  let c0_642 : Index := 0#32
  ![v1218.toNat, 74, 0]
def k0_off75 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1227 : Index := Scalar.indexCast v846
  let c75 : Index := 75#32
  let c0_645 : Index := 0#32
  ![v1227.toNat, 75, 0]
def k0_off76 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1236 : Index := Scalar.indexCast v846
  let c76 : Index := 76#32
  let c0_648 : Index := 0#32
  ![v1236.toNat, 76, 0]
def k0_off77 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1245 : Index := Scalar.indexCast v846
  let c77 : Index := 77#32
  let c0_651 : Index := 0#32
  ![v1245.toNat, 77, 0]
def k0_off78 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1254 : Index := Scalar.indexCast v846
  let c78 : Index := 78#32
  let c0_654 : Index := 0#32
  ![v1254.toNat, 78, 0]
def k0_off79 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1263 : Index := Scalar.indexCast v846
  let c79 : Index := 79#32
  let c0_657 : Index := 0#32
  ![v1263.toNat, 79, 0]
def k0_off80 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1272 : Index := Scalar.indexCast v846
  let c80 : Index := 80#32
  let c0_660 : Index := 0#32
  ![v1272.toNat, 80, 0]
def k0_off81 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1281 : Index := Scalar.indexCast v846
  let c81 : Index := 81#32
  let c0_663 : Index := 0#32
  ![v1281.toNat, 81, 0]
def k0_off82 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1290 : Index := Scalar.indexCast v846
  let c82 : Index := 82#32
  let c0_666 : Index := 0#32
  ![v1290.toNat, 82, 0]
def k0_off83 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1299 : Index := Scalar.indexCast v846
  let c83 : Index := 83#32
  let c0_669 : Index := 0#32
  ![v1299.toNat, 83, 0]
def k0_off84 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1308 : Index := Scalar.indexCast v846
  let c84 : Index := 84#32
  let c0_672 : Index := 0#32
  ![v1308.toNat, 84, 0]
def k0_off85 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1317 : Index := Scalar.indexCast v846
  let c85 : Index := 85#32
  let c0_675 : Index := 0#32
  ![v1317.toNat, 85, 0]
def k0_off86 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1326 : Index := Scalar.indexCast v846
  let c86 : Index := 86#32
  let c0_678 : Index := 0#32
  ![v1326.toNat, 86, 0]
def k0_off87 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1335 : Index := Scalar.indexCast v846
  let c87 : Index := 87#32
  let c0_681 : Index := 0#32
  ![v1335.toNat, 87, 0]
def k0_off88 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1344 : Index := Scalar.indexCast v846
  let c88 : Index := 88#32
  let c0_684 : Index := 0#32
  ![v1344.toNat, 88, 0]
def k0_off89 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1353 : Index := Scalar.indexCast v846
  let c89 : Index := 89#32
  let c0_687 : Index := 0#32
  ![v1353.toNat, 89, 0]
def k0_off90 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1362 : Index := Scalar.indexCast v846
  let c90 : Index := 90#32
  let c0_690 : Index := 0#32
  ![v1362.toNat, 90, 0]
def k0_off91 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1371 : Index := Scalar.indexCast v846
  let c91 : Index := 91#32
  let c0_693 : Index := 0#32
  ![v1371.toNat, 91, 0]
def k0_off92 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1380 : Index := Scalar.indexCast v846
  let c92 : Index := 92#32
  let c0_696 : Index := 0#32
  ![v1380.toNat, 92, 0]
def k0_off93 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1389 : Index := Scalar.indexCast v846
  let c93 : Index := 93#32
  let c0_699 : Index := 0#32
  ![v1389.toNat, 93, 0]
def k0_off94 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1398 : Index := Scalar.indexCast v846
  let c94 : Index := 94#32
  let c0_702 : Index := 0#32
  ![v1398.toNat, 94, 0]
def k0_off95 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1407 : Index := Scalar.indexCast v846
  let c95 : Index := 95#32
  let c0_705 : Index := 0#32
  ![v1407.toNat, 95, 0]
def k0_off96 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1421 : Index := Scalar.indexCast v846
  let c64 : Index := 64#32
  let c0_710 : Index := 0#32
  ![v1421.toNat, 64, 0]
def k0_off97 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1426 : Index := Scalar.indexCast v846
  let c129 : Index := 129#32
  let c0_712 : Index := 0#32
  ![v1426.toNat, 129, 0]
def k0_off98 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1435 : Index := Scalar.indexCast v846
  let c130 : Index := 130#32
  let c0_715 : Index := 0#32
  ![v1435.toNat, 130, 0]
def k0_off99 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1444 : Index := Scalar.indexCast v846
  let c131 : Index := 131#32
  let c0_718 : Index := 0#32
  ![v1444.toNat, 131, 0]
def k0_off100 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1453 : Index := Scalar.indexCast v846
  let c132 : Index := 132#32
  let c0_721 : Index := 0#32
  ![v1453.toNat, 132, 0]
def k0_off101 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1462 : Index := Scalar.indexCast v846
  let c133 : Index := 133#32
  let c0_724 : Index := 0#32
  ![v1462.toNat, 133, 0]
def k0_off102 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1471 : Index := Scalar.indexCast v846
  let c134 : Index := 134#32
  let c0_727 : Index := 0#32
  ![v1471.toNat, 134, 0]
def k0_off103 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1480 : Index := Scalar.indexCast v846
  let c135 : Index := 135#32
  let c0_730 : Index := 0#32
  ![v1480.toNat, 135, 0]
def k0_off104 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1489 : Index := Scalar.indexCast v846
  let c136 : Index := 136#32
  let c0_733 : Index := 0#32
  ![v1489.toNat, 136, 0]
def k0_off105 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1498 : Index := Scalar.indexCast v846
  let c137 : Index := 137#32
  let c0_736 : Index := 0#32
  ![v1498.toNat, 137, 0]
def k0_off106 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1507 : Index := Scalar.indexCast v846
  let c138 : Index := 138#32
  let c0_739 : Index := 0#32
  ![v1507.toNat, 138, 0]
def k0_off107 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1516 : Index := Scalar.indexCast v846
  let c139 : Index := 139#32
  let c0_742 : Index := 0#32
  ![v1516.toNat, 139, 0]
def k0_off108 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1525 : Index := Scalar.indexCast v846
  let c140 : Index := 140#32
  let c0_745 : Index := 0#32
  ![v1525.toNat, 140, 0]
def k0_off109 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1534 : Index := Scalar.indexCast v846
  let c141 : Index := 141#32
  let c0_748 : Index := 0#32
  ![v1534.toNat, 141, 0]
def k0_off110 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1543 : Index := Scalar.indexCast v846
  let c142 : Index := 142#32
  let c0_751 : Index := 0#32
  ![v1543.toNat, 142, 0]
def k0_off111 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1552 : Index := Scalar.indexCast v846
  let c143 : Index := 143#32
  let c0_754 : Index := 0#32
  ![v1552.toNat, 143, 0]
def k0_off112 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1561 : Index := Scalar.indexCast v846
  let c144 : Index := 144#32
  let c0_757 : Index := 0#32
  ![v1561.toNat, 144, 0]
def k0_off113 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1570 : Index := Scalar.indexCast v846
  let c145 : Index := 145#32
  let c0_760 : Index := 0#32
  ![v1570.toNat, 145, 0]
def k0_off114 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1579 : Index := Scalar.indexCast v846
  let c146 : Index := 146#32
  let c0_763 : Index := 0#32
  ![v1579.toNat, 146, 0]
def k0_off115 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1588 : Index := Scalar.indexCast v846
  let c147 : Index := 147#32
  let c0_766 : Index := 0#32
  ![v1588.toNat, 147, 0]
def k0_off116 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1597 : Index := Scalar.indexCast v846
  let c148 : Index := 148#32
  let c0_769 : Index := 0#32
  ![v1597.toNat, 148, 0]
def k0_off117 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1606 : Index := Scalar.indexCast v846
  let c149 : Index := 149#32
  let c0_772 : Index := 0#32
  ![v1606.toNat, 149, 0]
def k0_off118 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1615 : Index := Scalar.indexCast v846
  let c150 : Index := 150#32
  let c0_775 : Index := 0#32
  ![v1615.toNat, 150, 0]
def k0_off119 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1624 : Index := Scalar.indexCast v846
  let c151 : Index := 151#32
  let c0_778 : Index := 0#32
  ![v1624.toNat, 151, 0]
def k0_off120 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1633 : Index := Scalar.indexCast v846
  let c152 : Index := 152#32
  let c0_781 : Index := 0#32
  ![v1633.toNat, 152, 0]
def k0_off121 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1642 : Index := Scalar.indexCast v846
  let c153 : Index := 153#32
  let c0_784 : Index := 0#32
  ![v1642.toNat, 153, 0]
def k0_off122 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1651 : Index := Scalar.indexCast v846
  let c154 : Index := 154#32
  let c0_787 : Index := 0#32
  ![v1651.toNat, 154, 0]
def k0_off123 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1660 : Index := Scalar.indexCast v846
  let c155 : Index := 155#32
  let c0_790 : Index := 0#32
  ![v1660.toNat, 155, 0]
def k0_off124 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1669 : Index := Scalar.indexCast v846
  let c156 : Index := 156#32
  let c0_793 : Index := 0#32
  ![v1669.toNat, 156, 0]
def k0_off125 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1678 : Index := Scalar.indexCast v846
  let c157 : Index := 157#32
  let c0_796 : Index := 0#32
  ![v1678.toNat, 157, 0]
def k0_off126 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1687 : Index := Scalar.indexCast v846
  let c158 : Index := 158#32
  let c0_799 : Index := 0#32
  ![v1687.toNat, 158, 0]
def k0_off127 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1696 : Index := Scalar.indexCast v846
  let c159 : Index := 159#32
  let c0_802 : Index := 0#32
  ![v1696.toNat, 159, 0]
def k0_off128 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1710 : Index := Scalar.indexCast v846
  let c128_807 : Index := 128#32
  let c0_808 : Index := 0#32
  ![v1710.toNat, 128, 0]
def k0_off129 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1715 : Index := Scalar.indexCast v846
  let c193 : Index := 193#32
  let c0_810 : Index := 0#32
  ![v1715.toNat, 193, 0]
def k0_off130 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1724 : Index := Scalar.indexCast v846
  let c194 : Index := 194#32
  let c0_813 : Index := 0#32
  ![v1724.toNat, 194, 0]
def k0_off131 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1733 : Index := Scalar.indexCast v846
  let c195 : Index := 195#32
  let c0_816 : Index := 0#32
  ![v1733.toNat, 195, 0]
def k0_off132 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1742 : Index := Scalar.indexCast v846
  let c196 : Index := 196#32
  let c0_819 : Index := 0#32
  ![v1742.toNat, 196, 0]
def k0_off133 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1751 : Index := Scalar.indexCast v846
  let c197 : Index := 197#32
  let c0_822 : Index := 0#32
  ![v1751.toNat, 197, 0]
def k0_off134 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1760 : Index := Scalar.indexCast v846
  let c198 : Index := 198#32
  let c0_825 : Index := 0#32
  ![v1760.toNat, 198, 0]
def k0_off135 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1769 : Index := Scalar.indexCast v846
  let c199 : Index := 199#32
  let c0_828 : Index := 0#32
  ![v1769.toNat, 199, 0]
def k0_off136 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1778 : Index := Scalar.indexCast v846
  let c200 : Index := 200#32
  let c0_831 : Index := 0#32
  ![v1778.toNat, 200, 0]
def k0_off137 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1787 : Index := Scalar.indexCast v846
  let c201 : Index := 201#32
  let c0_834 : Index := 0#32
  ![v1787.toNat, 201, 0]
def k0_off138 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1796 : Index := Scalar.indexCast v846
  let c202 : Index := 202#32
  let c0_837 : Index := 0#32
  ![v1796.toNat, 202, 0]
def k0_off139 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1805 : Index := Scalar.indexCast v846
  let c203 : Index := 203#32
  let c0_840 : Index := 0#32
  ![v1805.toNat, 203, 0]
def k0_off140 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1814 : Index := Scalar.indexCast v846
  let c204 : Index := 204#32
  let c0_843 : Index := 0#32
  ![v1814.toNat, 204, 0]
def k0_off141 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1823 : Index := Scalar.indexCast v846
  let c205 : Index := 205#32
  let c0_846 : Index := 0#32
  ![v1823.toNat, 205, 0]
def k0_off142 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1832 : Index := Scalar.indexCast v846
  let c206 : Index := 206#32
  let c0_849 : Index := 0#32
  ![v1832.toNat, 206, 0]
def k0_off143 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1841 : Index := Scalar.indexCast v846
  let c207 : Index := 207#32
  let c0_852 : Index := 0#32
  ![v1841.toNat, 207, 0]
def k0_off144 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1850 : Index := Scalar.indexCast v846
  let c208 : Index := 208#32
  let c0_855 : Index := 0#32
  ![v1850.toNat, 208, 0]
def k0_off145 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1859 : Index := Scalar.indexCast v846
  let c209 : Index := 209#32
  let c0_858 : Index := 0#32
  ![v1859.toNat, 209, 0]
def k0_off146 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1868 : Index := Scalar.indexCast v846
  let c210 : Index := 210#32
  let c0_861 : Index := 0#32
  ![v1868.toNat, 210, 0]
def k0_off147 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1877 : Index := Scalar.indexCast v846
  let c211 : Index := 211#32
  let c0_864 : Index := 0#32
  ![v1877.toNat, 211, 0]
def k0_off148 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1886 : Index := Scalar.indexCast v846
  let c212 : Index := 212#32
  let c0_867 : Index := 0#32
  ![v1886.toNat, 212, 0]
def k0_off149 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1895 : Index := Scalar.indexCast v846
  let c213 : Index := 213#32
  let c0_870 : Index := 0#32
  ![v1895.toNat, 213, 0]
def k0_off150 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1904 : Index := Scalar.indexCast v846
  let c214 : Index := 214#32
  let c0_873 : Index := 0#32
  ![v1904.toNat, 214, 0]
def k0_off151 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1913 : Index := Scalar.indexCast v846
  let c215 : Index := 215#32
  let c0_876 : Index := 0#32
  ![v1913.toNat, 215, 0]
def k0_off152 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1922 : Index := Scalar.indexCast v846
  let c216 : Index := 216#32
  let c0_879 : Index := 0#32
  ![v1922.toNat, 216, 0]
def k0_off153 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1931 : Index := Scalar.indexCast v846
  let c217 : Index := 217#32
  let c0_882 : Index := 0#32
  ![v1931.toNat, 217, 0]
def k0_off154 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1940 : Index := Scalar.indexCast v846
  let c218 : Index := 218#32
  let c0_885 : Index := 0#32
  ![v1940.toNat, 218, 0]
def k0_off155 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1949 : Index := Scalar.indexCast v846
  let c219 : Index := 219#32
  let c0_888 : Index := 0#32
  ![v1949.toNat, 219, 0]
def k0_off156 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1958 : Index := Scalar.indexCast v846
  let c220 : Index := 220#32
  let c0_891 : Index := 0#32
  ![v1958.toNat, 220, 0]
def k0_off157 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1967 : Index := Scalar.indexCast v846
  let c221 : Index := 221#32
  let c0_894 : Index := 0#32
  ![v1967.toNat, 221, 0]
def k0_off158 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1976 : Index := Scalar.indexCast v846
  let c222 : Index := 222#32
  let c0_897 : Index := 0#32
  ![v1976.toNat, 222, 0]
def k0_off159 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1985 : Index := Scalar.indexCast v846
  let c223 : Index := 223#32
  let c0_900 : Index := 0#32
  ![v1985.toNat, 223, 0]
def k0_off160 (k0_t1 : Fin k0_t1_loop.trips) (c0_i32_499 : BitVec 32) : Fin 3 → Nat :=
  let c0_i32_141 : BitVec 32 := 0#32
  let c1_i32_142 : BitVec 32 := 1#32
  let arg25 : BitVec 32 := Scf.iv c0_i32_141 c1_i32_142 k0_t1
  let c2_i32 : BitVec 32 := 2#32
  let v845 : BitVec 32 := Scalar.muli arg25 c2_i32
  let v846 : BitVec 32 := Scalar.addi v845 c0_i32_499
  let v1999 : Index := Scalar.indexCast v846
  let c192 : Index := 192#32
  let c0_905 : Index := 0#32
  ![v1999.toNat, 192, 0]
def k0_mult1 (k0_t1 : Fin k0_t1_loop.trips) : BitVec 32 :=
  let c0_i32_141 : BitVec 32 := 0#32
  let c1_i32_142 : BitVec 32 := 1#32
  let arg25 : BitVec 32 := Scf.iv c0_i32_141 c1_i32_142 k0_t1
  let c256_i32 : BitVec 32 := 256#32
  let v3161 : BitVec 32 := Scalar.muli arg25 c256_i32
  v3161
def k0_off161 (k0_t1 : Fin k0_t1_loop.trips) : Fin 3 → Nat :=
  let c0_i32_141 : BitVec 32 := 0#32
  let c1_i32_142 : BitVec 32 := 1#32
  let arg25 : BitVec 32 := Scf.iv c0_i32_141 c1_i32_142 k0_t1
  let v3164 : Index := Scalar.indexCast arg25
  let c0_1426 : Index := 0#32
  let c0_1427 : Index := 0#32
  ![v3164.toNat, 0, 0]
def k0_off162 (k0_t1 : Fin k0_t1_loop.trips) : Fin 3 → Nat :=
  let c0_i32_141 : BitVec 32 := 0#32
  let c1_i32_142 : BitVec 32 := 1#32
  let arg25 : BitVec 32 := Scf.iv c0_i32_141 c1_i32_142 k0_t1
  let v3173 : Index := Scalar.indexCast arg25
  let c0_1434 : Index := 0#32
  let c0_1435 : Index := 0#32
  ![v3173.toNat, 0, 0]
def k0_off163 (k0_t1 : Fin k0_t1_loop.trips) : Fin 2 → Nat :=
  let c0_1436 : Index := 0#32
  let c0_i32_141 : BitVec 32 := 0#32
  let c1_i32_142 : BitVec 32 := 1#32
  let arg25 : BitVec 32 := Scf.iv c0_i32_141 c1_i32_142 k0_t1
  let c256_i32 : BitVec 32 := 256#32
  let v3161 : BitVec 32 := Scalar.muli arg25 c256_i32
  let v3162 : BitVec 32 := v3161
  let v3178 : Index := Scalar.indexCast v3162
  ![0, v3178.toNat]
def k0_off164 (k0_t1 : Fin k0_t1_loop.trips) : Fin 3 → Nat :=
  let c0_i32_141 : BitVec 32 := 0#32
  let c1_i32_142 : BitVec 32 := 1#32
  let arg25 : BitVec 32 := Scf.iv c0_i32_141 c1_i32_142 k0_t1
  let v3188 : Index := Scalar.indexCast arg25
  let c0_1438 : Index := 0#32
  let c0_1439 : Index := 0#32
  ![v3188.toNat, 0, 0]
def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let c0_i32_0 : BitVec 32 := 0#32
  ![v1.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.addi v0 c1_i32
  let c16_i32 : BitVec 32 := 16#32
  let v2 : BitVec 32 := Scalar.muli v1 c16_i32
  let c511_i32 : BitVec 32 := 511#32
  let v3 : BitVec 32 := Scalar.minsi v2 c511_i32
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S8192x2048 : Shape := ⟨2, ![8192, 2048]⟩
abbrev S8192x10240 : Shape := ⟨2, ![8192, 10240]⟩
abbrev S64x2048 : Shape := ⟨2, ![64, 2048]⟩
abbrev S1x2048x2048 : Shape := ⟨3, ![1, 2048, 2048]⟩
abbrev S1x31x2048 : Shape := ⟨3, ![1, 31, 2048]⟩
abbrev S1x2048 : Shape := ⟨2, ![1, 2048]⟩
abbrev S16x2048 : Shape := ⟨2, ![16, 2048]⟩
abbrev S8208x2048 : Shape := ⟨2, ![8208, 2048]⟩
abbrev S_ : Shape := ⟨0, ![]⟩
abbrev S8223x2048 : Shape := ⟨2, ![8223, 2048]⟩
abbrev S1x1x2048 : Shape := ⟨3, ![1, 1, 2048]⟩
abbrev S2048 : Shape := ⟨1, ![2048]⟩
abbrev S8192 : Shape := ⟨1, ![8192]⟩
abbrev S8192x1 : Shape := ⟨2, ![8192, 1]⟩
abbrev S2048x2048 : Shape := ⟨2, ![2048, 2048]⟩
abbrev S8192x4096 : Shape := ⟨2, ![8192, 4096]⟩

abbrev nBuf : Space → Nat
  | .hbm => 338
  | .vmem => 0
  | .smem => 0
  | _ => 0

abbrev hbmTy0_0 (i : Nat) : BufTy := match i % 128 with
  | 0 => ⟨S8192x2048, .bf16⟩
  | 1 => ⟨S8192x10240, .bf16⟩
  | 2 => ⟨S8192x2048, .bf16⟩
  | 3 => ⟨S64x2048, .bf16⟩
  | 4 => ⟨S8192x2048, .f32⟩
  | 5 => ⟨S1x2048x2048, .f32⟩
  | 6 => ⟨S1x31x2048, .f32⟩
  | 7 => ⟨S1x2048, .f32⟩
  | 8 => ⟨S1x2048, .f32⟩
  | 9 => ⟨S1x2048, .f32⟩
  | 10 => ⟨S1x2048x2048, .f32⟩
  | 11 => ⟨S1x2048, .f32⟩
  | 12 => ⟨S1x2048x2048, .f32⟩
  | 13 => ⟨S1x2048, .f32⟩
  | 14 => ⟨S1x2048, .f32⟩
  | 15 => ⟨S16x2048, .bf16⟩
  | 16 => ⟨S8208x2048, .bf16⟩
  | 17 => ⟨S8208x2048, .f32⟩
  | 18 => ⟨S_, .i32⟩
  | 19 => ⟨S_, .f32⟩
  | 20 => ⟨S8223x2048, .f32⟩
  | 21 => ⟨S8192x2048, .f32⟩
  | 22 => ⟨S1x1x2048, .f32⟩
  | 23 => ⟨S2048, .f32⟩
  | 24 => ⟨S1x2048, .f32⟩
  | 25 => ⟨S8192x2048, .f32⟩
  | 26 => ⟨S8192x2048, .f32⟩
  | 27 => ⟨S_, .f32⟩
  | 28 => ⟨S8192x2048, .f32⟩
  | 29 => ⟨S8192x2048, .f32⟩
  | 30 => ⟨S8192x2048, .f32⟩
  | 31 => ⟨S1x1x2048, .f32⟩
  | 32 => ⟨S2048, .f32⟩
  | 33 => ⟨S1x2048, .f32⟩
  | 34 => ⟨S8192x2048, .f32⟩
  | 35 => ⟨S8192x2048, .f32⟩
  | 36 => ⟨S8192x2048, .f32⟩
  | 37 => ⟨S8192x2048, .f32⟩
  | 38 => ⟨S1x1x2048, .f32⟩
  | 39 => ⟨S2048, .f32⟩
  | 40 => ⟨S1x2048, .f32⟩
  | 41 => ⟨S8192x2048, .f32⟩
  | 42 => ⟨S8192x2048, .f32⟩
  | 43 => ⟨S8192x2048, .f32⟩
  | 44 => ⟨S8192x2048, .f32⟩
  | 45 => ⟨S1x1x2048, .f32⟩
  | 46 => ⟨S2048, .f32⟩
  | 47 => ⟨S1x2048, .f32⟩
  | 48 => ⟨S8192x2048, .f32⟩
  | 49 => ⟨S8192x2048, .f32⟩
  | 50 => ⟨S8192x2048, .f32⟩
  | 51 => ⟨S8192x2048, .f32⟩
  | 52 => ⟨S1x1x2048, .f32⟩
  | 53 => ⟨S2048, .f32⟩
  | 54 => ⟨S1x2048, .f32⟩
  | 55 => ⟨S8192x2048, .f32⟩
  | 56 => ⟨S8192x2048, .f32⟩
  | 57 => ⟨S8192x2048, .f32⟩
  | 58 => ⟨S8192x2048, .f32⟩
  | 59 => ⟨S1x1x2048, .f32⟩
  | 60 => ⟨S2048, .f32⟩
  | 61 => ⟨S1x2048, .f32⟩
  | 62 => ⟨S8192x2048, .f32⟩
  | 63 => ⟨S8192x2048, .f32⟩
  | 64 => ⟨S8192x2048, .f32⟩
  | 65 => ⟨S8192x2048, .f32⟩
  | 66 => ⟨S1x1x2048, .f32⟩
  | 67 => ⟨S2048, .f32⟩
  | 68 => ⟨S1x2048, .f32⟩
  | 69 => ⟨S8192x2048, .f32⟩
  | 70 => ⟨S8192x2048, .f32⟩
  | 71 => ⟨S8192x2048, .f32⟩
  | 72 => ⟨S8192x2048, .f32⟩
  | 73 => ⟨S1x1x2048, .f32⟩
  | 74 => ⟨S2048, .f32⟩
  | 75 => ⟨S1x2048, .f32⟩
  | 76 => ⟨S8192x2048, .f32⟩
  | 77 => ⟨S8192x2048, .f32⟩
  | 78 => ⟨S8192x2048, .f32⟩
  | 79 => ⟨S8192x2048, .f32⟩
  | 80 => ⟨S1x1x2048, .f32⟩
  | 81 => ⟨S2048, .f32⟩
  | 82 => ⟨S1x2048, .f32⟩
  | 83 => ⟨S8192x2048, .f32⟩
  | 84 => ⟨S8192x2048, .f32⟩
  | 85 => ⟨S8192x2048, .f32⟩
  | 86 => ⟨S8192x2048, .f32⟩
  | 87 => ⟨S1x1x2048, .f32⟩
  | 88 => ⟨S2048, .f32⟩
  | 89 => ⟨S1x2048, .f32⟩
  | 90 => ⟨S8192x2048, .f32⟩
  | 91 => ⟨S8192x2048, .f32⟩
  | 92 => ⟨S8192x2048, .f32⟩
  | 93 => ⟨S8192x2048, .f32⟩
  | 94 => ⟨S1x1x2048, .f32⟩
  | 95 => ⟨S2048, .f32⟩
  | 96 => ⟨S1x2048, .f32⟩
  | 97 => ⟨S8192x2048, .f32⟩
  | 98 => ⟨S8192x2048, .f32⟩
  | 99 => ⟨S8192x2048, .f32⟩
  | 100 => ⟨S8192x2048, .f32⟩
  | 101 => ⟨S1x1x2048, .f32⟩
  | 102 => ⟨S2048, .f32⟩
  | 103 => ⟨S1x2048, .f32⟩
  | 104 => ⟨S8192x2048, .f32⟩
  | 105 => ⟨S8192x2048, .f32⟩
  | 106 => ⟨S8192x2048, .f32⟩
  | 107 => ⟨S8192x2048, .f32⟩
  | 108 => ⟨S1x1x2048, .f32⟩
  | 109 => ⟨S2048, .f32⟩
  | 110 => ⟨S1x2048, .f32⟩
  | 111 => ⟨S8192x2048, .f32⟩
  | 112 => ⟨S8192x2048, .f32⟩
  | 113 => ⟨S8192x2048, .f32⟩
  | 114 => ⟨S8192x2048, .f32⟩
  | 115 => ⟨S1x1x2048, .f32⟩
  | 116 => ⟨S2048, .f32⟩
  | 117 => ⟨S1x2048, .f32⟩
  | 118 => ⟨S8192x2048, .f32⟩
  | 119 => ⟨S8192x2048, .f32⟩
  | 120 => ⟨S8192x2048, .f32⟩
  | 121 => ⟨S8192x2048, .f32⟩
  | 122 => ⟨S1x1x2048, .f32⟩
  | 123 => ⟨S2048, .f32⟩
  | 124 => ⟨S1x2048, .f32⟩
  | 125 => ⟨S8192x2048, .f32⟩
  | 126 => ⟨S8192x2048, .f32⟩
  | 127 => ⟨S8192x2048, .f32⟩
  | _ => ⟨S8192x2048, .bf16⟩

abbrev hbmTy0_1 (i : Nat) : BufTy := match i % 128 with
  | 0 => ⟨S8192x2048, .f32⟩
  | 1 => ⟨S1x1x2048, .f32⟩
  | 2 => ⟨S2048, .f32⟩
  | 3 => ⟨S1x2048, .f32⟩
  | 4 => ⟨S8192x2048, .f32⟩
  | 5 => ⟨S8192x2048, .f32⟩
  | 6 => ⟨S8192x2048, .f32⟩
  | 7 => ⟨S8192x2048, .f32⟩
  | 8 => ⟨S1x1x2048, .f32⟩
  | 9 => ⟨S2048, .f32⟩
  | 10 => ⟨S1x2048, .f32⟩
  | 11 => ⟨S8192x2048, .f32⟩
  | 12 => ⟨S8192x2048, .f32⟩
  | 13 => ⟨S8192x2048, .f32⟩
  | 14 => ⟨S8192x2048, .f32⟩
  | 15 => ⟨S1x1x2048, .f32⟩
  | 16 => ⟨S2048, .f32⟩
  | 17 => ⟨S1x2048, .f32⟩
  | 18 => ⟨S8192x2048, .f32⟩
  | 19 => ⟨S8192x2048, .f32⟩
  | 20 => ⟨S8192x2048, .f32⟩
  | 21 => ⟨S8192x2048, .f32⟩
  | 22 => ⟨S1x1x2048, .f32⟩
  | 23 => ⟨S2048, .f32⟩
  | 24 => ⟨S1x2048, .f32⟩
  | 25 => ⟨S8192x2048, .f32⟩
  | 26 => ⟨S8192x2048, .f32⟩
  | 27 => ⟨S8192x2048, .f32⟩
  | 28 => ⟨S8192x2048, .f32⟩
  | 29 => ⟨S1x1x2048, .f32⟩
  | 30 => ⟨S2048, .f32⟩
  | 31 => ⟨S1x2048, .f32⟩
  | 32 => ⟨S8192x2048, .f32⟩
  | 33 => ⟨S8192x2048, .f32⟩
  | 34 => ⟨S8192x2048, .f32⟩
  | 35 => ⟨S8192x2048, .f32⟩
  | 36 => ⟨S1x1x2048, .f32⟩
  | 37 => ⟨S2048, .f32⟩
  | 38 => ⟨S1x2048, .f32⟩
  | 39 => ⟨S8192x2048, .f32⟩
  | 40 => ⟨S8192x2048, .f32⟩
  | 41 => ⟨S8192x2048, .f32⟩
  | 42 => ⟨S8192x2048, .f32⟩
  | 43 => ⟨S1x1x2048, .f32⟩
  | 44 => ⟨S2048, .f32⟩
  | 45 => ⟨S1x2048, .f32⟩
  | 46 => ⟨S8192x2048, .f32⟩
  | 47 => ⟨S8192x2048, .f32⟩
  | 48 => ⟨S8192x2048, .f32⟩
  | 49 => ⟨S8192x2048, .f32⟩
  | 50 => ⟨S1x1x2048, .f32⟩
  | 51 => ⟨S2048, .f32⟩
  | 52 => ⟨S1x2048, .f32⟩
  | 53 => ⟨S8192x2048, .f32⟩
  | 54 => ⟨S8192x2048, .f32⟩
  | 55 => ⟨S8192x2048, .f32⟩
  | 56 => ⟨S8192x2048, .f32⟩
  | 57 => ⟨S1x1x2048, .f32⟩
  | 58 => ⟨S2048, .f32⟩
  | 59 => ⟨S1x2048, .f32⟩
  | 60 => ⟨S8192x2048, .f32⟩
  | 61 => ⟨S8192x2048, .f32⟩
  | 62 => ⟨S8192x2048, .f32⟩
  | 63 => ⟨S8192x2048, .f32⟩
  | 64 => ⟨S1x1x2048, .f32⟩
  | 65 => ⟨S2048, .f32⟩
  | 66 => ⟨S1x2048, .f32⟩
  | 67 => ⟨S8192x2048, .f32⟩
  | 68 => ⟨S8192x2048, .f32⟩
  | 69 => ⟨S8192x2048, .f32⟩
  | 70 => ⟨S8192x2048, .f32⟩
  | 71 => ⟨S1x1x2048, .f32⟩
  | 72 => ⟨S2048, .f32⟩
  | 73 => ⟨S1x2048, .f32⟩
  | 74 => ⟨S8192x2048, .f32⟩
  | 75 => ⟨S8192x2048, .f32⟩
  | 76 => ⟨S8192x2048, .f32⟩
  | 77 => ⟨S8192x2048, .f32⟩
  | 78 => ⟨S1x1x2048, .f32⟩
  | 79 => ⟨S2048, .f32⟩
  | 80 => ⟨S1x2048, .f32⟩
  | 81 => ⟨S8192x2048, .f32⟩
  | 82 => ⟨S8192x2048, .f32⟩
  | 83 => ⟨S8192x2048, .f32⟩
  | 84 => ⟨S8192x2048, .f32⟩
  | 85 => ⟨S1x1x2048, .f32⟩
  | 86 => ⟨S2048, .f32⟩
  | 87 => ⟨S1x2048, .f32⟩
  | 88 => ⟨S8192x2048, .f32⟩
  | 89 => ⟨S8192x2048, .f32⟩
  | 90 => ⟨S8192x2048, .f32⟩
  | 91 => ⟨S8192x2048, .f32⟩
  | 92 => ⟨S1x1x2048, .f32⟩
  | 93 => ⟨S2048, .f32⟩
  | 94 => ⟨S1x2048, .f32⟩
  | 95 => ⟨S8192x2048, .f32⟩
  | 96 => ⟨S8192x2048, .f32⟩
  | 97 => ⟨S8192x2048, .f32⟩
  | 98 => ⟨S8192x2048, .f32⟩
  | 99 => ⟨S1x1x2048, .f32⟩
  | 100 => ⟨S2048, .f32⟩
  | 101 => ⟨S1x2048, .f32⟩
  | 102 => ⟨S8192x2048, .f32⟩
  | 103 => ⟨S8192x2048, .f32⟩
  | 104 => ⟨S8192x2048, .f32⟩
  | 105 => ⟨S8192x2048, .f32⟩
  | 106 => ⟨S1x1x2048, .f32⟩
  | 107 => ⟨S2048, .f32⟩
  | 108 => ⟨S1x2048, .f32⟩
  | 109 => ⟨S8192x2048, .f32⟩
  | 110 => ⟨S8192x2048, .f32⟩
  | 111 => ⟨S8192x2048, .f32⟩
  | 112 => ⟨S2048, .f32⟩
  | 113 => ⟨S1x2048, .f32⟩
  | 114 => ⟨S8192x2048, .f32⟩
  | 115 => ⟨S8192x2048, .f32⟩
  | 116 => ⟨S_, .f32⟩
  | 117 => ⟨S8192, .f32⟩
  | 118 => ⟨S8192x1, .f32⟩
  | 119 => ⟨S_, .f32⟩
  | 120 => ⟨S8192x1, .f32⟩
  | 121 => ⟨S8192x1, .f32⟩
  | 122 => ⟨S8192x2048, .f32⟩
  | 123 => ⟨S8192x2048, .f32⟩
  | 124 => ⟨S8192x2048, .f32⟩
  | 125 => ⟨S_, .f32⟩
  | 126 => ⟨S8192, .f32⟩
  | 127 => ⟨S8192x1, .f32⟩
  | _ => ⟨S8192x2048, .bf16⟩

abbrev hbmTy0_2 (i : Nat) : BufTy := match i % 128 with
  | 0 => ⟨S_, .f32⟩
  | 1 => ⟨S8192x1, .f32⟩
  | 2 => ⟨S8192x1, .f32⟩
  | 3 => ⟨S8192x2048, .f32⟩
  | 4 => ⟨S8192x2048, .f32⟩
  | 5 => ⟨S_, .f32⟩
  | 6 => ⟨S8192x1, .f32⟩
  | 7 => ⟨S8192x1, .f32⟩
  | 8 => ⟨S8192x1, .f32⟩
  | 9 => ⟨S8192x2048, .f32⟩
  | 10 => ⟨S8192x2048, .f32⟩
  | 11 => ⟨S2048, .f32⟩
  | 12 => ⟨S1x2048, .f32⟩
  | 13 => ⟨S8192x2048, .f32⟩
  | 14 => ⟨S8192x2048, .f32⟩
  | 15 => ⟨S2048, .f32⟩
  | 16 => ⟨S1x2048, .f32⟩
  | 17 => ⟨S8192x2048, .f32⟩
  | 18 => ⟨S8192x2048, .f32⟩
  | 19 => ⟨S8192x2048, .f32⟩
  | 20 => ⟨S8192x2048, .f32⟩
  | 21 => ⟨S_, .f32⟩
  | 22 => ⟨S8192x2048, .f32⟩
  | 23 => ⟨S8192x2048, .f32⟩
  | 24 => ⟨S_, .f32⟩
  | 25 => ⟨S8192x2048, .f32⟩
  | 26 => ⟨S8192x2048, .f32⟩
  | 27 => ⟨S8192x2048, .f32⟩
  | 28 => ⟨S2048x2048, .f32⟩
  | 29 => ⟨S8192x2048, .f32⟩
  | 30 => ⟨S2048, .f32⟩
  | 31 => ⟨S1x2048, .f32⟩
  | 32 => ⟨S8192x2048, .f32⟩
  | 33 => ⟨S8192x2048, .f32⟩
  | 34 => ⟨S8192x2048, .f32⟩
  | 35 => ⟨S2048x2048, .f32⟩
  | 36 => ⟨S8192x2048, .f32⟩
  | 37 => ⟨S8192x4096, .bf16⟩
  | 38 => ⟨S8192x4096, .f32⟩
  | 39 => ⟨S8192x2048, .f32⟩
  | 40 => ⟨S8192x2048, .f32⟩
  | 41 => ⟨S8192x2048, .f32⟩
  | 42 => ⟨S8192x2048, .f32⟩
  | 43 => ⟨S8192x2048, .f32⟩
  | 44 => ⟨S2048x2048, .f32⟩
  | 45 => ⟨S8192x2048, .f32⟩
  | 46 => ⟨S8192x2048, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x2048, .f32⟩
  | 58 => ⟨S8192x2048, .f32⟩
  | 59 => ⟨S2048, .f32⟩
  | 60 => ⟨S1x2048, .f32⟩
  | 61 => ⟨S8192x2048, .f32⟩
  | 62 => ⟨S8192x2048, .f32⟩
  | 63 => ⟨S8192x2048, .f32⟩
  | 64 => ⟨S8192x2048, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x2048, .f32⟩
  | 76 => ⟨S8192x2048, .f32⟩
  | 77 => ⟨S2048, .f32⟩
  | 78 => ⟨S1x2048, .f32⟩
  | 79 => ⟨S8192x2048, .f32⟩
  | 80 => ⟨S8192x2048, .f32⟩
  | 81 => ⟨S8192x2048, .bf16⟩
  | _ => ⟨S8192x2048, .bf16⟩

abbrev hbmTy (i : Nat) : BufTy := match i / 128 with
  | 0 => hbmTy0_0 i
  | 1 => hbmTy0_1 i
  | 2 => hbmTy0_2 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_cst_0 : Ref sig .tc := ⟨.hbm, 244, rfl⟩
abbrev main_v226 : Ref sig .tc := ⟨.hbm, 245, rfl⟩
abbrev main_v227 : Ref sig .tc := ⟨.hbm, 246, rfl⟩
abbrev main_cst_1 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_cst_2 : Ref sig .tc := ⟨.hbm, 253, rfl⟩
abbrev main_v233 : Ref sig .tc := ⟨.hbm, 254, rfl⟩
abbrev main_v234 : Ref sig .tc := ⟨.hbm, 255, rfl⟩
abbrev main_cst_3 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_cst_4 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_call1_v0 : Ref sig .tc := ⟨.hbm, 275, rfl⟩
abbrev main_call1_v1 : Ref sig .tc := ⟨.hbm, 276, rfl⟩
abbrev main_call1_cst : Ref sig .tc := ⟨.hbm, 277, rfl⟩
abbrev main_call1_v2 : Ref sig .tc := ⟨.hbm, 278, rfl⟩
abbrev main_call1_v3 : Ref sig .tc := ⟨.hbm, 279, rfl⟩
abbrev main_call1_cst_0 : Ref sig .tc := ⟨.hbm, 280, rfl⟩
abbrev main_call1_v4 : Ref sig .tc := ⟨.hbm, 281, rfl⟩
abbrev main_call1_v5 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_cst_5 : Ref sig .tc := ⟨.hbm, 303, rfl⟩
abbrev main_v272 : Ref sig .tc := ⟨.hbm, 304, rfl⟩
abbrev main_v273 : Ref sig .tc := ⟨.hbm, 305, rfl⟩
abbrev main_cst_6 : Ref sig .tc := ⟨.hbm, 306, rfl⟩
abbrev main_v274 : Ref sig .tc := ⟨.hbm, 307, rfl⟩
abbrev main_v275 : Ref sig .tc := ⟨.hbm, 308, rfl⟩
abbrev main_cst_7 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_cst_8 : Ref sig .tc := ⟨.hbm, 321, rfl⟩
abbrev main_v287 : Ref sig .tc := ⟨.hbm, 322, rfl⟩
abbrev main_v288 : Ref sig .tc := ⟨.hbm, 323, rfl⟩
abbrev main_cst_9 : Ref sig .tc := ⟨.hbm, 324, rfl⟩
abbrev main_v289 : Ref sig .tc := ⟨.hbm, 325, rfl⟩
abbrev main_v290 : Ref sig .tc := ⟨.hbm, 326, rfl⟩
abbrev main_cst_10 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩

abbrev nD : Nat := 1
abbrev τ : Topo := Topo.v7x

variable {F : FTy → Type} [FloatOps F]
-- ==== Proof.Layer.Points.lean ====
/- THE SCHEDULE of the projection call: at which points each window is fetched and written back, the staging buffers at a point and the
   body as the pipeline calls it there. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%8)) is fetched at the points ≡ 0 (mod 7), at any contents of the tables (its index map reads none). -/
theorem fetch0_0 (a : (pcfg0 (F := F)).Adm) : ∀ t : Fin (cfg0 a).N, ((cfg0 a).win 0).fetch t = true ↔ t.val % 7 = 0 :=
  (fun t => Pipeline.Window.fetchOf_reads cc0_transform_0 reads0_0 hreads0_0 0 (by decide) (by decide) (Pipeline.Window.sep_of_coord cc0_transform_0 0 0 (fun _ => rfl) (by decide)) (P := 7) (by decide) t : ∀ t : Fin grid0.N, Pipeline.Window.fetchOf grid0 false cc0_transform_0 t = true ↔ t.val % 7 = 0)
/-- Window 1 (operand 3 (%10)) is fetched at the first point only, at any contents of the tables (its index map reads none). -/
theorem fetch0_1 (a : (pcfg0 (F := F)).Adm) : ∀ t : Fin (cfg0 a).N, ((cfg0 a).win 1).fetch t = true ↔ t.val % 56 = 0 :=
  (fun t => Pipeline.Window.fetchOf_const cc0_transform_1 (fun _ _ => rfl) (n := 56) (by decide) t : ∀ t : Fin grid0.N, Pipeline.Window.fetchOf grid0 false cc0_transform_1 t = true ↔ t.val % 56 = 0)
/-- Window 2 (operand 4 (%7)) is fetched at the first point only, at any contents of the tables (its index map reads none). -/
theorem fetch0_2 (a : (pcfg0 (F := F)).Adm) : ∀ t : Fin (cfg0 a).N, ((cfg0 a).win 2).fetch t = true ↔ t.val % 56 = 0 :=
  (fun t => Pipeline.Window.fetchOf_const cc0_transform_2 (fun _ _ => rfl) (n := 56) (by decide) t : ∀ t : Fin grid0.N, Pipeline.Window.fetchOf grid0 false cc0_transform_2 t = true ↔ t.val % 56 = 0)
-- window 3: no schedule fact — its index map reads a prefetched table, so where it is fetched or written back depends on the tables' contents
-- window 4: no schedule fact — its index map reads a prefetched table, so where it is fetched or written back depends on the tables' contents
-- window 5 is written back at points [0, 1, 4, 5, 6, 7, 8, 11, 12, 13, 14, 15]…: no closed form stated
-- window 6 is written back at points [3, 6, 10, 13, 17, 20, 24, 27, 31, 34, 38, 41]…: no closed form stated
/-- Window 7 (result 2 (%11#2)) is written back at the points ≡ 6 (mod 7), at any contents of the tables (its index map reads none). -/
theorem flush0_7 (a : (pcfg0 (F := F)).Adm) : ∀ t : Fin (cfg0 a).N, ((cfg0 a).win 7).flush t = true ↔ t.val % 7 = 6 :=
  (fun t => Pipeline.Window.flushOf_reads cc0_transform_7 reads0_7 hreads0_7 0 (by decide) (by decide) (Pipeline.Window.sep_of_coord cc0_transform_7 0 0 (fun _ => rfl) (by decide)) (P := 7) (m := 6) (by decide) rfl t : ∀ t : Fin grid0.N, Pipeline.Window.flushOf grid0 true cc0_transform_7 t = true ↔ t.val % 7 = 6)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_in_proj (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

end Cert.Kernel.Gen

end
-- ==== Proof.Layer.Kit.lean ====
/- THE LAUNCH KIT of the projection call: the memory the region finds, the tables' contents and the pipeline at them, each input's block at
   a point, the body's conditions over the points, and where each window is idle. -/
module

public import proofs.«01_k».proof.Proof.Gen.Kernel.Launch
public import proofs.«01_k».proof.Proof.Gen.Kernel.Skeleton
public import proofs.«01_k».proof.Proof.Layer.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S7 .i32 := Memref.whole main_c
abbrev htbM0_0 : tbM0_0.IsWhole := Memref.isWhole_whole _
abbrev tbM0_1 : Memref sig .tc .smem S7 .i32 := Memref.whole main_c_0
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 7) — by arithmetic of the point. -/
theorem hcond0_0 : ∀ t : Fin grid0.N, cond0_0 (grid0.coords t) ↔ t.val % 7 = 0 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 1 — decided over the grid. -/
theorem hcond0_1 : ∀ t : Fin grid0.N, cond0_1 (grid0.coords t) ↔ t.val % 7 ≤ 1 :=
  (by decide +kernel : ∀ t : Fin grid0.N, cond0_1 (grid0.coords t) ↔ t.val % 7 ≤ 1)

/-- The condition of the body's `scf.if` 2 (`k0_h3`), from the grid coordinates (the skeleton's scalar
    chain substituted). -/
abbrev cond0_2 (i : grid0.Coords) : Prop := k0_cond3 i = 1#1
/-- It holds at the points ≡ 2 (mod 7) — decided over the grid. -/
theorem hcond0_2 : ∀ t : Fin grid0.N, cond0_2 (grid0.coords t) ↔ t.val % 7 = 2 :=
  (by decide +kernel : ∀ t : Fin grid0.N, cond0_2 (grid0.coords t) ↔ t.val % 7 = 2)

/-- The condition of the body's `scf.if` 3 (`k0_h4`), from the grid coordinates (the skeleton's scalar
    chain substituted). -/
abbrev cond0_3 (i : grid0.Coords) : Prop := k0_cond4 i = 1#1
/-- It holds at the points whose coordinates have 5 ≤ i1 — decided over the grid. -/
theorem hcond0_3 : ∀ t : Fin grid0.N, cond0_3 (grid0.coords t) ↔ 5 ≤ t.val % 7 :=
  (by decide +kernel : ∀ t : Fin grid0.N, cond0_3 (grid0.coords t) ↔ 5 ≤ t.val % 7)

/-- The condition of the body's `scf.if` 4 (`k0_h5`), from the grid coordinates (the skeleton's scalar
    chain substituted). -/
abbrev cond0_4 (i : grid0.Coords) : Prop := k0_cond5 i = 1#1
/-- It holds at the points whose coordinates have 3 ≤ i1 and i1 ≤ 4 — decided over the grid. -/
theorem hcond0_4 : ∀ t : Fin grid0.N, cond0_4 (grid0.coords t) ↔ (3 ≤ t.val % 7 ∧ t.val % 7 ≤ 4) :=
  (by decide +kernel : ∀ t : Fin grid0.N, cond0_4 (grid0.coords t) ↔ (3 ≤ t.val % 7 ∧ t.val % 7 ≤ 4))

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S128x2048 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x2048 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x2048 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1024x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x128 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S1024x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.Layer.Tables.lean ====
/- THE TABLES OF THE PROJECTION KERNEL'S COLUMN GROUPS: what the host constants put in them, where the element windows then start, and
   that these starts are inside the weights' array and multiples of the stated sixteen rows. -/
module

public import proofs.«01_k».proof.Proof.Layer.Kit
public import Idealize.ShloMosaic.Lib.StableHlo.RunRead

@[expose] public section

noncomputable section

namespace Cert.Layer

open Idealize.ShloMosaic Idealize.ShloMosaic.TcCoe Idealize.ShloMosaic.Tactic
open Cert.Kernel Cert.Kernel.Gen

variable {F : FTy → Type} [FloatOps F]
variable (m : (ℓ : Loc nD τ sig) → Buf (Elt F) ℓ)

/-- The first table holds the left halves' starts, in units of 32 rows. -/
theorem V_main_c (c : Dev nD) : V m c main_c = fun i => lit0 (S7.rowMajor i) := by
  show StableHlo.after (hostOps0 ++ (hostOps0_1 ++ (hostOps0_2 ++ []))) _ _ = _
  after_reads_simp
  rfl
/-- The second table holds the right halves' starts. -/
theorem V_main_c_0 (c : Dev nD) : V m c main_c_0 = fun i => lit1 (S7.rowMajor i) := by
  show StableHlo.after (hostOps0 ++ (hostOps0_1 ++ (hostOps0_2 ++ []))) _ _ = _
  after_reads_simp
  rfl
/-- The weights as the windows read them: transposed, at 16 bits. -/
theorem V_main_v2 (c : Dev nD) : V m c main_v2 = truncf .bf16 (transpose S14368x2048 [1, 0]
    (shapeCast S2048x14368 (m (c, Proc.devRef .tc main_arg2)) shapeCasts_S1x2048x14368_S2048x14368) transposes_S2048x14368_S14368x2048_1_0) bitsLt_bf16_f32 := by
  show StableHlo.after (hostOps0 ++ (hostOps0_1 ++ (hostOps0_2 ++ []))) _ _ = _
  after_reads_simp
  rfl
/-- The rows of the forget gates' inputs, padded with zero rows to 128. -/
theorem V_main_v7 (c : Dev nD) : V m c main_v7 = truncf .bf16 (pad S128x2048 ![0, 0] ![96, 0] ![0, 0]
    (extractStridedSlice S32x2048 ![6144, 0] (transpose S14368x2048 [1, 0]
      (shapeCast S2048x14368 (m (c, Proc.devRef .tc main_arg2)) shapeCasts_S1x2048x14368_S2048x14368) transposes_S2048x14368_S14368x2048_1_0)
      slices_S14368x2048_S32x2048_6144_0) (sitofp .f32 (constantI S_ 32 0#32)) pads_S32x2048_S128x2048_0960_000 h_S_) bitsLt_bf16_f32 := by
  show StableHlo.after (hostOps0 ++ (hostOps0_1 ++ (hostOps0_2 ++ []))) _ _ = _
  after_reads_simp
  rfl
/-- The rows of the layer's input. -/
theorem V_main_v8 (c : Dev nD) : V m c main_v8 = shapeCast S8192x2048 (m (c, Proc.devRef .tc main_arg0)) shapeCasts_S1x8192x2048_S8192x2048 := by
  show StableHlo.after (hostOps0 ++ (hostOps0_1 ++ (hostOps0_2 ++ []))) _ _ = _
  after_reads_simp
  rfl
/-- The normalisation's scales. -/
theorem V_main_v10 (c : Dev nD) : V m c main_v10 = shapeCast S1x2048 (shapeCast S2048 (m (c, Proc.devRef .tc main_arg1)) shapeCasts_S1x2048_S2048) shapeCasts_S2048_S1x2048 := by
  show StableHlo.after (hostOps0 ++ (hostOps0_1 ++ (hostOps0_2 ++ []))) _ _ = _
  after_reads_simp
  rfl

/-- The row at which column group `n`'s left half starts. -/
def startL (n : Nat) : Nat := ([0, 2048, 4096, 6176, 7200, 10272, 12320] : List Nat).getD n 0
/-- The row at which its right half starts. -/
def startR (n : Nat) : Nat := ([1024, 3072, 5120, 8224, 9248, 11296, 13344] : List Nat).getD n 0

theorem tbl_0 : (tbl m 0 : S7.Idx → BitVec 32) = fun i => lit0 (S7.rowMajor i) := V_main_c m 0
theorem tbl_1 : (tbl m 1 : S7.Idx → BitVec 32) = fun i => lit1 (S7.rowMajor i) := V_main_c_0 m 0

theorem word0 : ∀ (j : Fin 7) (h : ∀ a, (![(Scalar.indexCast (BitVec.ofNat 32 j.val)).toNat] : Fin 1 → Nat) a + S1.size a ≤ S7.size a) (h1 : 0 < S1.numel),
    (Scalar.muli (lit0 (S7.rowMajor ((Rect.unit (s := S7) ![(Scalar.indexCast (BitVec.ofNat 32 j.val)).toNat] S1.size h).emb (Shape.Idx.first h1)))) 32#32).toNat
      = startL j.val := by decide
theorem word1 : ∀ (j : Fin 7) (h : ∀ a, (![(Scalar.indexCast (BitVec.ofNat 32 j.val)).toNat] : Fin 1 → Nat) a + S1.size a ≤ S7.size a) (h1 : 0 < S1.numel),
    (Scalar.muli (lit1 (S7.rowMajor ((Rect.unit (s := S7) ![(Scalar.indexCast (BitVec.ofNat 32 j.val)).toNat] S1.size h).emb (Shape.Idx.first h1)))) 32#32).toNat
      = startR j.val := by decide

/-- The first element window's block starts at the row the table names. -/
theorem tr3 (i : grid0.Coords) : cc0_transform_3 k0_off1_inb numel1_S1 (tbl m) i = ![startL (i 1).val, 0] := by
  unfold cc0_transform_3 Pipeline.Prefetch.Contents.at
  dsimp only
  have h := tbl_0 m
  rw [show (tbl m 0) = fun i => lit0 (S7.rowMajor i) from h]
  rw [← word0 (i 1) (k0_off1_inb i) (by decide)]
  rfl
theorem tr4 (i : grid0.Coords) : cc0_transform_4 k0_off1_inb numel1_S1 (tbl m) i = ![startR (i 1).val, 0] := by
  unfold cc0_transform_4 Pipeline.Prefetch.Contents.at
  dsimp only
  have h := tbl_1 m
  rw [show (tbl m 1) = fun i => lit1 (S7.rowMajor i) from h]
  rw [← word1 (i 1) (k0_off1_inb i) (by decide)]
  rfl

theorem start_le : ∀ j : Fin 7, startL j.val + 1024 ≤ 14368 ∧ startR j.val + 1024 ≤ 14368 := by decide
theorem start_dvd : ∀ j : Fin 7, startL j.val % 16 = 0 ∧ startR j.val % 16 = 0 := by decide

theorem inb_at (n : Nat) (h : n + 1024 ≤ 14368) : ∀ a, (![n, 0] : Fin 2 → Nat) a + S1024x2048.size a ≤ S14368x2048.size a := by
  intro a
  fin_cases a
  · exact h
  · exact Nat.le_of_eq rfl
theorem wordsL : ∀ (j : Fin 7) (h : ∀ a, (![startL j.val, 0] : Fin 2 → Nat) a + S1024x2048.size a ≤ S14368x2048.size a),
    (Rect.unit (s := S14368x2048) ![startL j.val, 0] S1024x2048.size h).WholeWords (EltTy.packing .bf16) := by decide
theorem wordsR : ∀ (j : Fin 7) (h : ∀ a, (![startR j.val, 0] : Fin 2 → Nat) a + S1024x2048.size a ≤ S14368x2048.size a),
    (Rect.unit (s := S14368x2048) ![startR j.val, 0] S1024x2048.size h).WholeWords (EltTy.packing .bf16) := by decide
theorem words_at {off off' : Fin 2 → Nat} (e : off = off')
    (hw : ∀ h : ∀ a, off' a + S1024x2048.size a ≤ S14368x2048.size a, (Rect.unit (s := S14368x2048) off' S1024x2048.size h).WholeWords (EltTy.packing .bf16))
    (h : ∀ a, off a + S1024x2048.size a ≤ S14368x2048.size a) :
    (Rect.unit (s := S14368x2048) off S1024x2048.size h).WholeWords (EltTy.packing .bf16) := by
  subst e; exact hw h

/-- The pipeline's side condition of the tables holds of every launch: the tables are the program's constants. -/
theorem ok_tables : Ok m := by
  refine ⟨?_, ?_, ?_, ?_⟩
  · intro i
    unfold k0_mult1 Pipeline.Prefetch.Contents.atD
    dsimp only
    rw [show (tbl m 0) = fun i => lit0 (S7.rowMajor i) from tbl_0 m]
    have h : ∀ j : Fin 7, (16 : Int) ∣ (Scalar.muli (if h : ∀ a, (![(Scalar.indexCast (BitVec.ofNat 32 j.val)).toNat] : Fin 1 → Nat) a + 1 ≤ S7.size a
      then lit0 (S7.rowMajor fun a => ⟨_, h a⟩) else default) 32#32).toInt := by decide
    exact h (i 1)
  · intro i
    unfold k0_mult2 Pipeline.Prefetch.Contents.atD
    dsimp only
    rw [show (tbl m 1) = fun i => lit1 (S7.rowMajor i) from tbl_1 m]
    have h : ∀ j : Fin 7, (16 : Int) ∣ (Scalar.muli (if h : ∀ a, (![(Scalar.indexCast (BitVec.ofNat 32 j.val)).toNat] : Fin 1 → Nat) a + 1 ≤ S7.size a
      then lit1 (S7.rowMajor fun a => ⟨_, h a⟩) else default) 32#32).toInt := by decide
    exact h (i 1)
  · intro i
    have e := tr3 m i
    have hi : ∀ a, cc0_transform_3 k0_off1_inb numel1_S1 (tbl m) i a + S1024x2048.size a ≤ S14368x2048.size a := by
      rw [e]; exact inb_at _ (start_le (i 1)).1
    exact ⟨hi, .inr (words_at e (wordsL (i 1)) hi)⟩
  · intro i
    have e := tr4 m i
    have hi : ∀ a, cc0_transform_4 k0_off1_inb numel1_S1 (tbl m) i a + S1024x2048.size a ≤ S14368x2048.size a := by
      rw [e]; exact inb_at _ (start_le (i 1)).2
    exact ⟨hi, .inr (words_at e (wordsR (i 1)) hi)⟩

end Cert.Layer

end
-- ==== Proof.Layer.Spec.lean ====
/- WHAT ONE GRID POINT OF THE PROJECTION KERNEL MAKES: the products of a 256-row piece of the normalised rows with a 256-row piece of the
   transposed weights, under the activation of the point's group of columns, and the block of an output such pieces tile.
   Stated over any floats; the run modules show the body leaves these, the value modules read them over the reals. -/
module

public import proofs.«01_k».proof.Proof.Layer.Kit

@[expose] public section

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

/-- A 256-row piece of a 1024-row block. -/
abbrev Piece256 (F : FTy → Type) := Vec F S256x2048 .bf16

/-- One 256 × 256 product `a · bᵀ`, summed in f32. -/
def prod256 (a b : Piece256 F) : FVec F S256x256 .f32 :=
  matmul dot_S256x2048_S256x2048_S256x256_1_1_0_0_n_n none a (shapeCast S256x2048 b shapeCasts_S256x2048_S256x2048)
    (constant S256x256 .f32 0x00000000#32)

/-- The logistic function as the kernel writes it: `1 / (1 + exp (0 - a))`. -/
def logistic256 (a : FVec F S256x256 .f32) : FVec F S256x256 .f32 :=
  divf (broadcast S256x256 (Scalar.ofBits .f32 0x3F800000#32))
    (addf (broadcast S256x256 (Scalar.ofBits .f32 0x3F800000#32))
      (exp (subf (broadcast S256x256 (Scalar.ofBits .f32 0x00000000#32)) a)))

/-- A piece of a group of columns that takes no activation. -/
def plain256 (a b : Piece256 F) : FVec F S256x256 .bf16 := truncf .bf16 (prod256 a b) bitsLt_bf16_f32
/-- A piece of the columns under `a · logistic a`. -/
def swish256 (a b : Piece256 F) : FVec F S256x256 .bf16 :=
  truncf .bf16 (mulf (prod256 a b) (logistic256 (prod256 a b))) bitsLt_bf16_f32
/-- A piece of the columns under the logistic function. -/
def sigm256 (a b : Piece256 F) : FVec F S256x256 .bf16 := truncf .bf16 (logistic256 (prod256 a b)) bitsLt_bf16_f32
/-- A piece of the gated columns: the values' product times the logistic function of the gates'. -/
def glu256 (a b b' : Piece256 F) : FVec F S256x256 .bf16 :=
  truncf .bf16 (mulf (prod256 a b) (logistic256 (prod256 a b'))) bitsLt_bf16_f32

/-- Rows `256 n …` of a block, the row number taken modulo the block's 1024 (so that the function is total in `n`). -/
def rows256 (u : Vec F S1024x2048 .bf16) (n : Nat) : Piece256 F :=
  fun y => u (fun | 0 => (⟨(256 * n + (y 0).val) % 1024, Nat.mod_lt _ (by decide)⟩ : Fin 1024) | 1 => (y 1 : Fin 2048))

/-- The place of an index of a block inside its 256 × 256 piece. -/
def inPiece {s : Shape} (r : s.rank = 2) (y : s.Idx) : S256x256.Idx :=
  fun | 0 => (⟨(y (Fin.cast r.symm 0)).val % 256, Nat.mod_lt _ (by decide)⟩ : Fin 256)
      | 1 => (⟨(y (Fin.cast r.symm 1)).val % 256, Nat.mod_lt _ (by decide)⟩ : Fin 256)

/-- The 1024 × 2048 block tiled by pieces `p`: the left 1024 columns from the weight rows `wl`, the right from `wh`. -/
def tiled (p : Piece256 F → Piece256 F → FVec F S256x256 .bf16) (u wl wh : Vec F S1024x2048 .bf16) : Vec F S1024x2048 .bf16 :=
  fun y => p (rows256 u ((y 0).val / 256)) (if (y 1).val < 1024 then rows256 wl ((y 1).val / 256) else rows256 wh ((y 1).val / 256 - 4))
    (inPiece rfl y)

/-- The 1024 × 1024 block of gated columns. -/
def tiledGlu (u wl wh : Vec F S1024x2048 .bf16) : Vec F S1024x1024 .bf16 :=
  fun y => glu256 (rows256 u ((y 0).val / 256)) (rows256 wl ((y 1).val / 256)) (rows256 wh ((y 1).val / 256)) (inPiece rfl y)

/-- What the body's run at grid point `i` says: from input buffers at `x0 … x4`, the outputs' at `y5, y6, y7` and the scratch at
    `ys`, the body leaves the inputs as they were, the outputs' at `z5, z6, z7` and the scratch at `zs`. -/
def Runs (c : Dev nD) (i : grid0.Coords) (x0 : Vec F S1024x2048 .f32) (x1 : Vec F S1x2048 .f32) (x2 : Vec F S128x2048 .bf16)
    (x3 x4 : Vec F S1024x2048 .bf16) (y5 : Vec F S1024x2048 .bf16) (y6 : Vec F S1024x1024 .bf16) (y7 : Vec F S1024x128 .bf16)
    (ys : Vec F S1024x2048 .bf16) (z5 : Vec F S1024x2048 .bf16) (z6 : Vec F S1024x1024 .bf16) (z7 : Vec F S1024x128 .bf16)
    (zs : Vec F S1024x2048 .bf16) : Prop :=
  ∀ (arg4 : Memref sig .tc .vmem S1024x2048 .f32) (harg4 : arg4.IsWhole) (arg5 : Memref sig .tc .vmem S1x2048 .f32) (harg5 : arg5.IsWhole)
    (arg6 : Memref sig .tc .vmem S128x2048 .bf16) (harg6 : arg6.IsWhole) (arg7 : Memref sig .tc .vmem S1024x2048 .bf16) (harg7 : arg7.IsWhole)
    (arg8 : Memref sig .tc .vmem S1024x2048 .bf16) (harg8 : arg8.IsWhole) (arg9 : Memref sig .tc .vmem S1024x2048 .bf16) (harg9 : arg9.IsWhole)
    (arg10 : Memref sig .tc .vmem S1024x1024 .bf16) (harg10 : arg10.IsWhole) (arg11 : Memref sig .tc .vmem S1024x128 .bf16) (harg11 : arg11.IsWhole)
    (arg12 : Memref sig .tc .vmem S1024x2048 .bf16) (harg12 : arg12.IsWhole)
    (xt0 : TbBuf0 (F := F) c tbM0_0) (xt1 : TbBuf0 (F := F) c tbM0_1) (E : Set ℕ) (K : PUnit → sProp (MT nD τ sig Unit (Elt F) ℕ (UR sig nD τ) ℕ)),
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare y5
        ∗ owns (c : Thread nD τ) arg10 fullShare y6 ∗ owns (c : Thread nD τ) arg11 fullShare y7 ∗ owns (c : Thread nD τ) arg12 fullShare ys
        ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare z5
            ∗ owns (c : Thread nD τ) arg10 fullShare z6 ∗ owns (c : Thread nD τ) arg11 fullShare z7 ∗ owns (c : Thread nD τ) arg12 fullShare zs
            ∗ tbPt0 c tbM0_0 xt0 ∗ tbPt0 c tbM0_1 xt1) -∗ K ⟨⟩))
      ⊢ wp frame (wpE (defs₀ (F := F)) Variants.none c none) E (cc0_in_proj i tbM0_0 htbM0_0 tbM0_1 htbM0_1 arg4 harg4 arg5 harg5 arg6 harg6
          arg7 harg7 arg8 harg8 arg9 harg9 arg10 harg10 arg11 harg11 arg12 harg12) K

end Cert.Layer

end
-- ==== Proof.Layer.Data.lean ====
/- WHAT THE PROJECTION KERNEL'S BUFFERS HOLD POINT BY POINT, over any floats: the normalised rows of the point's row block in the scratch,
   and each output's block as the last point that stored it left it; the schedule of the outputs' write-backs; and what the body finds at a
   write-back of a block an earlier point stored. -/
module

public import proofs.«01_k».proof.Proof.Layer.Tables
public import proofs.«01_k».proof.Proof.Layer.Spec
public import Idealize.ShloMosaic.Lib.Pipeline.TableIdle

@[expose] public section

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The points -/

/-- The point of grid row `i` and column group `j`. -/
def pt (i j : Nat) : Fin grid0.N := ⟨(7 * i + j) % 56, Nat.lt_of_lt_of_eq (Nat.mod_lt _ (by decide)) N_0.symm⟩

theorem lt56 (t : Fin grid0.N) : t.val < 56 := Nat.lt_of_lt_of_eq t.isLt N_0

theorem pt_val {i j : Nat} (hi : i < 8) (hj : j < 7) : (pt i j).val = 7 * i + j := Nat.mod_eq_of_lt (by omega)

theorem pt_self {t : Fin grid0.N} {j : Nat} (h : t.val % 7 = j) : pt (t.val / 7) j = t := by
  have := lt56 t
  apply Fin.ext
  rw [pt_val (by omega) (by omega)]; omega

/-! ## The schedule -/

theorem flush5 (a : (pcfg0 (F := F)).Adm) : ∀ t : Fin (cfg0 a).N, ((cfg0 a).win 5).flush t = !decide (t.val % 7 = 2 ∨ t.val % 7 = 3) :=
  (by decide +kernel : ∀ t : Fin grid0.N, Window.flushOf grid0 true cc0_transform_5 t = !decide (t.val % 7 = 2 ∨ t.val % 7 = 3))
theorem flush6 (a : (pcfg0 (F := F)).Adm) : ∀ t : Fin (cfg0 a).N, ((cfg0 a).win 6).flush t = decide (t.val % 7 = 3 ∨ t.val % 7 = 6) :=
  (by decide +kernel : ∀ t : Fin grid0.N, Window.flushOf grid0 true cc0_transform_6 t = decide (t.val % 7 = 3 ∨ t.val % 7 = 6))
theorem flush7 (a : (pcfg0 (F := F)).Adm) : ∀ t : Fin (cfg0 a).N, ((cfg0 a).win 7).flush t = decide (t.val % 7 = 6) :=
  (by decide +kernel : ∀ t : Fin grid0.N, Window.flushOf grid0 true cc0_transform_7 t = decide (t.val % 7 = 6))

theorem idle5 : ∀ t : Fin grid0.N, idle0 5 (grid0.coords t) = decide (t.val % 7 = 3 ∨ t.val % 7 = 4) := by decide +kernel
theorem idle6 : ∀ t : Fin grid0.N, idle0 6 (grid0.coords t) = !decide (t.val % 7 = 3 ∨ t.val % 7 = 4) := by decide +kernel
theorem idle7 : ∀ t : Fin grid0.N, idle0 7 (grid0.coords t) = !decide (t.val % 7 = 0) := by decide +kernel

/-! ## The contents -/

variable (hO : Ok m)

/-- The normalised rows of row block `i`. -/
def uRow (c : Dev nD) (i : Nat) : Vec F S1024x2048 .bf16 := k0_pay1 (iblk m hO c 0 (pt i 0)) (iblk m hO c 1 (pt i 0))

/-- The block of the projections' output the point's row and column block get. -/
def out5 (c : Dev nD) (i j : Nat) : Vec F S1024x2048 .bf16 :=
  if j < 2 then tiled plain256 (uRow m hO c i) (iblk m hO c 3 (pt i j)) (iblk m hO c 4 (pt i j))
  else if j < 5 then tiled swish256 (uRow m hO c i) (iblk m hO c 3 (pt i 2)) (iblk m hO c 4 (pt i 2))
  else tiled sigm256 (uRow m hO c i) (iblk m hO c 3 (pt i j)) (iblk m hO c 4 (pt i j))

/-- The block of the gated output. -/
def out6 (c : Dev nD) (i j : Nat) : Vec F S1024x1024 .bf16 :=
  if j < 4 then tiledGlu (uRow m hO c i) (iblk m hO c 3 (pt i 3)) (iblk m hO c 4 (pt i 3))
  else tiledGlu (uRow m hO c i) (iblk m hO c 3 (pt i 4)) (iblk m hO c 4 (pt i 4))

/-- The block of the forget gates' inputs. -/
def out7 (c : Dev nD) (i : Nat) : Vec F S1024x128 .bf16 :=
  k0_pay3 (iblk m hO c 0 (pt i 0)) (iblk m hO c 1 (pt i 0)) (iblk m hO c 2 (pt i 0))

/-- The scratch before point `n`: at the start of a row block anything, then the row block's normalised rows. -/
def scr (c : Dev nD) (n : Nat) : sProp 𝕄 :=
  if n % 7 = 0 then iprop(∃ d, owns (c : Thread nD τ) scM0_0 fullShare d) else owns (c : Thread nD τ) scM0_0 fullShare (uRow m hO c (n / 7))

/-- The proof data of the pipeline on core `c`. -/
def datL (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out5 m hO c (t.val / 7) (t.val % 7)
    | ⟨6, _⟩ => out6 m hO c (t.val / 7) (t.val % 7)
    | ⟨7, _⟩ => out7 m hO c (t.val / 7)
  Φ t := iprop((scr m hO c t.val ∗ (∃ r, prngReg c r)) ∗ Pipeline.ΦT pre0 (tbl m) c)
  q w := Pipeline.shareOf spec0 w
  owed _ := 0

theorem datL_A (c : Dev nD) (w : Fin (cfgM m hO).W) : (datL m hO 0 c).A w = V m c (Pipeline.arrRef spec0 w) := by dsimp only [datL]

theorem after_0 (c : Dev nD) (t : Fin (cfgM m hO).N) : (datL m hO 0 c).after 0 t = iblk m hO c 0 t := by dsimp only [datL]; try rfl
theorem after_1 (c : Dev nD) (t : Fin (cfgM m hO).N) : (datL m hO 0 c).after 1 t = iblk m hO c 1 t := by dsimp only [datL]; try rfl
theorem after_2 (c : Dev nD) (t : Fin (cfgM m hO).N) : (datL m hO 0 c).after 2 t = iblk m hO c 2 t := by dsimp only [datL]; try rfl
theorem after_3 (c : Dev nD) (t : Fin (cfgM m hO).N) : (datL m hO 0 c).after 3 t = iblk m hO c 3 t := by dsimp only [datL]; try rfl
theorem after_4 (c : Dev nD) (t : Fin (cfgM m hO).N) : (datL m hO 0 c).after 4 t = iblk m hO c 4 t := by dsimp only [datL]; try rfl
theorem after_5 (c : Dev nD) (t : Fin (cfgM m hO).N) : (datL m hO 0 c).after 5 t = out5 m hO c (t.val / 7) (t.val % 7) := by dsimp only [datL]; try rfl
theorem after_6 (c : Dev nD) (t : Fin (cfgM m hO).N) : (datL m hO 0 c).after 6 t = out6 m hO c (t.val / 7) (t.val % 7) := by dsimp only [datL]; try rfl
theorem after_7 (c : Dev nD) (t : Fin (cfgM m hO).N) : (datL m hO 0 c).after 7 t = out7 m hO c (t.val / 7) := by dsimp only [datL]; try rfl

theorem before_0 (c : Dev nD) (t : Fin (cfgM m hO).N) (d) : (datL m hO 0 c).before 0 t d = iblk m hO c 0 t :=
  before0_0_of m hO (datL m hO 0 c) (datL_A m hO c 0) (after_0 m hO c) t d
theorem before_1 (c : Dev nD) (t : Fin (cfgM m hO).N) (d) : (datL m hO 0 c).before 1 t d = iblk m hO c 1 t :=
  before0_1_of m hO (datL m hO 0 c) (datL_A m hO c 1) (after_1 m hO c) t d
theorem before_2 (c : Dev nD) (t : Fin (cfgM m hO).N) (d) : (datL m hO 0 c).before 2 t d = iblk m hO c 2 t :=
  before0_2_of m hO (datL m hO 0 c) (datL_A m hO c 2) (after_2 m hO c) t d
theorem before_3 (c : Dev nD) (t : Fin (cfgM m hO).N) (d) : (datL m hO 0 c).before 3 t d = iblk m hO c 3 t :=
  before0_3_of m hO (datL m hO 0 c) (datL_A m hO c 3) (after_3 m hO c) t d
theorem before_4 (c : Dev nD) (t : Fin (cfgM m hO).N) (d) : (datL m hO 0 c).before 4 t d = iblk m hO c 4 t :=
  before0_4_of m hO (datL m hO 0 c) (datL_A m hO c 4) (after_4 m hO c) t d

/-! ## What a write-back of an earlier point's block finds -/

theorem out5_kept (c : Dev nD) (i : Nat) : out5 m hO c i 2 = out5 m hO c i 4 := by
  simp only [out5, show ¬ (2 < 2) by decide, show ¬ (4 < 2) by decide, show 2 < 5 by decide, show 4 < 5 by decide, if_true, if_false]
theorem out6_kept (c : Dev nD) (i : Nat) : out6 m hO c i 4 = out6 m hO c i 6 := by
  simp only [out6, show ¬ (4 < 4) by decide, show ¬ (6 < 4) by decide, if_false]

theorem isOut_5 : ((cfgM m hO).win 5).isOut = true := rfl
theorem isOut_6 : ((cfgM m hO).win 6).isOut = true := rfl
theorem isOut_7 : ((cfgM m hO).win 7).isOut = true := rfl
theorem clip_5 (i : (cfgM m hO).grid.Coords) (a) : ((cfgM m hO).win 5).clip i a = none := rfl
theorem clip_6 (i : (cfgM m hO).grid.Coords) (a) : ((cfgM m hO).win 6).clip i a = none := rfl
theorem clip_7 (i : (cfgM m hO).grid.Coords) (a) : ((cfgM m hO).win 7).clip i a = none := rfl
theorem idleM5 (t : Fin (cfgM m hO).N) : (cfgM m hO).idle 5 ((cfgM m hO).grid.coords t) = decide (t.val % 7 = 3 ∨ t.val % 7 = 4) := idle5 t
theorem idleM6 (t : Fin (cfgM m hO).N) : (cfgM m hO).idle 6 ((cfgM m hO).grid.coords t) = !decide (t.val % 7 = 3 ∨ t.val % 7 = 4) := idle6 t
theorem idleM7 (t : Fin (cfgM m hO).N) : (cfgM m hO).idle 7 ((cfgM m hO).grid.coords t) = !decide (t.val % 7 = 0) := idle7 t
/-- The point of row `i` and column group `j`, among the pipeline's points. -/
abbrev ptM (i j : Nat) : Fin (cfgM m hO).N := pt i j

/-- A block stored at `t₀` and neither stored again nor written back before `t` is found at `t`. -/
theorem before_stored {cfg : Cfg sig Λ₀} {c : Dev nD} (dat : Dat τ (Elt F) Unit ℕ (UR sig nD τ) ℕ cfg c) (w : Fin cfg.W)
    (hout : (cfg.win w).isOut = true) (hclip : ∀ (i : cfg.grid.Coords) a, (cfg.win w).clip i a = none)
    (t₀ t : Fin cfg.N) (hlt : t₀.val < t.val) (hlive : cfg.idle w (cfg.grid.coords t₀) = false) (hfl : (cfg.win w).flush t₀ = false)
    (hrun : ∀ j : Fin cfg.N, t₀.val < j.val → j.val < t.val → cfg.idle w (cfg.grid.coords j) = true ∧ (cfg.win w).flush j = false) (d) :
    dat.before w t d = dat.after w t₀ := by
  have hfe : ∀ t, (cfg.win w).fetch t = false := (cfg.win w).fetch_out hout
  rw [dat.before_idle_run w hfe d (t.val - t₀.val - 1) t (by omega) (fun j h1 h2 => hrun j (by omega) h2),
    dat.before_of_pos w _ (by simp only; omega) (hfe _)]
  have e : ∀ h, (⟨t.val - (t.val - t₀.val - 1) - 1, h⟩ : Fin cfg.N) = t₀ := fun h => Fin.ext (by simp only; omega)
  simp only [e, hfl, Bool.false_eq_true, if_false]
  unfold Dat.left
  rw [hlive]
  dsimp only
  unfold Dat.kept
  rw [Pipeline.fill_of_clip_none w _ (hclip _) d (dat.after w _), Window.fill_cut]

/-- The last of the three points of the swish columns writes back what the first of them stored. -/
theorem found5 (c : Dev nD) (t : Fin (cfgM m hO).N) (h : t.val % 7 = 4) (d) : (datL m hO 0 c).before 5 t d = (datL m hO 0 c).after 5 t := by
  have ht := lt56 t
  have hv : (ptM m hO (t.val / 7) 2).val = 7 * (t.val / 7) + 2 := pt_val (by omega) (by omega)
  have hi : (cfgM m hO).idle 5 ((cfgM m hO).grid.coords (ptM m hO (t.val / 7) 2)) = false := by
    rw [idleM5, hv]; simp <;> omega
  have hf : ((cfgM m hO).win 5).flush (ptM m hO (t.val / 7) 2) = false := by
    rw [flush5, hv]; simp <;> omega
  rw [before_stored (datL m hO 0 c) 5 (isOut_5 m hO) (clip_5 m hO) (ptM m hO (t.val / 7) 2) t (by omega) hi hf
    (fun j h1 h2 => ⟨by rw [idleM5]; simp <;> omega, by rw [flush5]; simp <;> omega⟩) d, after_5, after_5, hv]
  rw [show (7 * (t.val / 7) + 2) / 7 = t.val / 7 by omega, show (7 * (t.val / 7) + 2) % 7 = 2 by omega, h, out5_kept]

/-- The last point of a row block writes back the gated block the fifth point stored. -/
theorem found6 (c : Dev nD) (t : Fin (cfgM m hO).N) (h : t.val % 7 = 6) (d) : (datL m hO 0 c).before 6 t d = (datL m hO 0 c).after 6 t := by
  have ht := lt56 t
  have hv : (ptM m hO (t.val / 7) 4).val = 7 * (t.val / 7) + 4 := pt_val (by omega) (by omega)
  have hi : (cfgM m hO).idle 6 ((cfgM m hO).grid.coords (ptM m hO (t.val / 7) 4)) = false := by
    rw [idleM6, hv]; simp <;> omega
  have hf : ((cfgM m hO).win 6).flush (ptM m hO (t.val / 7) 4) = false := by
    rw [flush6, hv]; simp <;> omega
  rw [before_stored (datL m hO 0 c) 6 (isOut_6 m hO) (clip_6 m hO) (ptM m hO (t.val / 7) 4) t (by omega) hi hf
    (fun j h1 h2 => ⟨by rw [idleM6]; simp <;> omega, by rw [flush6]; simp <;> omega⟩) d, after_6, after_6, hv]
  rw [show (7 * (t.val / 7) + 4) / 7 = t.val / 7 by omega, show (7 * (t.val / 7) + 4) % 7 = 4 by omega, h, out6_kept]

/-- and the block of forget gates' inputs the first point stored. -/
theorem found7 (c : Dev nD) (t : Fin (cfgM m hO).N) (h : t.val % 7 = 6) (d) : (datL m hO 0 c).before 7 t d = (datL m hO 0 c).after 7 t := by
  have ht := lt56 t
  have hv : (ptM m hO (t.val / 7) 0).val = 7 * (t.val / 7) + 0 := pt_val (by omega) (by omega)
  have hi : (cfgM m hO).idle 7 ((cfgM m hO).grid.coords (ptM m hO (t.val / 7) 0)) = false := by
    rw [idleM7, hv]; simp <;> omega
  have hf : ((cfgM m hO).win 7).flush (ptM m hO (t.val / 7) 0) = false := by
    rw [flush7, hv]; simp <;> omega
  rw [before_stored (datL m hO 0 c) 7 (isOut_7 m hO) (clip_7 m hO) (ptM m hO (t.val / 7) 0) t (by omega) hi hf
    (fun j h1 h2 => ⟨by rw [idleM7]; simp <;> omega, by rw [flush7]; simp <;> omega⟩) d, after_7, after_7, hv]
  rw [show (7 * (t.val / 7) + 0) / 7 = t.val / 7 by omega]

end Cert.Layer

end
-- ==== Proof.Layer.Tiles.lean ====
/- ONE STORE OF A PIECE IS A PIECE OF THE TILED BLOCK: the load of 256 rows of a block, and the three shapes of store the body makes. -/
module

public import proofs.«01_k».proof.Proof.Layer.Spec
public import Idealize.ShloMosaic.Lib.Pipeline.ValueKit

@[expose] public section

noncomputable section

namespace Cert.Layer

open Idealize.ShloMosaic
open Cert.Kernel Cert.Kernel.Gen

variable {F : FTy → Type} [FloatOps F]

/-- A load of 256 rows from row `a`, a multiple of 256, of a whole buffer. -/
theorem load_rows {M : Memref sig .tc .vmem S1024x2048 .bf16} (hM : M.IsWhole) (u : Vec F S1024x2048 .bf16) (a : Nat) (ha : a % 256 = 0)
    (inb : ∀ x, (![a, 0] : Fin 2 → Nat) x + S256x2048.size x ≤ S1024x2048.size x) :
    View.readAt (Elt F) M.view (Rect.unit (s := S1024x2048) ![a, 0] S256x2048.size inb).toLoadRect (hM.unread u) = rows256 u (a / 256) := by
  have h0 := inb 0
  simp at h0
  funext y
  rw [View.readAt_apply, hM.read_unread]
  unfold rows256
  congr 1
  funext x
  fin_cases x
  · apply Fin.ext
    have := (y 0).isLt
    show a + 1 * (y 0).val = (256 * (a / 256) + (y 0).val) % 1024
    have h1 : (y 0).val < 256 := (y 0).isLt
    omega
  · apply Fin.ext
    show 0 + 1 * (y 1).val = (y 1).val
    omega

/-- A piece whose operands are rows of the block and of the weights is a piece of the tiled block. -/
theorem tiled_left_of (p : Piece256 F → Piece256 F → FVec F S256x256 .bf16) (u wl wh : Vec F S1024x2048 .bf16) (A B : Piece256 F) (a b : Nat)
    (hA : A = rows256 u (a / 256)) (hB : B = rows256 wl (b / 256)) (hb1 : b + 256 ≤ 1024)
    (inb : ∀ x, (![a, b] : Fin 2 → Nat) x + S256x256.size x ≤ S1024x2048.size x) (x : S256x256.Idx)
    (ha : a % 256 = 0 := by decide) (hb : b % 256 = 0 := by decide) :
    p A B x = tiled p u wl wh ((Rect.unit (s := S1024x2048) ![a, b] S256x256.size inb).emb x) := by
  rw [hA, hB]
  have e0 : (((Rect.unit (s := S1024x2048) ![a, b] S256x256.size inb).emb x) 0).val = a + 1 * (x 0).val := rfl
  have e1 : (((Rect.unit (s := S1024x2048) ![a, b] S256x256.size inb).emb x) 1).val = b + 1 * (x 1).val := rfl
  have hx0 : (x 0).val < 256 := (x 0).isLt
  have hx1 : (x 1).val < 256 := (x 1).isLt
  unfold tiled
  rw [e0, e1, if_pos (by omega), show (a + 1 * (x 0).val) / 256 = a / 256 by omega, show (b + 1 * (x 1).val) / 256 = b / 256 by omega]
  congr 1
  funext k
  fin_cases k
  · apply Fin.ext
    show (x 0).val = (a + 1 * (x 0).val) % 256
    omega
  · apply Fin.ext
    show (x 1).val = (b + 1 * (x 1).val) % 256
    omega

/-- A load of 256 rows of a buffer whose stores so far leave `u`. -/
theorem load_rows_cov {M : Memref sig .tc .vmem S1024x2048 .bf16} (u : Vec F S1024x2048 .bf16) (L : List (View.Piece (Elt F) S1024x2048 .bf16))
    (hL : View.canon L = u) (a : Nat) (ha : a % 256 = 0)
    (inb : ∀ x, (![a, 0] : Fin 2 → Nat) x + S256x2048.size x ≤ S1024x2048.size x) :
    M.view.readCov L (Rect.unit (s := S1024x2048) ![a, 0] S256x2048.size inb).toLoadRect = rows256 u (a / 256) := by
  have h0 := inb 0
  simp at h0
  rw [View.readCov_eq_canon', hL]
  funext y
  unfold rows256
  congr 1
  funext x
  fin_cases x
  · apply Fin.ext
    show a + 1 * (y 0).val = (256 * (a / 256) + (y 0).val) % 1024
    have h1 : (y 0).val < 256 := (y 0).isLt
    omega
  · apply Fin.ext
    show 0 + 1 * (y 1).val = (y 1).val
    omega

/-- A load of a whole buffer. -/
theorem load_whole {S : Shape} {e : EltTy} {M : Memref sig .tc .vmem S e} (hM : M.IsWhole) (u : S.Idx → Elt F e) {off : Fin S.rank → Nat}
    (inb : ∀ a, off a + S.size a ≤ S.size a) (h : ∀ a, off a = 0) :
    View.readAt (Elt F) M.view (Rect.unit off S.size inb).toLoadRect (hM.unread u) = u := by
  funext y
  rw [View.readAt_apply, hM.read_unread]
  exact congrFun (View.ld_unit_lit inb u h) y

/-- A store into the left half of the tiled block. -/
theorem tiled_left (p : Piece256 F → Piece256 F → FVec F S256x256 .bf16) (u wl wh : Vec F S1024x2048 .bf16)
    {M : Memref sig .tc .vmem S1024x2048 .bf16} (hM : M.IsWhole) {N : Memref sig .tc .vmem S1024x2048 .bf16} (hN : N.IsWhole) (a b : Nat)
    (inba : ∀ x, (![a, 0] : Fin 2 → Nat) x + S256x2048.size x ≤ S1024x2048.size x)
    (inbb : ∀ x, (![b, 0] : Fin 2 → Nat) x + S256x2048.size x ≤ S1024x2048.size x)
    (inb : ∀ x, (![a, b] : Fin 2 → Nat) x + S256x256.size x ≤ S1024x2048.size x) (x : S256x256.Idx)
    (ha : a % 256 = 0 := by decide) (hb : b % 256 = 0 := by decide) :
    p (View.readAt (Elt F) M.view (Rect.unit (s := S1024x2048) ![a, 0] S256x2048.size inba).toLoadRect (hM.unread u))
      (View.readAt (Elt F) N.view (Rect.unit (s := S1024x2048) ![b, 0] S256x2048.size inbb).toLoadRect (hN.unread wl)) x
      = tiled p u wl wh ((Rect.unit (s := S1024x2048) ![a, b] S256x256.size inb).emb x) := by
  have h1 := inbb 0
  simp at h1
  exact tiled_left_of p u wl wh _ _ a b (load_rows hM u a ha inba) (load_rows hN wl b hb inbb) (by omega) inb x ha hb

/-- A piece whose operands are rows of the block and of the weights is a piece of the tiled block. -/
theorem tiled_right_of (p : Piece256 F → Piece256 F → FVec F S256x256 .bf16) (u wl wh : Vec F S1024x2048 .bf16) (A B : Piece256 F) (a b b' : Nat)
    (hA : A = rows256 u (a / 256)) (hB : B = rows256 wh (b / 256)) (hb1 : b + 256 ≤ 1024)
    (inb : ∀ x, (![a, b'] : Fin 2 → Nat) x + S256x256.size x ≤ S1024x2048.size x) (x : S256x256.Idx)
    (ha : a % 256 = 0 := by decide) (hb : b % 256 = 0 := by decide) (hb' : b' = 1024 + b := by decide) :
    p A B x = tiled p u wl wh ((Rect.unit (s := S1024x2048) ![a, b'] S256x256.size inb).emb x) := by
  rw [hA, hB]
  have e0 : (((Rect.unit (s := S1024x2048) ![a, b'] S256x256.size inb).emb x) 0).val = a + 1 * (x 0).val := rfl
  have e1 : (((Rect.unit (s := S1024x2048) ![a, b'] S256x256.size inb).emb x) 1).val = b' + 1 * (x 1).val := rfl
  have hx0 : (x 0).val < 256 := (x 0).isLt
  have hx1 : (x 1).val < 256 := (x 1).isLt
  unfold tiled
  rw [e0, e1, if_neg (by omega), show (a + 1 * (x 0).val) / 256 = a / 256 by omega, show (b' + 1 * (x 1).val) / 256 - 4 = b / 256 by omega]
  congr 1
  funext k
  fin_cases k
  · apply Fin.ext
    show (x 0).val = (a + 1 * (x 0).val) % 256
    omega
  · apply Fin.ext
    show (x 1).val = (b' + 1 * (x 1).val) % 256
    omega

/-- A store into the right half of the tiled block. -/
theorem tiled_right (p : Piece256 F → Piece256 F → FVec F S256x256 .bf16) (u wl wh : Vec F S1024x2048 .bf16)
    {M : Memref sig .tc .vmem S1024x2048 .bf16} (hM : M.IsWhole) {N : Memref sig .tc .vmem S1024x2048 .bf16} (hN : N.IsWhole) (a b b' : Nat)
    (inba : ∀ x, (![a, 0] : Fin 2 → Nat) x + S256x2048.size x ≤ S1024x2048.size x)
    (inbb : ∀ x, (![b, 0] : Fin 2 → Nat) x + S256x2048.size x ≤ S1024x2048.size x)
    (inb : ∀ x, (![a, b'] : Fin 2 → Nat) x + S256x256.size x ≤ S1024x2048.size x) (x : S256x256.Idx)
    (ha : a % 256 = 0 := by decide) (hb : b % 256 = 0 := by decide) (hb' : b' = 1024 + b := by decide) :
    p (View.readAt (Elt F) M.view (Rect.unit (s := S1024x2048) ![a, 0] S256x2048.size inba).toLoadRect (hM.unread u))
      (View.readAt (Elt F) N.view (Rect.unit (s := S1024x2048) ![b, 0] S256x2048.size inbb).toLoadRect (hN.unread wh)) x
      = tiled p u wl wh ((Rect.unit (s := S1024x2048) ![a, b'] S256x256.size inb).emb x) := by
  have h1 := inbb 0
  simp at h1
  exact tiled_right_of p u wl wh _ _ a b b' (load_rows hM u a ha inba) (load_rows hN wh b hb inbb) (by omega) inb x ha hb hb'

/-- A store into the block of gated columns. -/
theorem tiledGlu_at (u wl wh : Vec F S1024x2048 .bf16)
    {M : Memref sig .tc .vmem S1024x2048 .bf16} (hM : M.IsWhole) {N : Memref sig .tc .vmem S1024x2048 .bf16} (hN : N.IsWhole)
    {N' : Memref sig .tc .vmem S1024x2048 .bf16} (hN' : N'.IsWhole) (a b : Nat)
    (inba : ∀ x, (![a, 0] : Fin 2 → Nat) x + S256x2048.size x ≤ S1024x2048.size x)
    (inbb : ∀ x, (![b, 0] : Fin 2 → Nat) x + S256x2048.size x ≤ S1024x2048.size x)
    (inb : ∀ x, (![a, b] : Fin 2 → Nat) x + S256x256.size x ≤ S1024x1024.size x) (x : S256x256.Idx)
    (ha : a % 256 = 0 := by decide) (hb : b % 256 = 0 := by decide) :
    glu256 (View.readAt (Elt F) M.view (Rect.unit (s := S1024x2048) ![a, 0] S256x2048.size inba).toLoadRect (hM.unread u))
      (View.readAt (Elt F) N.view (Rect.unit (s := S1024x2048) ![b, 0] S256x2048.size inbb).toLoadRect (hN.unread wl))
      (View.readAt (Elt F) N'.view (Rect.unit (s := S1024x2048) ![b, 0] S256x2048.size inbb).toLoadRect (hN'.unread wh)) x
      = tiledGlu u wl wh ((Rect.unit (s := S1024x1024) ![a, b] S256x256.size inb).emb x) := by
  have h0 := inba 0
  have h1 := inbb 0
  simp at h0 h1
  rw [load_rows hM u a ha, load_rows hN wl b hb, load_rows hN' wh b hb]
  have e0 : (((Rect.unit (s := S1024x1024) ![a, b] S256x256.size inb).emb x) 0).val = a + 1 * (x 0).val := rfl
  have e1 : (((Rect.unit (s := S1024x1024) ![a, b] S256x256.size inb).emb x) 1).val = b + 1 * (x 1).val := rfl
  have hx0 : (x 0).val < 256 := (x 0).isLt
  have hx1 : (x 1).val < 256 := (x 1).isLt
  unfold tiledGlu
  rw [e0, e1, show (a + 1 * (x 0).val) / 256 = a / 256 by omega, show (b + 1 * (x 1).val) / 256 = b / 256 by omega]
  congr 1
  funext k
  fin_cases k
  · apply Fin.ext
    show (x 0).val = (a + 1 * (x 0).val) % 256
    omega
  · apply Fin.ext
    show (x 1).val = (b + 1 * (x 1).val) % 256
    omega

/-- A whole view after stores that tile its shape and are all blocks of one function reads that function. -/
theorem read_of_tiles {S : Shape} {e : EltTy} {M : Memref sig .tc .vmem S e} (f : M.view.ty.Contents (Elt F)) (G : S.Idx → Elt F e)
    (L : List (View.Piece (Elt F) S e)) (size : Fin S.rank → Nat) (hc : View.Piece.tiled L size = true)
    (hL : ∀ p ∈ L, ∀ x : p.1.shape.Idx, p.2 x = G (p.1.emb x)) :
    M.view.read (Elt F) (M.view.writes (Elt F) f L) = G := by
  rw [View.read_writes_eq_canon _ _ _ (View.cover_of_tiled L size hc)]
  exact funext fun y => View.canon_apply_of_pieces G L hL y (View.cover_of_tiled L size hc y)

end Cert.Layer

end
-- ==== Proof.Layer.RunA.lean ====
/- The body's run at the first point of a row of blocks: the rows are normalised, the narrow product is taken, then the first columns. -/
module

public import proofs.«01_k».proof.Proof.Layer.Tiles

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

set_option maxHeartbeats 2000000 in
/-- The scratch takes the normalised rows, the third output's buffer the narrow product, the first the tiled block of plain products. -/
theorem run_first (c : Dev nD) (i : grid0.Coords) (hc0 : cond0_0 i) (hc1 : cond0_1 i) (hc2 : ¬cond0_2 i) (hc3 : ¬cond0_3 i) (hc4 : ¬cond0_4 i)
    (x0 : Vec F S1024x2048 .f32) (x1 : Vec F S1x2048 .f32) (x2 : Vec F S128x2048 .bf16)
    (x3 x4 : Vec F S1024x2048 .bf16) (y5 : Vec F S1024x2048 .bf16) (y6 : Vec F S1024x1024 .bf16) (y7 : Vec F S1024x128 .bf16)
    (ys : Vec F S1024x2048 .bf16) :
    Runs c i x0 x1 x2 x3 x4 y5 y6 y7 ys (tiled plain256 (k0_pay1 x0 x1) x3 x4) y6 (k0_pay3 x0 x1 x2) (k0_pay1 x0 x1) := by
  intro arg4 harg4 arg5 harg5 arg6 harg6 arg7 harg7 arg8 harg8 arg9 harg9 arg10 harg10 arg11 harg11 arg12 harg12 xt0 xt1 E K
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hf4; obtain rfl := harg12.eq_unread hfs
  sl_exec (disch := first | sl_exact hc0 | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    have hS : View.canon (run_first.sl.HS_1 c x0 x1 arg4 harg4 arg5 harg5) = k0_pay1 x0 x1 := by
      unfold run_first.sl.HS_1
      rw [View.canon_cons_unit_lit _ _ _ (by decide), load_whole harg4 x0 _ (by decide), load_whole harg5 x1 _ (by decide)]
      exact shapeCast_self _ _
    refine read_of_tiles f5 (tiled plain256 (k0_pay1 x0 x1) x3 x4) _ S256x256.size rfl ?_
    iterate 16 refine List.forall_mem_cons.2 ⟨fun x => tiled_right_of plain256 (k0_pay1 x0 x1) x3 x4 _ _ _ _ _
      (load_rows_cov (k0_pay1 x0 x1) _ hS _ (by decide) (by decide)) (load_rows harg8 x4 _ (by decide) (by decide)) (by decide) (by decide) x, ?_⟩
    iterate 16 refine List.forall_mem_cons.2 ⟨fun x => tiled_left_of plain256 (k0_pay1 x0 x1) x3 x4 _ _ _ _
      (load_rows_cov (k0_pay1 x0 x1) _ hS _ (by decide) (by decide)) (load_rows harg7 x3 _ (by decide) (by decide)) (by decide) (by decide) x, ?_⟩
    exact fun p hp => absurd hp List.not_mem_nil
  isplitl [H6]
  · iexists _; isplitr; swap; · iexact H6
    ipureintro
    exact hf6
  isplitl [H7]
  · iexists _; isplitr; swap; · iexact H7
    ipureintro
    rw [View.read_writes_eq_canon _ _ _ (View.cover_of_tiled _ S1024x128.size rfl), View.canon_cons_unit_lit _ _ _ (by decide),
      load_whole harg4 x0 _ (by decide), load_whole harg5 x1 _ (by decide), load_whole harg6 x2 _ (by decide)]
  isplitl [HS]
  · iexists _; isplitr; swap; · iexact HS
    ipureintro
    unfold run_first.sl.HS_1
    rw [View.read_writes_eq_canon _ _ _ (View.cover_of_tiled _ S1024x2048.size rfl), View.canon_cons_unit_lit _ _ _ (by decide),
      load_whole harg4 x0 _ (by decide), load_whole harg5 x1 _ (by decide)]
    exact shapeCast_self _ _
  isplitl [HT0]; · iexact HT0
  iexact HT1

end Cert.Layer

end
-- ==== Proof.Layer.RunB.lean ====
/- The body's run at the second point of a row of blocks: columns with no activation. -/
module

public import proofs.«01_k».proof.Proof.Layer.Tiles

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

set_option maxHeartbeats 2000000 in
/-- Only the first output's buffer changes: it is the tiled block of plain products. -/
theorem run_plain (c : Dev nD) (i : grid0.Coords) (hc0 : ¬cond0_0 i) (hc1 : cond0_1 i) (hc2 : ¬cond0_2 i) (hc3 : ¬cond0_3 i) (hc4 : ¬cond0_4 i)
    (x0 : Vec F S1024x2048 .f32) (x1 : Vec F S1x2048 .f32) (x2 : Vec F S128x2048 .bf16)
    (x3 x4 : Vec F S1024x2048 .bf16) (y5 : Vec F S1024x2048 .bf16) (y6 : Vec F S1024x1024 .bf16) (y7 : Vec F S1024x128 .bf16)
    (ys : Vec F S1024x2048 .bf16) :
    Runs c i x0 x1 x2 x3 x4 y5 y6 y7 ys (tiled plain256 ys x3 x4) y6 y7 ys := by
  intro arg4 harg4 arg5 harg5 arg6 harg6 arg7 harg7 arg8 harg8 arg9 harg9 arg10 harg10 arg11 harg11 arg12 harg12 xt0 xt1 E K
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hf4; obtain rfl := harg12.eq_unread hfs
  sl_exec (disch := first | sl_exact hc0 | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine read_of_tiles f5 (tiled plain256 ys x3 x4) _ S256x256.size rfl ?_
    iterate 16 refine List.forall_mem_cons.2 ⟨fun x => tiled_right plain256 ys x3 x4 harg12 harg8 _ _ _ _ _ (by decide) x, ?_⟩
    iterate 16 refine List.forall_mem_cons.2 ⟨fun x => tiled_left plain256 ys x3 x4 harg12 harg7 _ _ _ _ (by decide) x, ?_⟩
    exact fun p hp => absurd hp List.not_mem_nil
  isplitl [H6]
  · iexists _; isplitr; swap; · iexact H6
    ipureintro
    exact hf6
  isplitl [H7]
  · iexists _; isplitr; swap; · iexact H7
    ipureintro
    exact hf7
  isplitl [HS]
  · iexists _; isplitr; swap; · iexact HS
    ipureintro
    exact harg12.read_unread _
  isplitl [HT0]; · iexact HT0
  iexact HT1

end Cert.Layer

end
-- ==== Proof.Layer.RunC.lean ====
/- The body's run at the points of the columns under `a · logistic a`. -/
module

public import proofs.«01_k».proof.Proof.Layer.Tiles

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

set_option maxHeartbeats 2000000 in
/-- Only the first output's buffer changes: it is the tiled block under `a · logistic a`. -/
theorem run_swish (c : Dev nD) (i : grid0.Coords) (hc0 : ¬cond0_0 i) (hc1 : ¬cond0_1 i) (hc2 : cond0_2 i) (hc3 : ¬cond0_3 i) (hc4 : ¬cond0_4 i)
    (x0 : Vec F S1024x2048 .f32) (x1 : Vec F S1x2048 .f32) (x2 : Vec F S128x2048 .bf16)
    (x3 x4 : Vec F S1024x2048 .bf16) (y5 : Vec F S1024x2048 .bf16) (y6 : Vec F S1024x1024 .bf16) (y7 : Vec F S1024x128 .bf16)
    (ys : Vec F S1024x2048 .bf16) :
    Runs c i x0 x1 x2 x3 x4 y5 y6 y7 ys (tiled swish256 ys x3 x4) y6 y7 ys := by
  intro arg4 harg4 arg5 harg5 arg6 harg6 arg7 harg7 arg8 harg8 arg9 harg9 arg10 harg10 arg11 harg11 arg12 harg12 xt0 xt1 E K
  simp only [cc0_in_proj_eq_skeleton]; unfold cc0_in_proj_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hf4; obtain rfl := harg12.eq_unread hfs
  sl_exec (disch := first | sl_exact hc0 | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine read_of_tiles f5 (tiled swish256 ys x3 x4) _ S256x256.size rfl ?_
    iterate 16 refine List.forall_mem_cons.2 ⟨fun x => tiled_right swish256 ys x3 x4 harg12 harg8 _ _ _ _ _ (by decide) x, ?_⟩
    iterate 16 refine List.forall_mem_cons.2 ⟨fun x => tiled_left swish256 ys x3 x4 harg12 harg7 _ _ _ _ (by decide) x, ?_⟩
    exact fun p hp => absurd hp List.not_mem_nil
  isplitl [H6]
  · iexists _; isplitr; swap; · iexact H6
    ipureintro
    exact hf6
  isplitl [H7]
  · iexists _; isplitr; swap; · iexact H7
    ipureintro
    exact hf7
  isplitl [HS]
  · iexists _; isplitr; swap; · iexact HS
    ipureintro
    exact harg12.read_unread _
  isplitl [HT0]; · iexact HT0
  iexact HT1

end Cert.Layer

end
-- ==== Proof.Layer.RunD.lean ====
/- The body's run at the points of the gated columns. -/
module

public import proofs.«01_k».proof.Proof.Layer.Tiles

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

set_option maxHeartbeats 2000000 in
/-- Only the second output's buffer changes: it is the tiled block of gated columns. -/
theorem run_glu (c : Dev nD) (i : grid0.Coords) (hc0 : ¬cond0_0 i) (hc1 : ¬cond0_1 i) (hc2 : ¬cond0_2 i) (hc3 : ¬cond0_3 i) (hc4 : cond0_4 i)
    (x0 : Vec F S1024x2048 .f32) (x1 : Vec F S1x2048 .f32) (x2 : Vec F S128x2048 .bf16)
    (x3 x4 : Vec F S1024x2048 .bf16) (y5 : Vec F S1024x2048 .bf16) (y6 : Vec F S1024x1024 .bf16) (y7 : Vec F S1024x128 .bf16)
    (ys : Vec F S1024x2048 .bf16) :
    Runs c i x0 x1 x2 x3 x4 y5 y6 y7 ys y5 (tiledGlu ys x3 x4) y7 ys := by
  intro arg4 harg4 arg5 harg5 arg6 harg6 arg7 harg7 arg8 harg8 arg9 harg9 arg10 harg10 arg11 harg11 arg12 harg12 xt0 xt1 E K
  simp only [cc0_in_proj_eq_skeleton]; unfold cc0_in_proj_skel
  simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hf4; obtain rfl := harg12.eq_unread hfs
  sl_exec (disch := first | sl_exact hc0 | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    exact hf5
  isplitl [H6]
  · iexists _; isplitr; swap; · iexact H6
    ipureintro
    refine read_of_tiles f6 (tiledGlu ys x3 x4) _ S256x256.size rfl ?_
    iterate 16 refine List.forall_mem_cons.2 ⟨fun x => tiledGlu_at ys x3 x4 harg12 harg7 harg8 _ _ _ _ (by decide) x, ?_⟩
    exact fun p hp => absurd hp List.not_mem_nil
  isplitl [H7]
  · iexists _; isplitr; swap; · iexact H7
    ipureintro
    exact hf7
  isplitl [HS]
  · iexists _; isplitr; swap; · iexact HS
    ipureintro
    exact harg12.read_unread _
  isplitl [HT0]; · iexact HT0
  iexact HT1

end Cert.Layer

end
-- ==== Proof.Layer.RunE.lean ====
/- The body's run at the points of the columns under the logistic function. -/
module

public import proofs.«01_k».proof.Proof.Layer.Tiles

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

set_option maxHeartbeats 2000000 in
/-- Only the first output's buffer changes: it is the tiled block under the logistic function. -/
theorem run_sigm (c : Dev nD) (i : grid0.Coords) (hc0 : ¬cond0_0 i) (hc1 : ¬cond0_1 i) (hc2 : ¬cond0_2 i) (hc3 : cond0_3 i) (hc4 : ¬cond0_4 i)
    (x0 : Vec F S1024x2048 .f32) (x1 : Vec F S1x2048 .f32) (x2 : Vec F S128x2048 .bf16)
    (x3 x4 : Vec F S1024x2048 .bf16) (y5 : Vec F S1024x2048 .bf16) (y6 : Vec F S1024x1024 .bf16) (y7 : Vec F S1024x128 .bf16)
    (ys : Vec F S1024x2048 .bf16) :
    Runs c i x0 x1 x2 x3 x4 y5 y6 y7 ys (tiled sigm256 ys x3 x4) y6 y7 ys := by
  intro arg4 harg4 arg5 harg5 arg6 harg6 arg7 harg7 arg8 harg8 arg9 harg9 arg10 harg10 arg11 harg11 arg12 harg12 xt0 xt1 E K
  simp only [cc0_in_proj_eq_skeleton]; unfold cc0_in_proj_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%fs, %hfs, HS⟩, HT0, HT1, Hk⟩
  obtain rfl := harg4.eq_unread hf0; obtain rfl := harg5.eq_unread hf1; obtain rfl := harg6.eq_unread hf2
  obtain rfl := harg7.eq_unread hf3; obtain rfl := harg8.eq_unread hf4; obtain rfl := harg12.eq_unread hfs
  sl_exec (disch := first | sl_exact hc0 | sl_exact hc1 | sl_exact hc2 | sl_exact hc3 | sl_exact hc4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    refine read_of_tiles f5 (tiled sigm256 ys x3 x4) _ S256x256.size rfl ?_
    iterate 16 refine List.forall_mem_cons.2 ⟨fun x => tiled_right sigm256 ys x3 x4 harg12 harg8 _ _ _ _ _ (by decide) x, ?_⟩
    iterate 16 refine List.forall_mem_cons.2 ⟨fun x => tiled_left sigm256 ys x3 x4 harg12 harg7 _ _ _ _ (by decide) x, ?_⟩
    exact fun p hp => absurd hp List.not_mem_nil
  isplitl [H6]
  · iexists _; isplitr; swap; · iexact H6
    ipureintro
    exact hf6
  isplitl [H7]
  · iexists _; isplitr; swap; · iexact H7
    ipureintro
    exact hf7
  isplitl [HS]
  · iexists _; isplitr; swap; · iexact HS
    ipureintro
    exact harg12.read_unread _
  isplitl [HT0]; · iexact HT0
  iexact HT1

end Cert.Layer

end
-- ==== Proof.Layer.Body.lean ====
/- THE BODY AT EVERY POINT of the projection kernel, from the five runs, and the launch: every execution ends with the outputs' arrays at
   what the pipeline's proof data compute and everything else unchanged. Over any floats. -/
module

public import proofs.«01_k».proof.Proof.Layer.Data
public import proofs.«01_k».proof.Proof.Layer.RunA
public import proofs.«01_k».proof.Proof.Layer.RunB
public import proofs.«01_k».proof.Proof.Layer.RunC
public import proofs.«01_k».proof.Proof.Layer.RunD
public import proofs.«01_k».proof.Proof.Layer.RunE

@[expose] public section

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-! ## What the body hands back of an output's buffer -/

/-- At a point that stores the block: the block. -/
theorem leaves_live (c : Dev nD) (w : Fin (cfgM m hO).W) (t : Fin (cfgM m hO).N) (X)
    (hi : (cfgM m hO).idle w ((cfgM m hO).grid.coords t) = false) (hX : X = (datL m hO 0 c).after w t) :
    (owns (c : Thread nD τ) (((cfgM m hO).win w).stage ((cfgM m hO).slots t w)) fullShare X : sProp 𝕄) ⊢ (datL m hO 0 c).leavesExact w t := by
  unfold Dat.leavesExact; rw [hi, hX]

/-- At a point that writes back what an earlier one stored: that. -/
theorem leaves_flush (c : Dev nD) (w : Fin (cfgM m hO).W) (t : Fin (cfgM m hO).N) (X)
    (hi : ((cfgM m hO).win w).flush t = true) (hX : X = (datL m hO 0 c).after w t) :
    (owns (c : Thread nD τ) (((cfgM m hO).win w).stage ((cfgM m hO).slots t w)) fullShare X : sProp 𝕄) ⊢ (datL m hO 0 c).leavesExact w t := by
  unfold Dat.leavesExact; rw [hi, hX]; split <;> exact .rfl

/-- Elsewhere: what it found. -/
theorem leaves_found (c : Dev nD) (w : Fin (cfgM m hO).W) (t : Fin (cfgM m hO).N) (d)
    (hi : (cfgM m hO).idle w ((cfgM m hO).grid.coords t) = true) (hf : ((cfgM m hO).win w).flush t = false) :
    (owns (c : Thread nD τ) (((cfgM m hO).win w).stage ((cfgM m hO).slots t w)) fullShare ((datL m hO 0 c).before w t d) : sProp 𝕄) ⊢ (datL m hO 0 c).leavesExact w t := by
  rw [(datL m hO 0 c).leavesExact_idle w t hi hf]
  iintro H; iexists d; iexact H

/-! ## One point -/

/-- What the body is called with at point `t`, the outputs' buffers at the contents handed. -/
def preAt (c : Dev nD) (t : Fin (cfgM m hO).N) : sProp 𝕄 :=
  iprop((datL m hO 0 c).Φ t.castSucc ∗ (datL m hO 0 c).owesAt () t.castSucc
    ∗ (∃ d, owns (c : Thread nD τ) (ms0_0 m hO t) fullShare ((datL m hO 0 c).before 0 t d))
    ∗ (∃ d, owns (c : Thread nD τ) (ms0_1 m hO t) fullShare ((datL m hO 0 c).before 1 t d))
    ∗ (∃ d, owns (c : Thread nD τ) (ms0_2 m hO t) fullShare ((datL m hO 0 c).before 2 t d))
    ∗ (∃ d, owns (c : Thread nD τ) (ms0_3 m hO t) fullShare ((datL m hO 0 c).before 3 t d))
    ∗ (∃ d, owns (c : Thread nD τ) (ms0_4 m hO t) fullShare ((datL m hO 0 c).before 4 t d))
    ∗ (∃ d, owns (c : Thread nD τ) (ms0_5 m hO t) fullShare ((datL m hO 0 c).before 5 t d))
    ∗ (∃ d, owns (c : Thread nD τ) (ms0_6 m hO t) fullShare ((datL m hO 0 c).before 6 t d))
    ∗ (∃ d, owns (c : Thread nD τ) (ms0_7 m hO t) fullShare ((datL m hO 0 c).before 7 t d)))

/-- and what it returns. -/
def postAt (c : Dev nD) (t : Fin (cfgM m hO).N) : sProp 𝕄 :=
  iprop((datL m hO 0 c).Φ t.succ ∗ (datL m hO 0 c).owesAt () t.succ
    ∗ (datL m hO 0 c).leavesExact 0 t ∗ (datL m hO 0 c).leavesExact 1 t ∗ (datL m hO 0 c).leavesExact 2 t ∗ (datL m hO 0 c).leavesExact 3 t
    ∗ (datL m hO 0 c).leavesExact 4 t ∗ (datL m hO 0 c).leavesExact 5 t ∗ (datL m hO 0 c).leavesExact 6 t ∗ (datL m hO 0 c).leavesExact 7 t)

/-- A run of the body carries the point: from the scratch at `ys`, if what it leaves of each output is what the point is to leave. -/
theorem step (c : Dev nD) (t : Fin (cfgM m hO).N)
    (H : ∀ d5 d6 d7, (scr m hO c t.val : sProp 𝕄) ⊢ iprop(∃ ys, ∃ z5, ∃ z6, ∃ z7, ∃ zs,
        ⌜Runs c (grid0.coords t) (iblk m hO c 0 t) (iblk m hO c 1 t) (iblk m hO c 2 t) (iblk m hO c 3 t) (iblk m hO c 4 t)
            ((datL m hO 0 c).before 5 t d5) ((datL m hO 0 c).before 6 t d6) ((datL m hO 0 c).before 7 t d7) ys z5 z6 z7 zs
          ∧ ((owns (c : Thread nD τ) (ms0_5 m hO t) fullShare z5 : sProp 𝕄) ⊢ (datL m hO 0 c).leavesExact 5 t)
          ∧ ((owns (c : Thread nD τ) (ms0_6 m hO t) fullShare z6 : sProp 𝕄) ⊢ (datL m hO 0 c).leavesExact 6 t)
          ∧ ((owns (c : Thread nD τ) (ms0_7 m hO t) fullShare z7 : sProp 𝕄) ⊢ (datL m hO 0 c).leavesExact 7 t)
          ∧ ((owns (c : Thread nD τ) scM0_0 fullShare zs : sProp 𝕄) ⊢ scr m hO c (t.val + 1))⌝
        ∗ owns (c : Thread nD τ) scM0_0 fullShare ys)) :
    preAt m hO c t ⊢ wp frame (wpE (defs₀ (F := F)) Variants.none c none) Set.univ (bodyAt0 (adm m hO) t) (fun _ => postAt m hO c t) := by
  unfold preAt postAt bodyAt0
  simp only [before_0, before_1, before_2, before_3, before_4]
  rw [show (datL m hO 0 c).owesAt () t.succ = (datL m hO 0 c).owesAt () t.castSucc from rfl,
    show (datL m hO 0 c).Φ t.castSucc = iprop((scr m hO c t.val ∗ (∃ r, prngReg c r)) ∗ Pipeline.ΦT pre0 (tbl m) c) from rfl,
    show (datL m hO 0 c).Φ t.succ = iprop((scr m hO c (t.val + 1) ∗ (∃ r, prngReg c r)) ∗ Pipeline.ΦT pre0 (tbl m) c) from rfl, PhiT0_eq]
  iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HS2 := (H d5 d6 d7) $$ [HS]
  · iexact HS
  icases HS2 with ⟨%ys, %z5, %z6, %z7, %zs, %hr, HS⟩
  obtain ⟨hr, l5, l6, l7, ls⟩ := hr
  iapply (hr _ _ _ _ _ _ _ _ _ _ _ _ _ _ _ _ _ _ (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [HT0]; · iexact HT0
  isplitl [HT1]; · iexact HT1
  iintro ⟨H0, H1, H2, H3, H4, H5, H6, H7, HS0, HT0, HT1⟩
  isplitl [HS0 Hg HT0 HT1]
  · isplitl [HS0 Hg]
    · isplitl [HS0]
      · iapply ls; iexact HS0
      iexact Hg
    isplitl [HT0]; · iexact HT0
    iexact HT1
  isplitl [Ho]; · iexact Ho
  isplitl [H0]; · iapply (leaves_live m hO c 0 t _ (liveAt0_0 m hO t) (after_0 m hO c t).symm); iexact H0
  isplitl [H1]; · iapply (leaves_live m hO c 1 t _ (liveAt0_1 m hO t) (after_1 m hO c t).symm); iexact H1
  isplitl [H2]; · iapply (leaves_live m hO c 2 t _ (liveAt0_2 m hO t) (after_2 m hO c t).symm); iexact H2
  isplitl [H3]; · iapply (leaves_live m hO c 3 t _ (liveAt0_3 m hO t) (after_3 m hO c t).symm); iexact H3
  isplitl [H4]; · iapply (leaves_live m hO c 4 t _ (liveAt0_4 m hO t) (after_4 m hO c t).symm); iexact H4
  isplitl [H5]; · iapply l5; iexact H5
  isplitl [H6]; · iapply l6; iexact H6
  iapply l7; iexact H7

end Cert.Layer

end
-- ==== Proof.Layer.Launch.lean ====
/- THE LAUNCH of the projection kernel: the body's obligation at every point, by the cases of the column group, and the whole program's run. -/
module

public import proofs.«01_k».proof.Proof.Layer.Body

@[expose] public section

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-! ## The scratch from point to point -/

theorem scr_enter (c : Dev nD) (n : Nat) (h : ¬ n % 7 = 0) : (scr m hO c n : sProp 𝕄) ⊢ owns (c : Thread nD τ) scM0_0 fullShare (uRow m hO c (n / 7)) := by
  unfold scr; rw [if_neg h]

theorem scr_leave (c : Dev nD) (n : Nat) : (owns (c : Thread nD τ) scM0_0 fullShare (uRow m hO c (n / 7)) : sProp 𝕄) ⊢ scr m hO c (n + 1) := by
  unfold scr
  split
  · iintro H; iexists _; iexact H
  · next h => rw [show (n + 1) / 7 = n / 7 by omega]

/-- A point inside a row block (not its first): the scratch is kept. -/
theorem step_inner (c : Dev nD) (t : Fin (cfgM m hO).N) (h0 : ¬ t.val % 7 = 0)
    (H : ∀ d5 d6 d7, ∃ z5 z6 z7, Runs c (grid0.coords t) (iblk m hO c 0 t) (iblk m hO c 1 t) (iblk m hO c 2 t) (iblk m hO c 3 t) (iblk m hO c 4 t)
            ((datL m hO 0 c).before 5 t d5) ((datL m hO 0 c).before 6 t d6) ((datL m hO 0 c).before 7 t d7) (uRow m hO c (t.val / 7)) z5 z6 z7 (uRow m hO c (t.val / 7))
          ∧ ((owns (c : Thread nD τ) (ms0_5 m hO t) fullShare z5 : sProp 𝕄) ⊢ (datL m hO 0 c).leavesExact 5 t)
          ∧ ((owns (c : Thread nD τ) (ms0_6 m hO t) fullShare z6 : sProp 𝕄) ⊢ (datL m hO 0 c).leavesExact 6 t)
          ∧ ((owns (c : Thread nD τ) (ms0_7 m hO t) fullShare z7 : sProp 𝕄) ⊢ (datL m hO 0 c).leavesExact 7 t)) :
    preAt m hO c t ⊢ wp frame (wpE (defs₀ (F := F)) Variants.none c none) Set.univ (bodyAt0 (adm m hO) t) (fun _ => postAt m hO c t) := by
  refine step m hO c t fun d5 d6 d7 => ?_
  obtain ⟨z5, z6, z7, hr, h5, h6, h7⟩ := H d5 d6 d7
  refine (scr_enter m hO c t.val h0).trans ?_
  iintro HS
  iexists (uRow m hO c (t.val / 7)); iexists z5; iexists z6; iexists z7; iexists (uRow m hO c (t.val / 7))
  isplitr
  · ipureintro; exact ⟨hr, h5, h6, h7, scr_leave m hO c t.val⟩
  iexact HS

/-- What is left of the second output where it is not stored. -/
theorem left6 (c : Dev nD) (t : Fin (cfgM m hO).N) (h : ¬ (t.val % 7 = 3 ∨ t.val % 7 = 4)) (d) :
    (owns (c : Thread nD τ) (ms0_6 m hO t) fullShare ((datL m hO 0 c).before 6 t d) : sProp 𝕄) ⊢ (datL m hO 0 c).leavesExact 6 t := by
  by_cases h6 : t.val % 7 = 6
  · exact leaves_flush m hO c 6 t _ (by rw [flush6]; simp <;> omega) (found6 m hO c t h6 d)
  · exact leaves_found m hO c 6 t d (by rw [idleM6]; simp <;> omega) (by rw [flush6]; simp <;> omega)

/-- What is left of the third output where it is not stored. -/
theorem left7 (c : Dev nD) (t : Fin (cfgM m hO).N) (h : ¬ t.val % 7 = 0) (d) :
    (owns (c : Thread nD τ) (ms0_7 m hO t) fullShare ((datL m hO 0 c).before 7 t d) : sProp 𝕄) ⊢ (datL m hO 0 c).leavesExact 7 t := by
  by_cases h6 : t.val % 7 = 6
  · exact leaves_flush m hO c 7 t _ (by rw [flush7]; simp <;> omega) (found7 m hO c t h6 d)
  · exact leaves_found m hO c 7 t d (by rw [idleM7]; simp <;> omega) (by rw [flush7]; simp <;> omega)

/-- What is left of the first output where it is not stored. -/
theorem left5 (c : Dev nD) (t : Fin (cfgM m hO).N) (h : t.val % 7 = 3 ∨ t.val % 7 = 4) (d) :
    (owns (c : Thread nD τ) (ms0_5 m hO t) fullShare ((datL m hO 0 c).before 5 t d) : sProp 𝕄) ⊢ (datL m hO 0 c).leavesExact 5 t := by
  rcases h with h3 | h4
  · exact leaves_found m hO c 5 t d (by rw [idleM5]; simp <;> omega) (by rw [flush5]; simp <;> omega)
  · exact leaves_flush m hO c 5 t _ (by rw [flush5]; simp <;> omega) (found5 m hO c t h4 d)

/-! ## The cases -/

theorem uRow_at (c : Dev nD) (t : Fin (cfgM m hO).N) (h : t.val % 7 = 0) :
    uRow m hO c (t.val / 7) = k0_pay1 (iblk m hO c 0 t) (iblk m hO c 1 t) := by
  unfold uRow; rw [pt_self h]

/-- The first output's block at a point of the plain columns, -/
theorem out5_plain (c : Dev nD) (t : Fin (cfgM m hO).N) (h : t.val % 7 < 2) :
    tiled plain256 (uRow m hO c (t.val / 7)) (iblk m hO c 3 t) (iblk m hO c 4 t) = (datL m hO 0 c).after 5 t := by
  rw [after_5]; unfold out5; rw [if_pos h, pt_self rfl]
/-- of the swish columns, -/
theorem out5_swish (c : Dev nD) (t : Fin (cfgM m hO).N) (h : t.val % 7 = 2) :
    tiled swish256 (uRow m hO c (t.val / 7)) (iblk m hO c 3 t) (iblk m hO c 4 t) = (datL m hO 0 c).after 5 t := by
  rw [after_5]; unfold out5; rw [if_neg (by omega), if_pos (by omega), pt_self h]
/-- of the gates' columns. -/
theorem out5_sigm (c : Dev nD) (t : Fin (cfgM m hO).N) (h : 5 ≤ t.val % 7) :
    tiled sigm256 (uRow m hO c (t.val / 7)) (iblk m hO c 3 t) (iblk m hO c 4 t) = (datL m hO 0 c).after 5 t := by
  rw [after_5]; unfold out5; rw [if_neg (by omega), if_neg (by omega), pt_self rfl]
/-- The second output's block where it is stored. -/
theorem out6_glu (c : Dev nD) (t : Fin (cfgM m hO).N) (h : t.val % 7 = 3 ∨ t.val % 7 = 4) :
    tiledGlu (uRow m hO c (t.val / 7)) (iblk m hO c 3 t) (iblk m hO c 4 t) = (datL m hO 0 c).after 6 t := by
  rw [after_6]; unfold out6
  rcases h with h | h
  · rw [if_pos (by omega), pt_self h]
  · rw [if_neg (by omega), pt_self h]

theorem sound_first (c : Dev nD) (t : Fin (cfgM m hO).N) (h : t.val % 7 = 0) :
    preAt m hO c t ⊢ wp frame (wpE (defs₀ (F := F)) Variants.none c none) Set.univ (bodyAt0 (adm m hO) t) (fun _ => postAt m hO c t) := by
  refine step m hO c t fun d5 d6 d7 => ?_
  have hr := fun ys => run_first c (grid0.coords t) ((hcond0_0 t).2 h) ((hcond0_1 t).2 (by omega)) (fun e => by have := (hcond0_2 t).1 e; omega)
    (fun e => by have := (hcond0_3 t).1 e; omega) (fun e => by have := (hcond0_4 t).1 e; omega)
    (iblk m hO c 0 t) (iblk m hO c 1 t) (iblk m hO c 2 t) (iblk m hO c 3 t) (iblk m hO c 4 t)
    ((datL m hO 0 c).before 5 t d5) ((datL m hO 0 c).before 6 t d6) ((datL m hO 0 c).before 7 t d7) ys
  rw [← uRow_at m hO c t h] at hr
  have e : (scr m hO c t.val : sProp 𝕄) = iprop(∃ d, owns (c : Thread nD τ) scM0_0 fullShare d) := by unfold scr; rw [if_pos h]
  rw [e]
  iintro ⟨%ys, HS⟩
  iexists ys; iexists (tiled plain256 (uRow m hO c (t.val / 7)) (iblk m hO c 3 t) (iblk m hO c 4 t)); iexists ((datL m hO 0 c).before 6 t d6)
  iexists (k0_pay3 (iblk m hO c 0 t) (iblk m hO c 1 t) (iblk m hO c 2 t)); iexists (uRow m hO c (t.val / 7))
  isplitr
  · ipureintro
    exact ⟨hr ys, leaves_live m hO c 5 t _ (by rw [idleM5]; simp <;> omega) (out5_plain m hO c t (by omega)),
      left6 m hO c t (by omega) d6,
      leaves_live m hO c 7 t _ (by rw [idleM7]; simp <;> omega) (by rw [after_7]; unfold out7; rw [pt_self h]),
      scr_leave m hO c t.val⟩
  iexact HS

/-- THE BODY at any point. -/
theorem sound (c : Dev nD) (t : Fin (cfgM m hO).N) :
    preAt m hO c t ⊢ wp frame (wpE (defs₀ (F := F)) Variants.none c none) Set.univ (bodyAt0 (adm m hO) t) (fun _ => postAt m hO c t) := by
  by_cases h0 : t.val % 7 = 0
  · exact sound_first m hO c t h0
  have n0 : ¬ cond0_0 (grid0.coords t) := fun e => h0 ((hcond0_0 t).1 e)
  refine step_inner m hO c t h0 fun d5 d6 d7 => ?_
  by_cases h1 : t.val % 7 = 1
  · exact ⟨_, _, _, run_plain c _ n0 ((hcond0_1 t).2 (by omega)) (fun e => by have := (hcond0_2 t).1 e; omega)
      (fun e => by have := (hcond0_3 t).1 e; omega) (fun e => by have := (hcond0_4 t).1 e; omega) _ _ _ _ _ _ _ _ _,
      leaves_live m hO c 5 t _ (by rw [idleM5]; simp <;> omega) (out5_plain m hO c t (by omega)),
      left6 m hO c t (by omega) d6, left7 m hO c t h0 d7⟩
  have n1 : ¬ cond0_1 (grid0.coords t) := fun e => by have := (hcond0_1 t).1 e; omega
  by_cases h2 : t.val % 7 = 2
  · exact ⟨_, _, _, run_swish c _ n0 n1 ((hcond0_2 t).2 h2)
      (fun e => by have := (hcond0_3 t).1 e; omega) (fun e => by have := (hcond0_4 t).1 e; omega) _ _ _ _ _ _ _ _ _,
      leaves_live m hO c 5 t _ (by rw [idleM5]; simp <;> omega) (out5_swish m hO c t h2),
      left6 m hO c t (by omega) d6, left7 m hO c t h0 d7⟩
  have n2 : ¬ cond0_2 (grid0.coords t) := fun e => h2 ((hcond0_2 t).1 e)
  by_cases h3 : 5 ≤ t.val % 7
  · exact ⟨_, _, _, run_sigm c _ n0 n1 n2 ((hcond0_3 t).2 h3)
      (fun e => by have := (hcond0_4 t).1 e; omega) _ _ _ _ _ _ _ _ _,
      leaves_live m hO c 5 t _ (by rw [idleM5]; simp <;> omega) (out5_sigm m hO c t h3),
      left6 m hO c t (by omega) d6, left7 m hO c t h0 d7⟩
  have n3 : ¬ cond0_3 (grid0.coords t) := fun e => h3 ((hcond0_3 t).1 e)
  have h4 : t.val % 7 = 3 ∨ t.val % 7 = 4 := by omega
  exact ⟨_, _, _, run_glu c _ n0 n1 n2 n3 ((hcond0_4 t).2 (by omega)) _ _ _ _ _ _ _ _ _,
    left5 m hO c t h4 d5,
    leaves_live m hO c 6 t _ (by rw [idleM6]; simp <;> omega) (out6_glu m hO c t h4), left7 m hO c t h0 d7⟩

/-! ## The launch -/

theorem defs_at (t : Fin (cfgM m hO).N) :
    defs₀ (F := F) .tc (cfgM m hO).body ((cfgM m hO).bodyArgs t ((cfgM m hO).slots t)) = bodyAt0 (adm m hO) t := by
  unfold defs₀; rw [Defs.onTc_tc]

theorem obligation (c : Dev nD) : BodyObligation (datL m hO 0 c) (defs₀ (F := F)) Variants.none () Set.univ := fun t => by
  rw [bigSep_W0, bigSep_W0, defs_at m hO]
  exact triple_restated (sound m hO c t) rfl .rfl fun _ => .rfl

theorem phi_in (c : Dev nD) : (iprop(Pipeline.ΦA spec0 c ∗ Pipeline.ΦT pre0 (tbl m) c) : sProp 𝕄) ⊢ (datL m hO 0 c).Φ 0 := by
  rw [PhiA0_eq c, show (datL m hO 0 c).Φ 0 = iprop((scr m hO c 0 ∗ (∃ r, prngReg c r)) ∗ Pipeline.ΦT pre0 (tbl m) c) from rfl]
  unfold scr; rw [if_pos rfl]

theorem phi_out (c : Dev nD) : (datL m hO 0 c).Φ (Fin.last (cfgM m hO).N) ⊢ (Pipeline.ΦA spec0 c : sProp 𝕄) := by
  rw [PhiA0_eq c, show (datL m hO 0 c).Φ (Fin.last (cfgM m hO).N) = iprop((scr m hO c grid0.N ∗ (∃ r, prngReg c r)) ∗ Pipeline.ΦT pre0 (tbl m) c) from rfl,
    N_0]
  unfold scr; rw [if_pos (by decide)]
  iintro ⟨H, -⟩; iexact H

-- the launch theorem's implicit arguments are found by unifying its conclusion with this one, which takes unfolding plain definitions
-- in a metavariable's type
set_option backward.isDefEq.respectTransparency.types false in
/-- Every execution ends with the outputs at what the proof data compute, everything else as the region found it, and the counters at zero. -/
theorem run_layer : θ_run defs (onTc (τ := τ) (main (F := F))) (s₀ m ρ)
    (fun r => Pipeline.FramePost (Pipeline.pin pcfgs fun _ => adm m hO) (datL m hO) (0 : Fin 1) (V m) r ∧ r.2.sem = fun _ => 0) :=
  Pipeline.θ_run_frameP_track_shared (Q' := _) pcfgs (fun _ => adm m hO) (datL m hO) (0 : Fin 1) launch₀0 defs₀ Variants.none m ρ main
    (hbody := fun c => (obligation m hO c).loose) (hq := fun _ _ _ => rfl) (howed := fun _ _ => rfl) (V := V m)
    (hmain := hmain m Variants.none) (hA := datL_A m hO) (hpf := V_pre m) (hin := phi_in m hO) (hout := phi_out m hO)

/-- The frame, over any floats: the arguments end unchanged and the counters at zero. -/
theorem frame_layer : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c)⟩, h.2⟩) (run_layer m ρ (ok_tables m))

end Cert.Layer

end
-- ==== Proof.Layer.Same.lean ====
/- THE TWO PRINTED TEXTS ARE ONE: the ideal kernel's program is the kernel's own text, so a run of one over any floats is a run of the other. -/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Kernel3
public import proofs.«01_k».proof.Proof.Gen.Kernel3Ideal

@[expose] public section

noncomputable section

namespace Cert.Layer

open Idealize.ShloMosaic Idealize.SL.Sem

variable {F : FTy → Type} [FloatOps F]

set_option maxHeartbeats 4000000 in
/-- The two tables of the kernels' bodies are equal: label by label they are the same text. -/
theorem bodies_same : Cert.KernelIdeal.defs₀ (F := F) = Cert.Kernel.defs₀ (F := F) := by
  unfold Cert.KernelIdeal.defs₀ Cert.Kernel.defs₀
  refine congrArg Defs.onTc ?_
  funext l a
  match l, a with
  | 0, (t, s) => rfl

set_option maxHeartbeats 4000000 in
theorem defs_same : Cert.KernelIdeal.defs (F := F) = Cert.Kernel.defs (F := F) :=
  congrArg (Pipeline.defs Cert.KernelIdeal.pcfgs) bodies_same

set_option maxHeartbeats 4000000 in
theorem main_same : Cert.KernelIdeal.main (F := F) = Cert.Kernel.main (F := F) := rfl

set_option maxHeartbeats 4000000 in
/-- A run of the kernel is a run of the ideal kernel. -/
theorem run_same (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.Kernel.defs (F := F)) (onTc (τ := Cert.Kernel.τ) (Cert.Kernel.main (F := F))) ⟨m, fun _ => 0, ρ⟩ Q) :
    θ_run (Cert.KernelIdeal.defs (F := F)) (onTc (τ := Cert.KernelIdeal.τ) (Cert.KernelIdeal.main (F := F))) ⟨m, fun _ => 0, ρ⟩ Q :=
  (congrArg (fun d => θ_run d (onTc (τ := Cert.KernelIdeal.τ) (Cert.KernelIdeal.main (F := F))) ⟨m, fun _ => 0, ρ⟩ Q) defs_same).mpr h

/-! ## The feed-forward part's two texts -/

set_option maxHeartbeats 4000000 in
theorem bodies_same2 : Cert.Kernel2.defs₀ (F := F) = Cert.Kernel2Ideal.defs₀ (F := F) := by
  unfold Cert.Kernel2.defs₀ Cert.Kernel2Ideal.defs₀
  refine congrArg Defs.onTc ?_
  funext l a
  match l, a with
  | 0, (t, s) => rfl

set_option maxHeartbeats 4000000 in
theorem defs_same2 : Cert.Kernel2.defs (F := F) = Cert.Kernel2Ideal.defs (F := F) :=
  congrArg (Pipeline.defs Cert.Kernel2.pcfgs) bodies_same2

set_option maxHeartbeats 4000000 in
/-- A run of the ideal feed-forward kernel is a run of the kernel. -/
theorem run_same2 (m : (ℓ : Loc Cert.Kernel2Ideal.nD Cert.Kernel2Ideal.τ Cert.Kernel2Ideal.sig) → Buf (Elt F) ℓ) (ρ : Dev Cert.Kernel2Ideal.nD → PrngReg)
    (Q : PUnit × MemSt Cert.Kernel2Ideal.nD Cert.Kernel2Ideal.τ Cert.Kernel2Ideal.sig (Elt F) → Prop)
    (h : θ_run (Cert.Kernel2Ideal.defs (F := F)) (onTc (τ := Cert.Kernel2Ideal.τ) (Cert.Kernel2Ideal.main (F := F))) ⟨m, fun _ => 0, ρ⟩ Q) :
    θ_run (Cert.Kernel2.defs (F := F)) (onTc (τ := Cert.Kernel2.τ) (Cert.Kernel2.main (F := F))) ⟨m, fun _ => 0, ρ⟩ Q :=
  (congrArg (fun d => θ_run d (onTc (τ := Cert.Kernel2.τ) (Cert.Kernel2.main (F := F))) ⟨m, fun _ => 0, ρ⟩ Q) defs_same2).mpr h

/-! ## The mixer's output's two texts -/

set_option maxHeartbeats 4000000 in
theorem bodies_same3 : Cert.Kernel3.defs₀ (F := F) = Cert.Kernel3Ideal.defs₀ (F := F) := by
  unfold Cert.Kernel3.defs₀ Cert.Kernel3Ideal.defs₀
  refine congrArg Defs.onTc ?_
  funext l a
  match l, a with
  | 0, (t, s) => rfl

set_option maxHeartbeats 4000000 in
theorem defs_same3 : Cert.Kernel3.defs (F := F) = Cert.Kernel3Ideal.defs (F := F) :=
  congrArg (Pipeline.defs Cert.Kernel3.pcfgs) bodies_same3

set_option maxHeartbeats 4000000 in
/-- A run of the ideal kernel is a run of the kernel. -/
theorem run_same3 (m : (ℓ : Loc Cert.Kernel3Ideal.nD Cert.Kernel3Ideal.τ Cert.Kernel3Ideal.sig) → Buf (Elt F) ℓ) (ρ : Dev Cert.Kernel3Ideal.nD → PrngReg)
    (Q : PUnit × MemSt Cert.Kernel3Ideal.nD Cert.Kernel3Ideal.τ Cert.Kernel3Ideal.sig (Elt F) → Prop)
    (h : θ_run (Cert.Kernel3Ideal.defs (F := F)) (onTc (τ := Cert.Kernel3Ideal.τ) (Cert.Kernel3Ideal.main (F := F))) ⟨m, fun _ => 0, ρ⟩ Q) :
    θ_run (Cert.Kernel3.defs (F := F)) (onTc (τ := Cert.Kernel3.τ) (Cert.Kernel3.main (F := F))) ⟨m, fun _ => 0, ρ⟩ Q :=
  (congrArg (fun d => θ_run d (onTc (τ := Cert.Kernel3.τ) (Cert.Kernel3.main (F := F))) ⟨m, fun _ => 0, ρ⟩ Q) defs_same3).mpr h

end Cert.Layer

end
-- ==== Proof.Layer.MlpMeaning.lean ====
/- WHAT THE FEED-FORWARD PART IS over the extended reals, as a function of its arguments' arrays alone, and the reference ending at it. -/
module

public import proofs.«01_k».proof.Proof.Gen.Reference2Ideal.Run
public import Idealize.ShloMosaic.Lib.Pointwise

@[expose] public section

set_option maxRecDepth 16384

noncomputable section

namespace Cert.Layer

open Idealize.ShloMosaic Idealize.ShloMosaic.TcCoe Idealize.ShloMosaic.Tactic
open Idealize.SL Idealize.SL.Sem
open Cert.Reference2Ideal Cert.Reference2Ideal.Gen Cert.Reference2Ideal.Value

/-- Hidden unit `n` of row `r`: the square of the positive part of the row's product with the unit's column of weights. -/
def hidden (u : FVec Ideal S8192x2048 .bf16) (w : FVec Ideal S1x2048x8192 .f32) (r n : Fin 8192) : EReal :=
  max (∑ k : Fin 2048, u (ix2 r k) * w (ix3 0 k n)) 0 * max (∑ k : Fin 2048, u (ix2 r k) * w (ix3 0 k n)) 0

/-- The hidden units of row `r` brought back to channel `j`. -/
def fed (u : FVec Ideal S8192x2048 .bf16) (w : FVec Ideal S1x2048x8192 .f32) (d : FVec Ideal S1x8192x2048 .f32) (r : Fin 8192) (j : Fin 2048) : EReal :=
  ∑ n : Fin 8192, hidden u w r n * d (ix3 0 n j)

/-- A residual plus a row over the root of its mean square (with the layer's small constant) times the gain, at channel `j`. -/
def addNormed (h : EReal) (f : Fin 2048 → EReal) (g : EReal) (j : Fin 2048) : EReal :=
  h + f j * Ideal.rsqrt (Ideal.div (∑ k : Fin 2048, f k * f k) (Ideal.ofBits .f32 0x45000000#32) + Ideal.ofBits .f32 0x358637BD#32) * g

/-- The feed-forward part's output at row `r` and channel `j`. -/
def mlpOut (u : FVec Ideal S8192x2048 .bf16) (h : FVec Ideal S8192x2048 .f32) (w : FVec Ideal S1x2048x8192 .f32) (d : FVec Ideal S1x8192x2048 .f32)
    (g : FVec Ideal S1x2048 .f32) (r : Fin 8192) (j : Fin 2048) : EReal :=
  addNormed (h (ix2 r j)) (fed u w d r) (g (ix2 0 j)) j

/-! ## The reference -/

/-- The reference's hidden units. -/
def refHidden (u : FVec Ideal S8192x2048 .bf16) (w : FVec Ideal S1x2048x8192 .f32) : FVec Ideal S8192x8192 .f32 :=
  mulf (maximumf (Host.dotGeneral dot_S8192x2048_S2048x8192_S8192x8192_1_0_0_1_n_n none (extf .f32 u bitsLt_bf16_f32) (shapeCast _ w shapeCasts_S1x2048x8192_S2048x8192))
      (broadcastInDim S8192x8192 ![] bcast_S_S8192x8192 (constant S_ .f32 0x00000000#32)))
    (maximumf (Host.dotGeneral dot_S8192x2048_S2048x8192_S8192x8192_1_0_0_1_n_n none (extf .f32 u bitsLt_bf16_f32) (shapeCast _ w shapeCasts_S1x2048x8192_S2048x8192))
      (broadcastInDim S8192x8192 ![] bcast_S_S8192x8192 (constant S_ .f32 0x00000000#32)))

/-- The reference's hidden units brought back to the channels. -/
def refFed (a : FVec Ideal S8192x8192 .f32) (d : FVec Ideal S1x8192x2048 .f32) : FVec Ideal S8192x2048 .f32 :=
  Host.dotGeneral dot_S8192x8192_S8192x2048_S8192x2048_1_0_0_1_n_n none a (shapeCast _ d shapeCasts_S1x8192x2048_S8192x2048)

/-- The reference's result, of those rows. -/
def refOut (h f : FVec Ideal S8192x2048 .f32) (g : FVec Ideal S1x2048 .f32) : FVec Ideal S8192x2048 .f32 :=
  addf h (mulf (mulf f
      (broadcastInDim S8192x2048 ![0, 1] bcast_S8192x1_S8192x2048_0_1
        (Host.rsqrt (addf (Host.divf (broadcastInDim S8192x1 ![0] bcast_S8192_S8192x1_0
            (Host.reduceAdd (mulf f f) (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
    (broadcastInDim S8192x2048 ![0, 1] bcast_S1x2048_S8192x2048_0_1
      (broadcastInDim S1x2048 ![1] bcast_S2048_S1x2048_1 (shapeCast _ g shapeCasts_S1x2048_S2048))))

theorem refHidden_at (u : FVec Ideal S8192x2048 .bf16) (w : FVec Ideal S1x2048x8192 .f32) (r n : Fin 8192) :
    refHidden u w (ix2 r n) = hidden u w r n := by
  pointwise [refHidden, hidden]

theorem refFed_at (a : FVec Ideal S8192x8192 .f32) (d : FVec Ideal S1x8192x2048 .f32) (r : Fin 8192) (j : Fin 2048) :
    refFed a d (ix2 r j) = ∑ n : Fin 8192, a (ix2 r n) * d (ix3 0 n j) := by
  pointwise [refFed]

theorem refOut_at (h f : FVec Ideal S8192x2048 .f32) (g : FVec Ideal S1x2048 .f32) (r : Fin 8192) (j : Fin 2048) :
    refOut h f g (ix2 r j) = addNormed (h (ix2 r j)) (fun k => f (ix2 r k)) (g (ix2 0 j)) j := by
  pointwise [refOut, addNormed]

/-- The reference's result at an index. -/
theorem refMlp_at (u : FVec Ideal S8192x2048 .bf16) (h : FVec Ideal S8192x2048 .f32) (w : FVec Ideal S1x2048x8192 .f32) (d : FVec Ideal S1x8192x2048 .f32)
    (g : FVec Ideal S1x2048 .f32) (r : Fin 8192) (j : Fin 2048) :
    refOut h (refFed (refHidden u w) d) g (ix2 r j) = mlpOut u h w d g r j := by
  rw [refOut_at]
  exact congrArg (fun f => addNormed (h (ix2 r j)) f (g (ix2 0 j)) j) (funext fun k =>
    (refFed_at (refHidden u w) d r k).trans (Finset.sum_congr rfl fun n _ => congrArg (· * d (ix3 0 n k)) (refHidden_at u w r n)))

/-- The reference's run: its result is its function of the arguments, and the arguments are as they were. -/
theorem run_reference2 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = refOut (m ((c.tc : Thread nD τ).loc main_arg1))
        (refFed (refHidden (m ((c.tc : Thread nD τ).loc main_arg0)) (m ((c.tc : Thread nD τ).loc main_arg2))) (m ((c.tc : Thread nD τ).loc main_arg3)))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference2Ideal.Value.run (F := Ideal) m ρ

end Cert.Layer

end
-- ==== Proof.Layer.MixMeaning.lean ====
/- WHAT THE MIXER'S OUTPUT IS over the extended reals, as a function of its arguments' arrays alone, and the reference ending at it: the GLU's
   rows after the meta rows, shifted and weighted tap by tap; the row normalised and gated; the two branches under their gates, merged,
   added to the residual; and that row normalised once more for the feed-forward part. -/
module

public import proofs.«01_k».proof.Proof.Gen.Reference3Ideal.Run
public import proofs.«01_k».proof.Proof.Layer.MlpMeaning

@[expose] public section

set_option maxRecDepth 16384

noncomputable section

namespace Cert.Layer

open Idealize.ShloMosaic Idealize.ShloMosaic.TcCoe Idealize.ShloMosaic.Tactic
open Idealize.SL Idealize.SL.Sem
open Cert.Reference3Ideal Cert.Reference3Ideal.Gen Cert.Reference3Ideal.Value

/-- Row `n` of the GLU's sequence at channel `c`: sixteen meta rows (the last of the front), the GLU's rows, and nothing after. -/
def seqAt (f : FVec Ideal S64x2048 .bf16) (g : FVec Ideal S8192x2048 .bf16) (n : ℕ) (c : Fin 2048) : EReal :=
  if h : n < 16 then f (ix2 ⟨48 + n, by omega⟩ c) else if h' : n < 8208 then g (ix2 ⟨n - 16, by omega⟩ c) else 0

/-- Tap `k`'s weight at channel `c`. -/
def tapAt (w : FVec Ideal S1x31x2048 .f32) (k : ℕ) (c : Fin 2048) : EReal := if h : k < 31 then w (ix3 0 ⟨k, h⟩ c) else 0

/-- The depthwise convolution at row `t` and channel `c`: thirty-one taps centred at the row, and the bias. -/
def convAt (f : FVec Ideal S64x2048 .bf16) (g : FVec Ideal S8192x2048 .bf16) (w : FVec Ideal S1x31x2048 .f32) (b : FVec Ideal S1x2048 .f32)
    (t : ℕ) (c : Fin 2048) : EReal := (∑ k ∈ Finset.range 31, seqAt f g (k + 1 + t) c * tapAt w k c) + b (ix2 0 c)

/-- A row's mean. -/
def meanOf (y : Fin 2048 → EReal) : EReal := Ideal.div (∑ k : Fin 2048, y k) (Ideal.ofBits .f32 0x45000000#32)

/-- A row centred, over the root of its variance (with the layer's small constant), times the gain, plus the offset, at channel `j`. -/
def centred (y : Fin 2048 → EReal) (g b : EReal) (j : Fin 2048) : EReal :=
  (y j - meanOf y) * Ideal.rsqrt (Ideal.div (∑ k : Fin 2048, (y k - meanOf y) * (y k - meanOf y)) (Ideal.ofBits .f32 0x45000000#32)
    + Ideal.ofBits .f32 0x358637BD#32) * g + b

/-- A number times its logistic function. -/
def siluOf (v : EReal) : EReal := v * Ideal.div (Ideal.ofBits .f32 0x3F800000#32) (Ideal.ofBits .f32 0x3F800000#32 + Ideal.exp (-v))

/-- The convolution branch's row `t` before its product, at channel `j`. -/
def convRow (f : FVec Ideal S64x2048 .bf16) (g : FVec Ideal S8192x2048 .bf16) (w : FVec Ideal S1x31x2048 .f32) (b lg lb : FVec Ideal S1x2048 .f32)
    (t : ℕ) (j : Fin 2048) : EReal := siluOf (centred (convAt f g w b t) (lg (ix2 0 j)) (lb (ix2 0 j)) j)

/-- The two branches' products under their gates, added, at channel `k`. -/
def mergedAt (o : Fin 2048 → EReal) (y : Fin 2048 → EReal) (ga gb : EReal) (wg wc : FVec Ideal S1x2048x2048 .f32) (bc : FVec Ideal S1x2048 .f32) (k : Fin 2048) : EReal :=
  ga * (∑ n : Fin 2048, o n * wg (ix3 0 n k)) + gb * ((∑ n : Fin 2048, y n * wc (ix3 0 n k)) + bc (ix2 0 k))

/-- A merged row's product with the output weights, at channel `j`. -/
def mixedAt (v : Fin 2048 → EReal) (wo : FVec Ideal S1x2048x2048 .f32) (j : Fin 2048) : EReal := ∑ k : Fin 2048, v k * wo (ix3 0 k j)

/-- A row over the root of its mean square, times the gain, at channel `j`. -/
def normedAt (f : Fin 2048 → EReal) (g : EReal) (j : Fin 2048) : EReal :=
  f j * Ideal.rsqrt (Ideal.div (∑ k : Fin 2048, f k * f k) (Ideal.ofBits .f32 0x45000000#32) + Ideal.ofBits .f32 0x358637BD#32) * g

/-- The row of the residual after the mixers, at channel `j`. -/
def mixOut (o : FVec Ideal S8192x2048 .bf16) (p : FVec Ideal S8192x10240 .bf16) (g : FVec Ideal S8192x2048 .bf16) (f : FVec Ideal S64x2048 .bf16)
    (h : FVec Ideal S8192x2048 .f32) (wg : FVec Ideal S1x2048x2048 .f32) (w : FVec Ideal S1x31x2048 .f32) (b lg lb : FVec Ideal S1x2048 .f32)
    (wc : FVec Ideal S1x2048x2048 .f32) (bc : FVec Ideal S1x2048 .f32) (wo : FVec Ideal S1x2048x2048 .f32) (gp : FVec Ideal S1x2048 .f32)
    (t : Fin 8192) (j : Fin 2048) : EReal :=
  addNormed (h (ix2 t j)) (mixedAt (fun k => mergedAt (fun n => o (ix2 t n)) (convRow f g w b lg lb t.val)
    (p (ix2 t ⟨6144 + k.val, by omega⟩)) (p (ix2 t ⟨8192 + k.val, by omega⟩)) wg wc bc k) wo) (gp (ix2 0 j)) j

/-! ## The reference's terms -/

/-- The GLU's sequence: meta rows in front, zero rows behind. -/
def refSeq (f : FVec Ideal S64x2048 .bf16) (g : FVec Ideal S8192x2048 .bf16) : FVec Ideal S8223x2048 .f32 :=
  pad S8223x2048 ![0, 0] ![15, 0] ![0, 0] (extf .f32 (concatenate S8208x2048 0 [⟨S16x2048, (extractStridedSlice S16x2048 ![48, 0] f slices_S64x2048_S16x2048_48_0)⟩, ⟨S8192x2048, g⟩] concatenates_S16x2048_S8192x2048_S8208x2048_d0) bitsLt_bf16_f32) (sitofp .f32 (constantI S_ 32 0#32)) pads_S8208x2048_S8223x2048_0150_000 h_S_

/-- The first eleven taps. -/
def refTapsA (s : FVec Ideal S8223x2048 .f32) (w : FVec Ideal S1x31x2048 .f32) : FVec Ideal S8192x2048 .f32 :=
  addf (addf (addf (addf (addf (addf (addf (addf (addf (addf (addf (broadcastInDim S8192x2048 ![] bcast_S_S8192x2048 (constant S_ .f32 0x00000000#32))
    (mulf (extractStridedSlice S8192x2048 ![1, 0] s slices_S8223x2048_S8192x2048_1_0) (broadcastInDim S8192x2048 ![0, 1] bcast_S1x2048_S8192x2048_0_1 (broadcastInDim S1x2048 ![1] bcast_S2048_S1x2048_1 (shapeCast _ (extractStridedSlice S1x1x2048 ![0, 0, 0] w slices_S1x31x2048_S1x1x2048_0_0_0) shapeCasts_S1x1x2048_S2048)))))
    (mulf (extractStridedSlice S8192x2048 ![2, 0] s slices_S8223x2048_S8192x2048_2_0) (broadcastInDim S8192x2048 ![0, 1] bcast_S1x2048_S8192x2048_0_1 (broadcastInDim S1x2048 ![1] bcast_S2048_S1x2048_1 (shapeCast _ (extractStridedSlice S1x1x2048 ![0, 1, 0] w slices_S1x31x2048_S1x1x2048_0_1_0) shapeCasts_S1x1x2048_S2048)))))
    (mulf (extractStridedSlice S8192x2048 ![3, 0] s slices_S8223x2048_S8192x2048_3_0) (broadcastInDim S8192x2048 ![0, 1] bcast_S1x2048_S8192x2048_0_1 (broadcastInDim S1x2048 ![1] bcast_S2048_S1x2048_1 (shapeCast _ (extractStridedSlice S1x1x2048 ![0, 2, 0] w slices_S1x31x2048_S1x1x2048_0_2_0) shapeCasts_S1x1x2048_S2048)))))
    (mulf (extractStridedSlice S8192x2048 ![4, 0] s slices_S8223x2048_S8192x2048_4_0) (broadcastInDim S8192x2048 ![0, 1] bcast_S1x2048_S8192x2048_0_1 (broadcastInDim S1x2048 ![1] bcast_S2048_S1x2048_1 (shapeCast _ (extractStridedSlice S1x1x2048 ![0, 3, 0] w slices_S1x31x2048_S1x1x2048_0_3_0) shapeCasts_S1x1x2048_S2048)))))
    (mulf (extractStridedSlice S8192x2048 ![5, 0] s slices_S8223x2048_S8192x2048_5_0) (broadcastInDim S8192x2048 ![0, 1] bcast_S1x2048_S8192x2048_0_1 (broadcastInDim S1x2048 ![1] bcast_S2048_S1x2048_1 (shapeCast _ (extractStridedSlice S1x1x2048 ![0, 4, 0] w slices_S1x31x2048_S1x1x2048_0_4_0) shapeCasts_S1x1x2048_S2048)))))
    (mulf (extractStridedSlice S8192x2048 ![6, 0] s slices_S8223x2048_S8192x2048_6_0) (broadcastInDim S8192x2048 ![0, 1] bcast_S1x2048_S8192x2048_0_1 (broadcastInDim S1x2048 ![1] bcast_S2048_S1x2048_1 (shapeCast _ (extractStridedSlice S1x1x2048 ![0, 5, 0] w slices_S1x31x2048_S1x1x2048_0_5_0) shapeCasts_S1x1x2048_S2048)))))
    (mulf (extractStridedSlice S8192x2048 ![7, 0] s slices_S8223x2048_S8192x2048_7_0) (broadcastInDim S8192x2048 ![0, 1] bcast_S1x2048_S8192x2048_0_1 (broadcastInDim S1x2048 ![1] bcast_S2048_S1x2048_1 (shapeCast _ (extractStridedSlice S1x1x2048 ![0, 6, 0] w slices_S1x31x2048_S1x1x2048_0_6_0) shapeCasts_S1x1x2048_S2048)))))
    (mulf (extractStridedSlice S8192x2048 ![8, 0] s slices_S8223x2048_S8192x2048_8_0) (broadcastInDim S8192x2048 ![0, 1] bcast_S1x2048_S8192x2048_0_1 (broadcastInDim S1x2048 ![1] bcast_S2048_S1x2048_1 (shapeCast _ (extractStridedSlice S1x1x2048 ![0, 7, 0] w slices_S1x31x2048_S1x1x2048_0_7_0) shapeCasts_S1x1x2048_S2048)))))
    (mulf (extractStridedSlice S8192x2048 ![9, 0] s slices_S8223x2048_S8192x2048_9_0) (broadcastInDim S8192x2048 ![0, 1] bcast_S1x2048_S8192x2048_0_1 (broadcastInDim S1x2048 ![1] bcast_S2048_S1x2048_1 (shapeCast _ (extractStridedSlice S1x1x2048 ![0, 8, 0] w slices_S1x31x2048_S1x1x2048_0_8_0) shapeCasts_S1x1x2048_S2048)))))
    (mulf (extractStridedSlice S8192x2048 ![10, 0] s slices_S8223x2048_S8192x2048_10_0) (broadcastInDim S8192x2048 ![0, 1] bcast_S1x2048_S8192x2048_0_1 (broadcastInDim S1x2048 ![1] bcast_S2048_S1x2048_1 (shapeCast _ (extractStridedSlice S1x1x2048 ![0, 9, 0] w slices_S1x31x2048_S1x1x2048_0_9_0) shapeCasts_S1x1x2048_S2048)))))
    (mulf (extractStridedSlice S8192x2048 ![11, 0] s slices_S8223x2048_S8192x2048_11_0) (broadcastInDim S8192x2048 ![0, 1] bcast_S1x2048_S8192x2048_0_1 (broadcastInDim S1x2048 ![1] bcast_S2048_S1x2048_1 (shapeCast _ (extractStridedSlice S1x1x2048 ![0, 10, 0] w slices_S1x31x2048_S1x1x2048_0_10_0) shapeCasts_S1x1x2048_S2048))))

/-- Eleven more. -/
def refTapsB (s : FVec Ideal S8223x2048 .f32) (w : FVec Ideal S1x31x2048 .f32) (a : FVec Ideal S8192x2048 .f32) : FVec Ideal S8192x2048 .f32 :=
  addf (addf (addf (addf (addf (addf (addf (addf (addf (addf (addf a (mulf (extractStridedSlice S8192x2048 ![12, 0] s slices_S8223x2048_S8192x2048_12_0) (broadcastInDim S8192x2048 ![0, 1] bcast_S1x2048_S8192x2048_0_1 (broadcastInDim S1x2048 ![1] bcast_S2048_S1x2048_1 (shapeCast _ (extractStridedSlice S1x1x2048 ![0, 11, 0] w slices_S1x31x2048_S1x1x2048_0_11_0) shapeCasts_S1x1x2048_S2048)))))
    (mulf (extractStridedSlice S8192x2048 ![13, 0] s slices_S8223x2048_S8192x2048_13_0) (broadcastInDim S8192x2048 ![0, 1] bcast_S1x2048_S8192x2048_0_1 (broadcastInDim S1x2048 ![1] bcast_S2048_S1x2048_1 (shapeCast _ (extractStridedSlice S1x1x2048 ![0, 12, 0] w slices_S1x31x2048_S1x1x2048_0_12_0) shapeCasts_S1x1x2048_S2048)))))
    (mulf (extractStridedSlice S8192x2048 ![14, 0] s slices_S8223x2048_S8192x2048_14_0) (broadcastInDim S8192x2048 ![0, 1] bcast_S1x2048_S8192x2048_0_1 (broadcastInDim S1x2048 ![1] bcast_S2048_S1x2048_1 (shapeCast _ (extractStridedSlice S1x1x2048 ![0, 13, 0] w slices_S1x31x2048_S1x1x2048_0_13_0) shapeCasts_S1x1x2048_S2048)))))
    (mulf (extractStridedSlice S8192x2048 ![15, 0] s slices_S8223x2048_S8192x2048_15_0) (broadcastInDim S8192x2048 ![0, 1] bcast_S1x2048_S8192x2048_0_1 (broadcastInDim S1x2048 ![1] bcast_S2048_S1x2048_1 (shapeCast _ (extractStridedSlice S1x1x2048 ![0, 14, 0] w slices_S1x31x2048_S1x1x2048_0_14_0) shapeCasts_S1x1x2048_S2048)))))
    (mulf (extractStridedSlice S8192x2048 ![16, 0] s slices_S8223x2048_S8192x2048_16_0) (broadcastInDim S8192x2048 ![0, 1] bcast_S1x2048_S8192x2048_0_1 (broadcastInDim S1x2048 ![1] bcast_S2048_S1x2048_1 (shapeCast _ (extractStridedSlice S1x1x2048 ![0, 15, 0] w slices_S1x31x2048_S1x1x2048_0_15_0) shapeCasts_S1x1x2048_S2048)))))
    (mulf (extractStridedSlice S8192x2048 ![17, 0] s slices_S8223x2048_S8192x2048_17_0) (broadcastInDim S8192x2048 ![0, 1] bcast_S1x2048_S8192x2048_0_1 (broadcastInDim S1x2048 ![1] bcast_S2048_S1x2048_1 (shapeCast _ (extractStridedSlice S1x1x2048 ![0, 16, 0] w slices_S1x31x2048_S1x1x2048_0_16_0) shapeCasts_S1x1x2048_S2048)))))
    (mulf (extractStridedSlice S8192x2048 ![18, 0] s slices_S8223x2048_S8192x2048_18_0) (broadcastInDim S8192x2048 ![0, 1] bcast_S1x2048_S8192x2048_0_1 (broadcastInDim S1x2048 ![1] bcast_S2048_S1x2048_1 (shapeCast _ (extractStridedSlice S1x1x2048 ![0, 17, 0] w slices_S1x31x2048_S1x1x2048_0_17_0) shapeCasts_S1x1x2048_S2048)))))
    (mulf (extractStridedSlice S8192x2048 ![19, 0] s slices_S8223x2048_S8192x2048_19_0) (broadcastInDim S8192x2048 ![0, 1] bcast_S1x2048_S8192x2048_0_1 (broadcastInDim S1x2048 ![1] bcast_S2048_S1x2048_1 (shapeCast _ (extractStridedSlice S1x1x2048 ![0, 18, 0] w slices_S1x31x2048_S1x1x2048_0_18_0) shapeCasts_S1x1x2048_S2048)))))
    (mulf (extractStridedSlice S8192x2048 ![20, 0] s slices_S8223x2048_S8192x2048_20_0) (broadcastInDim S8192x2048 ![0, 1] bcast_S1x2048_S8192x2048_0_1 (broadcastInDim S1x2048 ![1] bcast_S2048_S1x2048_1 (shapeCast _ (extractStridedSlice S1x1x2048 ![0, 19, 0] w slices_S1x31x2048_S1x1x2048_0_19_0) shapeCasts_S1x1x2048_S2048)))))
    (mulf (extractStridedSlice S8192x2048 ![21, 0] s slices_S8223x2048_S8192x2048_21_0) (broadcastInDim S8192x2048 ![0, 1] bcast_S1x2048_S8192x2048_0_1 (broadcastInDim S1x2048 ![1] bcast_S2048_S1x2048_1 (shapeCast _ (extractStridedSlice S1x1x2048 ![0, 20, 0] w slices_S1x31x2048_S1x1x2048_0_20_0) shapeCasts_S1x1x2048_S2048)))))
    (mulf (extractStridedSlice S8192x2048 ![22, 0] s slices_S8223x2048_S8192x2048_22_0) (broadcastInDim S8192x2048 ![0, 1] bcast_S1x2048_S8192x2048_0_1 (broadcastInDim S1x2048 ![1] bcast_S2048_S1x2048_1 (shapeCast _ (extractStridedSlice S1x1x2048 ![0, 21, 0] w slices_S1x31x2048_S1x1x2048_0_21_0) shapeCasts_S1x1x2048_S2048))))

/-- The last nine, and the bias. -/
def refTapsC (s : FVec Ideal S8223x2048 .f32) (w : FVec Ideal S1x31x2048 .f32) (b : FVec Ideal S1x2048 .f32) (a : FVec Ideal S8192x2048 .f32) : FVec Ideal S8192x2048 .f32 :=
  addf (addf (addf (addf (addf (addf (addf (addf (addf (addf a (mulf (extractStridedSlice S8192x2048 ![23, 0] s slices_S8223x2048_S8192x2048_23_0) (broadcastInDim S8192x2048 ![0, 1] bcast_S1x2048_S8192x2048_0_1 (broadcastInDim S1x2048 ![1] bcast_S2048_S1x2048_1 (shapeCast _ (extractStridedSlice S1x1x2048 ![0, 22, 0] w slices_S1x31x2048_S1x1x2048_0_22_0) shapeCasts_S1x1x2048_S2048)))))
    (mulf (extractStridedSlice S8192x2048 ![24, 0] s slices_S8223x2048_S8192x2048_24_0) (broadcastInDim S8192x2048 ![0, 1] bcast_S1x2048_S8192x2048_0_1 (broadcastInDim S1x2048 ![1] bcast_S2048_S1x2048_1 (shapeCast _ (extractStridedSlice S1x1x2048 ![0, 23, 0] w slices_S1x31x2048_S1x1x2048_0_23_0) shapeCasts_S1x1x2048_S2048)))))
    (mulf (extractStridedSlice S8192x2048 ![25, 0] s slices_S8223x2048_S8192x2048_25_0) (broadcastInDim S8192x2048 ![0, 1] bcast_S1x2048_S8192x2048_0_1 (broadcastInDim S1x2048 ![1] bcast_S2048_S1x2048_1 (shapeCast _ (extractStridedSlice S1x1x2048 ![0, 24, 0] w slices_S1x31x2048_S1x1x2048_0_24_0) shapeCasts_S1x1x2048_S2048)))))
    (mulf (extractStridedSlice S8192x2048 ![26, 0] s slices_S8223x2048_S8192x2048_26_0) (broadcastInDim S8192x2048 ![0, 1] bcast_S1x2048_S8192x2048_0_1 (broadcastInDim S1x2048 ![1] bcast_S2048_S1x2048_1 (shapeCast _ (extractStridedSlice S1x1x2048 ![0, 25, 0] w slices_S1x31x2048_S1x1x2048_0_25_0) shapeCasts_S1x1x2048_S2048)))))
    (mulf (extractStridedSlice S8192x2048 ![27, 0] s slices_S8223x2048_S8192x2048_27_0) (broadcastInDim S8192x2048 ![0, 1] bcast_S1x2048_S8192x2048_0_1 (broadcastInDim S1x2048 ![1] bcast_S2048_S1x2048_1 (shapeCast _ (extractStridedSlice S1x1x2048 ![0, 26, 0] w slices_S1x31x2048_S1x1x2048_0_26_0) shapeCasts_S1x1x2048_S2048)))))
    (mulf (extractStridedSlice S8192x2048 ![28, 0] s slices_S8223x2048_S8192x2048_28_0) (broadcastInDim S8192x2048 ![0, 1] bcast_S1x2048_S8192x2048_0_1 (broadcastInDim S1x2048 ![1] bcast_S2048_S1x2048_1 (shapeCast _ (extractStridedSlice S1x1x2048 ![0, 27, 0] w slices_S1x31x2048_S1x1x2048_0_27_0) shapeCasts_S1x1x2048_S2048)))))
    (mulf (extractStridedSlice S8192x2048 ![29, 0] s slices_S8223x2048_S8192x2048_29_0) (broadcastInDim S8192x2048 ![0, 1] bcast_S1x2048_S8192x2048_0_1 (broadcastInDim S1x2048 ![1] bcast_S2048_S1x2048_1 (shapeCast _ (extractStridedSlice S1x1x2048 ![0, 28, 0] w slices_S1x31x2048_S1x1x2048_0_28_0) shapeCasts_S1x1x2048_S2048)))))
    (mulf (extractStridedSlice S8192x2048 ![30, 0] s slices_S8223x2048_S8192x2048_30_0) (broadcastInDim S8192x2048 ![0, 1] bcast_S1x2048_S8192x2048_0_1 (broadcastInDim S1x2048 ![1] bcast_S2048_S1x2048_1 (shapeCast _ (extractStridedSlice S1x1x2048 ![0, 29, 0] w slices_S1x31x2048_S1x1x2048_0_29_0) shapeCasts_S1x1x2048_S2048)))))
    (mulf (extractStridedSlice S8192x2048 ![31, 0] s slices_S8223x2048_S8192x2048_31_0) (broadcastInDim S8192x2048 ![0, 1] bcast_S1x2048_S8192x2048_0_1 (broadcastInDim S1x2048 ![1] bcast_S2048_S1x2048_1 (shapeCast _ (extractStridedSlice S1x1x2048 ![0, 30, 0] w slices_S1x31x2048_S1x1x2048_0_30_0) shapeCasts_S1x1x2048_S2048))))) (broadcastInDim S8192x2048 ![0, 1] bcast_S1x2048_S8192x2048_0_1 (broadcastInDim S1x2048 ![1] bcast_S2048_S1x2048_1 (shapeCast _ b shapeCasts_S1x2048_S2048)))

/-- The rows' means. -/
def refMean (y : FVec Ideal S8192x2048 .f32) : FVec Ideal S8192x1 .f32 :=
  Host.divf (broadcastInDim S8192x1 ![0] bcast_S8192_S8192x1_0 (Host.reduceAdd y (constant S_ .f32 0x00000000#32) reducesTo_S8192x2048_S8192_d1 h_S_)) (broadcastInDim S8192x1 ![] bcast_S_S8192x1 (constant S_ .f32 0x45000000#32))

/-- The rows less their means. -/
def refDev (y : FVec Ideal S8192x2048 .f32) (m : FVec Ideal S8192x1 .f32) : FVec Ideal S8192x2048 .f32 :=
  subf y
    (broadcastInDim S8192x2048 ![0, 1] bcast_S8192x1_S8192x2048_0_1 m)

/-- The rows normalised. -/
def refCentred (y d : FVec Ideal S8192x2048 .f32) (m : FVec Ideal S8192x1 .f32) (g b : FVec Ideal S1x2048 .f32) : FVec Ideal S8192x2048 .f32 :=
  addf (mulf (mulf (subf y
    (broadcastInDim S8192x2048 ![0, 1] bcast_S8192x1_S8192x2048_0_1 m))
    (broadcastInDim S8192x2048 ![0, 1] bcast_S8192x1_S8192x2048_0_1 (Host.rsqrt (addf (Host.divf (broadcastInDim S8192x1 ![0] bcast_S8192_S8192x1_0 (Host.reduceAdd (mulf d d) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 (shapeCast _ g shapeCasts_S1x2048_S2048)))) (broadcastInDim S8192x2048 ![0, 1] bcast_S1x2048_S8192x2048_0_1 (broadcastInDim S1x2048 ![1] bcast_S2048_S1x2048_1 (shapeCast _ b shapeCasts_S1x2048_S2048)))

/-- The merge gates. -/
def refGates (p : FVec Ideal S8192x10240 .bf16) : FVec Ideal S8192x4096 .f32 :=
  extf .f32 (extractStridedSlice S8192x4096 ![0, 6144] p slices_S8192x10240_S8192x4096_0_6144) bitsLt_bf16_f32

/-- The two branches merged and multiplied out. -/
def refMixed (o : FVec Ideal S8192x2048 .bf16) (p : FVec Ideal S8192x4096 .f32) (y : FVec Ideal S8192x2048 .f32) (wg wc : FVec Ideal S1x2048x2048 .f32) (bc : FVec Ideal S1x2048 .f32) (wo : FVec Ideal S1x2048x2048 .f32) : FVec Ideal S8192x2048 .f32 :=
  Host.dotGeneral dot_S8192x2048_S2048x2048_S8192x2048_1_0_0_1_n_n none (addf (mulf (extractStridedSlice S8192x2048 ![0, 0] p slices_S8192x4096_S8192x2048_0_0)
    (Host.dotGeneral dot_S8192x2048_S2048x2048_S8192x2048_1_0_0_1_n_n none (extf .f32 o bitsLt_bf16_f32) (shapeCast _ wg shapeCasts_S1x2048x2048_S2048x2048)))

    (mulf (extractStridedSlice S8192x2048 ![0, 2048] p slices_S8192x4096_S8192x2048_0_2048) (addf
    (Host.dotGeneral dot_S8192x2048_S2048x2048_S8192x2048_1_0_0_1_n_n none (mulf y (Host.divf (broadcastInDim S8192x2048 ![] bcast_S_S8192x2048 (constant S_ .f32 0x3F800000#32)) (addf (broadcastInDim S8192x2048 ![] bcast_S_S8192x2048 (constant S_ .f32 0x3F800000#32)) (Host.exp (Host.negf y))))) (shapeCast _ wc shapeCasts_S1x2048x2048_S2048x2048)) (broadcastInDim S8192x2048 ![0, 1] bcast_S1x2048_S8192x2048_0_1 (broadcastInDim S1x2048 ![1] bcast_S2048_S1x2048_1 (shapeCast _ bc shapeCasts_S1x2048_S2048)))))) (shapeCast _ wo shapeCasts_S1x2048x2048_S2048x2048)

/-- The residual with that row normalised. -/
def refAdded (h f : FVec Ideal S8192x2048 .f32) (g : FVec Ideal S1x2048 .f32) : FVec Ideal S8192x2048 .f32 :=
  addf h (mulf (mulf f
    (broadcastInDim S8192x2048 ![0, 1] bcast_S8192x1_S8192x2048_0_1 (Host.rsqrt (addf (Host.divf (broadcastInDim S8192x1 ![0] bcast_S8192_S8192x1_0 (Host.reduceAdd (mulf f f) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 (shapeCast _ g shapeCasts_S1x2048_S2048))))

/-- That row normalised for the feed-forward part. -/
def refNext (h : FVec Ideal S8192x2048 .f32) (g : FVec Ideal S1x2048 .f32) : FVec Ideal S8192x2048 .bf16 :=
  truncf .bf16 (mulf (mulf h
    (broadcastInDim S8192x2048 ![0, 1] bcast_S8192x1_S8192x2048_0_1 (Host.rsqrt (addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 (shapeCast _ g shapeCasts_S1x2048_S2048)))) bitsLt_bf16_f32

/-! ## Their values -/

theorem refSeq_at (f : FVec Ideal S64x2048 .bf16) (g : FVec Ideal S8192x2048 .bf16) (n : Fin 8223) (c : Fin 2048) :
    refSeq f g (ix2 n c) = seqAt f g n.val c := by
  pointwise [refSeq, seqAt]
  have z : (FloatOps.sitofp (F := Idealize.ShloMosaic.Ideal) FTy.f32 0#32 : EReal) = 0 := by simp [FloatOps.sitofp]
  by_cases h : n.val < 16
  · rw [dif_pos h, dif_pos (show n.val < 8208 by omega), dif_pos h]
  · rw [dif_neg h]
    by_cases h' : n.val < 8208
    · rw [dif_pos h', dif_pos h', dif_neg h]
    · rw [dif_neg h', dif_neg h']; exact z

theorem refTapsA_at (s : FVec Ideal S8223x2048 .f32) (w : FVec Ideal S1x31x2048 .f32) (S : ℕ → EReal) (t : Fin 8192) (c : Fin 2048)
    (hS : ∀ n : Fin 8223, s (ix2 n c) = S n.val) : refTapsA s w (ix2 t c) = ∑ k ∈ Finset.range 11, S (k + 1 + t.val) * tapAt w k c := by
  pointwise [refTapsA]
  simp [hS, Finset.sum_range_succ, tapAt]

theorem refTapsB_at (s : FVec Ideal S8223x2048 .f32) (w : FVec Ideal S1x31x2048 .f32) (a : FVec Ideal S8192x2048 .f32) (S : ℕ → EReal) (t : Fin 8192) (c : Fin 2048)
    (hS : ∀ n : Fin 8223, s (ix2 n c) = S n.val) (ha : a (ix2 t c) = ∑ k ∈ Finset.range 11, S (k + 1 + t.val) * tapAt w k c) :
    refTapsB s w a (ix2 t c) = ∑ k ∈ Finset.range 22, S (k + 1 + t.val) * tapAt w k c := by
  pointwise [refTapsB]
  rw [ha]
  simp [hS, Finset.sum_range_succ, tapAt]

theorem refTapsC_at (s : FVec Ideal S8223x2048 .f32) (w : FVec Ideal S1x31x2048 .f32) (b : FVec Ideal S1x2048 .f32) (a : FVec Ideal S8192x2048 .f32)
    (S : ℕ → EReal) (t : Fin 8192) (c : Fin 2048)
    (hS : ∀ n : Fin 8223, s (ix2 n c) = S n.val) (ha : a (ix2 t c) = ∑ k ∈ Finset.range 22, S (k + 1 + t.val) * tapAt w k c) :
    refTapsC s w b a (ix2 t c) = (∑ k ∈ Finset.range 31, S (k + 1 + t.val) * tapAt w k c) + b (ix2 0 c) := by
  pointwise [refTapsC]
  rw [ha]
  simp [hS, Finset.sum_range_succ, tapAt]

theorem refMean_at (y : FVec Ideal S8192x2048 .f32) (t : Fin 8192) : refMean y (ix2 t 0) = meanOf (fun k => y (ix2 t k)) := by
  pointwise [refMean, meanOf]

theorem refDev_at (y : FVec Ideal S8192x2048 .f32) (m : FVec Ideal S8192x1 .f32) (t : Fin 8192) (j : Fin 2048) :
    refDev y m (ix2 t j) = y (ix2 t j) - m (ix2 t 0) := by
  pointwise [refDev]

theorem refCentred_at (y d : FVec Ideal S8192x2048 .f32) (m : FVec Ideal S8192x1 .f32) (g b : FVec Ideal S1x2048 .f32) (t : Fin 8192) (j : Fin 2048) :
    refCentred y d m g b (ix2 t j) = (y (ix2 t j) - m (ix2 t 0)) * Ideal.rsqrt (Ideal.div (∑ k : Fin 2048, d (ix2 t k) * d (ix2 t k)) (Ideal.ofBits .f32 0x45000000#32)
      + Ideal.ofBits .f32 0x358637BD#32) * g (ix2 0 j) + b (ix2 0 j) := by
  pointwise [refCentred]

theorem refGates_at (p : FVec Ideal S8192x10240 .bf16) (t : Fin 8192) (k : Fin 4096) : refGates p (ix2 t k) = p (ix2 t ⟨6144 + k.val, by omega⟩) := by
  pointwise [refGates]

theorem refMixed_at (o : FVec Ideal S8192x2048 .bf16) (p : FVec Ideal S8192x4096 .f32) (y : FVec Ideal S8192x2048 .f32) (wg wc : FVec Ideal S1x2048x2048 .f32)
    (bc : FVec Ideal S1x2048 .f32) (wo : FVec Ideal S1x2048x2048 .f32) (t : Fin 8192) (j : Fin 2048) :
    refMixed o p y wg wc bc wo (ix2 t j) = mixedAt (fun k => mergedAt (fun n => o (ix2 t n)) (fun n => siluOf (y (ix2 t n)))
      (p (ix2 t ⟨k.val, by omega⟩)) (p (ix2 t ⟨2048 + k.val, by omega⟩)) wg wc bc k) wo j := by
  pointwise [refMixed, mixedAt, mergedAt, siluOf]

theorem refAdded_at (h f : FVec Ideal S8192x2048 .f32) (g : FVec Ideal S1x2048 .f32) (t : Fin 8192) (j : Fin 2048) :
    refAdded h f g (ix2 t j) = addNormed (h (ix2 t j)) (fun k => f (ix2 t k)) (g (ix2 0 j)) j := by
  pointwise [refAdded, addNormed]

theorem refNext_at (h : FVec Ideal S8192x2048 .f32) (g : FVec Ideal S1x2048 .f32) (t : Fin 8192) (j : Fin 2048) :
    refNext h g (ix2 t j) = normedAt (fun k => h (ix2 t k)) (g (ix2 0 j)) j := by
  pointwise [refNext, normedAt]

/-- The convolution's row in the reference. -/
def refConv (f : FVec Ideal S64x2048 .bf16) (g : FVec Ideal S8192x2048 .bf16) (w : FVec Ideal S1x31x2048 .f32) (b : FVec Ideal S1x2048 .f32) : FVec Ideal S8192x2048 .f32 :=
  refTapsC (refSeq f g) w b (refTapsB (refSeq f g) w (refTapsA (refSeq f g) w))

theorem refConv_at (f : FVec Ideal S64x2048 .bf16) (g : FVec Ideal S8192x2048 .bf16) (w : FVec Ideal S1x31x2048 .f32) (b : FVec Ideal S1x2048 .f32)
    (t : Fin 8192) (c : Fin 2048) : refConv f g w b (ix2 t c) = convAt f g w b t.val c :=
  refTapsC_at _ w b _ (fun n => seqAt f g n c) t c (fun n => refSeq_at f g n c)
    (refTapsB_at _ w _ (fun n => seqAt f g n c) t c (fun n => refSeq_at f g n c)
      (refTapsA_at _ w (fun n => seqAt f g n c) t c (fun n => refSeq_at f g n c)))

/-- The reference's normalised rows of a convolution. -/
def refNorm (y : FVec Ideal S8192x2048 .f32) (lg lb : FVec Ideal S1x2048 .f32) : FVec Ideal S8192x2048 .f32 :=
  refCentred y (refDev y (refMean y)) (refMean y) lg lb

theorem refNorm_at (y : FVec Ideal S8192x2048 .f32) (lg lb : FVec Ideal S1x2048 .f32) (Y : Fin 2048 → EReal) (t : Fin 8192) (j : Fin 2048)
    (hY : ∀ k, y (ix2 t k) = Y k) : refNorm y lg lb (ix2 t j) = centred Y (lg (ix2 0 j)) (lb (ix2 0 j)) j := by
  have hm : refMean y (ix2 t 0) = meanOf Y := (refMean_at y t).trans (congrArg meanOf (funext hY))
  refine (refCentred_at y (refDev y (refMean y)) (refMean y) lg lb t j).trans ?_
  simp only [refDev_at, hm, hY]
  rfl

/-- The reference's row of the residual after the mixers. -/
def refMixOut (o : FVec Ideal S8192x2048 .bf16) (p : FVec Ideal S8192x10240 .bf16) (g : FVec Ideal S8192x2048 .bf16) (f : FVec Ideal S64x2048 .bf16)
    (h : FVec Ideal S8192x2048 .f32) (wg : FVec Ideal S1x2048x2048 .f32) (w : FVec Ideal S1x31x2048 .f32) (b lg lb : FVec Ideal S1x2048 .f32)
    (wc : FVec Ideal S1x2048x2048 .f32) (bc : FVec Ideal S1x2048 .f32) (wo : FVec Ideal S1x2048x2048 .f32) (gp : FVec Ideal S1x2048 .f32) : FVec Ideal S8192x2048 .f32 :=
  refAdded h (refMixed o (refGates p) (refNorm (refConv f g w b) lg lb) wg wc bc wo) gp

theorem refMixOut_at (o : FVec Ideal S8192x2048 .bf16) (p : FVec Ideal S8192x10240 .bf16) (g : FVec Ideal S8192x2048 .bf16) (f : FVec Ideal S64x2048 .bf16)
    (h : FVec Ideal S8192x2048 .f32) (wg : FVec Ideal S1x2048x2048 .f32) (w : FVec Ideal S1x31x2048 .f32) (b lg lb : FVec Ideal S1x2048 .f32)
    (wc : FVec Ideal S1x2048x2048 .f32) (bc : FVec Ideal S1x2048 .f32) (wo : FVec Ideal S1x2048x2048 .f32) (gp : FVec Ideal S1x2048 .f32)
    (t : Fin 8192) (j : Fin 2048) : refMixOut o p g f h wg w b lg lb wc bc wo gp (ix2 t j) = mixOut o p g f h wg w b lg lb wc bc wo gp t j := by
  refine (refAdded_at h _ gp t j).trans (congrArg (fun r => addNormed (h (ix2 t j)) r (gp (ix2 0 j)) j) (funext fun i => ?_))
  refine (refMixed_at o (refGates p) _ wg wc bc wo t i).trans (congrArg (fun r => mixedAt r wo i) (funext fun k => ?_))
  have hy : (fun n => siluOf (refNorm (refConv f g w b) lg lb (ix2 t n))) = convRow f g w b lg lb t.val :=
    funext fun n => congrArg siluOf (refNorm_at _ lg lb _ t n (fun k => refConv_at f g w b t k))
  have ha := refGates_at p t ⟨k.val, by omega⟩
  have hb := refGates_at p t ⟨2048 + k.val, by omega⟩
  rw [hy, ha, hb]
  refine congrArg (fun x => mergedAt _ _ _ (p (ix2 t x)) wg wc bc k) (Fin.ext ?_)
  show 6144 + (2048 + k.val) = 8192 + k.val
  omega

/-- The reference's run: its results are its functions of the arguments, and the arguments are as they were. -/
theorem run_reference3 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v285) = refMixOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13))
      ∧ r.2.mem ((c.tc : Thread nD τ).loc main_v300) = refNext (refMixOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13)))
        (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  Cert.Reference3Ideal.Value.run (F := Ideal) m ρ

end Cert.Layer

end
-- ==== Proof.Layer.MixTrip.lean ====
/- A TRIP OF THE `_mix` BODY'S LOOP: what one trip stores, read at an index. -/
module

public import proofs.«01_k».proof.Proof.Gen.Kernel3Ideal.Loops
public import proofs.«01_k».proof.Proof.Layer.MlpMeaning
public import Idealize.ShloMosaic.Lib.Pointwise
public import Idealize.ShloMosaic.Lib.Pipeline.ValueKit

@[expose] public section

set_option maxRecDepth 8192
set_option maxHeartbeats 4000000

noncomputable section

namespace Cert.Layer

open Idealize.ShloMosaic
open Cert.Kernel3Ideal Cert.Kernel3Ideal.Gen
open Finset (sum_range_succ)

/-- An array of three axes read at numbers, zero outside. -/
def at3 {a b c : ℕ} (f : (⟨3, ![a, b, c]⟩ : Shape).Idx → EReal) (x y z : ℕ) : EReal :=
  if h : x < a ∧ y < b ∧ z < c then f (ix3 ⟨x, h.1⟩ ⟨y, h.2.1⟩ ⟨z, h.2.2⟩) else 0

/-- A load of rows of one plane of a buffer, read at an index. -/
theorem load_plane {a b c n m : ℕ} {M : Memref sig .tc .vmem (⟨3, ![a, b, c]⟩ : Shape) .f32} (X : M.view.ty.Contents (Elt Ideal))
    {off : Fin 3 → ℕ} (p q : ℕ) (h : off = ![p, q, 0])
    (inb : ∀ x, off x + (⟨3, ![1, n, m]⟩ : Shape).size x ≤ (⟨3, ![a, b, c]⟩ : Shape).size x) (r : Fin n) (l : Fin m) :
    View.readAt (Elt Ideal) M.view (Rect.unit (s := (⟨3, ![a, b, c]⟩ : Shape)) off (⟨3, ![1, n, m]⟩ : Shape).size inb).toLoadRect X (ix3 0 r l)
      = at3 (M.view.read (Elt Ideal) X) p (q + r.val) l.val := by
  subst h
  have h0 := inb 0
  have h1 := inb 1
  have h2 := inb 2
  simp at h0 h1 h2
  rw [View.readAt_apply]
  unfold at3
  rw [dif_pos ⟨by omega, by omega, by omega⟩]
  congr 1
  funext x
  fin_cases x
  · apply Fin.ext
    show p + 1 * 0 = p
    omega
  · apply Fin.ext
    show q + 1 * r.val = q + r.val
    omega
  · apply Fin.ext
    show 0 + 1 * l.val = l.val
    omega

/-- A load of rows of one plane of a 16-bit buffer, read at an index. -/
theorem load_plane_bf16 {a b c n m : ℕ} {M : Memref sig .tc .vmem (⟨3, ![a, b, c]⟩ : Shape) .bf16} (X : M.view.ty.Contents (Elt Ideal))
    {off : Fin 3 → ℕ} (p q : ℕ) (h : off = ![p, q, 0])
    (inb : ∀ x, off x + (⟨3, ![1, n, m]⟩ : Shape).size x ≤ (⟨3, ![a, b, c]⟩ : Shape).size x) (r : Fin n) (l : Fin m) :
    View.readAt (Elt Ideal) M.view (Rect.unit (s := (⟨3, ![a, b, c]⟩ : Shape)) off (⟨3, ![1, n, m]⟩ : Shape).size inb).toLoadRect X (ix3 0 r l)
      = at3 (M.view.read (Elt Ideal) X) p (q + r.val) l.val := by
  subst h
  have h0 := inb 0
  have h1 := inb 1
  have h2 := inb 2
  simp at h0 h1 h2
  rw [View.readAt_apply]
  unfold at3
  rw [dif_pos ⟨by omega, by omega, by omega⟩]
  congr 1
  funext x
  fin_cases x
  · apply Fin.ext
    show p + 1 * 0 = p
    omega
  · apply Fin.ext
    show q + 1 * r.val = q + r.val
    omega
  · apply Fin.ext
    show 0 + 1 * l.val = l.val
    omega

/-- An array of two axes read at numbers, zero outside. -/
def at2 {a b : ℕ} (f : (⟨2, ![a, b]⟩ : Shape).Idx → EReal) (x y : ℕ) : EReal :=
  if h : x < a ∧ y < b then f (ix2 ⟨x, h.1⟩ ⟨y, h.2⟩) else 0

/-- A load of a block of a matrix, read at an index. -/
theorem load_flat {a b n m : ℕ} {M : Memref sig .tc .vmem (⟨2, ![a, b]⟩ : Shape) .bf16} (X : M.view.ty.Contents (Elt Ideal))
    {off : Fin 2 → ℕ} (p q : ℕ) (h : off = ![p, q])
    (inb : ∀ x, off x + (⟨2, ![n, m]⟩ : Shape).size x ≤ (⟨2, ![a, b]⟩ : Shape).size x) (r : Fin n) (l : Fin m) :
    View.readAt (Elt Ideal) M.view (Rect.unit (s := (⟨2, ![a, b]⟩ : Shape)) off (⟨2, ![n, m]⟩ : Shape).size inb).toLoadRect X (ix2 r l)
      = at2 (M.view.read (Elt Ideal) X) (p + r.val) (q + l.val) := by
  subst h
  have h0 := inb 0
  have h1 := inb 1
  simp at h0 h1
  rw [View.readAt_apply]
  unfold at2
  rw [dif_pos ⟨by omega, by omega⟩]
  congr 1
  funext x
  fin_cases x
  · apply Fin.ext
    show p + 1 * r.val = p + r.val
    omega
  · apply Fin.ext
    show q + 1 * l.val = q + l.val
    omega

/-- The convolution of a plane of channels: 31 rows from the row after `n`, each by a tap's weight, and a bias. -/
def blockConv {a b c d e : ℕ} (g : (⟨3, ![a, b, 128]⟩ : Shape).Idx → EReal) (w : (⟨3, ![a, c, 128]⟩ : Shape).Idx → EReal) (v : (⟨3, ![d, e, 128]⟩ : Shape).Idx → EReal)
    (p n l : ℕ) : EReal :=
  (∑ t ∈ Finset.range 31, at3 g p (t + 1 + n) l * at3 w p t l) + at3 v p 0 l

/-- The first group of 64 rows of the trip's first block of channels. -/
theorem trip_y00 (arg12 : Memref sig .tc .vmem S16x32x128 .f32) (arg13 : Memref sig .tc .vmem S16x1x128 .f32) (arg21 : Memref sig .tc .vmem S16x288x128 .f32)
    (X12 : arg12.view.ty.Contents (Elt Ideal)) (X13 : arg13.view.ty.Contents (Elt Ideal)) (X21 : arg21.view.ty.Contents (Elt Ideal)) (k : Fin k0_t1_loop.trips)
    (r : Fin 64) (l : Fin 128) :
    (k0_pay12 (trip_k0_t1.sl.r_11 arg12 arg13 arg21 X12 X13 X21 k)) (ix3 0 r l)
      = blockConv (arg21.view.read (Elt Ideal) X21) (arg12.view.read (Elt Ideal) X12) (arg13.view.read (Elt Ideal) X13) (2 * k.val + 0) (0 + r.val) l.val := by
  unfold blockConv
  simp only [trip_k0_t1.sl.r_11, trip_k0_t1.sl.r_10, trip_k0_t1.sl.r_9, trip_k0_t1.sl.r_8, trip_k0_t1.sl.r_7, trip_k0_t1.sl.r_6, trip_k0_t1.sl.r_5, trip_k0_t1.sl.r_4, trip_k0_t1.sl.r_3, trip_k0_t1.sl.r_2, trip_k0_t1.sl.r_1, trip_k0_t1.sl.r]
  pointwise [k0_pay10, k0_pay11, k0_pay12, k0_pay2, k0_pay3, k0_pay4, k0_pay5, k0_pay6, k0_pay7, k0_pay8, k0_pay9]
  simp only [load_plane X21 (2 * k.val + 0) 28 (k0_off55_eq k ⟨0, by decide⟩), load_plane X12 (2 * k.val + 0) 27 (k0_off56_eq k ⟨0, by decide⟩), load_plane X21 (2 * k.val + 0) 29 (k0_off57_eq k ⟨0, by decide⟩), load_plane X12 (2 * k.val + 0) 28 (k0_off58_eq k ⟨0, by decide⟩), load_plane X21 (2 * k.val + 0) 30 (k0_off59_eq k ⟨0, by decide⟩), load_plane X12 (2 * k.val + 0) 29 (k0_off60_eq k ⟨0, by decide⟩), load_plane X21 (2 * k.val + 0) 31 (k0_off61_eq k ⟨0, by decide⟩), load_plane X12 (2 * k.val + 0) 30 (k0_off62_eq k ⟨0, by decide⟩), load_plane X13 (2 * k.val + 0) 0 (k0_off63_eq k ⟨0, by decide⟩), load_plane X12 (2 * k.val + 0) 22 (k0_off46_eq k ⟨0, by decide⟩), load_plane X21 (2 * k.val + 0) 24 (k0_off47_eq k ⟨0, by decide⟩), load_plane X12 (2 * k.val + 0) 23 (k0_off48_eq k ⟨0, by decide⟩), load_plane X21 (2 * k.val + 0) 25 (k0_off49_eq k ⟨0, by decide⟩), load_plane X12 (2 * k.val + 0) 24 (k0_off50_eq k ⟨0, by decide⟩), load_plane X21 (2 * k.val + 0) 26 (k0_off51_eq k ⟨0, by decide⟩), load_plane X12 (2 * k.val + 0) 25 (k0_off52_eq k ⟨0, by decide⟩), load_plane X21 (2 * k.val + 0) 27 (k0_off53_eq k ⟨0, by decide⟩), load_plane X12 (2 * k.val + 0) 26 (k0_off54_eq k ⟨0, by decide⟩), load_plane X21 (2 * k.val + 0) 23 (k0_off45_eq k ⟨0, by decide⟩), load_plane X21 (2 * k.val + 0) 19 (k0_off37_eq k ⟨0, by decide⟩), load_plane X12 (2 * k.val + 0) 18 (k0_off38_eq k ⟨0, by decide⟩), load_plane X21 (2 * k.val + 0) 20 (k0_off39_eq k ⟨0, by decide⟩), load_plane X12 (2 * k.val + 0) 19 (k0_off40_eq k ⟨0, by decide⟩), load_plane X21 (2 * k.val + 0) 21 (k0_off41_eq k ⟨0, by decide⟩), load_plane X12 (2 * k.val + 0) 20 (k0_off42_eq k ⟨0, by decide⟩), load_plane X21 (2 * k.val + 0) 22 (k0_off43_eq k ⟨0, by decide⟩), load_plane X12 (2 * k.val + 0) 21 (k0_off44_eq k ⟨0, by decide⟩), load_plane X21 (2 * k.val + 0) 18 (k0_off35_eq k ⟨0, by decide⟩), load_plane X12 (2 * k.val + 0) 17 (k0_off36_eq k ⟨0, by decide⟩), load_plane X12 (2 * k.val + 0) 13 (k0_off28_eq k ⟨0, by decide⟩), load_plane X21 (2 * k.val + 0) 15 (k0_off29_eq k ⟨0, by decide⟩), load_plane X12 (2 * k.val + 0) 14 (k0_off30_eq k ⟨0, by decide⟩), load_plane X21 (2 * k.val + 0) 16 (k0_off31_eq k ⟨0, by decide⟩), load_plane X12 (2 * k.val + 0) 15 (k0_off32_eq k ⟨0, by decide⟩), load_plane X21 (2 * k.val + 0) 17 (k0_off33_eq k ⟨0, by decide⟩), load_plane X12 (2 * k.val + 0) 16 (k0_off34_eq k ⟨0, by decide⟩), load_plane X21 (2 * k.val + 0) 14 (k0_off27_eq k ⟨0, by decide⟩), load_plane X21 (2 * k.val + 0) 10 (k0_off19_eq k ⟨0, by decide⟩), load_plane X12 (2 * k.val + 0) 9 (k0_off20_eq k ⟨0, by decide⟩), load_plane X21 (2 * k.val + 0) 11 (k0_off21_eq k ⟨0, by decide⟩), load_plane X12 (2 * k.val + 0) 10 (k0_off22_eq k ⟨0, by decide⟩), load_plane X21 (2 * k.val + 0) 12 (k0_off23_eq k ⟨0, by decide⟩), load_plane X12 (2 * k.val + 0) 11 (k0_off24_eq k ⟨0, by decide⟩), load_plane X21 (2 * k.val + 0) 13 (k0_off25_eq k ⟨0, by decide⟩), load_plane X12 (2 * k.val + 0) 12 (k0_off26_eq k ⟨0, by decide⟩), load_plane X12 (2 * k.val + 0) 8 (k0_off18_eq k ⟨0, by decide⟩), load_plane X21 (2 * k.val + 0) 9 (k0_off17_eq k ⟨0, by decide⟩), load_plane X21 (2 * k.val + 0) 5 (k0_off9_eq k ⟨0, by decide⟩), load_plane X12 (2 * k.val + 0) 4 (k0_off10_eq k ⟨0, by decide⟩), load_plane X21 (2 * k.val + 0) 6 (k0_off11_eq k ⟨0, by decide⟩), load_plane X12 (2 * k.val + 0) 5 (k0_off12_eq k ⟨0, by decide⟩), load_plane X21 (2 * k.val + 0) 7 (k0_off13_eq k ⟨0, by decide⟩), load_plane X12 (2 * k.val + 0) 6 (k0_off14_eq k ⟨0, by decide⟩), load_plane X21 (2 * k.val + 0) 8 (k0_off15_eq k ⟨0, by decide⟩), load_plane X12 (2 * k.val + 0) 7 (k0_off16_eq k ⟨0, by decide⟩), load_plane X21 (2 * k.val + 0) 1 (k0_off1_eq k ⟨0, by decide⟩), load_plane X12 (2 * k.val + 0) 0 (k0_off2_eq k ⟨0, by decide⟩), load_plane X21 (2 * k.val + 0) 2 (k0_off3_eq k ⟨0, by decide⟩), load_plane X12 (2 * k.val + 0) 1 (k0_off4_eq k ⟨0, by decide⟩), load_plane X21 (2 * k.val + 0) 3 (k0_off5_eq k ⟨0, by decide⟩), load_plane X12 (2 * k.val + 0) 2 (k0_off6_eq k ⟨0, by decide⟩), load_plane X21 (2 * k.val + 0) 4 (k0_off7_eq k ⟨0, by decide⟩), load_plane X12 (2 * k.val + 0) 3 (k0_off8_eq k ⟨0, by decide⟩)]
  simp only [sum_range_succ, Finset.sum_range_zero]
  simp only [Nat.reduceAdd, zero_add, add_zero, Nat.add_assoc, Fin.val_zero, Fin.isValue, Fin.coe_ofNat_eq_mod, Nat.zero_mod]

/-- The second group of 64 rows of the trip's first block of channels. -/
theorem trip_y01 (arg12 : Memref sig .tc .vmem S16x32x128 .f32) (arg13 : Memref sig .tc .vmem S16x1x128 .f32) (arg21 : Memref sig .tc .vmem S16x288x128 .f32)
    (X12 : arg12.view.ty.Contents (Elt Ideal)) (X13 : arg13.view.ty.Contents (Elt Ideal)) (X21 : arg21.view.ty.Contents (Elt Ideal)) (k : Fin k0_t1_loop.trips)
    (r : Fin 64) (l : Fin 128) :
    (k0_pay24 (trip_k0_t1.sl.r_22 arg12 arg13 arg21 X12 X13 X21 k)) (ix3 0 r l)
      = blockConv (arg21.view.read (Elt Ideal) X21) (arg12.view.read (Elt Ideal) X12) (arg13.view.read (Elt Ideal) X13) (2 * k.val + 0) (64 + r.val) l.val := by
  unfold blockConv
  simp only [trip_k0_t1.sl.r_22, trip_k0_t1.sl.r_21, trip_k0_t1.sl.r_20, trip_k0_t1.sl.r_19, trip_k0_t1.sl.r_18, trip_k0_t1.sl.r_17, trip_k0_t1.sl.r_16, trip_k0_t1.sl.r_15, trip_k0_t1.sl.r_14, trip_k0_t1.sl.r_13, trip_k0_t1.sl.r_12]
  pointwise [k0_pay13, k0_pay14, k0_pay15, k0_pay16, k0_pay17, k0_pay18, k0_pay19, k0_pay20, k0_pay21, k0_pay22, k0_pay23, k0_pay24]
  simp only [load_plane X21 (2 * k.val + 0) 92 (k0_off92_eq k ⟨0, by decide⟩), load_plane X12 (2 * k.val + 0) 27 (k0_off56_eq k ⟨0, by decide⟩), load_plane X21 (2 * k.val + 0) 93 (k0_off93_eq k ⟨0, by decide⟩), load_plane X12 (2 * k.val + 0) 28 (k0_off58_eq k ⟨0, by decide⟩), load_plane X21 (2 * k.val + 0) 94 (k0_off94_eq k ⟨0, by decide⟩), load_plane X12 (2 * k.val + 0) 29 (k0_off60_eq k ⟨0, by decide⟩), load_plane X21 (2 * k.val + 0) 95 (k0_off95_eq k ⟨0, by decide⟩), load_plane X12 (2 * k.val + 0) 30 (k0_off62_eq k ⟨0, by decide⟩), load_plane X13 (2 * k.val + 0) 0 (k0_off63_eq k ⟨0, by decide⟩), load_plane X12 (2 * k.val + 0) 22 (k0_off46_eq k ⟨0, by decide⟩), load_plane X21 (2 * k.val + 0) 88 (k0_off88_eq k ⟨0, by decide⟩), load_plane X12 (2 * k.val + 0) 23 (k0_off48_eq k ⟨0, by decide⟩), load_plane X21 (2 * k.val + 0) 89 (k0_off89_eq k ⟨0, by decide⟩), load_plane X12 (2 * k.val + 0) 24 (k0_off50_eq k ⟨0, by decide⟩), load_plane X21 (2 * k.val + 0) 90 (k0_off90_eq k ⟨0, by decide⟩), load_plane X12 (2 * k.val + 0) 25 (k0_off52_eq k ⟨0, by decide⟩), load_plane X21 (2 * k.val + 0) 91 (k0_off91_eq k ⟨0, by decide⟩), load_plane X12 (2 * k.val + 0) 26 (k0_off54_eq k ⟨0, by decide⟩), load_plane X21 (2 * k.val + 0) 87 (k0_off87_eq k ⟨0, by decide⟩), load_plane X21 (2 * k.val + 0) 83 (k0_off83_eq k ⟨0, by decide⟩), load_plane X12 (2 * k.val + 0) 18 (k0_off38_eq k ⟨0, by decide⟩), load_plane X21 (2 * k.val + 0) 84 (k0_off84_eq k ⟨0, by decide⟩), load_plane X12 (2 * k.val + 0) 19 (k0_off40_eq k ⟨0, by decide⟩), load_plane X21 (2 * k.val + 0) 85 (k0_off85_eq k ⟨0, by decide⟩), load_plane X12 (2 * k.val + 0) 20 (k0_off42_eq k ⟨0, by decide⟩), load_plane X21 (2 * k.val + 0) 86 (k0_off86_eq k ⟨0, by decide⟩), load_plane X12 (2 * k.val + 0) 21 (k0_off44_eq k ⟨0, by decide⟩), load_plane X12 (2 * k.val + 0) 13 (k0_off28_eq k ⟨0, by decide⟩), load_plane X21 (2 * k.val + 0) 79 (k0_off79_eq k ⟨0, by decide⟩), load_plane X12 (2 * k.val + 0) 14 (k0_off30_eq k ⟨0, by decide⟩), load_plane X21 (2 * k.val + 0) 80 (k0_off80_eq k ⟨0, by decide⟩), load_plane X12 (2 * k.val + 0) 15 (k0_off32_eq k ⟨0, by decide⟩), load_plane X21 (2 * k.val + 0) 81 (k0_off81_eq k ⟨0, by decide⟩), load_plane X12 (2 * k.val + 0) 16 (k0_off34_eq k ⟨0, by decide⟩), load_plane X21 (2 * k.val + 0) 82 (k0_off82_eq k ⟨0, by decide⟩), load_plane X12 (2 * k.val + 0) 17 (k0_off36_eq k ⟨0, by decide⟩), load_plane X21 (2 * k.val + 0) 78 (k0_off78_eq k ⟨0, by decide⟩), load_plane X21 (2 * k.val + 0) 74 (k0_off74_eq k ⟨0, by decide⟩), load_plane X12 (2 * k.val + 0) 9 (k0_off20_eq k ⟨0, by decide⟩), load_plane X21 (2 * k.val + 0) 75 (k0_off75_eq k ⟨0, by decide⟩), load_plane X12 (2 * k.val + 0) 10 (k0_off22_eq k ⟨0, by decide⟩), load_plane X21 (2 * k.val + 0) 76 (k0_off76_eq k ⟨0, by decide⟩), load_plane X12 (2 * k.val + 0) 11 (k0_off24_eq k ⟨0, by decide⟩), load_plane X21 (2 * k.val + 0) 77 (k0_off77_eq k ⟨0, by decide⟩), load_plane X12 (2 * k.val + 0) 12 (k0_off26_eq k ⟨0, by decide⟩), load_plane X12 (2 * k.val + 0) 8 (k0_off18_eq k ⟨0, by decide⟩), load_plane X21 (2 * k.val + 0) 73 (k0_off73_eq k ⟨0, by decide⟩), load_plane X21 (2 * k.val + 0) 69 (k0_off69_eq k ⟨0, by decide⟩), load_plane X12 (2 * k.val + 0) 4 (k0_off10_eq k ⟨0, by decide⟩), load_plane X21 (2 * k.val + 0) 70 (k0_off70_eq k ⟨0, by decide⟩), load_plane X12 (2 * k.val + 0) 5 (k0_off12_eq k ⟨0, by decide⟩), load_plane X21 (2 * k.val + 0) 71 (k0_off71_eq k ⟨0, by decide⟩), load_plane X12 (2 * k.val + 0) 6 (k0_off14_eq k ⟨0, by decide⟩), load_plane X21 (2 * k.val + 0) 72 (k0_off72_eq k ⟨0, by decide⟩), load_plane X12 (2 * k.val + 0) 7 (k0_off16_eq k ⟨0, by decide⟩), load_plane X21 (2 * k.val + 0) 65 (k0_off65_eq k ⟨0, by decide⟩), load_plane X12 (2 * k.val + 0) 0 (k0_off2_eq k ⟨0, by decide⟩), load_plane X21 (2 * k.val + 0) 66 (k0_off66_eq k ⟨0, by decide⟩), load_plane X12 (2 * k.val + 0) 1 (k0_off4_eq k ⟨0, by decide⟩), load_plane X21 (2 * k.val + 0) 67 (k0_off67_eq k ⟨0, by decide⟩), load_plane X12 (2 * k.val + 0) 2 (k0_off6_eq k ⟨0, by decide⟩), load_plane X21 (2 * k.val + 0) 68 (k0_off68_eq k ⟨0, by decide⟩), load_plane X12 (2 * k.val + 0) 3 (k0_off8_eq k ⟨0, by decide⟩)]
  simp only [sum_range_succ, Finset.sum_range_zero]
  simp only [Nat.reduceAdd, zero_add, add_zero, Nat.add_assoc, Fin.val_zero, Fin.isValue, Fin.coe_ofNat_eq_mod, Nat.zero_mod]
  simp only [← Nat.add_assoc, Nat.reduceAdd]

/-- The third group of 64 rows of the trip's first block of channels. -/
theorem trip_y02 (arg12 : Memref sig .tc .vmem S16x32x128 .f32) (arg13 : Memref sig .tc .vmem S16x1x128 .f32) (arg21 : Memref sig .tc .vmem S16x288x128 .f32)
    (X12 : arg12.view.ty.Contents (Elt Ideal)) (X13 : arg13.view.ty.Contents (Elt Ideal)) (X21 : arg21.view.ty.Contents (Elt Ideal)) (k : Fin k0_t1_loop.trips)
    (r : Fin 64) (l : Fin 128) :
    (k0_pay36 (trip_k0_t1.sl.r_35 arg12 arg13 arg21 X12 X13 X21 k)) (ix3 0 r l)
      = blockConv (arg21.view.read (Elt Ideal) X21) (arg12.view.read (Elt Ideal) X12) (arg13.view.read (Elt Ideal) X13) (2 * k.val + 0) (128 + r.val) l.val := by
  unfold blockConv
  simp only [trip_k0_t1.sl.r_35, trip_k0_t1.sl.r_34, trip_k0_t1.sl.r_33, trip_k0_t1.sl.r_32, trip_k0_t1.sl.r_31, trip_k0_t1.sl.r_30, trip_k0_t1.sl.r_29, trip_k0_t1.sl.r_28, trip_k0_t1.sl.r_27, trip_k0_t1.sl.r_26, trip_k0_t1.sl.r_25, trip_k0_t1.sl.r_24, trip_k0_t1.sl.r_23]
  pointwise [k0_pay25, k0_pay26, k0_pay27, k0_pay28, k0_pay29, k0_pay30, k0_pay31, k0_pay32, k0_pay33, k0_pay34, k0_pay35, k0_pay36]
  simp only [load_plane X12 (2 * k.val + 0) 27 (k0_off56_eq k ⟨0, by decide⟩), load_plane X21 (2 * k.val + 0) 157 (k0_off125_eq k ⟨0, by decide⟩), load_plane X12 (2 * k.val + 0) 28 (k0_off58_eq k ⟨0, by decide⟩), load_plane X21 (2 * k.val + 0) 158 (k0_off126_eq k ⟨0, by decide⟩), load_plane X12 (2 * k.val + 0) 29 (k0_off60_eq k ⟨0, by decide⟩), load_plane X21 (2 * k.val + 0) 159 (k0_off127_eq k ⟨0, by decide⟩), load_plane X12 (2 * k.val + 0) 30 (k0_off62_eq k ⟨0, by decide⟩), load_plane X13 (2 * k.val + 0) 0 (k0_off63_eq k ⟨0, by decide⟩), load_plane X21 (2 * k.val + 0) 156 (k0_off124_eq k ⟨0, by decide⟩), load_plane X21 (2 * k.val + 0) 152 (k0_off120_eq k ⟨0, by decide⟩), load_plane X12 (2 * k.val + 0) 23 (k0_off48_eq k ⟨0, by decide⟩), load_plane X21 (2 * k.val + 0) 153 (k0_off121_eq k ⟨0, by decide⟩), load_plane X12 (2 * k.val + 0) 24 (k0_off50_eq k ⟨0, by decide⟩), load_plane X21 (2 * k.val + 0) 154 (k0_off122_eq k ⟨0, by decide⟩), load_plane X12 (2 * k.val + 0) 25 (k0_off52_eq k ⟨0, by decide⟩), load_plane X21 (2 * k.val + 0) 155 (k0_off123_eq k ⟨0, by decide⟩), load_plane X12 (2 * k.val + 0) 26 (k0_off54_eq k ⟨0, by decide⟩), load_plane X12 (2 * k.val + 0) 22 (k0_off46_eq k ⟨0, by decide⟩), load_plane X21 (2 * k.val + 0) 151 (k0_off119_eq k ⟨0, by decide⟩), load_plane X21 (2 * k.val + 0) 147 (k0_off115_eq k ⟨0, by decide⟩), load_plane X12 (2 * k.val + 0) 18 (k0_off38_eq k ⟨0, by decide⟩), load_plane X21 (2 * k.val + 0) 148 (k0_off116_eq k ⟨0, by decide⟩), load_plane X12 (2 * k.val + 0) 19 (k0_off40_eq k ⟨0, by decide⟩), load_plane X21 (2 * k.val + 0) 149 (k0_off117_eq k ⟨0, by decide⟩), load_plane X12 (2 * k.val + 0) 20 (k0_off42_eq k ⟨0, by decide⟩), load_plane X21 (2 * k.val + 0) 150 (k0_off118_eq k ⟨0, by decide⟩), load_plane X12 (2 * k.val + 0) 21 (k0_off44_eq k ⟨0, by decide⟩), load_plane X12 (2 * k.val + 0) 13 (k0_off28_eq k ⟨0, by decide⟩), load_plane X21 (2 * k.val + 0) 143 (k0_off111_eq k ⟨0, by decide⟩), load_plane X12 (2 * k.val + 0) 14 (k0_off30_eq k ⟨0, by decide⟩), load_plane X21 (2 * k.val + 0) 144 (k0_off112_eq k ⟨0, by decide⟩), load_plane X12 (2 * k.val + 0) 15 (k0_off32_eq k ⟨0, by decide⟩), load_plane X21 (2 * k.val + 0) 145 (k0_off113_eq k ⟨0, by decide⟩), load_plane X12 (2 * k.val + 0) 16 (k0_off34_eq k ⟨0, by decide⟩), load_plane X21 (2 * k.val + 0) 146 (k0_off114_eq k ⟨0, by decide⟩), load_plane X12 (2 * k.val + 0) 17 (k0_off36_eq k ⟨0, by decide⟩), load_plane X21 (2 * k.val + 0) 142 (k0_off110_eq k ⟨0, by decide⟩), load_plane X21 (2 * k.val + 0) 138 (k0_off106_eq k ⟨0, by decide⟩), load_plane X12 (2 * k.val + 0) 9 (k0_off20_eq k ⟨0, by decide⟩), load_plane X21 (2 * k.val + 0) 139 (k0_off107_eq k ⟨0, by decide⟩), load_plane X12 (2 * k.val + 0) 10 (k0_off22_eq k ⟨0, by decide⟩), load_plane X21 (2 * k.val + 0) 140 (k0_off108_eq k ⟨0, by decide⟩), load_plane X12 (2 * k.val + 0) 11 (k0_off24_eq k ⟨0, by decide⟩), load_plane X21 (2 * k.val + 0) 141 (k0_off109_eq k ⟨0, by decide⟩), load_plane X12 (2 * k.val + 0) 12 (k0_off26_eq k ⟨0, by decide⟩), load_plane X12 (2 * k.val + 0) 8 (k0_off18_eq k ⟨0, by decide⟩), load_plane X21 (2 * k.val + 0) 137 (k0_off105_eq k ⟨0, by decide⟩), load_plane X21 (2 * k.val + 0) 133 (k0_off101_eq k ⟨0, by decide⟩), load_plane X12 (2 * k.val + 0) 4 (k0_off10_eq k ⟨0, by decide⟩), load_plane X21 (2 * k.val + 0) 134 (k0_off102_eq k ⟨0, by decide⟩), load_plane X12 (2 * k.val + 0) 5 (k0_off12_eq k ⟨0, by decide⟩), load_plane X21 (2 * k.val + 0) 135 (k0_off103_eq k ⟨0, by decide⟩), load_plane X12 (2 * k.val + 0) 6 (k0_off14_eq k ⟨0, by decide⟩), load_plane X21 (2 * k.val + 0) 136 (k0_off104_eq k ⟨0, by decide⟩), load_plane X12 (2 * k.val + 0) 7 (k0_off16_eq k ⟨0, by decide⟩), load_plane X21 (2 * k.val + 0) 129 (k0_off97_eq k ⟨0, by decide⟩), load_plane X12 (2 * k.val + 0) 0 (k0_off2_eq k ⟨0, by decide⟩), load_plane X21 (2 * k.val + 0) 130 (k0_off98_eq k ⟨0, by decide⟩), load_plane X12 (2 * k.val + 0) 1 (k0_off4_eq k ⟨0, by decide⟩), load_plane X21 (2 * k.val + 0) 131 (k0_off99_eq k ⟨0, by decide⟩), load_plane X12 (2 * k.val + 0) 2 (k0_off6_eq k ⟨0, by decide⟩), load_plane X21 (2 * k.val + 0) 132 (k0_off100_eq k ⟨0, by decide⟩), load_plane X12 (2 * k.val + 0) 3 (k0_off8_eq k ⟨0, by decide⟩)]
  simp only [sum_range_succ, Finset.sum_range_zero]
  simp only [Nat.reduceAdd, zero_add, add_zero, Nat.add_assoc, Fin.val_zero, Fin.isValue, Fin.coe_ofNat_eq_mod, Nat.zero_mod]
  simp only [← Nat.add_assoc, Nat.reduceAdd]

/-- The fourth group of 64 rows of the trip's first block of channels. -/
theorem trip_y03 (arg12 : Memref sig .tc .vmem S16x32x128 .f32) (arg13 : Memref sig .tc .vmem S16x1x128 .f32) (arg21 : Memref sig .tc .vmem S16x288x128 .f32)
    (X12 : arg12.view.ty.Contents (Elt Ideal)) (X13 : arg13.view.ty.Contents (Elt Ideal)) (X21 : arg21.view.ty.Contents (Elt Ideal)) (k : Fin k0_t1_loop.trips)
    (r : Fin 64) (l : Fin 128) :
    (trip_k0_t1.sl.r_48 arg12 arg13 arg21 X12 X13 X21 k) (ix3 0 r l)
      = blockConv (arg21.view.read (Elt Ideal) X21) (arg12.view.read (Elt Ideal) X12) (arg13.view.read (Elt Ideal) X13) (2 * k.val + 0) (192 + r.val) l.val := by
  unfold blockConv
  simp only [trip_k0_t1.sl.r_48, trip_k0_t1.sl.r_47, trip_k0_t1.sl.r_46, trip_k0_t1.sl.r_45, trip_k0_t1.sl.r_44, trip_k0_t1.sl.r_43, trip_k0_t1.sl.r_42, trip_k0_t1.sl.r_41, trip_k0_t1.sl.r_40, trip_k0_t1.sl.r_39, trip_k0_t1.sl.r_38, trip_k0_t1.sl.r_37, trip_k0_t1.sl.r_36]
  pointwise [k0_pay37, k0_pay38, k0_pay39, k0_pay40, k0_pay41, k0_pay42, k0_pay43, k0_pay44, k0_pay45, k0_pay46, k0_pay47, k0_pay48]
  simp only [load_plane X12 (2 * k.val + 0) 27 (k0_off56_eq k ⟨0, by decide⟩), load_plane X21 (2 * k.val + 0) 221 (k0_off157_eq k ⟨0, by decide⟩), load_plane X12 (2 * k.val + 0) 28 (k0_off58_eq k ⟨0, by decide⟩), load_plane X21 (2 * k.val + 0) 222 (k0_off158_eq k ⟨0, by decide⟩), load_plane X12 (2 * k.val + 0) 29 (k0_off60_eq k ⟨0, by decide⟩), load_plane X21 (2 * k.val + 0) 223 (k0_off159_eq k ⟨0, by decide⟩), load_plane X12 (2 * k.val + 0) 30 (k0_off62_eq k ⟨0, by decide⟩), load_plane X13 (2 * k.val + 0) 0 (k0_off63_eq k ⟨0, by decide⟩), load_plane X21 (2 * k.val + 0) 220 (k0_off156_eq k ⟨0, by decide⟩), load_plane X21 (2 * k.val + 0) 216 (k0_off152_eq k ⟨0, by decide⟩), load_plane X12 (2 * k.val + 0) 23 (k0_off48_eq k ⟨0, by decide⟩), load_plane X21 (2 * k.val + 0) 217 (k0_off153_eq k ⟨0, by decide⟩), load_plane X12 (2 * k.val + 0) 24 (k0_off50_eq k ⟨0, by decide⟩), load_plane X21 (2 * k.val + 0) 218 (k0_off154_eq k ⟨0, by decide⟩), load_plane X12 (2 * k.val + 0) 25 (k0_off52_eq k ⟨0, by decide⟩), load_plane X21 (2 * k.val + 0) 219 (k0_off155_eq k ⟨0, by decide⟩), load_plane X12 (2 * k.val + 0) 26 (k0_off54_eq k ⟨0, by decide⟩), load_plane X12 (2 * k.val + 0) 22 (k0_off46_eq k ⟨0, by decide⟩), load_plane X21 (2 * k.val + 0) 215 (k0_off151_eq k ⟨0, by decide⟩), load_plane X21 (2 * k.val + 0) 211 (k0_off147_eq k ⟨0, by decide⟩), load_plane X12 (2 * k.val + 0) 18 (k0_off38_eq k ⟨0, by decide⟩), load_plane X21 (2 * k.val + 0) 212 (k0_off148_eq k ⟨0, by decide⟩), load_plane X12 (2 * k.val + 0) 19 (k0_off40_eq k ⟨0, by decide⟩), load_plane X21 (2 * k.val + 0) 213 (k0_off149_eq k ⟨0, by decide⟩), load_plane X12 (2 * k.val + 0) 20 (k0_off42_eq k ⟨0, by decide⟩), load_plane X21 (2 * k.val + 0) 214 (k0_off150_eq k ⟨0, by decide⟩), load_plane X12 (2 * k.val + 0) 21 (k0_off44_eq k ⟨0, by decide⟩), load_plane X12 (2 * k.val + 0) 13 (k0_off28_eq k ⟨0, by decide⟩), load_plane X21 (2 * k.val + 0) 207 (k0_off143_eq k ⟨0, by decide⟩), load_plane X12 (2 * k.val + 0) 14 (k0_off30_eq k ⟨0, by decide⟩), load_plane X21 (2 * k.val + 0) 208 (k0_off144_eq k ⟨0, by decide⟩), load_plane X12 (2 * k.val + 0) 15 (k0_off32_eq k ⟨0, by decide⟩), load_plane X21 (2 * k.val + 0) 209 (k0_off145_eq k ⟨0, by decide⟩), load_plane X12 (2 * k.val + 0) 16 (k0_off34_eq k ⟨0, by decide⟩), load_plane X21 (2 * k.val + 0) 210 (k0_off146_eq k ⟨0, by decide⟩), load_plane X12 (2 * k.val + 0) 17 (k0_off36_eq k ⟨0, by decide⟩), load_plane X21 (2 * k.val + 0) 206 (k0_off142_eq k ⟨0, by decide⟩), load_plane X21 (2 * k.val + 0) 202 (k0_off138_eq k ⟨0, by decide⟩), load_plane X12 (2 * k.val + 0) 9 (k0_off20_eq k ⟨0, by decide⟩), load_plane X21 (2 * k.val + 0) 203 (k0_off139_eq k ⟨0, by decide⟩), load_plane X12 (2 * k.val + 0) 10 (k0_off22_eq k ⟨0, by decide⟩), load_plane X21 (2 * k.val + 0) 204 (k0_off140_eq k ⟨0, by decide⟩), load_plane X12 (2 * k.val + 0) 11 (k0_off24_eq k ⟨0, by decide⟩), load_plane X21 (2 * k.val + 0) 205 (k0_off141_eq k ⟨0, by decide⟩), load_plane X12 (2 * k.val + 0) 12 (k0_off26_eq k ⟨0, by decide⟩), load_plane X21 (2 * k.val + 0) 201 (k0_off137_eq k ⟨0, by decide⟩), load_plane X12 (2 * k.val + 0) 8 (k0_off18_eq k ⟨0, by decide⟩), load_plane X12 (2 * k.val + 0) 4 (k0_off10_eq k ⟨0, by decide⟩), load_plane X21 (2 * k.val + 0) 198 (k0_off134_eq k ⟨0, by decide⟩), load_plane X12 (2 * k.val + 0) 5 (k0_off12_eq k ⟨0, by decide⟩), load_plane X21 (2 * k.val + 0) 199 (k0_off135_eq k ⟨0, by decide⟩), load_plane X12 (2 * k.val + 0) 6 (k0_off14_eq k ⟨0, by decide⟩), load_plane X21 (2 * k.val + 0) 200 (k0_off136_eq k ⟨0, by decide⟩), load_plane X12 (2 * k.val + 0) 7 (k0_off16_eq k ⟨0, by decide⟩), load_plane X21 (2 * k.val + 0) 197 (k0_off133_eq k ⟨0, by decide⟩), load_plane X21 (2 * k.val + 0) 193 (k0_off129_eq k ⟨0, by decide⟩), load_plane X12 (2 * k.val + 0) 0 (k0_off2_eq k ⟨0, by decide⟩), load_plane X21 (2 * k.val + 0) 194 (k0_off130_eq k ⟨0, by decide⟩), load_plane X12 (2 * k.val + 0) 1 (k0_off4_eq k ⟨0, by decide⟩), load_plane X21 (2 * k.val + 0) 195 (k0_off131_eq k ⟨0, by decide⟩), load_plane X12 (2 * k.val + 0) 2 (k0_off6_eq k ⟨0, by decide⟩), load_plane X21 (2 * k.val + 0) 196 (k0_off132_eq k ⟨0, by decide⟩), load_plane X12 (2 * k.val + 0) 3 (k0_off8_eq k ⟨0, by decide⟩)]
  simp only [sum_range_succ, Finset.sum_range_zero]
  simp only [Nat.reduceAdd, zero_add, add_zero, Nat.add_assoc, Fin.val_zero, Fin.isValue, Fin.coe_ofNat_eq_mod, Nat.zero_mod]
  simp only [← Nat.add_assoc, Nat.reduceAdd]

/-- The first group of 64 rows of the trip's second block of channels. -/
theorem trip_y10 (arg12 : Memref sig .tc .vmem S16x32x128 .f32) (arg13 : Memref sig .tc .vmem S16x1x128 .f32) (arg21 : Memref sig .tc .vmem S16x288x128 .f32)
    (X12 : arg12.view.ty.Contents (Elt Ideal)) (X13 : arg13.view.ty.Contents (Elt Ideal)) (X21 : arg21.view.ty.Contents (Elt Ideal)) (k : Fin k0_t1_loop.trips)
    (r : Fin 64) (l : Fin 128) :
    (k0_pay59 (trip_k0_t1.sl.r_60 arg12 arg13 arg21 X12 X13 X21 k)) (ix3 0 r l)
      = blockConv (arg21.view.read (Elt Ideal) X21) (arg12.view.read (Elt Ideal) X12) (arg13.view.read (Elt Ideal) X13) (2 * k.val + 1) (0 + r.val) l.val := by
  unfold blockConv
  simp only [trip_k0_t1.sl.r_60, trip_k0_t1.sl.r_59, trip_k0_t1.sl.r_58, trip_k0_t1.sl.r_57, trip_k0_t1.sl.r_56, trip_k0_t1.sl.r_55, trip_k0_t1.sl.r_54, trip_k0_t1.sl.r_53, trip_k0_t1.sl.r_52, trip_k0_t1.sl.r_51, trip_k0_t1.sl.r_50, trip_k0_t1.sl.r_49]
  pointwise [k0_pay49, k0_pay50, k0_pay51, k0_pay52, k0_pay53, k0_pay54, k0_pay55, k0_pay56, k0_pay57, k0_pay58, k0_pay59]
  simp only [load_plane X21 (2 * k.val + 1) 28 (k0_off55_eq k ⟨1, by decide⟩), load_plane X12 (2 * k.val + 1) 27 (k0_off56_eq k ⟨1, by decide⟩), load_plane X21 (2 * k.val + 1) 29 (k0_off57_eq k ⟨1, by decide⟩), load_plane X12 (2 * k.val + 1) 28 (k0_off58_eq k ⟨1, by decide⟩), load_plane X21 (2 * k.val + 1) 30 (k0_off59_eq k ⟨1, by decide⟩), load_plane X12 (2 * k.val + 1) 29 (k0_off60_eq k ⟨1, by decide⟩), load_plane X21 (2 * k.val + 1) 31 (k0_off61_eq k ⟨1, by decide⟩), load_plane X12 (2 * k.val + 1) 30 (k0_off62_eq k ⟨1, by decide⟩), load_plane X13 (2 * k.val + 1) 0 (k0_off63_eq k ⟨1, by decide⟩), load_plane X12 (2 * k.val + 1) 22 (k0_off46_eq k ⟨1, by decide⟩), load_plane X21 (2 * k.val + 1) 24 (k0_off47_eq k ⟨1, by decide⟩), load_plane X12 (2 * k.val + 1) 23 (k0_off48_eq k ⟨1, by decide⟩), load_plane X21 (2 * k.val + 1) 25 (k0_off49_eq k ⟨1, by decide⟩), load_plane X12 (2 * k.val + 1) 24 (k0_off50_eq k ⟨1, by decide⟩), load_plane X21 (2 * k.val + 1) 26 (k0_off51_eq k ⟨1, by decide⟩), load_plane X12 (2 * k.val + 1) 25 (k0_off52_eq k ⟨1, by decide⟩), load_plane X21 (2 * k.val + 1) 27 (k0_off53_eq k ⟨1, by decide⟩), load_plane X12 (2 * k.val + 1) 26 (k0_off54_eq k ⟨1, by decide⟩), load_plane X21 (2 * k.val + 1) 23 (k0_off45_eq k ⟨1, by decide⟩), load_plane X21 (2 * k.val + 1) 19 (k0_off37_eq k ⟨1, by decide⟩), load_plane X12 (2 * k.val + 1) 18 (k0_off38_eq k ⟨1, by decide⟩), load_plane X21 (2 * k.val + 1) 20 (k0_off39_eq k ⟨1, by decide⟩), load_plane X12 (2 * k.val + 1) 19 (k0_off40_eq k ⟨1, by decide⟩), load_plane X21 (2 * k.val + 1) 21 (k0_off41_eq k ⟨1, by decide⟩), load_plane X12 (2 * k.val + 1) 20 (k0_off42_eq k ⟨1, by decide⟩), load_plane X21 (2 * k.val + 1) 22 (k0_off43_eq k ⟨1, by decide⟩), load_plane X12 (2 * k.val + 1) 21 (k0_off44_eq k ⟨1, by decide⟩), load_plane X21 (2 * k.val + 1) 18 (k0_off35_eq k ⟨1, by decide⟩), load_plane X12 (2 * k.val + 1) 17 (k0_off36_eq k ⟨1, by decide⟩), load_plane X12 (2 * k.val + 1) 13 (k0_off28_eq k ⟨1, by decide⟩), load_plane X21 (2 * k.val + 1) 15 (k0_off29_eq k ⟨1, by decide⟩), load_plane X12 (2 * k.val + 1) 14 (k0_off30_eq k ⟨1, by decide⟩), load_plane X21 (2 * k.val + 1) 16 (k0_off31_eq k ⟨1, by decide⟩), load_plane X12 (2 * k.val + 1) 15 (k0_off32_eq k ⟨1, by decide⟩), load_plane X21 (2 * k.val + 1) 17 (k0_off33_eq k ⟨1, by decide⟩), load_plane X12 (2 * k.val + 1) 16 (k0_off34_eq k ⟨1, by decide⟩), load_plane X21 (2 * k.val + 1) 14 (k0_off27_eq k ⟨1, by decide⟩), load_plane X21 (2 * k.val + 1) 10 (k0_off19_eq k ⟨1, by decide⟩), load_plane X12 (2 * k.val + 1) 9 (k0_off20_eq k ⟨1, by decide⟩), load_plane X21 (2 * k.val + 1) 11 (k0_off21_eq k ⟨1, by decide⟩), load_plane X12 (2 * k.val + 1) 10 (k0_off22_eq k ⟨1, by decide⟩), load_plane X21 (2 * k.val + 1) 12 (k0_off23_eq k ⟨1, by decide⟩), load_plane X12 (2 * k.val + 1) 11 (k0_off24_eq k ⟨1, by decide⟩), load_plane X21 (2 * k.val + 1) 13 (k0_off25_eq k ⟨1, by decide⟩), load_plane X12 (2 * k.val + 1) 12 (k0_off26_eq k ⟨1, by decide⟩), load_plane X12 (2 * k.val + 1) 8 (k0_off18_eq k ⟨1, by decide⟩), load_plane X21 (2 * k.val + 1) 9 (k0_off17_eq k ⟨1, by decide⟩), load_plane X21 (2 * k.val + 1) 5 (k0_off9_eq k ⟨1, by decide⟩), load_plane X12 (2 * k.val + 1) 4 (k0_off10_eq k ⟨1, by decide⟩), load_plane X21 (2 * k.val + 1) 6 (k0_off11_eq k ⟨1, by decide⟩), load_plane X12 (2 * k.val + 1) 5 (k0_off12_eq k ⟨1, by decide⟩), load_plane X21 (2 * k.val + 1) 7 (k0_off13_eq k ⟨1, by decide⟩), load_plane X12 (2 * k.val + 1) 6 (k0_off14_eq k ⟨1, by decide⟩), load_plane X21 (2 * k.val + 1) 8 (k0_off15_eq k ⟨1, by decide⟩), load_plane X12 (2 * k.val + 1) 7 (k0_off16_eq k ⟨1, by decide⟩), load_plane X21 (2 * k.val + 1) 1 (k0_off1_eq k ⟨1, by decide⟩), load_plane X12 (2 * k.val + 1) 0 (k0_off2_eq k ⟨1, by decide⟩), load_plane X21 (2 * k.val + 1) 2 (k0_off3_eq k ⟨1, by decide⟩), load_plane X12 (2 * k.val + 1) 1 (k0_off4_eq k ⟨1, by decide⟩), load_plane X21 (2 * k.val + 1) 3 (k0_off5_eq k ⟨1, by decide⟩), load_plane X12 (2 * k.val + 1) 2 (k0_off6_eq k ⟨1, by decide⟩), load_plane X21 (2 * k.val + 1) 4 (k0_off7_eq k ⟨1, by decide⟩), load_plane X12 (2 * k.val + 1) 3 (k0_off8_eq k ⟨1, by decide⟩)]
  simp only [sum_range_succ, Finset.sum_range_zero]
  simp only [Nat.reduceAdd, zero_add, add_zero, Nat.add_assoc, Fin.val_zero, Fin.isValue, Fin.coe_ofNat_eq_mod, Nat.zero_mod]

/-- The second group of 64 rows of the trip's second block of channels. -/
theorem trip_y11 (arg12 : Memref sig .tc .vmem S16x32x128 .f32) (arg13 : Memref sig .tc .vmem S16x1x128 .f32) (arg21 : Memref sig .tc .vmem S16x288x128 .f32)
    (X12 : arg12.view.ty.Contents (Elt Ideal)) (X13 : arg13.view.ty.Contents (Elt Ideal)) (X21 : arg21.view.ty.Contents (Elt Ideal)) (k : Fin k0_t1_loop.trips)
    (r : Fin 64) (l : Fin 128) :
    (k0_pay71 (trip_k0_t1.sl.r_71 arg12 arg13 arg21 X12 X13 X21 k)) (ix3 0 r l)
      = blockConv (arg21.view.read (Elt Ideal) X21) (arg12.view.read (Elt Ideal) X12) (arg13.view.read (Elt Ideal) X13) (2 * k.val + 1) (64 + r.val) l.val := by
  unfold blockConv
  simp only [trip_k0_t1.sl.r_71, trip_k0_t1.sl.r_70, trip_k0_t1.sl.r_69, trip_k0_t1.sl.r_68, trip_k0_t1.sl.r_67, trip_k0_t1.sl.r_66, trip_k0_t1.sl.r_65, trip_k0_t1.sl.r_64, trip_k0_t1.sl.r_63, trip_k0_t1.sl.r_62, trip_k0_t1.sl.r_61]
  pointwise [k0_pay60, k0_pay61, k0_pay62, k0_pay63, k0_pay64, k0_pay65, k0_pay66, k0_pay67, k0_pay68, k0_pay69, k0_pay70, k0_pay71]
  simp only [load_plane X21 (2 * k.val + 1) 92 (k0_off92_eq k ⟨1, by decide⟩), load_plane X12 (2 * k.val + 1) 27 (k0_off56_eq k ⟨1, by decide⟩), load_plane X21 (2 * k.val + 1) 93 (k0_off93_eq k ⟨1, by decide⟩), load_plane X12 (2 * k.val + 1) 28 (k0_off58_eq k ⟨1, by decide⟩), load_plane X21 (2 * k.val + 1) 94 (k0_off94_eq k ⟨1, by decide⟩), load_plane X12 (2 * k.val + 1) 29 (k0_off60_eq k ⟨1, by decide⟩), load_plane X21 (2 * k.val + 1) 95 (k0_off95_eq k ⟨1, by decide⟩), load_plane X12 (2 * k.val + 1) 30 (k0_off62_eq k ⟨1, by decide⟩), load_plane X13 (2 * k.val + 1) 0 (k0_off63_eq k ⟨1, by decide⟩), load_plane X12 (2 * k.val + 1) 22 (k0_off46_eq k ⟨1, by decide⟩), load_plane X21 (2 * k.val + 1) 88 (k0_off88_eq k ⟨1, by decide⟩), load_plane X12 (2 * k.val + 1) 23 (k0_off48_eq k ⟨1, by decide⟩), load_plane X21 (2 * k.val + 1) 89 (k0_off89_eq k ⟨1, by decide⟩), load_plane X12 (2 * k.val + 1) 24 (k0_off50_eq k ⟨1, by decide⟩), load_plane X21 (2 * k.val + 1) 90 (k0_off90_eq k ⟨1, by decide⟩), load_plane X12 (2 * k.val + 1) 25 (k0_off52_eq k ⟨1, by decide⟩), load_plane X21 (2 * k.val + 1) 91 (k0_off91_eq k ⟨1, by decide⟩), load_plane X12 (2 * k.val + 1) 26 (k0_off54_eq k ⟨1, by decide⟩), load_plane X21 (2 * k.val + 1) 87 (k0_off87_eq k ⟨1, by decide⟩), load_plane X21 (2 * k.val + 1) 83 (k0_off83_eq k ⟨1, by decide⟩), load_plane X12 (2 * k.val + 1) 18 (k0_off38_eq k ⟨1, by decide⟩), load_plane X21 (2 * k.val + 1) 84 (k0_off84_eq k ⟨1, by decide⟩), load_plane X12 (2 * k.val + 1) 19 (k0_off40_eq k ⟨1, by decide⟩), load_plane X21 (2 * k.val + 1) 85 (k0_off85_eq k ⟨1, by decide⟩), load_plane X12 (2 * k.val + 1) 20 (k0_off42_eq k ⟨1, by decide⟩), load_plane X21 (2 * k.val + 1) 86 (k0_off86_eq k ⟨1, by decide⟩), load_plane X12 (2 * k.val + 1) 21 (k0_off44_eq k ⟨1, by decide⟩), load_plane X12 (2 * k.val + 1) 13 (k0_off28_eq k ⟨1, by decide⟩), load_plane X21 (2 * k.val + 1) 79 (k0_off79_eq k ⟨1, by decide⟩), load_plane X12 (2 * k.val + 1) 14 (k0_off30_eq k ⟨1, by decide⟩), load_plane X21 (2 * k.val + 1) 80 (k0_off80_eq k ⟨1, by decide⟩), load_plane X12 (2 * k.val + 1) 15 (k0_off32_eq k ⟨1, by decide⟩), load_plane X21 (2 * k.val + 1) 81 (k0_off81_eq k ⟨1, by decide⟩), load_plane X12 (2 * k.val + 1) 16 (k0_off34_eq k ⟨1, by decide⟩), load_plane X21 (2 * k.val + 1) 82 (k0_off82_eq k ⟨1, by decide⟩), load_plane X12 (2 * k.val + 1) 17 (k0_off36_eq k ⟨1, by decide⟩), load_plane X21 (2 * k.val + 1) 78 (k0_off78_eq k ⟨1, by decide⟩), load_plane X21 (2 * k.val + 1) 74 (k0_off74_eq k ⟨1, by decide⟩), load_plane X12 (2 * k.val + 1) 9 (k0_off20_eq k ⟨1, by decide⟩), load_plane X21 (2 * k.val + 1) 75 (k0_off75_eq k ⟨1, by decide⟩), load_plane X12 (2 * k.val + 1) 10 (k0_off22_eq k ⟨1, by decide⟩), load_plane X21 (2 * k.val + 1) 76 (k0_off76_eq k ⟨1, by decide⟩), load_plane X12 (2 * k.val + 1) 11 (k0_off24_eq k ⟨1, by decide⟩), load_plane X21 (2 * k.val + 1) 77 (k0_off77_eq k ⟨1, by decide⟩), load_plane X12 (2 * k.val + 1) 12 (k0_off26_eq k ⟨1, by decide⟩), load_plane X12 (2 * k.val + 1) 8 (k0_off18_eq k ⟨1, by decide⟩), load_plane X21 (2 * k.val + 1) 73 (k0_off73_eq k ⟨1, by decide⟩), load_plane X21 (2 * k.val + 1) 69 (k0_off69_eq k ⟨1, by decide⟩), load_plane X12 (2 * k.val + 1) 4 (k0_off10_eq k ⟨1, by decide⟩), load_plane X21 (2 * k.val + 1) 70 (k0_off70_eq k ⟨1, by decide⟩), load_plane X12 (2 * k.val + 1) 5 (k0_off12_eq k ⟨1, by decide⟩), load_plane X21 (2 * k.val + 1) 71 (k0_off71_eq k ⟨1, by decide⟩), load_plane X12 (2 * k.val + 1) 6 (k0_off14_eq k ⟨1, by decide⟩), load_plane X21 (2 * k.val + 1) 72 (k0_off72_eq k ⟨1, by decide⟩), load_plane X12 (2 * k.val + 1) 7 (k0_off16_eq k ⟨1, by decide⟩), load_plane X21 (2 * k.val + 1) 65 (k0_off65_eq k ⟨1, by decide⟩), load_plane X12 (2 * k.val + 1) 0 (k0_off2_eq k ⟨1, by decide⟩), load_plane X21 (2 * k.val + 1) 66 (k0_off66_eq k ⟨1, by decide⟩), load_plane X12 (2 * k.val + 1) 1 (k0_off4_eq k ⟨1, by decide⟩), load_plane X21 (2 * k.val + 1) 67 (k0_off67_eq k ⟨1, by decide⟩), load_plane X12 (2 * k.val + 1) 2 (k0_off6_eq k ⟨1, by decide⟩), load_plane X21 (2 * k.val + 1) 68 (k0_off68_eq k ⟨1, by decide⟩), load_plane X12 (2 * k.val + 1) 3 (k0_off8_eq k ⟨1, by decide⟩)]
  simp only [sum_range_succ, Finset.sum_range_zero]
  simp only [Nat.reduceAdd, zero_add, add_zero, Nat.add_assoc, Fin.val_zero, Fin.isValue, Fin.coe_ofNat_eq_mod, Nat.zero_mod]
  simp only [← Nat.add_assoc, Nat.reduceAdd]

/-- The third group of 64 rows of the trip's second block of channels. -/
theorem trip_y12 (arg12 : Memref sig .tc .vmem S16x32x128 .f32) (arg13 : Memref sig .tc .vmem S16x1x128 .f32) (arg21 : Memref sig .tc .vmem S16x288x128 .f32)
    (X12 : arg12.view.ty.Contents (Elt Ideal)) (X13 : arg13.view.ty.Contents (Elt Ideal)) (X21 : arg21.view.ty.Contents (Elt Ideal)) (k : Fin k0_t1_loop.trips)
    (r : Fin 64) (l : Fin 128) :
    (k0_pay83 (trip_k0_t1.sl.r_84 arg12 arg13 arg21 X12 X13 X21 k)) (ix3 0 r l)
      = blockConv (arg21.view.read (Elt Ideal) X21) (arg12.view.read (Elt Ideal) X12) (arg13.view.read (Elt Ideal) X13) (2 * k.val + 1) (128 + r.val) l.val := by
  unfold blockConv
  simp only [trip_k0_t1.sl.r_84, trip_k0_t1.sl.r_83, trip_k0_t1.sl.r_82, trip_k0_t1.sl.r_81, trip_k0_t1.sl.r_80, trip_k0_t1.sl.r_79, trip_k0_t1.sl.r_78, trip_k0_t1.sl.r_77, trip_k0_t1.sl.r_76, trip_k0_t1.sl.r_75, trip_k0_t1.sl.r_74, trip_k0_t1.sl.r_73, trip_k0_t1.sl.r_72]
  pointwise [k0_pay72, k0_pay73, k0_pay74, k0_pay75, k0_pay76, k0_pay77, k0_pay78, k0_pay79, k0_pay80, k0_pay81, k0_pay82, k0_pay83]
  simp only [load_plane X12 (2 * k.val + 1) 27 (k0_off56_eq k ⟨1, by decide⟩), load_plane X21 (2 * k.val + 1) 157 (k0_off125_eq k ⟨1, by decide⟩), load_plane X12 (2 * k.val + 1) 28 (k0_off58_eq k ⟨1, by decide⟩), load_plane X21 (2 * k.val + 1) 158 (k0_off126_eq k ⟨1, by decide⟩), load_plane X12 (2 * k.val + 1) 29 (k0_off60_eq k ⟨1, by decide⟩), load_plane X21 (2 * k.val + 1) 159 (k0_off127_eq k ⟨1, by decide⟩), load_plane X12 (2 * k.val + 1) 30 (k0_off62_eq k ⟨1, by decide⟩), load_plane X13 (2 * k.val + 1) 0 (k0_off63_eq k ⟨1, by decide⟩), load_plane X21 (2 * k.val + 1) 156 (k0_off124_eq k ⟨1, by decide⟩), load_plane X21 (2 * k.val + 1) 152 (k0_off120_eq k ⟨1, by decide⟩), load_plane X12 (2 * k.val + 1) 23 (k0_off48_eq k ⟨1, by decide⟩), load_plane X21 (2 * k.val + 1) 153 (k0_off121_eq k ⟨1, by decide⟩), load_plane X12 (2 * k.val + 1) 24 (k0_off50_eq k ⟨1, by decide⟩), load_plane X21 (2 * k.val + 1) 154 (k0_off122_eq k ⟨1, by decide⟩), load_plane X12 (2 * k.val + 1) 25 (k0_off52_eq k ⟨1, by decide⟩), load_plane X21 (2 * k.val + 1) 155 (k0_off123_eq k ⟨1, by decide⟩), load_plane X12 (2 * k.val + 1) 26 (k0_off54_eq k ⟨1, by decide⟩), load_plane X12 (2 * k.val + 1) 22 (k0_off46_eq k ⟨1, by decide⟩), load_plane X21 (2 * k.val + 1) 151 (k0_off119_eq k ⟨1, by decide⟩), load_plane X21 (2 * k.val + 1) 147 (k0_off115_eq k ⟨1, by decide⟩), load_plane X12 (2 * k.val + 1) 18 (k0_off38_eq k ⟨1, by decide⟩), load_plane X21 (2 * k.val + 1) 148 (k0_off116_eq k ⟨1, by decide⟩), load_plane X12 (2 * k.val + 1) 19 (k0_off40_eq k ⟨1, by decide⟩), load_plane X21 (2 * k.val + 1) 149 (k0_off117_eq k ⟨1, by decide⟩), load_plane X12 (2 * k.val + 1) 20 (k0_off42_eq k ⟨1, by decide⟩), load_plane X21 (2 * k.val + 1) 150 (k0_off118_eq k ⟨1, by decide⟩), load_plane X12 (2 * k.val + 1) 21 (k0_off44_eq k ⟨1, by decide⟩), load_plane X12 (2 * k.val + 1) 13 (k0_off28_eq k ⟨1, by decide⟩), load_plane X21 (2 * k.val + 1) 143 (k0_off111_eq k ⟨1, by decide⟩), load_plane X12 (2 * k.val + 1) 14 (k0_off30_eq k ⟨1, by decide⟩), load_plane X21 (2 * k.val + 1) 144 (k0_off112_eq k ⟨1, by decide⟩), load_plane X12 (2 * k.val + 1) 15 (k0_off32_eq k ⟨1, by decide⟩), load_plane X21 (2 * k.val + 1) 145 (k0_off113_eq k ⟨1, by decide⟩), load_plane X12 (2 * k.val + 1) 16 (k0_off34_eq k ⟨1, by decide⟩), load_plane X21 (2 * k.val + 1) 146 (k0_off114_eq k ⟨1, by decide⟩), load_plane X12 (2 * k.val + 1) 17 (k0_off36_eq k ⟨1, by decide⟩), load_plane X21 (2 * k.val + 1) 142 (k0_off110_eq k ⟨1, by decide⟩), load_plane X21 (2 * k.val + 1) 138 (k0_off106_eq k ⟨1, by decide⟩), load_plane X12 (2 * k.val + 1) 9 (k0_off20_eq k ⟨1, by decide⟩), load_plane X21 (2 * k.val + 1) 139 (k0_off107_eq k ⟨1, by decide⟩), load_plane X12 (2 * k.val + 1) 10 (k0_off22_eq k ⟨1, by decide⟩), load_plane X21 (2 * k.val + 1) 140 (k0_off108_eq k ⟨1, by decide⟩), load_plane X12 (2 * k.val + 1) 11 (k0_off24_eq k ⟨1, by decide⟩), load_plane X21 (2 * k.val + 1) 141 (k0_off109_eq k ⟨1, by decide⟩), load_plane X12 (2 * k.val + 1) 12 (k0_off26_eq k ⟨1, by decide⟩), load_plane X12 (2 * k.val + 1) 8 (k0_off18_eq k ⟨1, by decide⟩), load_plane X21 (2 * k.val + 1) 137 (k0_off105_eq k ⟨1, by decide⟩), load_plane X21 (2 * k.val + 1) 133 (k0_off101_eq k ⟨1, by decide⟩), load_plane X12 (2 * k.val + 1) 4 (k0_off10_eq k ⟨1, by decide⟩), load_plane X21 (2 * k.val + 1) 134 (k0_off102_eq k ⟨1, by decide⟩), load_plane X12 (2 * k.val + 1) 5 (k0_off12_eq k ⟨1, by decide⟩), load_plane X21 (2 * k.val + 1) 135 (k0_off103_eq k ⟨1, by decide⟩), load_plane X12 (2 * k.val + 1) 6 (k0_off14_eq k ⟨1, by decide⟩), load_plane X21 (2 * k.val + 1) 136 (k0_off104_eq k ⟨1, by decide⟩), load_plane X12 (2 * k.val + 1) 7 (k0_off16_eq k ⟨1, by decide⟩), load_plane X21 (2 * k.val + 1) 129 (k0_off97_eq k ⟨1, by decide⟩), load_plane X12 (2 * k.val + 1) 0 (k0_off2_eq k ⟨1, by decide⟩), load_plane X21 (2 * k.val + 1) 130 (k0_off98_eq k ⟨1, by decide⟩), load_plane X12 (2 * k.val + 1) 1 (k0_off4_eq k ⟨1, by decide⟩), load_plane X21 (2 * k.val + 1) 131 (k0_off99_eq k ⟨1, by decide⟩), load_plane X12 (2 * k.val + 1) 2 (k0_off6_eq k ⟨1, by decide⟩), load_plane X21 (2 * k.val + 1) 132 (k0_off100_eq k ⟨1, by decide⟩), load_plane X12 (2 * k.val + 1) 3 (k0_off8_eq k ⟨1, by decide⟩)]
  simp only [sum_range_succ, Finset.sum_range_zero]
  simp only [Nat.reduceAdd, zero_add, add_zero, Nat.add_assoc, Fin.val_zero, Fin.isValue, Fin.coe_ofNat_eq_mod, Nat.zero_mod]
  simp only [← Nat.add_assoc, Nat.reduceAdd]

/-- The fourth group of 64 rows of the trip's second block of channels. -/
theorem trip_y13 (arg12 : Memref sig .tc .vmem S16x32x128 .f32) (arg13 : Memref sig .tc .vmem S16x1x128 .f32) (arg21 : Memref sig .tc .vmem S16x288x128 .f32)
    (X12 : arg12.view.ty.Contents (Elt Ideal)) (X13 : arg13.view.ty.Contents (Elt Ideal)) (X21 : arg21.view.ty.Contents (Elt Ideal)) (k : Fin k0_t1_loop.trips)
    (r : Fin 64) (l : Fin 128) :
    (trip_k0_t1.sl.r_97 arg12 arg13 arg21 X12 X13 X21 k) (ix3 0 r l)
      = blockConv (arg21.view.read (Elt Ideal) X21) (arg12.view.read (Elt Ideal) X12) (arg13.view.read (Elt Ideal) X13) (2 * k.val + 1) (192 + r.val) l.val := by
  unfold blockConv
  simp only [trip_k0_t1.sl.r_97, trip_k0_t1.sl.r_96, trip_k0_t1.sl.r_95, trip_k0_t1.sl.r_94, trip_k0_t1.sl.r_93, trip_k0_t1.sl.r_92, trip_k0_t1.sl.r_91, trip_k0_t1.sl.r_90, trip_k0_t1.sl.r_89, trip_k0_t1.sl.r_88, trip_k0_t1.sl.r_87, trip_k0_t1.sl.r_86, trip_k0_t1.sl.r_85]
  pointwise [k0_pay84, k0_pay85, k0_pay86, k0_pay87, k0_pay88, k0_pay89, k0_pay90, k0_pay91, k0_pay92, k0_pay93, k0_pay94, k0_pay95]
  simp only [load_plane X12 (2 * k.val + 1) 27 (k0_off56_eq k ⟨1, by decide⟩), load_plane X21 (2 * k.val + 1) 221 (k0_off157_eq k ⟨1, by decide⟩), load_plane X12 (2 * k.val + 1) 28 (k0_off58_eq k ⟨1, by decide⟩), load_plane X21 (2 * k.val + 1) 222 (k0_off158_eq k ⟨1, by decide⟩), load_plane X12 (2 * k.val + 1) 29 (k0_off60_eq k ⟨1, by decide⟩), load_plane X21 (2 * k.val + 1) 223 (k0_off159_eq k ⟨1, by decide⟩), load_plane X12 (2 * k.val + 1) 30 (k0_off62_eq k ⟨1, by decide⟩), load_plane X13 (2 * k.val + 1) 0 (k0_off63_eq k ⟨1, by decide⟩), load_plane X21 (2 * k.val + 1) 220 (k0_off156_eq k ⟨1, by decide⟩), load_plane X21 (2 * k.val + 1) 216 (k0_off152_eq k ⟨1, by decide⟩), load_plane X12 (2 * k.val + 1) 23 (k0_off48_eq k ⟨1, by decide⟩), load_plane X21 (2 * k.val + 1) 217 (k0_off153_eq k ⟨1, by decide⟩), load_plane X12 (2 * k.val + 1) 24 (k0_off50_eq k ⟨1, by decide⟩), load_plane X21 (2 * k.val + 1) 218 (k0_off154_eq k ⟨1, by decide⟩), load_plane X12 (2 * k.val + 1) 25 (k0_off52_eq k ⟨1, by decide⟩), load_plane X21 (2 * k.val + 1) 219 (k0_off155_eq k ⟨1, by decide⟩), load_plane X12 (2 * k.val + 1) 26 (k0_off54_eq k ⟨1, by decide⟩), load_plane X12 (2 * k.val + 1) 22 (k0_off46_eq k ⟨1, by decide⟩), load_plane X21 (2 * k.val + 1) 215 (k0_off151_eq k ⟨1, by decide⟩), load_plane X21 (2 * k.val + 1) 211 (k0_off147_eq k ⟨1, by decide⟩), load_plane X12 (2 * k.val + 1) 18 (k0_off38_eq k ⟨1, by decide⟩), load_plane X21 (2 * k.val + 1) 212 (k0_off148_eq k ⟨1, by decide⟩), load_plane X12 (2 * k.val + 1) 19 (k0_off40_eq k ⟨1, by decide⟩), load_plane X21 (2 * k.val + 1) 213 (k0_off149_eq k ⟨1, by decide⟩), load_plane X12 (2 * k.val + 1) 20 (k0_off42_eq k ⟨1, by decide⟩), load_plane X21 (2 * k.val + 1) 214 (k0_off150_eq k ⟨1, by decide⟩), load_plane X12 (2 * k.val + 1) 21 (k0_off44_eq k ⟨1, by decide⟩), load_plane X12 (2 * k.val + 1) 13 (k0_off28_eq k ⟨1, by decide⟩), load_plane X21 (2 * k.val + 1) 207 (k0_off143_eq k ⟨1, by decide⟩), load_plane X12 (2 * k.val + 1) 14 (k0_off30_eq k ⟨1, by decide⟩), load_plane X21 (2 * k.val + 1) 208 (k0_off144_eq k ⟨1, by decide⟩), load_plane X12 (2 * k.val + 1) 15 (k0_off32_eq k ⟨1, by decide⟩), load_plane X21 (2 * k.val + 1) 209 (k0_off145_eq k ⟨1, by decide⟩), load_plane X12 (2 * k.val + 1) 16 (k0_off34_eq k ⟨1, by decide⟩), load_plane X21 (2 * k.val + 1) 210 (k0_off146_eq k ⟨1, by decide⟩), load_plane X12 (2 * k.val + 1) 17 (k0_off36_eq k ⟨1, by decide⟩), load_plane X21 (2 * k.val + 1) 206 (k0_off142_eq k ⟨1, by decide⟩), load_plane X21 (2 * k.val + 1) 202 (k0_off138_eq k ⟨1, by decide⟩), load_plane X12 (2 * k.val + 1) 9 (k0_off20_eq k ⟨1, by decide⟩), load_plane X21 (2 * k.val + 1) 203 (k0_off139_eq k ⟨1, by decide⟩), load_plane X12 (2 * k.val + 1) 10 (k0_off22_eq k ⟨1, by decide⟩), load_plane X21 (2 * k.val + 1) 204 (k0_off140_eq k ⟨1, by decide⟩), load_plane X12 (2 * k.val + 1) 11 (k0_off24_eq k ⟨1, by decide⟩), load_plane X21 (2 * k.val + 1) 205 (k0_off141_eq k ⟨1, by decide⟩), load_plane X12 (2 * k.val + 1) 12 (k0_off26_eq k ⟨1, by decide⟩), load_plane X21 (2 * k.val + 1) 201 (k0_off137_eq k ⟨1, by decide⟩), load_plane X12 (2 * k.val + 1) 8 (k0_off18_eq k ⟨1, by decide⟩), load_plane X12 (2 * k.val + 1) 4 (k0_off10_eq k ⟨1, by decide⟩), load_plane X21 (2 * k.val + 1) 198 (k0_off134_eq k ⟨1, by decide⟩), load_plane X12 (2 * k.val + 1) 5 (k0_off12_eq k ⟨1, by decide⟩), load_plane X21 (2 * k.val + 1) 199 (k0_off135_eq k ⟨1, by decide⟩), load_plane X12 (2 * k.val + 1) 6 (k0_off14_eq k ⟨1, by decide⟩), load_plane X21 (2 * k.val + 1) 200 (k0_off136_eq k ⟨1, by decide⟩), load_plane X12 (2 * k.val + 1) 7 (k0_off16_eq k ⟨1, by decide⟩), load_plane X21 (2 * k.val + 1) 197 (k0_off133_eq k ⟨1, by decide⟩), load_plane X21 (2 * k.val + 1) 193 (k0_off129_eq k ⟨1, by decide⟩), load_plane X12 (2 * k.val + 1) 0 (k0_off2_eq k ⟨1, by decide⟩), load_plane X21 (2 * k.val + 1) 194 (k0_off130_eq k ⟨1, by decide⟩), load_plane X12 (2 * k.val + 1) 1 (k0_off4_eq k ⟨1, by decide⟩), load_plane X21 (2 * k.val + 1) 195 (k0_off131_eq k ⟨1, by decide⟩), load_plane X12 (2 * k.val + 1) 2 (k0_off6_eq k ⟨1, by decide⟩), load_plane X21 (2 * k.val + 1) 196 (k0_off132_eq k ⟨1, by decide⟩), load_plane X12 (2 * k.val + 1) 3 (k0_off8_eq k ⟨1, by decide⟩)]
  simp only [sum_range_succ, Finset.sum_range_zero]
  simp only [Nat.reduceAdd, zero_add, add_zero, Nat.add_assoc, Fin.val_zero, Fin.isValue, Fin.coe_ofNat_eq_mod, Nat.zero_mod]
  simp only [← Nat.add_assoc, Nat.reduceAdd]

/-- Every row of every plane by `blockConv`. -/
def convPlanes {d e : ℕ} (g : S16x288x128.Idx → EReal) (w : S16x32x128.Idx → EReal) (v : (⟨3, ![d, e, 128]⟩ : Shape).Idx → EReal) (y : S16x256x128.Idx) : EReal :=
  blockConv g w v (y 0).val (y 1).val (y 2).val

/-- A store of 64 rows that are `blockConv` is a block of `convPlanes`. -/
theorem conv_piece {d e : ℕ} {g : S16x288x128.Idx → EReal} {w : S16x32x128.Idx → EReal} {v : (⟨3, ![d, e, 128]⟩ : Shape).Idx → EReal} (p n : ℕ)
    {off : Fin 3 → ℕ} (h : off = ![p, n, 0]) (inb : ∀ a, off a + S1x64x128.size a ≤ S16x256x128.size a) {f : S1x64x128.Idx → EReal}
    (hf : ∀ (r : Fin 64) (l : Fin 128), f (ix3 0 r l) = blockConv g w v p (n + r.val) l.val) (x : S1x64x128.Idx) :
    f x = convPlanes g w v ((Rect.unit (s := S16x256x128) off S1x64x128.size inb).emb x) := by
  subst h
  have hx : x = ix3 0 (x 1) (x 2) := by
    funext a
    fin_cases a
    · exact Subsingleton.elim (α := Fin 1) _ _
    · rfl
    · rfl
  have h0 : (x 0).val = 0 := by
    have : (x 0).val < 1 := (x 0).isLt
    omega
  refine (congrArg f hx).trans ((hf (x 1) (x 2)).trans ?_)
  show _ = blockConv g w v (p + 1 * (x 0).val) (n + 1 * (x 1).val) (0 + 1 * (x 2).val)
  have hc {a b c a' b' c' : ℕ} (ha : a = a') (hb : b = b') (hc : c = c') : blockConv g w v a b c = blockConv g w v a' b' c' := by subst ha hb hc; rfl
  exact hc (by omega) (by omega) (by omega)

/-- What a trip stores of the convolution. -/
theorem trip_conv (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (v23 : FVec Ideal S16x2048 .f32) (v210 : FVec Ideal S256x128 .f32) (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty) (X_arg10 : BufTy.Contents (Elt Ideal) arg10.view.ty) (X_arg12 : BufTy.Contents (Elt Ideal) arg12.view.ty) (X_arg13 : BufTy.Contents (Elt Ideal) arg13.view.ty) (X_arg16 : BufTy.Contents (Elt Ideal) arg16.view.ty) (X_arg21 : BufTy.Contents (Elt Ideal) arg21.view.ty) (X_arg23 : BufTy.Contents (Elt Ideal) arg23.view.ty) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 k).1, ∀ x, p.2 x
      = convPlanes (arg21.view.read (Elt Ideal) X_arg21) (arg12.view.read (Elt Ideal) X_arg12) (arg13.view.read (Elt Ideal) X_arg13) (p.1.emb x) := by
  unfold trip_k0_t1
  intro p hp
  simp only [List.mem_cons, List.not_mem_nil, or_false] at hp
  rcases hp with rfl | rfl | rfl | rfl | rfl | rfl | rfl | rfl
  · exact conv_piece (2 * k.val + 1) 192 (k0_off160_eq k ⟨1, by decide⟩) (k0_off160_inb k 1) (trip_y13 arg12 arg13 arg21 X_arg12 X_arg13 X_arg21 k)
  · exact conv_piece (2 * k.val + 1) 128 (k0_off128_eq k ⟨1, by decide⟩) (k0_off128_inb k 1) (trip_y12 arg12 arg13 arg21 X_arg12 X_arg13 X_arg21 k)
  · exact conv_piece (2 * k.val + 1) 64 (k0_off96_eq k ⟨1, by decide⟩) (k0_off96_inb k 1) (trip_y11 arg12 arg13 arg21 X_arg12 X_arg13 X_arg21 k)
  · exact conv_piece (2 * k.val + 1) 0 (k0_off64_eq k ⟨1, by decide⟩) (k0_off64_inb k 1) (trip_y10 arg12 arg13 arg21 X_arg12 X_arg13 X_arg21 k)
  · exact conv_piece (2 * k.val + 0) 192 (k0_off160_eq k ⟨0, by decide⟩) (k0_off160_inb k 0) (trip_y03 arg12 arg13 arg21 X_arg12 X_arg13 X_arg21 k)
  · exact conv_piece (2 * k.val + 0) 128 (k0_off128_eq k ⟨0, by decide⟩) (k0_off128_inb k 0) (trip_y02 arg12 arg13 arg21 X_arg12 X_arg13 X_arg21 k)
  · exact conv_piece (2 * k.val + 0) 64 (k0_off96_eq k ⟨0, by decide⟩) (k0_off96_inb k 0) (trip_y01 arg12 arg13 arg21 X_arg12 X_arg13 X_arg21 k)
  · exact conv_piece (2 * k.val + 0) 0 (k0_off64_eq k ⟨0, by decide⟩) (k0_off64_inb k 0) (trip_y00 arg12 arg13 arg21 X_arg12 X_arg13 X_arg21 k)

/-- A trip's stores of the convolution cover its two planes. -/
theorem trip_conv_cover (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (v23 : FVec Ideal S16x2048 .f32) (v210 : FVec Ideal S256x128 .f32) (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty) (X_arg10 : BufTy.Contents (Elt Ideal) arg10.view.ty) (X_arg12 : BufTy.Contents (Elt Ideal) arg12.view.ty) (X_arg13 : BufTy.Contents (Elt Ideal) arg13.view.ty) (X_arg16 : BufTy.Contents (Elt Ideal) arg16.view.ty) (X_arg21 : BufTy.Contents (Elt Ideal) arg21.view.ty) (X_arg23 : BufTy.Contents (Elt Ideal) arg23.view.ty) (k : Fin k0_t1_loop.trips) (y : S16x256x128.Idx) (hy : (y 0).val / 2 = k.val) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 k).1, y ∈ p.1.set := by
  have h0 : (y 0).val < 16 := (y 0).isLt
  have h1 : (y 1).val < 256 := (y 1).isLt
  have h2 : (y 2).val < 128 := (y 2).isLt
  have hm (p n : ℕ) (off : Fin 3 → ℕ) (h : off = ![p, n, 0]) (inb : ∀ a, off a + S1x64x128.size a ≤ S16x256x128.size a)
      (hp : (y 0).val = p) (hn : n ≤ (y 1).val ∧ (y 1).val < n + 64) : y ∈ (Rect.unit (s := S16x256x128) off S1x64x128.size inb).set := by
    subst h
    rw [Rect.mem_set_unit]
    intro a
    fin_cases a
    · show p ≤ (y 0).val ∧ (y 0).val < p + 1
      omega
    · exact hn
    · show 0 ≤ (y 2).val ∧ (y 2).val < 0 + 128
      omega
  unfold trip_k0_t1
  simp only [List.mem_cons, List.not_mem_nil, or_false, exists_eq_or_imp, exists_eq_left]
  rcases (by omega : (y 0).val = 2 * k.val + 0 ∨ (y 0).val = 2 * k.val + 1) with hp | hp
  · rcases (by omega : (y 1).val < 64 ∨ (64 ≤ (y 1).val ∧ (y 1).val < 128) ∨ (128 ≤ (y 1).val ∧ (y 1).val < 192) ∨ 192 ≤ (y 1).val) with h | h | h | h
    · exact .inr (.inr (.inr (.inr (.inr (.inr (.inr (hm _ 0 _ (k0_off64_eq k ⟨0, by decide⟩) (k0_off64_inb k 0) hp (by omega))))))))
    · exact .inr (.inr (.inr (.inr (.inr (.inr (.inl (hm _ 64 _ (k0_off96_eq k ⟨0, by decide⟩) (k0_off96_inb k 0) hp (by omega))))))))
    · exact .inr (.inr (.inr (.inr (.inr (.inl (hm _ 128 _ (k0_off128_eq k ⟨0, by decide⟩) (k0_off128_inb k 0) hp (by omega)))))))
    · exact .inr (.inr (.inr (.inr (.inl (hm _ 192 _ (k0_off160_eq k ⟨0, by decide⟩) (k0_off160_inb k 0) hp (by omega))))))
  · rcases (by omega : (y 1).val < 64 ∨ (64 ≤ (y 1).val ∧ (y 1).val < 128) ∨ (128 ≤ (y 1).val ∧ (y 1).val < 192) ∨ 192 ≤ (y 1).val) with h | h | h | h
    · exact .inr (.inr (.inr (.inl (hm _ 0 _ (k0_off64_eq k ⟨1, by decide⟩) (k0_off64_inb k 1) hp (by omega)))))
    · exact .inr (.inr (.inl (hm _ 64 _ (k0_off96_eq k ⟨1, by decide⟩) (k0_off96_inb k 1) hp (by omega))))
    · exact .inr (.inl (hm _ 128 _ (k0_off128_eq k ⟨1, by decide⟩) (k0_off128_inb k 1) hp (by omega)))
    · exact .inl (hm _ 192 _ (k0_off160_eq k ⟨1, by decide⟩) (k0_off160_inb k 1) hp (by omega))

/-- Two gated products added: the slab `s` of the two products' sum. -/
def slabAt (o ga gb yc : S256x2048.Idx → EReal) (wg wc : S8x2048x256.Idx → EReal) (bc : S8x1x256.Idx → EReal) (s r l : ℕ) : EReal :=
  at2 ga r (256 * s + l) * (∑ k : Fin 2048, at2 o r k.val * at3 wg s k.val l)
    + at2 gb r (256 * s + l) * ((∑ k : Fin 2048, at2 yc r k.val * at3 wc s k.val l) + at3 bc s 0 l)

theorem pay152_at (o yc : Vec Ideal S256x2048 .bf16) (wg wc : Vec Ideal S1x2048x256 .bf16) (bc : Vec Ideal S1x1x256 .f32) (ga gb : Vec Ideal S256x256 .bf16)
    (r l : Fin 256) :
    k0_pay152 o wg yc wc bc ga gb (ix3 0 r l) = ga (ix2 r l) * (∑ k : Fin 2048, o (ix2 r k) * wg (ix3 0 k l))
      + gb (ix2 r l) * ((∑ k : Fin 2048, yc (ix2 r k) * wc (ix3 0 k l)) + bc (ix3 0 0 l)) := by
  pointwise [k0_pay152]

/-- Every slab. -/
def slabs (o ga gb yc : S256x2048.Idx → EReal) (wg wc : S8x2048x256.Idx → EReal) (bc : S8x1x256.Idx → EReal) (y : S8x256x256.Idx) : EReal :=
  slabAt o ga gb yc wg wc bc (y 0).val (y 1).val (y 2).val

/-- What a trip stores of the slabs. -/
theorem trip_slab (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (v23 : FVec Ideal S16x2048 .f32) (v210 : FVec Ideal S256x128 .f32) (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty) (X_arg10 : BufTy.Contents (Elt Ideal) arg10.view.ty) (X_arg12 : BufTy.Contents (Elt Ideal) arg12.view.ty) (X_arg13 : BufTy.Contents (Elt Ideal) arg13.view.ty) (X_arg16 : BufTy.Contents (Elt Ideal) arg16.view.ty) (X_arg21 : BufTy.Contents (Elt Ideal) arg21.view.ty) (X_arg23 : BufTy.Contents (Elt Ideal) arg23.view.ty) (k : Fin k0_t1_loop.trips) :
    ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 k).2.1, ∀ x, p.2 x
      = slabs (arg1.view.read (Elt Ideal) X_arg1) (arg2.view.read (Elt Ideal) X_arg2) (arg3.view.read (Elt Ideal) X_arg3) (arg23.view.read (Elt Ideal) X_arg23)
          (arg9.view.read (Elt Ideal) X_arg9) (arg10.view.read (Elt Ideal) X_arg10) (arg16.view.read (Elt Ideal) X_arg16) (p.1.emb x) := by
  have hk : k.val < 8 := Nat.lt_of_lt_of_le k.isLt k0_t1_abs.2.1
  unfold trip_k0_t1
  intro p hp
  simp only [List.mem_cons, List.not_mem_nil, or_false] at hp
  subst hp
  intro x
  change S1x256x256.Idx at x
  have hx : x = ix3 0 (x 1) (x 2) := by
    funext a
    fin_cases a
    · exact Subsingleton.elim (α := Fin 1) _ _
    · rfl
    · rfl
  have h0 : (x 0).val = 0 := by
    have : (x 0).val < 1 := (x 0).isLt
    omega
  refine (congrArg _ hx).trans ((pay152_at _ _ _ _ _ _ _ (x 1) (x 2)).trans ?_)
  have ho : (Rect.unit (s := S8x256x256) (k0_off164 k) S1x256x256.size (k0_off164_inb k)).emb x = ix3 ⟨k.val, hk⟩ (x 1) (x 2) := by
    funext a
    fin_cases a
    · apply Fin.ext
      show (k0_off164 k) 0 + 1 * (x 0).val = k.val
      rw [k0_off164_eq k, h0]
      rfl
    · apply Fin.ext
      show (k0_off164 k) 1 + 1 * (x 1).val = (x 1).val
      rw [k0_off164_eq k, one_mul]
      exact Nat.zero_add _
    · apply Fin.ext
      show (k0_off164 k) 2 + 1 * (x 2).val = (x 2).val
      rw [k0_off164_eq k, one_mul]
      exact Nat.zero_add _
  refine Eq.trans ?_ (congrArg (slabs _ _ _ _ _ _ _) ho).symm
  show _ = slabAt _ _ _ _ _ _ _ k.val (x 1).val (x 2).val
  unfold slabAt
  have hz {f : S256x2048.Idx → EReal} {p q : ℕ} : at2 f (0 + p) q = at2 f p q := by rw [Nat.zero_add]
  have hz' {f : S256x2048.Idx → EReal} {p q : ℕ} : at2 f (0 + p) (0 + q) = at2 f p q := by rw [Nat.zero_add, Nat.zero_add]
  have hy {f : S8x2048x256.Idx → EReal} {s p q : ℕ} : at3 f s (0 + p) q = at3 f s p q := by rw [Nat.zero_add]
  refine congrArg₂ (· + ·) (congrArg₂ (· * ·) ?_ (Finset.sum_congr rfl fun q _ => congrArg₂ (· * ·) ?_ ?_))
    (congrArg₂ (· * ·) ?_ (congrArg₂ (· + ·) (Finset.sum_congr rfl fun q _ => congrArg₂ (· * ·) ?_ ?_) ?_))
  · exact (load_flat X_arg2 0 (256 * k.val) (k0_off163_eq k) _ (x 1) (x 2)).trans hz
  · exact (load_flat X_arg1 0 0 rfl _ (x 1) q).trans hz'
  · exact (load_plane_bf16 X_arg9 k.val 0 (k0_off161_eq k) _ q (x 2)).trans hy
  · exact (load_flat X_arg3 0 (256 * k.val) (k0_off163_eq k) _ (x 1) (x 2)).trans hz
  · exact (load_flat X_arg23 0 0 rfl _ (x 1) q).trans hz'
  · exact (load_plane_bf16 X_arg10 k.val 0 (k0_off161_eq k) _ q (x 2)).trans hy
  · exact load_plane X_arg16 k.val 0 (k0_off162_eq k) _ 0 (x 2)

/-- A trip's store of its slab covers it. -/
theorem trip_slab_cover (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (v23 : FVec Ideal S16x2048 .f32) (v210 : FVec Ideal S256x128 .f32) (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty) (X_arg10 : BufTy.Contents (Elt Ideal) arg10.view.ty) (X_arg12 : BufTy.Contents (Elt Ideal) arg12.view.ty) (X_arg13 : BufTy.Contents (Elt Ideal) arg13.view.ty) (X_arg16 : BufTy.Contents (Elt Ideal) arg16.view.ty) (X_arg21 : BufTy.Contents (Elt Ideal) arg21.view.ty) (X_arg23 : BufTy.Contents (Elt Ideal) arg23.view.ty) (k : Fin k0_t1_loop.trips) (y : S8x256x256.Idx) (hy : (y 0).val = k.val) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 k).2.1, y ∈ p.1.set := by
  have h1 : (y 1).val < 256 := (y 1).isLt
  have h2 : (y 2).val < 256 := (y 2).isLt
  have hm (off : Fin 3 → ℕ) (h : off = ![k.val, 0, 0]) (inb : ∀ a, off a + S1x256x256.size a ≤ S8x256x256.size a) : y ∈ (Rect.unit (s := S8x256x256) off S1x256x256.size inb).set := by
    subst h
    rw [Rect.mem_set_unit]
    intro a
    fin_cases a
    · show k.val ≤ (y 0).val ∧ (y 0).val < k.val + 1
      omega
    · show 0 ≤ (y 1).val ∧ (y 1).val < 0 + 256
      omega
    · show 0 ≤ (y 2).val ∧ (y 2).val < 0 + 256
      omega
  unfold trip_k0_t1
  simp only [List.mem_cons, List.not_mem_nil, or_false, exists_eq_left]
  exact hm _ (k0_off164_eq k) _

/-- The loop's stores so far are blocks of the convolution and of the slabs. -/
theorem loop_pieces (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (v23 : FVec Ideal S16x2048 .f32) (v210 : FVec Ideal S256x128 .f32) (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty) (X_arg10 : BufTy.Contents (Elt Ideal) arg10.view.ty) (X_arg12 : BufTy.Contents (Elt Ideal) arg12.view.ty) (X_arg13 : BufTy.Contents (Elt Ideal) arg13.view.ty) (X_arg16 : BufTy.Contents (Elt Ideal) arg16.view.ty) (X_arg21 : BufTy.Contents (Elt Ideal) arg21.view.ty) (X_arg23 : BufTy.Contents (Elt Ideal) arg23.view.ty) (n : ℕ) (hn : n ≤ k0_t1_loop.trips) :
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 n).1, ∀ x, p.2 x
      = convPlanes (arg21.view.read (Elt Ideal) X_arg21) (arg12.view.read (Elt Ideal) X_arg12) (arg13.view.read (Elt Ideal) X_arg13) (p.1.emb x))
    ∧ (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 n).2, ∀ x, p.2 x
      = slabs (arg1.view.read (Elt Ideal) X_arg1) (arg2.view.read (Elt Ideal) X_arg2) (arg3.view.read (Elt Ideal) X_arg3) (arg23.view.read (Elt Ideal) X_arg23)
          (arg9.view.read (Elt Ideal) X_arg9) (arg10.view.read (Elt Ideal) X_arg10) (arg16.view.read (Elt Ideal) X_arg16) (p.1.emb x))
    ∧ (∀ y : S16x256x128.Idx, (y 0).val / 2 < n → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 n).1, y ∈ p.1.set)
    ∧ (∀ y : S8x256x256.Idx, (y 0).val < n → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 n).2, y ∈ p.1.set) := by
  induction n with
  | zero =>
    refine ⟨fun p hp => ?_, fun p hp => ?_, fun y hy => absurd hy (Nat.not_lt_zero _), fun y hy => absurd hy (Nat.not_lt_zero _)⟩
    · exact absurd hp List.not_mem_nil
    · exact absurd hp List.not_mem_nil
  | succ n ih =>
    obtain ⟨i1, i2, i3, i4⟩ := ih (by omega)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 ⟨n, hn⟩]
    refine ⟨fun p hp => ?_, fun p hp => ?_, fun y hy => ?_, fun y hy => ?_⟩
    · rcases List.mem_append.mp hp with h | h
      · exact trip_conv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 ⟨n, hn⟩ p h
      · exact i1 p h
    · rcases List.mem_append.mp hp with h | h
      · exact trip_slab 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 ⟨n, hn⟩ p h
      · exact i2 p h
    · rcases Nat.lt_succ_iff_lt_or_eq.mp hy with h | h
      · obtain ⟨p, hp, hy⟩ := i3 y h
        exact ⟨p, List.mem_append_right _ hp, hy⟩
      · obtain ⟨p, hp, hy⟩ := trip_conv_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 ⟨n, hn⟩ y h
        exact ⟨p, List.mem_append_left _ hp, hy⟩
    · rcases Nat.lt_succ_iff_lt_or_eq.mp hy with h | h
      · obtain ⟨p, hp, hy⟩ := i4 y h
        exact ⟨p, List.mem_append_right _ hp, hy⟩
      · obtain ⟨p, hp, hy⟩ := trip_slab_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 ⟨n, hn⟩ y h
        exact ⟨p, List.mem_append_left _ hp, hy⟩

/-- What the loop leaves of the convolution. -/
theorem loop_conv (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (v23 : FVec Ideal S16x2048 .f32) (v210 : FVec Ideal S256x128 .f32) (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty) (X_arg10 : BufTy.Contents (Elt Ideal) arg10.view.ty) (X_arg12 : BufTy.Contents (Elt Ideal) arg12.view.ty) (X_arg13 : BufTy.Contents (Elt Ideal) arg13.view.ty) (X_arg16 : BufTy.Contents (Elt Ideal) arg16.view.ty) (X_arg21 : BufTy.Contents (Elt Ideal) arg21.view.ty) (X_arg23 : BufTy.Contents (Elt Ideal) arg23.view.ty) : View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 k0_t1_loop.trips).1
      = convPlanes (arg21.view.read (Elt Ideal) X_arg21) (arg12.view.read (Elt Ideal) X_arg12) (arg13.view.read (Elt Ideal) X_arg13) := by
  obtain ⟨i1, i2, i3, i4⟩ := loop_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 k0_t1_loop.trips le_rfl
  funext y
  refine View.canon_apply_of_pieces _ _ i1 y (i3 y ?_)
  have h0 : (y 0).val < 16 := (y 0).isLt
  have h8 : k0_t1_loop.trips = 8 := by decide +kernel
  omega

/-- What the loop leaves of the slabs. -/
theorem loop_slabs (𝒱 : Variants) (c : Dev nD) (bd : Option 𝒱.V) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (v23 : FVec Ideal S16x2048 .f32) (v210 : FVec Ideal S256x128 .f32) (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty) (X_arg10 : BufTy.Contents (Elt Ideal) arg10.view.ty) (X_arg12 : BufTy.Contents (Elt Ideal) arg12.view.ty) (X_arg13 : BufTy.Contents (Elt Ideal) arg13.view.ty) (X_arg16 : BufTy.Contents (Elt Ideal) arg16.view.ty) (X_arg21 : BufTy.Contents (Elt Ideal) arg21.view.ty) (X_arg23 : BufTy.Contents (Elt Ideal) arg23.view.ty) : View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 k0_t1_loop.trips).2
      = slabs (arg1.view.read (Elt Ideal) X_arg1) (arg2.view.read (Elt Ideal) X_arg2) (arg3.view.read (Elt Ideal) X_arg3) (arg23.view.read (Elt Ideal) X_arg23)
          (arg9.view.read (Elt Ideal) X_arg9) (arg10.view.read (Elt Ideal) X_arg10) (arg16.view.read (Elt Ideal) X_arg16) := by
  obtain ⟨i1, i2, i3, i4⟩ := loop_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v23 v210 X_arg1 X_arg2 X_arg3 X_arg9 X_arg10 X_arg12 X_arg13 X_arg16 X_arg21 X_arg23 k0_t1_loop.trips le_rfl
  funext y
  refine View.canon_apply_of_pieces _ _ i2 y (i4 y ?_)
  have h0 : (y 0).val < 8 := (y 0).isLt
  have h8 : k0_t1_loop.trips = 8 := by decide +kernel
  omega

end Cert.Layer

end
-- ==== Proof.Layer.MixPieces.lean ====
/- THE PIECES OF THE `_mix` BODY OUTSIDE ITS LOOP, read at an index: the staged GLU rows, a row's mean and inverse deviation over the planes of
   channels, the activated rows, and the merged row's product, added and normalised. -/
module

public import proofs.«01_k».proof.Proof.Layer.MixTrip
public import proofs.«01_k».proof.Proof.Layer.MixMeaning

@[expose] public section

set_option maxRecDepth 8192
set_option maxHeartbeats 4000000

noncomputable section

namespace Cert.Layer

open Idealize.ShloMosaic
open Cert.Kernel3Ideal Cert.Kernel3Ideal.Gen
open Finset (sum_range_succ)

/-- A plane of an array of three axes, as an array whose first axis is one. -/
def planeOf {a b c : ℕ} (Y : (⟨3, ![a, b, c]⟩ : Shape).Idx → EReal) (p n m : ℕ) : (⟨3, ![1, n, m]⟩ : Shape).Idx → EReal :=
  fun x => at3 Y p (x 1).val (x 2).val

theorem planeOf_at {a b c : ℕ} (Y : (⟨3, ![a, b, c]⟩ : Shape).Idx → EReal) (p : ℕ) {n m : ℕ} (r : Fin n) (l : Fin m) :
    planeOf Y p n m (ix3 0 r l) = at3 Y p r.val l.val := rfl

/-- A row across the planes of 128 channels. -/
def planeRow {a b : ℕ} (Y : (⟨3, ![a, b, 128]⟩ : Shape).Idx → EReal) (r : ℕ) (k : Fin 2048) : EReal := at3 Y (k.val / 128) r (k.val % 128)

/-- A sum over 2048 channels is the sum over the 128 lanes of the sums over the sixteen planes. -/
theorem sum_planes (f : ℕ → ℕ → EReal) : (∑ k : Fin 2048, f (k.val / 128) (k.val % 128)) = ∑ l : Fin 128, ∑ c ∈ Finset.range 16, f c l.val := by
  rw [Finset.sum_comm]
  have h : ∀ n : ℕ, (∑ k ∈ Finset.range (128 * n), f (k / 128) (k % 128)) = ∑ c ∈ Finset.range n, ∑ l : Fin 128, f c l.val := by
    intro n
    induction n with
    | zero => simp
    | succ n ih =>
      rw [Nat.mul_succ, Finset.sum_range_add, ih, Finset.sum_range_succ (fun c => ∑ l : Fin 128, f c l.val) n, Fin.sum_univ_eq_sum_range (fun l => f n l)]
      congr 1
      refine Finset.sum_congr rfl fun l hl => ?_
      have := Finset.mem_range.mp hl
      rw [show (128 * n + l) / 128 = n by omega, show (128 * n + l) % 128 = l by omega]
  rw [← h 16, Fin.sum_univ_eq_sum_range (fun k => f (k / 128) (k % 128)) 2048]

/-- The rows' means, as the kernel forms them over the planes. -/
def meanVec {a b : ℕ} (Y : (⟨3, ![a, b, 128]⟩ : Shape).Idx → EReal) : FVec Ideal S256x1 .f32 :=
  (k0_pay158 (k0_pay157 (F := Ideal) (k0_pay156 (F := Ideal)) (planeOf Y 0 256 128) (planeOf Y 1 256 128) (planeOf Y 2 256 128) (planeOf Y 3 256 128) (planeOf Y 4 256 128) (planeOf Y 5 256 128) (planeOf Y 6 256 128) (planeOf Y 7 256 128) (planeOf Y 8 256 128) (planeOf Y 9 256 128)) (planeOf Y 10 256 128) (planeOf Y 11 256 128) (planeOf Y 12 256 128) (planeOf Y 13 256 128) (planeOf Y 14 256 128) (planeOf Y 15 256 128))

theorem meanVec_at {a b : ℕ} (Y : (⟨3, ![a, b, 128]⟩ : Shape).Idx → EReal) (r : Fin 256) : meanVec Y (ix2 r 0) = meanOf (planeRow Y r.val) := by
  unfold meanVec meanOf planeRow
  rw [sum_planes (fun c l => at3 Y c r.val l)]
  pointwise [k0_pay156, k0_pay157, k0_pay158]
  simp only [planeOf_at, sum_range_succ, Finset.sum_range_zero, zero_add]

/-- The sum of squares over the planes, as the kernel forms it, but the last. -/
def devVec {a b : ℕ} (Y : (⟨3, ![a, b, 128]⟩ : Shape).Idx → EReal) : FVec Ideal S256x128 .f32 :=
  (k0_pay163 (meanVec Y) (k0_pay160 (meanVec Y) (k0_pay159 (k0_pay157 (F := Ideal) (k0_pay156 (F := Ideal)) (planeOf Y 0 256 128) (planeOf Y 1 256 128) (planeOf Y 2 256 128) (planeOf Y 3 256 128) (planeOf Y 4 256 128) (planeOf Y 5 256 128) (planeOf Y 6 256 128) (planeOf Y 7 256 128) (planeOf Y 8 256 128) (planeOf Y 9 256 128)) (planeOf Y 10 256 128) (planeOf Y 11 256 128) (planeOf Y 12 256 128) (planeOf Y 13 256 128) (planeOf Y 14 256 128) (planeOf Y 15 256 128) (planeOf Y 0 256 128) (planeOf Y 1 256 128)) (planeOf Y 2 256 128) (planeOf Y 3 256 128) (planeOf Y 4 256 128) (planeOf Y 5 256 128) (planeOf Y 6 256 128) (planeOf Y 7 256 128)) (k0_pay161 (F := Ideal) (planeOf Y 8 256 128)) (k0_pay162 (F := Ideal) (meanVec Y)) (planeOf Y 9 256 128) (planeOf Y 10 256 128) (planeOf Y 11 256 128) (planeOf Y 12 256 128) (planeOf Y 13 256 128) (planeOf Y 14 256 128))

/-- The rows' inverse deviations. -/
def invVec {a b : ℕ} (Y : (⟨3, ![a, b, 128]⟩ : Shape).Idx → EReal) : FVec Ideal S256x1 .f32 := k0_pay164 (meanVec Y) (devVec Y) (planeOf Y 15 256 128)

theorem invVec_at {a b : ℕ} (Y : (⟨3, ![a, b, 128]⟩ : Shape).Idx → EReal) (r : Fin 256) : invVec Y (ix2 r 0)
    = Ideal.rsqrt (Ideal.div (∑ k : Fin 2048, (planeRow Y r.val k - meanOf (planeRow Y r.val)) * (planeRow Y r.val k - meanOf (planeRow Y r.val)))
        (Ideal.ofBits .f32 0x45000000#32) + Ideal.ofBits .f32 0x358637BD#32) := by
  have h : (k0_pay158 (k0_pay157 (F := Ideal) (k0_pay156 (F := Ideal)) (planeOf Y 0 256 128) (planeOf Y 1 256 128) (planeOf Y 2 256 128) (planeOf Y 3 256 128) (planeOf Y 4 256 128) (planeOf Y 5 256 128) (planeOf Y 6 256 128) (planeOf Y 7 256 128) (planeOf Y 8 256 128) (planeOf Y 9 256 128)) (planeOf Y 10 256 128) (planeOf Y 11 256 128) (planeOf Y 12 256 128) (planeOf Y 13 256 128) (planeOf Y 14 256 128) (planeOf Y 15 256 128)) = meanVec Y := rfl
  unfold invVec devVec
  have e : (∑ k : Fin 2048, (planeRow Y r.val k - meanOf (planeRow Y r.val)) * (planeRow Y r.val k - meanOf (planeRow Y r.val)))
      = ∑ l : Fin 128, ∑ c ∈ Finset.range 16, (at3 Y c r.val l.val - meanOf (planeRow Y r.val)) * (at3 Y c r.val l.val - meanOf (planeRow Y r.val)) :=
    sum_planes (fun c l => (at3 Y c r.val l - meanOf (planeRow Y r.val)) * (at3 Y c r.val l - meanOf (planeRow Y r.val)))
  rw [e]
  have hm := meanVec_at Y r
  rw [← hm]
  clear e hm
  unfold k0_pay159
  rw [h]
  generalize meanVec Y = m
  pointwise [k0_pay160, k0_pay161, k0_pay162, k0_pay163, k0_pay164]
  simp only [planeOf_at, sum_range_succ, Finset.sum_range_zero, zero_add]

theorem act0_at (m : FVec Ideal S256x1 .f32) (v : FVec Ideal S256x128 .f32) (y15 : Vec Ideal S1x256x128 .f32) (y : Vec Ideal S1x256x128 .f32) (g b : Vec Ideal S1x1x128 .f32) (r : Fin 256) (l : Fin 128) :
    (k0_pay165 m v y15 y g b) (ix2 r l) = siluOf ((y (ix3 0 r l) - m (ix2 r 0)) * (k0_pay164 m v y15) (ix2 r 0) * g (ix3 0 0 l) + b (ix3 0 0 l)) := by
  unfold siluOf
  pointwise [k0_pay165]
  simp only [zero_sub]

theorem act1_at (m iv : FVec Ideal S256x1 .f32) (y : Vec Ideal S1x256x128 .f32) (g b : Vec Ideal S1x1x128 .f32) (r : Fin 256) (l : Fin 128) :
    (k0_pay166 m iv y g b) (ix2 r l) = siluOf ((y (ix3 0 r l) - m (ix2 r 0)) * iv (ix2 r 0) * g (ix3 0 0 l) + b (ix3 0 0 l)) := by
  unfold siluOf
  pointwise [k0_pay166]
  simp only [zero_sub]

theorem act2_at (m iv : FVec Ideal S256x1 .f32) (y : Vec Ideal S1x256x128 .f32) (g b : Vec Ideal S1x1x128 .f32) (r : Fin 256) (l : Fin 128) :
    (k0_pay169 (k0_pay167 m iv y g) (k0_pay168 b)) (ix2 r l) = siluOf ((y (ix3 0 r l) - m (ix2 r 0)) * iv (ix2 r 0) * g (ix3 0 0 l) + b (ix3 0 0 l)) := by
  unfold siluOf
  pointwise [k0_pay167, k0_pay168, k0_pay169]
  simp only [zero_sub]

theorem act3_at (m iv : FVec Ideal S256x1 .f32) (y : Vec Ideal S1x256x128 .f32) (g b : Vec Ideal S1x1x128 .f32) (r : Fin 256) (l : Fin 128) :
    (k0_pay170 m iv y g b) (ix2 r l) = siluOf ((y (ix3 0 r l) - m (ix2 r 0)) * iv (ix2 r 0) * g (ix3 0 0 l) + b (ix3 0 0 l)) := by
  unfold siluOf
  pointwise [k0_pay170]
  simp only [zero_sub]

theorem act4_at (m iv : FVec Ideal S256x1 .f32) (y : Vec Ideal S1x256x128 .f32) (g b : Vec Ideal S1x1x128 .f32) (r : Fin 256) (l : Fin 128) :
    (k0_pay171 m iv y g b) (ix2 r l) = siluOf ((y (ix3 0 r l) - m (ix2 r 0)) * iv (ix2 r 0) * g (ix3 0 0 l) + b (ix3 0 0 l)) := by
  unfold siluOf
  pointwise [k0_pay171]
  simp only [zero_sub]

theorem act5_at (m iv : FVec Ideal S256x1 .f32) (y : Vec Ideal S1x256x128 .f32) (g b : Vec Ideal S1x1x128 .f32) (r : Fin 256) (l : Fin 128) :
    (k0_pay173 (k0_pay172 m iv y g) b) (ix2 r l) = siluOf ((y (ix3 0 r l) - m (ix2 r 0)) * iv (ix2 r 0) * g (ix3 0 0 l) + b (ix3 0 0 l)) := by
  unfold siluOf
  pointwise [k0_pay172, k0_pay173]
  simp only [zero_sub]

theorem act6_at (m iv : FVec Ideal S256x1 .f32) (y : Vec Ideal S1x256x128 .f32) (g b : Vec Ideal S1x1x128 .f32) (r : Fin 256) (l : Fin 128) :
    (k0_pay175 (k0_pay174 m iv y g b)) (ix2 r l) = siluOf ((y (ix3 0 r l) - m (ix2 r 0)) * iv (ix2 r 0) * g (ix3 0 0 l) + b (ix3 0 0 l)) := by
  unfold siluOf
  pointwise [k0_pay174, k0_pay175]
  simp only [zero_sub]

theorem act7_at (m iv : FVec Ideal S256x1 .f32) (y : Vec Ideal S1x256x128 .f32) (g b : Vec Ideal S1x1x128 .f32) (r : Fin 256) (l : Fin 128) :
    (k0_pay176 m iv y g b) (ix2 r l) = siluOf ((y (ix3 0 r l) - m (ix2 r 0)) * iv (ix2 r 0) * g (ix3 0 0 l) + b (ix3 0 0 l)) := by
  unfold siluOf
  pointwise [k0_pay176]
  simp only [zero_sub]

theorem act8_at (m iv : FVec Ideal S256x1 .f32) (y : Vec Ideal S1x256x128 .f32) (g b : Vec Ideal S1x1x128 .f32) (r : Fin 256) (l : Fin 128) :
    (k0_pay178 (k0_pay177 m iv y g) b) (ix2 r l) = siluOf ((y (ix3 0 r l) - m (ix2 r 0)) * iv (ix2 r 0) * g (ix3 0 0 l) + b (ix3 0 0 l)) := by
  unfold siluOf
  pointwise [k0_pay177, k0_pay178]
  simp only [zero_sub]

theorem act9_at (m iv : FVec Ideal S256x1 .f32) (y : Vec Ideal S1x256x128 .f32) (g b : Vec Ideal S1x1x128 .f32) (r : Fin 256) (l : Fin 128) :
    (k0_pay180 (k0_pay179 m iv y g b)) (ix2 r l) = siluOf ((y (ix3 0 r l) - m (ix2 r 0)) * iv (ix2 r 0) * g (ix3 0 0 l) + b (ix3 0 0 l)) := by
  unfold siluOf
  pointwise [k0_pay179, k0_pay180]
  simp only [zero_sub]

theorem act10_at (m iv : FVec Ideal S256x1 .f32) (y : Vec Ideal S1x256x128 .f32) (g b : Vec Ideal S1x1x128 .f32) (r : Fin 256) (l : Fin 128) :
    (k0_pay181 m iv y g b) (ix2 r l) = siluOf ((y (ix3 0 r l) - m (ix2 r 0)) * iv (ix2 r 0) * g (ix3 0 0 l) + b (ix3 0 0 l)) := by
  unfold siluOf
  pointwise [k0_pay181]
  simp only [zero_sub]

theorem act11_at (m iv : FVec Ideal S256x1 .f32) (y : Vec Ideal S1x256x128 .f32) (g b : Vec Ideal S1x1x128 .f32) (r : Fin 256) (l : Fin 128) :
    (k0_pay183 (k0_pay182 m iv y) g b) (ix2 r l) = siluOf ((y (ix3 0 r l) - m (ix2 r 0)) * iv (ix2 r 0) * g (ix3 0 0 l) + b (ix3 0 0 l)) := by
  unfold siluOf
  pointwise [k0_pay182, k0_pay183]
  simp only [zero_sub]

theorem act12_at (m iv : FVec Ideal S256x1 .f32) (y : Vec Ideal S1x256x128 .f32) (g b : Vec Ideal S1x1x128 .f32) (r : Fin 256) (l : Fin 128) :
    (k0_pay187 (k0_pay184 m iv y g b) (k0_pay185 m iv y g b) (k0_pay186 (F := Ideal))) (ix2 r l) = siluOf ((y (ix3 0 r l) - m (ix2 r 0)) * iv (ix2 r 0) * g (ix3 0 0 l) + b (ix3 0 0 l)) := by
  unfold siluOf
  pointwise [k0_pay184, k0_pay185, k0_pay186, k0_pay187]
  simp only [zero_sub]

theorem act13_at (m iv : FVec Ideal S256x1 .f32) (y : Vec Ideal S1x256x128 .f32) (g b : Vec Ideal S1x1x128 .f32) (r : Fin 256) (l : Fin 128) :
    (k0_pay188 m iv y g b) (ix2 r l) = siluOf ((y (ix3 0 r l) - m (ix2 r 0)) * iv (ix2 r 0) * g (ix3 0 0 l) + b (ix3 0 0 l)) := by
  unfold siluOf
  pointwise [k0_pay188]
  simp only [zero_sub]

theorem act14_at (m iv : FVec Ideal S256x1 .f32) (y : Vec Ideal S1x256x128 .f32) (g b : Vec Ideal S1x1x128 .f32) (r : Fin 256) (l : Fin 128) :
    (k0_pay190 (k0_pay189 m iv y) g b) (ix2 r l) = siluOf ((y (ix3 0 r l) - m (ix2 r 0)) * iv (ix2 r 0) * g (ix3 0 0 l) + b (ix3 0 0 l)) := by
  unfold siluOf
  pointwise [k0_pay189, k0_pay190]
  simp only [zero_sub]

theorem act15_at (m iv : FVec Ideal S256x1 .f32) (y : Vec Ideal S1x256x128 .f32) (g b : Vec Ideal S1x1x128 .f32) (r : Fin 256) (l : Fin 128) :
    (k0_pay1 (k0_pay191 m iv y g b) (k0_pay192 m iv y g b) (k0_pay193 (F := Ideal))) (ix2 r l) = siluOf ((y (ix3 0 r l) - m (ix2 r 0)) * iv (ix2 r 0) * g (ix3 0 0 l) + b (ix3 0 0 l)) := by
  unfold siluOf
  pointwise [k0_pay1, k0_pay191, k0_pay192, k0_pay193]
  simp only [zero_sub]

theorem next0_at (v : FVec Ideal S16x2048 .f32) (r : Fin 16) (l : Fin 128) : k0_pay103 v (ix3 0 r l) = v (ix2 r ⟨0 + l.val, by omega⟩) := by
  pointwise [k0_pay103]

theorem cur0_at (v : Vec Ideal S256x2048 .bf16) (r : Fin 256) (l : Fin 128) : k0_pay102 (k0_pay101 v) (ix3 0 r l) = k0_pay99 (F := Ideal) v (ix2 r ⟨0 + l.val, by omega⟩) := by
  pointwise [k0_pay102, k0_pay101]

theorem prev0_at (i : grid0.Coords) (a b : Vec Ideal S16x2048 .bf16) (r : Fin 16) (l : Fin 128) :
    k0_pay100 i a b (ix3 0 r l) = k0_pay97 (F := Ideal) i a b (ix2 r ⟨0 + l.val, by omega⟩) := by
  pointwise [k0_pay100]

theorem next1_at (v : FVec Ideal S16x2048 .f32) (r : Fin 16) (l : Fin 128) : k0_pay106 v (ix3 0 r l) = v (ix2 r ⟨128 + l.val, by omega⟩) := by
  pointwise [k0_pay106]

theorem cur1_at (v : FVec Ideal S256x2048 .f32) (r : Fin 256) (l : Fin 128) : (k0_pay105 v) (ix3 0 r l) = v (ix2 r ⟨128 + l.val, by omega⟩) := by
  pointwise [k0_pay105]

theorem prev1_at (v : FVec Ideal S16x2048 .f32) (r : Fin 16) (l : Fin 128) : k0_pay104 v (ix3 0 r l) = v (ix2 r ⟨128 + l.val, by omega⟩) := by
  pointwise [k0_pay104]

theorem next2_at (v : FVec Ideal S16x2048 .f32) (r : Fin 16) (l : Fin 128) : k0_pay109 v (ix3 0 r l) = v (ix2 r ⟨256 + l.val, by omega⟩) := by
  pointwise [k0_pay109]

theorem cur2_at (v : FVec Ideal S256x2048 .f32) (r : Fin 256) (l : Fin 128) : (k0_pay108 v) (ix3 0 r l) = v (ix2 r ⟨256 + l.val, by omega⟩) := by
  pointwise [k0_pay108]

theorem prev2_at (v : FVec Ideal S16x2048 .f32) (r : Fin 16) (l : Fin 128) : k0_pay107 v (ix3 0 r l) = v (ix2 r ⟨256 + l.val, by omega⟩) := by
  pointwise [k0_pay107]

theorem next3_at (v : FVec Ideal S16x2048 .f32) (r : Fin 16) (l : Fin 128) : k0_pay112 v (ix3 0 r l) = v (ix2 r ⟨384 + l.val, by omega⟩) := by
  pointwise [k0_pay112]

theorem cur3_at (v : FVec Ideal S256x2048 .f32) (r : Fin 256) (l : Fin 128) : (k0_pay111 v) (ix3 0 r l) = v (ix2 r ⟨384 + l.val, by omega⟩) := by
  pointwise [k0_pay111]

theorem prev3_at (v : FVec Ideal S16x2048 .f32) (r : Fin 16) (l : Fin 128) : k0_pay110 v (ix3 0 r l) = v (ix2 r ⟨384 + l.val, by omega⟩) := by
  pointwise [k0_pay110]

theorem next4_at (v : FVec Ideal S16x2048 .f32) (r : Fin 16) (l : Fin 128) : k0_pay115 v (ix3 0 r l) = v (ix2 r ⟨512 + l.val, by omega⟩) := by
  pointwise [k0_pay115]

theorem cur4_at (v : FVec Ideal S256x2048 .f32) (r : Fin 256) (l : Fin 128) : (k0_pay114 v) (ix3 0 r l) = v (ix2 r ⟨512 + l.val, by omega⟩) := by
  pointwise [k0_pay114]

theorem prev4_at (v : FVec Ideal S16x2048 .f32) (r : Fin 16) (l : Fin 128) : k0_pay113 v (ix3 0 r l) = v (ix2 r ⟨512 + l.val, by omega⟩) := by
  pointwise [k0_pay113]

theorem next5_at (v : FVec Ideal S16x2048 .f32) (r : Fin 16) (l : Fin 128) : k0_pay119 v (ix3 0 r l) = v (ix2 r ⟨640 + l.val, by omega⟩) := by
  pointwise [k0_pay119]

theorem cur5_at (v : FVec Ideal S256x2048 .f32) (r : Fin 256) (l : Fin 128) : (k0_pay118 (k0_pay117 v)) (ix3 0 r l) = v (ix2 r ⟨640 + l.val, by omega⟩) := by
  pointwise [k0_pay118, k0_pay117]

theorem prev5_at (v : FVec Ideal S16x2048 .f32) (r : Fin 16) (l : Fin 128) : k0_pay116 v (ix3 0 r l) = v (ix2 r ⟨640 + l.val, by omega⟩) := by
  pointwise [k0_pay116]

theorem next6_at (v : FVec Ideal S16x2048 .f32) (r : Fin 16) (l : Fin 128) : k0_pay122 v (ix3 0 r l) = v (ix2 r ⟨768 + l.val, by omega⟩) := by
  pointwise [k0_pay122]

theorem cur6_at (v : FVec Ideal S256x2048 .f32) (r : Fin 256) (l : Fin 128) : (k0_pay121 v) (ix3 0 r l) = v (ix2 r ⟨768 + l.val, by omega⟩) := by
  pointwise [k0_pay121]

theorem prev6_at (v : FVec Ideal S16x2048 .f32) (r : Fin 16) (l : Fin 128) : k0_pay120 v (ix3 0 r l) = v (ix2 r ⟨768 + l.val, by omega⟩) := by
  pointwise [k0_pay120]

theorem next7_at (v : FVec Ideal S16x2048 .f32) (r : Fin 16) (l : Fin 128) : k0_pay125 v (ix3 0 r l) = v (ix2 r ⟨896 + l.val, by omega⟩) := by
  pointwise [k0_pay125]

theorem cur7_at (v : FVec Ideal S256x2048 .f32) (r : Fin 256) (l : Fin 128) : (k0_pay124 v) (ix3 0 r l) = v (ix2 r ⟨896 + l.val, by omega⟩) := by
  pointwise [k0_pay124]

theorem prev7_at (v : FVec Ideal S16x2048 .f32) (r : Fin 16) (l : Fin 128) : k0_pay123 v (ix3 0 r l) = v (ix2 r ⟨896 + l.val, by omega⟩) := by
  pointwise [k0_pay123]

theorem next8_at (v : FVec Ideal S16x2048 .f32) (r : Fin 16) (l : Fin 128) : k0_pay128 v (ix3 0 r l) = v (ix2 r ⟨1024 + l.val, by omega⟩) := by
  pointwise [k0_pay128]

theorem cur8_at (v : FVec Ideal S256x2048 .f32) (r : Fin 256) (l : Fin 128) : (k0_pay127 v) (ix3 0 r l) = v (ix2 r ⟨1024 + l.val, by omega⟩) := by
  pointwise [k0_pay127]

theorem prev8_at (v : FVec Ideal S16x2048 .f32) (r : Fin 16) (l : Fin 128) : k0_pay126 v (ix3 0 r l) = v (ix2 r ⟨1024 + l.val, by omega⟩) := by
  pointwise [k0_pay126]

theorem next9_at (v : FVec Ideal S16x2048 .f32) (r : Fin 16) (l : Fin 128) : k0_pay131 v (ix3 0 r l) = v (ix2 r ⟨1152 + l.val, by omega⟩) := by
  pointwise [k0_pay131]

theorem cur9_at (v : FVec Ideal S256x2048 .f32) (r : Fin 256) (l : Fin 128) : (k0_pay130 v) (ix3 0 r l) = v (ix2 r ⟨1152 + l.val, by omega⟩) := by
  pointwise [k0_pay130]

theorem prev9_at (v : FVec Ideal S16x2048 .f32) (r : Fin 16) (l : Fin 128) : k0_pay129 v (ix3 0 r l) = v (ix2 r ⟨1152 + l.val, by omega⟩) := by
  pointwise [k0_pay129]

theorem next10_at (v : FVec Ideal S16x2048 .f32) (r : Fin 16) (l : Fin 128) : k0_pay135 v (ix3 0 r l) = v (ix2 r ⟨1280 + l.val, by omega⟩) := by
  pointwise [k0_pay135]

theorem cur10_at (v : FVec Ideal S256x2048 .f32) (r : Fin 256) (l : Fin 128) : (k0_pay134 (k0_pay133 v)) (ix3 0 r l) = v (ix2 r ⟨1280 + l.val, by omega⟩) := by
  pointwise [k0_pay134, k0_pay133]

theorem prev10_at (v : FVec Ideal S16x2048 .f32) (r : Fin 16) (l : Fin 128) : k0_pay132 v (ix3 0 r l) = v (ix2 r ⟨1280 + l.val, by omega⟩) := by
  pointwise [k0_pay132]

theorem next11_at (v : FVec Ideal S16x2048 .f32) (r : Fin 16) (l : Fin 128) : k0_pay138 v (ix3 0 r l) = v (ix2 r ⟨1408 + l.val, by omega⟩) := by
  pointwise [k0_pay138]

theorem cur11_at (v : FVec Ideal S256x2048 .f32) (r : Fin 256) (l : Fin 128) : (k0_pay137 v) (ix3 0 r l) = v (ix2 r ⟨1408 + l.val, by omega⟩) := by
  pointwise [k0_pay137]

theorem prev11_at (v : FVec Ideal S16x2048 .f32) (r : Fin 16) (l : Fin 128) : k0_pay136 v (ix3 0 r l) = v (ix2 r ⟨1408 + l.val, by omega⟩) := by
  pointwise [k0_pay136]

theorem next12_at (v : FVec Ideal S16x2048 .f32) (r : Fin 16) (l : Fin 128) : k0_pay141 v (ix3 0 r l) = v (ix2 r ⟨1536 + l.val, by omega⟩) := by
  pointwise [k0_pay141]

theorem cur12_at (v : FVec Ideal S256x2048 .f32) (r : Fin 256) (l : Fin 128) : (k0_pay140 v) (ix3 0 r l) = v (ix2 r ⟨1536 + l.val, by omega⟩) := by
  pointwise [k0_pay140]

theorem prev12_at (v : FVec Ideal S16x2048 .f32) (r : Fin 16) (l : Fin 128) : k0_pay139 v (ix3 0 r l) = v (ix2 r ⟨1536 + l.val, by omega⟩) := by
  pointwise [k0_pay139]

theorem next13_at (v : FVec Ideal S16x2048 .f32) (r : Fin 16) (l : Fin 128) : k0_pay144 v (ix3 0 r l) = v (ix2 r ⟨1664 + l.val, by omega⟩) := by
  pointwise [k0_pay144]

theorem cur13_at (v : FVec Ideal S256x2048 .f32) (r : Fin 256) (l : Fin 128) : (k0_pay143 v) (ix3 0 r l) = v (ix2 r ⟨1664 + l.val, by omega⟩) := by
  pointwise [k0_pay143]

theorem prev13_at (v : FVec Ideal S16x2048 .f32) (r : Fin 16) (l : Fin 128) : k0_pay142 v (ix3 0 r l) = v (ix2 r ⟨1664 + l.val, by omega⟩) := by
  pointwise [k0_pay142]

theorem next14_at (v : FVec Ideal S16x2048 .f32) (r : Fin 16) (l : Fin 128) : k0_pay147 v (ix3 0 r l) = v (ix2 r ⟨1792 + l.val, by omega⟩) := by
  pointwise [k0_pay147]

theorem cur14_at (v : FVec Ideal S256x2048 .f32) (r : Fin 256) (l : Fin 128) : (k0_pay146 v) (ix3 0 r l) = v (ix2 r ⟨1792 + l.val, by omega⟩) := by
  pointwise [k0_pay146]

theorem prev14_at (v : FVec Ideal S16x2048 .f32) (r : Fin 16) (l : Fin 128) : k0_pay145 v (ix3 0 r l) = v (ix2 r ⟨1792 + l.val, by omega⟩) := by
  pointwise [k0_pay145]

theorem next15_at (v : FVec Ideal S16x2048 .f32) (r : Fin 16) (l : Fin 128) : k0_pay151 v (ix3 0 r l) = v (ix2 r ⟨1920 + l.val, by omega⟩) := by
  pointwise [k0_pay151]

theorem cur15_at (v : FVec Ideal S256x2048 .f32) (r : Fin 256) (l : Fin 128) : (k0_pay150 (k0_pay149 v)) (ix3 0 r l) = v (ix2 r ⟨1920 + l.val, by omega⟩) := by
  pointwise [k0_pay150, k0_pay149]

theorem prev15_at (v : FVec Ideal S16x2048 .f32) (r : Fin 16) (l : Fin 128) : k0_pay148 v (ix3 0 r l) = v (ix2 r ⟨1920 + l.val, by omega⟩) := by
  pointwise [k0_pay148]

theorem current_at (v : Vec Ideal S256x2048 .bf16) (r : Fin 256) (j : Fin 2048) : k0_pay99 (F := Ideal) v (ix2 r j) = v (ix2 r j) := by
  pointwise [k0_pay99]

theorem added_at (u : FVec Ideal S256x2048 .bf16) (w : Vec Ideal S2048x2048 .bf16) (h : Vec Ideal S256x2048 .f32) (g : Vec Ideal S1x2048 .f32) (r : Fin 256) (j : Fin 2048) :
    k0_pay154 u w h g (ix2 r j) = addNormed (h (ix2 r j)) (fun j => ∑ k : Fin 2048, u (ix2 r k) * w (ix2 k j)) (g (ix2 0 j)) j := by
  unfold addNormed
  pointwise [k0_pay154]

theorem renormed_at (u : FVec Ideal S256x2048 .bf16) (w : Vec Ideal S2048x2048 .bf16) (h : Vec Ideal S256x2048 .f32) (g g' : Vec Ideal S1x2048 .f32) (r : Fin 256) (j : Fin 2048) :
    k0_pay155 u w h g g' (ix2 r j) = normedAt (fun j => k0_pay154 (F := Ideal) u w h g (ix2 r j)) (g' (ix2 0 j)) j := by
  unfold normedAt
  pointwise [k0_pay155]

/-- The merged row, its eight slabs side by side. -/
theorem merged_cat (M : S8x256x256.Idx → EReal) (r : Fin 256) (k : Fin 2048) :
    k0_pay153 (F := Ideal) (planeOf M 0 256 256) (planeOf M 1 256 256) (planeOf M 2 256 256) (planeOf M 3 256 256) (planeOf M 4 256 256) (planeOf M 5 256 256) (planeOf M 6 256 256) (planeOf M 7 256 256) (ix2 r k) = at3 M (k.val / 256) r.val (k.val % 256) := by
  pointwise [k0_pay153]
  simp only [planeOf_at]
  split_ifs <;> exact congrArg₂ (fun p q => at3 M p r.val q) (by omega) (by omega)

end Cert.Layer

end
-- ==== Proof.Layer.MixStep.lean ====
/- A STEP OF THE `_mix` BODY: what it leaves in the buffer carried from step to step, and in its two results' blocks. -/
module

public import proofs.«01_k».proof.Proof.Gen.Kernel3Ideal.Frame
public import proofs.«01_k».proof.Proof.Layer.MixPieces

@[expose] public section

set_option maxRecDepth 16384
set_option maxHeartbeats 8000000

noncomputable section

namespace Cert.Layer

open Idealize.ShloMosaic
open Cert.Kernel3Ideal Cert.Kernel3Ideal.Gen

/-! ## Loads and stores of planes -/

/-- A load of a plane from a buffer whose stores so far leave `Y`. -/
theorem cov_plane {a b c n m : ℕ} {e : EltTy} {M : Memref sig .tc .vmem (⟨3, ![a, b, c]⟩ : Shape) e} (Y : (⟨3, ![a, b, c]⟩ : Shape).Idx → Elt Ideal e)
    (G : (⟨3, ![1, n, m]⟩ : Shape).Idx → Elt Ideal e)
    (L : List (View.Piece (Elt Ideal) (⟨3, ![a, b, c]⟩ : Shape) e)) (hL : View.canon L = Y) (p : ℕ)
    (inb : ∀ x, (![p, 0, 0] : Fin 3 → ℕ) x + (⟨3, ![1, n, m]⟩ : Shape).size x ≤ (⟨3, ![a, b, c]⟩ : Shape).size x)
    (hG : ∀ (y : (⟨3, ![1, n, m]⟩ : Shape).Idx), Y ((Rect.unit (s := (⟨3, ![a, b, c]⟩ : Shape)) ![p, 0, 0] (⟨3, ![1, n, m]⟩ : Shape).size inb).emb y) = G y) :
    M.view.readCov L (Rect.unit (s := (⟨3, ![a, b, c]⟩ : Shape)) ![p, 0, 0] (⟨3, ![1, n, m]⟩ : Shape).size inb).toLoadRect = G := by
  rw [View.readCov_eq_canon', hL]
  exact funext hG

/-- A plane of an array, at the indices a store or a load of it names. -/
theorem emb_plane {a b c n m : ℕ} (Y : (⟨3, ![a, b, c]⟩ : Shape).Idx → EReal) (p : ℕ)
    (inb : ∀ x, (![p, 0, 0] : Fin 3 → ℕ) x + (⟨3, ![1, n, m]⟩ : Shape).size x ≤ (⟨3, ![a, b, c]⟩ : Shape).size x) (y : (⟨3, ![1, n, m]⟩ : Shape).Idx) :
    Y ((Rect.unit (s := (⟨3, ![a, b, c]⟩ : Shape)) ![p, 0, 0] (⟨3, ![1, n, m]⟩ : Shape).size inb).emb y) = planeOf Y p n m y := by
  have h0 := inb 0
  have h1 := inb 1
  have h2 := inb 2
  simp at h0 h1 h2
  have y0 : (y 0).val < 1 := (y 0).isLt
  have y1 : (y 1).val < n := (y 1).isLt
  have y2 : (y 2).val < m := (y 2).isLt
  unfold planeOf at3
  rw [dif_pos ⟨by omega, by omega, by omega⟩]
  congr 1
  funext x
  fin_cases x
  · apply Fin.ext
    show p + 1 * (y 0).val = p
    omega
  · apply Fin.ext
    show 0 + 1 * (y 1).val = (y 1).val
    omega
  · apply Fin.ext
    show 0 + 1 * (y 2).val = (y 2).val
    omega

theorem cov_plane32 {a b c n m : ℕ} {M : Memref sig .tc .vmem (⟨3, ![a, b, c]⟩ : Shape) .f32} (Y : (⟨3, ![a, b, c]⟩ : Shape).Idx → EReal)
    (L : List (View.Piece (Elt Ideal) (⟨3, ![a, b, c]⟩ : Shape) .f32)) (hL : View.canon L = Y) (p : ℕ)
    (inb : ∀ x, (![p, 0, 0] : Fin 3 → ℕ) x + (⟨3, ![1, n, m]⟩ : Shape).size x ≤ (⟨3, ![a, b, c]⟩ : Shape).size x) :
    M.view.readCov L (Rect.unit (s := (⟨3, ![a, b, c]⟩ : Shape)) ![p, 0, 0] (⟨3, ![1, n, m]⟩ : Shape).size inb).toLoadRect = planeOf Y p n m :=
  cov_plane Y (planeOf Y p n m) L hL p inb (emb_plane Y p inb)

theorem cov_plane16 {a b c n m : ℕ} {M : Memref sig .tc .vmem (⟨3, ![a, b, c]⟩ : Shape) .bf16} (Y : (⟨3, ![a, b, c]⟩ : Shape).Idx → EReal)
    (L : List (View.Piece (Elt Ideal) (⟨3, ![a, b, c]⟩ : Shape) .bf16)) (hL : View.canon L = Y) (p : ℕ)
    (inb : ∀ x, (![p, 0, 0] : Fin 3 → ℕ) x + (⟨3, ![1, n, m]⟩ : Shape).size x ≤ (⟨3, ![a, b, c]⟩ : Shape).size x) :
    M.view.readCov L (Rect.unit (s := (⟨3, ![a, b, c]⟩ : Shape)) ![p, 0, 0] (⟨3, ![1, n, m]⟩ : Shape).size inb).toLoadRect = planeOf Y p n m :=
  cov_plane Y (planeOf Y p n m) L hL p inb (emb_plane Y p inb)

/-- A load of a plane of a whole buffer. -/
theorem load_planeOf {a b c n m : ℕ} {M : Memref sig .tc .vmem (⟨3, ![a, b, c]⟩ : Shape) .f32} (hM : M.IsWhole) (u : (⟨3, ![a, b, c]⟩ : Shape).Idx → EReal) (p : ℕ)
    (inb : ∀ x, (![p, 0, 0] : Fin 3 → ℕ) x + (⟨3, ![1, n, m]⟩ : Shape).size x ≤ (⟨3, ![a, b, c]⟩ : Shape).size x) :
    View.readAt (Elt Ideal) M.view (Rect.unit (s := (⟨3, ![a, b, c]⟩ : Shape)) ![p, 0, 0] (⟨3, ![1, n, m]⟩ : Shape).size inb).toLoadRect (hM.unread u) = planeOf u p n m := by
  funext y
  rw [View.readAt_apply, hM.read_unread]
  exact emb_plane u p inb y

theorem zeros2 : ∀ a : Fin 2, (![0, 0] : Fin 2 → ℕ) a = 0 := by decide

/-- A load of a whole buffer of two axes. -/
theorem load_all {n m : ℕ} {e : EltTy} {M : Memref sig .tc .vmem (⟨2, ![n, m]⟩ : Shape) e} (hM : M.IsWhole) (u : (⟨2, ![n, m]⟩ : Shape).Idx → Elt Ideal e)
    (inb : ∀ x, (![0, 0] : Fin 2 → ℕ) x + (⟨2, ![n, m]⟩ : Shape).size x ≤ (⟨2, ![n, m]⟩ : Shape).size x) :
    View.readAt (Elt Ideal) M.view (Rect.unit (s := (⟨2, ![n, m]⟩ : Shape)) ![0, 0] (⟨2, ![n, m]⟩ : Shape).size inb).toLoadRect (hM.unread u) = u := by
  funext y
  rw [View.readAt_apply, hM.read_unread]
  exact congrFun (View.ld_unit_lit inb u zeros2) y

/-- A store of rows of a plane is a block of an array given by its entries. -/
theorem plane_piece {a b c n m : ℕ} (G : ℕ → ℕ → ℕ → EReal) (p q : ℕ)
    (inb : ∀ x, (![p, q, 0] : Fin 3 → ℕ) x + (⟨3, ![1, n, m]⟩ : Shape).size x ≤ (⟨3, ![a, b, c]⟩ : Shape).size x)
    (f : (⟨3, ![1, n, m]⟩ : Shape).Idx → EReal) (h : ∀ (r : Fin n) (l : Fin m), f (ix3 0 r l) = G p (q + r.val) l.val) (x : (⟨3, ![1, n, m]⟩ : Shape).Idx) :
    f x = (fun y : (⟨3, ![a, b, c]⟩ : Shape).Idx => G (y 0).val (y 1).val (y 2).val)
      ((Rect.unit (s := (⟨3, ![a, b, c]⟩ : Shape)) ![p, q, 0] (⟨3, ![1, n, m]⟩ : Shape).size inb).emb x) := by
  have x0 : (x 0).val < 1 := (x 0).isLt
  have hx : x = ix3 0 ((x 1 : Fin n)) ((x 2 : Fin m)) := by
    funext a
    fin_cases a
    · exact Fin.ext (by show (x 0).val = 0; omega)
    · rfl
    · rfl
  refine (congrArg f hx).trans ((h (x 1) (x 2)).trans ?_)
  show G p (q + (x 1).val) (x 2).val = G (p + 1 * (x 0).val) (q + 1 * (x 1).val) (0 + 1 * (x 2).val)
  congr 1 <;> omega

/-- A store of a block of an array of two axes given by its entries. -/
theorem flat_piece {a b n m : ℕ} (G : ℕ → ℕ → EReal) (p q : ℕ)
    (inb : ∀ x, (![p, q] : Fin 2 → ℕ) x + (⟨2, ![n, m]⟩ : Shape).size x ≤ (⟨2, ![a, b]⟩ : Shape).size x)
    (f : (⟨2, ![n, m]⟩ : Shape).Idx → EReal) (h : ∀ (r : Fin n) (l : Fin m), f (ix2 r l) = G (p + r.val) (q + l.val)) (x : (⟨2, ![n, m]⟩ : Shape).Idx) :
    f x = (fun y : (⟨2, ![a, b]⟩ : Shape).Idx => G (y 0).val (y 1).val)
      ((Rect.unit (s := (⟨2, ![a, b]⟩ : Shape)) ![p, q] (⟨2, ![n, m]⟩ : Shape).size inb).emb x) := by
  have hx : x = ix2 ((x 0 : Fin n)) ((x 1 : Fin m)) := by
    funext a
    fin_cases a
    · rfl
    · rfl
  refine (congrArg f hx).trans ((h (x 0) (x 1)).trans ?_)
  show G (p + (x 0).val) (q + (x 1).val) = G (p + 1 * (x 0).val) (q + 1 * (x 1).val)
  rw [one_mul, one_mul]

/-- What a list of stores leaves where its first stores are blocks of one array and reach the place, whatever was stored before them. -/
theorem canon_blocks {S : Shape} {e : EltTy} (G : S.Idx → Elt Ideal e) (L' : List (View.Piece (Elt Ideal) S e)) :
    ∀ (L : List (View.Piece (Elt Ideal) S e)) (_ : ∀ p ∈ L, ∀ x : p.1.shape.Idx, p.2 x = G (p.1.emb x)) (y : S.Idx) (_ : ∃ p ∈ L, y ∈ p.1.set),
      View.canon (L ++ L') y = G y
  | [], _, _, hy => by obtain ⟨p, hp, _⟩ := hy; simp at hp
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_blocks G L' L (fun q hq => hL q (by simp [hq])) y ?_
      obtain ⟨q, hq, hyq⟩ := hy
      rcases List.mem_cons.mp hq with rfl | hq'
      · exact absurd hyq hm
      · exact ⟨q, hq', hyq⟩

/-! ## The step's arrays -/

/-- The staged rows: sixteen before the tile, the tile, sixteen after it, by planes of 128 channels. -/
def stagedAt (p : FVec Ideal S16x2048 .f32) (u : FVec Ideal S256x2048 .f32) (n : FVec Ideal S16x2048 .f32) (c r l : ℕ) : EReal :=
  if r < 16 then at2 p r (128 * c + l) else if r < 272 then at2 u (r - 16) (128 * c + l) else at2 n (r - 272) (128 * c + l)

def staged (p : FVec Ideal S16x2048 .f32) (u : FVec Ideal S256x2048 .f32) (n : FVec Ideal S16x2048 .f32) : S16x288x128.Idx → EReal :=
  fun y => stagedAt p u n (y 0).val (y 1).val (y 2).val

theorem at2_ix {a b : ℕ} (f : (⟨2, ![a, b]⟩ : Shape).Idx → EReal) (r : Fin a) (k : Fin b) (k' : ℕ) (h : k.val = k') : f (ix2 r k) = at2 f r.val k' := by
  subst h
  unfold at2
  rw [dif_pos ⟨r.isLt, k.isLt⟩]

theorem staged_prev (p : FVec Ideal S16x2048 .f32) (u : FVec Ideal S256x2048 .f32) (n : FVec Ideal S16x2048 .f32) (c : ℕ) (r : Fin 16) (l : Fin 128) (k : Fin 2048)
    (hk : k.val = 128 * c + l.val) : p (ix2 r k) = stagedAt p u n c (0 + r.val) l.val := by
  unfold stagedAt
  rw [if_pos (by omega), Nat.zero_add]
  exact at2_ix p r k _ hk

theorem staged_cur (p : FVec Ideal S16x2048 .f32) (u : FVec Ideal S256x2048 .f32) (n : FVec Ideal S16x2048 .f32) (c : ℕ) (r : Fin 256) (l : Fin 128) (k : Fin 2048)
    (hk : k.val = 128 * c + l.val) : u (ix2 r k) = stagedAt p u n c (16 + r.val) l.val := by
  unfold stagedAt
  rw [if_neg (by omega), if_pos (by omega), Nat.add_sub_cancel_left]
  exact at2_ix u r k _ hk

theorem staged_next (p : FVec Ideal S16x2048 .f32) (u : FVec Ideal S256x2048 .f32) (n : FVec Ideal S16x2048 .f32) (c : ℕ) (r : Fin 16) (l : Fin 128) (k : Fin 2048)
    (hk : k.val = 128 * c + l.val) : n (ix2 r k) = stagedAt p u n c (272 + r.val) l.val := by
  unfold stagedAt
  rw [if_neg (by omega), if_neg (by omega), Nat.add_sub_cancel_left]
  exact at2_ix n r k _ hk

/-- The activated, normalised row at a channel. -/
def actAt (Y : S16x256x128.Idx → EReal) (G B : S16x1x128.Idx → EReal) (r k : ℕ) : EReal :=
  siluOf ((at3 Y (k / 128) r (k % 128) - meanOf (planeRow Y r))
    * Ideal.rsqrt (Ideal.div (∑ k : Fin 2048, (planeRow Y r k - meanOf (planeRow Y r)) * (planeRow Y r k - meanOf (planeRow Y r)))
        (Ideal.ofBits .f32 0x45000000#32) + Ideal.ofBits .f32 0x358637BD#32)
    * at3 G (k / 128) 0 (k % 128) + at3 B (k / 128) 0 (k % 128))

def acts (Y : S16x256x128.Idx → EReal) (G B : S16x1x128.Idx → EReal) : S256x2048.Idx → EReal := fun y => actAt Y G B (y 0).val (y 1).val

theorem act_val (Y : S16x256x128.Idx → EReal) (G B : S16x1x128.Idx → EReal) (c q : ℕ) (hq : q = 128 * c) (r : Fin 256) (l : Fin 128) :
    siluOf ((planeOf Y c 256 128 (ix3 0 r l) - meanVec Y (ix2 r 0)) * invVec Y (ix2 r 0) * planeOf G c 1 128 (ix3 0 0 l) + planeOf B c 1 128 (ix3 0 0 l))
      = actAt Y G B (0 + r.val) (q + l.val) := by
  subst hq
  rw [meanVec_at, invVec_at]
  unfold actAt
  rw [show (128 * c + l.val) / 128 = c by omega, show (128 * c + l.val) % 128 = l.val by omega, Nat.zero_add]
  rfl

theorem mean_eq (Y : S16x256x128.Idx → EReal) (y0 y1 y2 y3 y4 y5 y6 y7 y8 y9 y10 y11 y12 y13 y14 y15 : Vec Ideal S1x256x128 .f32) (h0 : y0 = planeOf Y 0 256 128) (h1 : y1 = planeOf Y 1 256 128) (h2 : y2 = planeOf Y 2 256 128) (h3 : y3 = planeOf Y 3 256 128) (h4 : y4 = planeOf Y 4 256 128) (h5 : y5 = planeOf Y 5 256 128) (h6 : y6 = planeOf Y 6 256 128) (h7 : y7 = planeOf Y 7 256 128) (h8 : y8 = planeOf Y 8 256 128) (h9 : y9 = planeOf Y 9 256 128) (h10 : y10 = planeOf Y 10 256 128) (h11 : y11 = planeOf Y 11 256 128) (h12 : y12 = planeOf Y 12 256 128) (h13 : y13 = planeOf Y 13 256 128) (h14 : y14 = planeOf Y 14 256 128) (h15 : y15 = planeOf Y 15 256 128) :
    k0_pay158 (k0_pay157 (F := Ideal) (k0_pay156 (F := Ideal)) y0 y1 y2 y3 y4 y5 y6 y7 y8 y9) y10 y11 y12 y13 y14 y15 = meanVec Y := by
  subst h0
  subst h1
  subst h2
  subst h3
  subst h4
  subst h5
  subst h6
  subst h7
  subst h8
  subst h9
  subst h10
  subst h11
  subst h12
  subst h13
  subst h14
  subst h15
  rfl

theorem dev_eq (Y : S16x256x128.Idx → EReal) (m : FVec Ideal S256x1 .f32) (hm : m = meanVec Y) (y0 y1 y2 y3 y4 y5 y6 y7 y8 y9 y10 y11 y12 y13 y14 y15 : Vec Ideal S1x256x128 .f32) (h0 : y0 = planeOf Y 0 256 128) (h1 : y1 = planeOf Y 1 256 128) (h2 : y2 = planeOf Y 2 256 128) (h3 : y3 = planeOf Y 3 256 128) (h4 : y4 = planeOf Y 4 256 128) (h5 : y5 = planeOf Y 5 256 128) (h6 : y6 = planeOf Y 6 256 128) (h7 : y7 = planeOf Y 7 256 128) (h8 : y8 = planeOf Y 8 256 128) (h9 : y9 = planeOf Y 9 256 128) (h10 : y10 = planeOf Y 10 256 128) (h11 : y11 = planeOf Y 11 256 128) (h12 : y12 = planeOf Y 12 256 128) (h13 : y13 = planeOf Y 13 256 128) (h14 : y14 = planeOf Y 14 256 128) (h15 : y15 = planeOf Y 15 256 128) :
    k0_pay163 m (k0_pay160 m (k0_pay159 (k0_pay157 (F := Ideal) (k0_pay156 (F := Ideal)) y0 y1 y2 y3 y4 y5 y6 y7 y8 y9) y10 y11 y12 y13 y14 y15 y0 y1) y2 y3 y4 y5 y6 y7)
      (k0_pay161 (F := Ideal) y8) (k0_pay162 (F := Ideal) m) y9 y10 y11 y12 y13 y14 = devVec Y := by
  subst hm
  subst h0
  subst h1
  subst h2
  subst h3
  subst h4
  subst h5
  subst h6
  subst h7
  subst h8
  subst h9
  subst h10
  subst h11
  subst h12
  subst h13
  subst h14
  subst h15
  rfl

theorem inv_eq (Y : S16x256x128.Idx → EReal) (m : FVec Ideal S256x1 .f32) (hm : m = meanVec Y) (v : FVec Ideal S256x128 .f32) (hv : v = devVec Y)
    (y15 : Vec Ideal S1x256x128 .f32) (h15 : y15 = planeOf Y 15 256 128) : k0_pay164 m v y15 = invVec Y := by
  subst hm
  subst hv
  subst h15
  rfl

/-- The merged rows, their eight slabs side by side. -/
def mergedVec (M : S8x256x256.Idx → EReal) : FVec Ideal S256x2048 .bf16 := k0_pay153 (F := Ideal) (planeOf M 0 256 256) (planeOf M 1 256 256) (planeOf M 2 256 256) (planeOf M 3 256 256) (planeOf M 4 256 256) (planeOf M 5 256 256) (planeOf M 6 256 256) (planeOf M 7 256 256)

theorem merged_eq (M : S8x256x256.Idx → EReal) (z0 z1 z2 z3 z4 z5 z6 z7 : Vec Ideal S1x256x256 .bf16) (h0 : z0 = planeOf M 0 256 256) (h1 : z1 = planeOf M 1 256 256) (h2 : z2 = planeOf M 2 256 256) (h3 : z3 = planeOf M 3 256 256) (h4 : z4 = planeOf M 4 256 256) (h5 : z5 = planeOf M 5 256 256) (h6 : z6 = planeOf M 6 256 256) (h7 : z7 = planeOf M 7 256 256) : k0_pay153 (F := Ideal) z0 z1 z2 z3 z4 z5 z6 z7 = mergedVec M := by
  subst h0
  subst h1
  subst h2
  subst h3
  subst h4
  subst h5
  subst h6
  subst h7
  rfl

theorem act0_eq (Y : S16x256x128.Idx → EReal) (G B : S16x1x128.Idx → EReal) (m : FVec Ideal S256x1 .f32) (v : FVec Ideal S256x128 .f32) (y15 y : Vec Ideal S1x256x128 .f32) (g b : Vec Ideal S1x1x128 .f32)
    (hm : m = meanVec Y) (hv : v = devVec Y) (h15 : y15 = planeOf Y 15 256 128) (hy : y = planeOf Y 0 256 128) (hg : g = planeOf G 0 1 128) (hb : b = planeOf B 0 1 128) (r : Fin 256) (l : Fin 128) :
    (k0_pay165 m v y15 y g b) (ix2 r l) = actAt Y G B (0 + r.val) (0 + l.val) := by
  subst hm
  subst hv
  subst h15
  subst hy
  subst hg
  subst hb
  exact (act0_at _ _ _ _ _ _ _ _).trans (act_val Y G B 0 _ rfl r l)

theorem act1_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 1 256 128) (hg : g = planeOf G 1 1 128) (hb : b = planeOf B 1 1 128) (r : Fin 256) (l : Fin 128) :
    (k0_pay166 m iv y g b) (ix2 r l) = actAt Y G B (0 + r.val) (128 + l.val) := by
  subst hm
  subst hi
  subst hy
  subst hg
  subst hb
  exact (act1_at _ _ _ _ _ _ _).trans (act_val Y G B 1 _ rfl r l)

theorem act2_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 2 256 128) (hg : g = planeOf G 2 1 128) (hb : b = planeOf B 2 1 128) (r : Fin 256) (l : Fin 128) :
    (k0_pay169 (k0_pay167 m iv y g) (k0_pay168 b)) (ix2 r l) = actAt Y G B (0 + r.val) (256 + l.val) := by
  subst hm
  subst hi
  subst hy
  subst hg
  subst hb
  exact (act2_at _ _ _ _ _ _ _).trans (act_val Y G B 2 _ rfl r l)

theorem act3_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 3 256 128) (hg : g = planeOf G 3 1 128) (hb : b = planeOf B 3 1 128) (r : Fin 256) (l : Fin 128) :
    (k0_pay170 m iv y g b) (ix2 r l) = actAt Y G B (0 + r.val) (384 + l.val) := by
  subst hm
  subst hi
  subst hy
  subst hg
  subst hb
  exact (act3_at _ _ _ _ _ _ _).trans (act_val Y G B 3 _ rfl r l)

theorem act4_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 4 256 128) (hg : g = planeOf G 4 1 128) (hb : b = planeOf B 4 1 128) (r : Fin 256) (l : Fin 128) :
    (k0_pay171 m iv y g b) (ix2 r l) = actAt Y G B (0 + r.val) (512 + l.val) := by
  subst hm
  subst hi
  subst hy
  subst hg
  subst hb
  exact (act4_at _ _ _ _ _ _ _).trans (act_val Y G B 4 _ rfl r l)

theorem act5_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 5 256 128) (hg : g = planeOf G 5 1 128) (hb : b = planeOf B 5 1 128) (r : Fin 256) (l : Fin 128) :
    (k0_pay173 (k0_pay172 m iv y g) b) (ix2 r l) = actAt Y G B (0 + r.val) (640 + l.val) := by
  subst hm
  subst hi
  subst hy
  subst hg
  subst hb
  exact (act5_at _ _ _ _ _ _ _).trans (act_val Y G B 5 _ rfl r l)

theorem act6_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 6 256 128) (hg : g = planeOf G 6 1 128) (hb : b = planeOf B 6 1 128) (r : Fin 256) (l : Fin 128) :
    (k0_pay175 (k0_pay174 m iv y g b)) (ix2 r l) = actAt Y G B (0 + r.val) (768 + l.val) := by
  subst hm
  subst hi
  subst hy
  subst hg
  subst hb
  exact (act6_at _ _ _ _ _ _ _).trans (act_val Y G B 6 _ rfl r l)

theorem act7_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 7 256 128) (hg : g = planeOf G 7 1 128) (hb : b = planeOf B 7 1 128) (r : Fin 256) (l : Fin 128) :
    (k0_pay176 m iv y g b) (ix2 r l) = actAt Y G B (0 + r.val) (896 + l.val) := by
  subst hm
  subst hi
  subst hy
  subst hg
  subst hb
  exact (act7_at _ _ _ _ _ _ _).trans (act_val Y G B 7 _ rfl r l)

theorem act8_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 8 256 128) (hg : g = planeOf G 8 1 128) (hb : b = planeOf B 8 1 128) (r : Fin 256) (l : Fin 128) :
    (k0_pay178 (k0_pay177 m iv y g) b) (ix2 r l) = actAt Y G B (0 + r.val) (1024 + l.val) := by
  subst hm
  subst hi
  subst hy
  subst hg
  subst hb
  exact (act8_at _ _ _ _ _ _ _).trans (act_val Y G B 8 _ rfl r l)

theorem act9_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 9 256 128) (hg : g = planeOf G 9 1 128) (hb : b = planeOf B 9 1 128) (r : Fin 256) (l : Fin 128) :
    (k0_pay180 (k0_pay179 m iv y g b)) (ix2 r l) = actAt Y G B (0 + r.val) (1152 + l.val) := by
  subst hm
  subst hi
  subst hy
  subst hg
  subst hb
  exact (act9_at _ _ _ _ _ _ _).trans (act_val Y G B 9 _ rfl r l)

theorem act10_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 10 256 128) (hg : g = planeOf G 10 1 128) (hb : b = planeOf B 10 1 128) (r : Fin 256) (l : Fin 128) :
    (k0_pay181 m iv y g b) (ix2 r l) = actAt Y G B (0 + r.val) (1280 + l.val) := by
  subst hm
  subst hi
  subst hy
  subst hg
  subst hb
  exact (act10_at _ _ _ _ _ _ _).trans (act_val Y G B 10 _ rfl r l)

theorem act11_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 11 256 128) (hg : g = planeOf G 11 1 128) (hb : b = planeOf B 11 1 128) (r : Fin 256) (l : Fin 128) :
    (k0_pay183 (k0_pay182 m iv y) g b) (ix2 r l) = actAt Y G B (0 + r.val) (1408 + l.val) := by
  subst hm
  subst hi
  subst hy
  subst hg
  subst hb
  exact (act11_at _ _ _ _ _ _ _).trans (act_val Y G B 11 _ rfl r l)

theorem act12_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 12 256 128) (hg : g = planeOf G 12 1 128) (hb : b = planeOf B 12 1 128) (r : Fin 256) (l : Fin 128) :
    (k0_pay187 (k0_pay184 m iv y g b) (k0_pay185 m iv y g b) (k0_pay186 (F := Ideal))) (ix2 r l) = actAt Y G B (0 + r.val) (1536 + l.val) := by
  subst hm
  subst hi
  subst hy
  subst hg
  subst hb
  exact (act12_at _ _ _ _ _ _ _).trans (act_val Y G B 12 _ rfl r l)

theorem act13_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 13 256 128) (hg : g = planeOf G 13 1 128) (hb : b = planeOf B 13 1 128) (r : Fin 256) (l : Fin 128) :
    (k0_pay188 m iv y g b) (ix2 r l) = actAt Y G B (0 + r.val) (1664 + l.val) := by
  subst hm
  subst hi
  subst hy
  subst hg
  subst hb
  exact (act13_at _ _ _ _ _ _ _).trans (act_val Y G B 13 _ rfl r l)

theorem act14_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 14 256 128) (hg : g = planeOf G 14 1 128) (hb : b = planeOf B 14 1 128) (r : Fin 256) (l : Fin 128) :
    (k0_pay190 (k0_pay189 m iv y) g b) (ix2 r l) = actAt Y G B (0 + r.val) (1792 + l.val) := by
  subst hm
  subst hi
  subst hy
  subst hg
  subst hb
  exact (act14_at _ _ _ _ _ _ _).trans (act_val Y G B 14 _ rfl r l)

theorem act15_eq (Y : S16x256x128.Idx → EReal) (G B : S16x1x128.Idx → EReal) (m iv : FVec Ideal S256x1 .f32) (y : Vec Ideal S1x256x128 .f32) (g b : Vec Ideal S1x1x128 .f32)
    (hm : m = meanVec Y) (hi : iv = invVec Y) (hy : y = planeOf Y 15 256 128) (hg : g = planeOf G 15 1 128) (hb : b = planeOf B 15 1 128) (r : Fin 256) (l : Fin 128) :
    (k0_pay1 (k0_pay191 m iv y g b) (k0_pay192 m iv y g b) (k0_pay193 (F := Ideal))) (ix2 r l) = actAt Y G B (0 + r.val) (1920 + l.val) := by
  subst hm
  subst hi
  subst hy
  subst hg
  subst hb
  exact (act15_at _ _ _ _ _ _ _).trans (act_val Y G B 15 _ rfl r l)

/-- The convolution's planes for a tile: from the rows before it, its own and those after it. -/
def stepY (i : grid0.Coords) (x4 : Vec Ideal S256x2048 .bf16) (x5 x6 x7 : Vec Ideal S16x2048 .bf16) (x11 : Vec Ideal S16x32x128 .f32) (x12 : Vec Ideal S16x1x128 .f32) :
    S16x256x128.Idx → EReal := convPlanes (staged (k0_pay97 (F := Ideal) i x7 x5) (k0_pay99 (F := Ideal) x4) (k0_pay98 (F := Ideal) i x6)) x11 x12

theorem convPlanes_congr {g g' : S16x288x128.Idx → EReal} {w w' : S16x32x128.Idx → EReal} {v v' : S16x1x128.Idx → EReal} (hg : g = g') (hw : w = w') (hv : v = v') :
    convPlanes g w v = convPlanes g' w' v' := by
  subst hg
  subst hw
  subst hv
  rfl

theorem slabs_congr {o o' ga ga' gb gb' y y' : S256x2048.Idx → EReal} {wg wg' wc wc' : S8x2048x256.Idx → EReal} {b b' : S8x1x256.Idx → EReal} (ho : o = o') (hga : ga = ga')
    (hgb : gb = gb') (hy : y = y') (hg : wg = wg') (hc : wc = wc') (hb : b = b') : slabs o ga gb y wg wc b = slabs o' ga' gb' y' wg' wc' b' := by
  subst ho
  subst hga
  subst hgb
  subst hy
  subst hg
  subst hc
  subst hb
  rfl

theorem added_congr {u u' : FVec Ideal S256x2048 .bf16} {w w' : Vec Ideal S2048x2048 .bf16} {h h' : Vec Ideal S256x2048 .f32} {g g' : Vec Ideal S1x2048 .f32}
    (hu : u = u') (hw : w = w') (hh : h = h') (hg : g = g') : k0_pay154 (F := Ideal) u w h g = k0_pay154 (F := Ideal) u' w' h' g' := by
  subst hu
  subst hw
  subst hh
  subst hg
  rfl

theorem renormed_congr {u u' : FVec Ideal S256x2048 .bf16} {w w' : Vec Ideal S2048x2048 .bf16} {h h' : Vec Ideal S256x2048 .f32} {g g' f f' : Vec Ideal S1x2048 .f32}
    (hu : u = u') (hw : w = w') (hh : h = h') (hg : g = g') (hf : f = f') : k0_pay155 (F := Ideal) u w h g f = k0_pay155 (F := Ideal) u' w' h' g' f' := by
  subst hu
  subst hw
  subst hh
  subst hg
  subst hf
  rfl

/-- What one store of a whole buffer leaves. -/
theorem canon_whole {S : Shape} {e : EltTy} {off : Fin S.rank → ℕ} (inb : ∀ a, off a + S.size a ≤ S.size a) (h : ∀ a, off a = 0) (u : S.Idx → Elt Ideal e) :
    View.canon [(⟨Rect.unit off S.size inb, u⟩ : View.Piece (Elt Ideal) S e)] = u := by
  funext y
  have hy : (Rect.unit off S.size inb).emb y = y := by
    funext a
    apply Fin.ext
    show off a + 1 * (y a).val = (y a).val
    rw [h a]
    omega
  have := View.canon_cons_emb (Rect.unit off S.size inb) u [] y
  rw [hy] at this
  exact this

theorem canon_all {n m : ℕ} {e : EltTy} (inb : ∀ x, (![0, 0] : Fin 2 → ℕ) x + (⟨2, ![n, m]⟩ : Shape).size x ≤ (⟨2, ![n, m]⟩ : Shape).size x)
    (u : (⟨2, ![n, m]⟩ : Shape).Idx → Elt Ideal e) :
    View.canon [(⟨Rect.unit (s := (⟨2, ![n, m]⟩ : Shape)) ![0, 0] (⟨2, ![n, m]⟩ : Shape).size inb, u⟩ : View.Piece (Elt Ideal) (⟨2, ![n, m]⟩ : Shape) e)] = u :=
  canon_whole (S := (⟨2, ![n, m]⟩ : Shape)) inb zeros2 u

/-! ## The other steps -/

theorem staged_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : View.canon (kernelRun0_B.sl.HS0_48 (F := Ideal) c i arg5 harg5 arg6 harg6 arg7 harg7 arg8 harg8 x4 x5 x6 x7) = staged (k0_pay97 (F := Ideal) i x7 x5) (k0_pay99 (F := Ideal) x4) (k0_pay98 (F := Ideal) i x6) := by
  have e0 : (kernelRun0_B.sl.r (F := Ideal) c i arg6 harg6 arg8 harg8 x5 x7) = k0_pay97 (F := Ideal) i x7 x5 :=
    congrArg₂ (k0_pay97 (F := Ideal) i) (load_all harg8 x7 _) (load_all harg6 x5 _)
  have e1 : (kernelRun0_B.sl.r_1 (F := Ideal) c i arg7 harg7 x6) = k0_pay98 (F := Ideal) i x6 := congrArg (k0_pay98 (F := Ideal) i) (load_all harg7 x6 _)
  have e2 : (kernelRun0_B.sl.r_2 (F := Ideal) c arg5 harg5 x4) = k0_pay99 (F := Ideal) x4 := congrArg (k0_pay99 (F := Ideal)) (load_all harg5 x4 _)
  rw [← e0, ← e1, ← e2]
  funext y
  refine View.canon_apply_of_pieces (Val := Elt Ideal) (e := .f32) (S := S16x288x128) (staged (kernelRun0_B.sl.r (F := Ideal) c i arg6 harg6 arg8 harg8 x5 x7) (kernelRun0_B.sl.r_2 (F := Ideal) c arg5 harg5 x4) (kernelRun0_B.sl.r_1 (F := Ideal) c i arg7 harg7 x6)) _ ?_ y (View.cover_of_tiledBy _ ![1, 16, 128] (by sl_kernel_rfl) y)
  unfold kernelRun0_B.sl.HS0_48
  refine List.forall_mem_cons.mpr ⟨fun x => plane_piece (stagedAt _ _ _) 15 272 inb_S16x288x128_S1x16x128_15_272_0 _ (fun r l => (next15_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 15 r l _ rfl)) x, ?_⟩
  refine List.forall_mem_cons.mpr ⟨fun x => plane_piece (stagedAt _ _ _) 15 16 inb_S16x288x128_S1x256x128_15_16_0 _ (fun r l => (cur15_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 15 r l _ rfl)) x, ?_⟩
  refine List.forall_mem_cons.mpr ⟨fun x => plane_piece (stagedAt _ _ _) 15 0 inb_S16x288x128_S1x16x128_15_0_0 _ (fun r l => (prev15_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 15 r l _ rfl)) x, ?_⟩
  refine List.forall_mem_cons.mpr ⟨fun x => plane_piece (stagedAt _ _ _) 14 272 inb_S16x288x128_S1x16x128_14_272_0 _ (fun r l => (next14_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 14 r l _ rfl)) x, ?_⟩
  refine List.forall_mem_cons.mpr ⟨fun x => plane_piece (stagedAt _ _ _) 14 16 inb_S16x288x128_S1x256x128_14_16_0 _ (fun r l => (cur14_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 14 r l _ rfl)) x, ?_⟩
  refine List.forall_mem_cons.mpr ⟨fun x => plane_piece (stagedAt _ _ _) 14 0 inb_S16x288x128_S1x16x128_14_0_0 _ (fun r l => (prev14_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 14 r l _ rfl)) x, ?_⟩
  refine List.forall_mem_cons.mpr ⟨fun x => plane_piece (stagedAt _ _ _) 13 272 inb_S16x288x128_S1x16x128_13_272_0 _ (fun r l => (next13_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 13 r l _ rfl)) x, ?_⟩
  refine List.forall_mem_cons.mpr ⟨fun x => plane_piece (stagedAt _ _ _) 13 16 inb_S16x288x128_S1x256x128_13_16_0 _ (fun r l => (cur13_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 13 r l _ rfl)) x, ?_⟩
  refine List.forall_mem_cons.mpr ⟨fun x => plane_piece (stagedAt _ _ _) 13 0 inb_S16x288x128_S1x16x128_13_0_0 _ (fun r l => (prev13_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 13 r l _ rfl)) x, ?_⟩
  refine List.forall_mem_cons.mpr ⟨fun x => plane_piece (stagedAt _ _ _) 12 272 inb_S16x288x128_S1x16x128_12_272_0 _ (fun r l => (next12_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 12 r l _ rfl)) x, ?_⟩
  refine List.forall_mem_cons.mpr ⟨fun x => plane_piece (stagedAt _ _ _) 12 16 inb_S16x288x128_S1x256x128_12_16_0 _ (fun r l => (cur12_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 12 r l _ rfl)) x, ?_⟩
  refine List.forall_mem_cons.mpr ⟨fun x => plane_piece (stagedAt _ _ _) 12 0 inb_S16x288x128_S1x16x128_12_0_0 _ (fun r l => (prev12_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 12 r l _ rfl)) x, ?_⟩
  refine List.forall_mem_cons.mpr ⟨fun x => plane_piece (stagedAt _ _ _) 11 272 inb_S16x288x128_S1x16x128_11_272_0 _ (fun r l => (next11_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 11 r l _ rfl)) x, ?_⟩
  refine List.forall_mem_cons.mpr ⟨fun x => plane_piece (stagedAt _ _ _) 11 16 inb_S16x288x128_S1x256x128_11_16_0 _ (fun r l => (cur11_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 11 r l _ rfl)) x, ?_⟩
  refine List.forall_mem_cons.mpr ⟨fun x => plane_piece (stagedAt _ _ _) 11 0 inb_S16x288x128_S1x16x128_11_0_0 _ (fun r l => (prev11_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 11 r l _ rfl)) x, ?_⟩
  refine List.forall_mem_cons.mpr ⟨fun x => plane_piece (stagedAt _ _ _) 10 272 inb_S16x288x128_S1x16x128_10_272_0 _ (fun r l => (next10_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 10 r l _ rfl)) x, ?_⟩
  refine List.forall_mem_cons.mpr ⟨fun x => plane_piece (stagedAt _ _ _) 10 16 inb_S16x288x128_S1x256x128_10_16_0 _ (fun r l => (cur10_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 10 r l _ rfl)) x, ?_⟩
  refine List.forall_mem_cons.mpr ⟨fun x => plane_piece (stagedAt _ _ _) 10 0 inb_S16x288x128_S1x16x128_10_0_0 _ (fun r l => (prev10_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 10 r l _ rfl)) x, ?_⟩
  refine List.forall_mem_cons.mpr ⟨fun x => plane_piece (stagedAt _ _ _) 9 272 inb_S16x288x128_S1x16x128_9_272_0 _ (fun r l => (next9_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 9 r l _ rfl)) x, ?_⟩
  refine List.forall_mem_cons.mpr ⟨fun x => plane_piece (stagedAt _ _ _) 9 16 inb_S16x288x128_S1x256x128_9_16_0 _ (fun r l => (cur9_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 9 r l _ rfl)) x, ?_⟩
  refine List.forall_mem_cons.mpr ⟨fun x => plane_piece (stagedAt _ _ _) 9 0 inb_S16x288x128_S1x16x128_9_0_0 _ (fun r l => (prev9_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 9 r l _ rfl)) x, ?_⟩
  refine List.forall_mem_cons.mpr ⟨fun x => plane_piece (stagedAt _ _ _) 8 272 inb_S16x288x128_S1x16x128_8_272_0 _ (fun r l => (next8_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 8 r l _ rfl)) x, ?_⟩
  refine List.forall_mem_cons.mpr ⟨fun x => plane_piece (stagedAt _ _ _) 8 16 inb_S16x288x128_S1x256x128_8_16_0 _ (fun r l => (cur8_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 8 r l _ rfl)) x, ?_⟩
  refine List.forall_mem_cons.mpr ⟨fun x => plane_piece (stagedAt _ _ _) 8 0 inb_S16x288x128_S1x16x128_8_0_0 _ (fun r l => (prev8_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 8 r l _ rfl)) x, ?_⟩
  refine List.forall_mem_cons.mpr ⟨fun x => plane_piece (stagedAt _ _ _) 7 272 inb_S16x288x128_S1x16x128_7_272_0 _ (fun r l => (next7_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 7 r l _ rfl)) x, ?_⟩
  refine List.forall_mem_cons.mpr ⟨fun x => plane_piece (stagedAt _ _ _) 7 16 inb_S16x288x128_S1x256x128_7_16_0 _ (fun r l => (cur7_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 7 r l _ rfl)) x, ?_⟩
  refine List.forall_mem_cons.mpr ⟨fun x => plane_piece (stagedAt _ _ _) 7 0 inb_S16x288x128_S1x16x128_7_0_0 _ (fun r l => (prev7_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 7 r l _ rfl)) x, ?_⟩
  refine List.forall_mem_cons.mpr ⟨fun x => plane_piece (stagedAt _ _ _) 6 272 inb_S16x288x128_S1x16x128_6_272_0 _ (fun r l => (next6_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 6 r l _ rfl)) x, ?_⟩
  refine List.forall_mem_cons.mpr ⟨fun x => plane_piece (stagedAt _ _ _) 6 16 inb_S16x288x128_S1x256x128_6_16_0 _ (fun r l => (cur6_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 6 r l _ rfl)) x, ?_⟩
  refine List.forall_mem_cons.mpr ⟨fun x => plane_piece (stagedAt _ _ _) 6 0 inb_S16x288x128_S1x16x128_6_0_0 _ (fun r l => (prev6_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 6 r l _ rfl)) x, ?_⟩
  refine List.forall_mem_cons.mpr ⟨fun x => plane_piece (stagedAt _ _ _) 5 272 inb_S16x288x128_S1x16x128_5_272_0 _ (fun r l => (next5_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 5 r l _ rfl)) x, ?_⟩
  refine List.forall_mem_cons.mpr ⟨fun x => plane_piece (stagedAt _ _ _) 5 16 inb_S16x288x128_S1x256x128_5_16_0 _ (fun r l => (cur5_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 5 r l _ rfl)) x, ?_⟩
  refine List.forall_mem_cons.mpr ⟨fun x => plane_piece (stagedAt _ _ _) 5 0 inb_S16x288x128_S1x16x128_5_0_0 _ (fun r l => (prev5_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 5 r l _ rfl)) x, ?_⟩
  refine List.forall_mem_cons.mpr ⟨fun x => plane_piece (stagedAt _ _ _) 4 272 inb_S16x288x128_S1x16x128_4_272_0 _ (fun r l => (next4_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 4 r l _ rfl)) x, ?_⟩
  refine List.forall_mem_cons.mpr ⟨fun x => plane_piece (stagedAt _ _ _) 4 16 inb_S16x288x128_S1x256x128_4_16_0 _ (fun r l => (cur4_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 4 r l _ rfl)) x, ?_⟩
  refine List.forall_mem_cons.mpr ⟨fun x => plane_piece (stagedAt _ _ _) 4 0 inb_S16x288x128_S1x16x128_4_0_0 _ (fun r l => (prev4_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 4 r l _ rfl)) x, ?_⟩
  refine List.forall_mem_cons.mpr ⟨fun x => plane_piece (stagedAt _ _ _) 3 272 inb_S16x288x128_S1x16x128_3_272_0 _ (fun r l => (next3_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 3 r l _ rfl)) x, ?_⟩
  refine List.forall_mem_cons.mpr ⟨fun x => plane_piece (stagedAt _ _ _) 3 16 inb_S16x288x128_S1x256x128_3_16_0 _ (fun r l => (cur3_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 3 r l _ rfl)) x, ?_⟩
  refine List.forall_mem_cons.mpr ⟨fun x => plane_piece (stagedAt _ _ _) 3 0 inb_S16x288x128_S1x16x128_3_0_0 _ (fun r l => (prev3_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 3 r l _ rfl)) x, ?_⟩
  refine List.forall_mem_cons.mpr ⟨fun x => plane_piece (stagedAt _ _ _) 2 272 inb_S16x288x128_S1x16x128_2_272_0 _ (fun r l => (next2_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 2 r l _ rfl)) x, ?_⟩
  refine List.forall_mem_cons.mpr ⟨fun x => plane_piece (stagedAt _ _ _) 2 16 inb_S16x288x128_S1x256x128_2_16_0 _ (fun r l => (cur2_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 2 r l _ rfl)) x, ?_⟩
  refine List.forall_mem_cons.mpr ⟨fun x => plane_piece (stagedAt _ _ _) 2 0 inb_S16x288x128_S1x16x128_2_0_0 _ (fun r l => (prev2_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 2 r l _ rfl)) x, ?_⟩
  refine List.forall_mem_cons.mpr ⟨fun x => plane_piece (stagedAt _ _ _) 1 272 inb_S16x288x128_S1x16x128_1_272_0 _ (fun r l => (next1_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 1 r l _ rfl)) x, ?_⟩
  refine List.forall_mem_cons.mpr ⟨fun x => plane_piece (stagedAt _ _ _) 1 16 inb_S16x288x128_S1x256x128_1_16_0 _ (fun r l => (cur1_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 1 r l _ rfl)) x, ?_⟩
  refine List.forall_mem_cons.mpr ⟨fun x => plane_piece (stagedAt _ _ _) 1 0 inb_S16x288x128_S1x16x128_1_0_0 _ (fun r l => (prev1_at _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 1 r l _ rfl)) x, ?_⟩
  refine List.forall_mem_cons.mpr ⟨fun x => plane_piece (stagedAt _ _ _) 0 272 inb_S16x288x128_S1x16x128_0_272_0 _ (fun r l => (next0_at _ r l).trans (staged_next (kernelRun0_B.sl.r (F := Ideal) c i arg6 harg6 arg8 harg8 x5 x7) (kernelRun0_B.sl.r_2 (F := Ideal) c arg5 harg5 x4) (kernelRun0_B.sl.r_1 (F := Ideal) c i arg7 harg7 x6) 0 r l _ rfl)) x, ?_⟩
  refine List.forall_mem_cons.mpr ⟨fun x => plane_piece (stagedAt _ _ _) 0 16 inb_S16x288x128_S1x256x128_0_16_0 _ (fun r l => (cur0_at _ r l).trans (staged_cur (kernelRun0_B.sl.r (F := Ideal) c i arg6 harg6 arg8 harg8 x5 x7) (kernelRun0_B.sl.r_2 (F := Ideal) c arg5 harg5 x4) (kernelRun0_B.sl.r_1 (F := Ideal) c i arg7 harg7 x6) 0 r l _ rfl)) x, ?_⟩
  refine List.forall_mem_cons.mpr ⟨fun x => plane_piece (stagedAt _ _ _) 0 0 inb_S16x288x128_S1x16x128_0_0_0 _ (fun r l => (prev0_at _ _ _ r l).trans (staged_prev (kernelRun0_B.sl.r (F := Ideal) c i arg6 harg6 arg8 harg8 x5 x7) (kernelRun0_B.sl.r_2 (F := Ideal) c arg5 harg5 x4) (kernelRun0_B.sl.r_1 (F := Ideal) c i arg7 harg7 x6) 0 r l _ rfl)) x, ?_⟩
  exact fun p hp => absurd hp List.not_mem_nil

theorem conv_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (kernelRun0_B.sl.r_1 (F := Ideal) c i arg7 harg7 x6) (kernelRun0_B.sl.r_6 (F := Ideal) c arg5 harg5 x4) (harg1.unread x0) (harg2.unread x1) (harg3.unread x2) (harg9.unread x8) (harg10.unread x9) (harg12.unread x11) (harg13.unread x12) (harg16.unread x15) (arg21.view.writes (Elt Ideal) arg21.view.junk (kernelRun0_B.sl.HS0_48 (F := Ideal) c i arg5 harg5 arg6 harg6 arg7 harg7 arg8 harg8 x4 x5 x6 x7)) (harg23.unread xs2) k0_t1_loop.trips).1 = (stepY i x4 x5 x6 x7 x11 x12) := by
  refine (loop_conv Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (kernelRun0_B.sl.r_1 (F := Ideal) c i arg7 harg7 x6) (kernelRun0_B.sl.r_6 (F := Ideal) c arg5 harg5 x4) (harg1.unread x0) (harg2.unread x1) (harg3.unread x2) (harg9.unread x8) (harg10.unread x9) (harg12.unread x11) (harg13.unread x12) (harg16.unread x15) (arg21.view.writes (Elt Ideal) arg21.view.junk (kernelRun0_B.sl.HS0_48 (F := Ideal) c i arg5 harg5 arg6 harg6 arg7 harg7 arg8 harg8 x4 x5 x6 x7)) (harg23.unread xs2)).trans (convPlanes_congr ?_ (harg12.read_unread _) (harg13.read_unread _))
  rw [View.read_writes_eq_canon _ _ _ (View.cover_of_tiledBy _ ![1, 16, 128] (by sl_kernel_rfl))]
  exact staged_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2

theorem mean_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : (kernelRun0_B.sl.r_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x4 x5 x6 x7 x8 x9 x11 x12 x15 xs2) = meanVec (stepY i x4 x5 x6 x7 x11 x12) := by
  have hY := conv_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2
  unfold kernelRun0_B.sl.r_9 kernelRun0_B.sl.r_8
  exact mean_eq _ _ _ _ _ _ _ _ _ _ _ _ _ _ _ _ _ (cov_plane32 _ _ hY 0 inb_S16x256x128_S1x256x128_0_0_0) (cov_plane32 _ _ hY 1 inb_S16x256x128_S1x256x128_1_0_0) (cov_plane32 _ _ hY 2 inb_S16x256x128_S1x256x128_2_0_0) (cov_plane32 _ _ hY 3 inb_S16x256x128_S1x256x128_3_0_0) (cov_plane32 _ _ hY 4 inb_S16x256x128_S1x256x128_4_0_0) (cov_plane32 _ _ hY 5 inb_S16x256x128_S1x256x128_5_0_0) (cov_plane32 _ _ hY 6 inb_S16x256x128_S1x256x128_6_0_0) (cov_plane32 _ _ hY 7 inb_S16x256x128_S1x256x128_7_0_0) (cov_plane32 _ _ hY 8 inb_S16x256x128_S1x256x128_8_0_0) (cov_plane32 _ _ hY 9 inb_S16x256x128_S1x256x128_9_0_0) (cov_plane32 _ _ hY 10 inb_S16x256x128_S1x256x128_10_0_0) (cov_plane32 _ _ hY 11 inb_S16x256x128_S1x256x128_11_0_0) (cov_plane32 _ _ hY 12 inb_S16x256x128_S1x256x128_12_0_0) (cov_plane32 _ _ hY 13 inb_S16x256x128_S1x256x128_13_0_0) (cov_plane32 _ _ hY 14 inb_S16x256x128_S1x256x128_14_0_0) (cov_plane32 _ _ hY 15 inb_S16x256x128_S1x256x128_15_0_0)

theorem dev_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : (kernelRun0_B.sl.r_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x4 x5 x6 x7 x8 x9 x11 x12 x15 xs2) = devVec (stepY i x4 x5 x6 x7 x11 x12) := by
  have hY := conv_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2
  have hm := mean_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2
  unfold kernelRun0_B.sl.r_14 kernelRun0_B.sl.r_11 kernelRun0_B.sl.r_10 kernelRun0_B.sl.r_12 kernelRun0_B.sl.r_13 kernelRun0_B.sl.r_8
  exact dev_eq _ _ hm _ _ _ _ _ _ _ _ _ _ _ _ _ _ _ _ (cov_plane32 _ _ hY 0 inb_S16x256x128_S1x256x128_0_0_0) (cov_plane32 _ _ hY 1 inb_S16x256x128_S1x256x128_1_0_0) (cov_plane32 _ _ hY 2 inb_S16x256x128_S1x256x128_2_0_0) (cov_plane32 _ _ hY 3 inb_S16x256x128_S1x256x128_3_0_0) (cov_plane32 _ _ hY 4 inb_S16x256x128_S1x256x128_4_0_0) (cov_plane32 _ _ hY 5 inb_S16x256x128_S1x256x128_5_0_0) (cov_plane32 _ _ hY 6 inb_S16x256x128_S1x256x128_6_0_0) (cov_plane32 _ _ hY 7 inb_S16x256x128_S1x256x128_7_0_0) (cov_plane32 _ _ hY 8 inb_S16x256x128_S1x256x128_8_0_0) (cov_plane32 _ _ hY 9 inb_S16x256x128_S1x256x128_9_0_0) (cov_plane32 _ _ hY 10 inb_S16x256x128_S1x256x128_10_0_0) (cov_plane32 _ _ hY 11 inb_S16x256x128_S1x256x128_11_0_0) (cov_plane32 _ _ hY 12 inb_S16x256x128_S1x256x128_12_0_0) (cov_plane32 _ _ hY 13 inb_S16x256x128_S1x256x128_13_0_0) (cov_plane32 _ _ hY 14 inb_S16x256x128_S1x256x128_14_0_0) (cov_plane32 _ _ hY 15 inb_S16x256x128_S1x256x128_15_0_0)

theorem inv_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : (kernelRun0_B.sl.r_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x4 x5 x6 x7 x8 x9 x11 x12 x15 xs2) = invVec (stepY i x4 x5 x6 x7 x11 x12) := by
  have hY := conv_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2
  unfold kernelRun0_B.sl.r_15
  exact inv_eq _ _ (mean_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2) _ (dev_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2) _ (cov_plane32 _ _ hY 15 inb_S16x256x128_S1x256x128_15_0_0)

theorem carried_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2 = acts (stepY i x4 x5 x6 x7 x11 x12) x13 x14 := by
  have hY := conv_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2
  have hm := mean_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2
  have hi := inv_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2
  have hv := dev_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2
  have cov : ∀ y, ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2).2.2.1, y ∈ p.1.set := View.cover_of_tiledL _ ![256, 128] (by sl_kernel_rfl)
  funext y
  unfold sout0_B_2
  refine (congrFun (View.read_writes_eq_canon _ _ _ (fun y => cov y)) y).trans ?_
  refine View.canon_apply_of_pieces (Val := Elt Ideal) (e := .bf16) (S := S256x2048) (acts (stepY i x4 x5 x6 x7 x11 x12) x13 x14) _ ?_ y (cov y)
  refine List.forall_mem_cons.mpr ⟨fun x => flat_piece (actAt (stepY i x4 x5 x6 x7 x11 x12) x13 x14) 0 1920 inb_S256x2048_S256x128_0_1920 _ (fun r l => act15_eq _ x13 x14 _ _ _ _ _ hm hi (cov_plane32 _ _ hY 15 inb_S16x256x128_S1x256x128_15_0_0) (load_planeOf harg14 x13 15 inb_S16x1x128_S1x1x128_15_0_0) (load_planeOf harg15 x14 15 inb_S16x1x128_S1x1x128_15_0_0) r l) x, ?_⟩
  refine List.forall_mem_cons.mpr ⟨fun x => flat_piece (actAt (stepY i x4 x5 x6 x7 x11 x12) x13 x14) 0 1792 inb_S256x2048_S256x128_0_1792 _ (fun r l => act14_eq _ x13 x14 _ _ _ _ _ hm hi (cov_plane32 _ _ hY 14 inb_S16x256x128_S1x256x128_14_0_0) (load_planeOf harg14 x13 14 inb_S16x1x128_S1x1x128_14_0_0) (load_planeOf harg15 x14 14 inb_S16x1x128_S1x1x128_14_0_0) r l) x, ?_⟩
  refine List.forall_mem_cons.mpr ⟨fun x => flat_piece (actAt (stepY i x4 x5 x6 x7 x11 x12) x13 x14) 0 1664 inb_S256x2048_S256x128_0_1664 _ (fun r l => act13_eq _ x13 x14 _ _ _ _ _ hm hi (cov_plane32 _ _ hY 13 inb_S16x256x128_S1x256x128_13_0_0) (load_planeOf harg14 x13 13 inb_S16x1x128_S1x1x128_13_0_0) (load_planeOf harg15 x14 13 inb_S16x1x128_S1x1x128_13_0_0) r l) x, ?_⟩
  refine List.forall_mem_cons.mpr ⟨fun x => flat_piece (actAt (stepY i x4 x5 x6 x7 x11 x12) x13 x14) 0 1536 inb_S256x2048_S256x128_0_1536 _ (fun r l => act12_eq _ x13 x14 _ _ _ _ _ hm hi (cov_plane32 _ _ hY 12 inb_S16x256x128_S1x256x128_12_0_0) (load_planeOf harg14 x13 12 inb_S16x1x128_S1x1x128_12_0_0) (load_planeOf harg15 x14 12 inb_S16x1x128_S1x1x128_12_0_0) r l) x, ?_⟩
  refine List.forall_mem_cons.mpr ⟨fun x => flat_piece (actAt (stepY i x4 x5 x6 x7 x11 x12) x13 x14) 0 1408 inb_S256x2048_S256x128_0_1408 _ (fun r l => act11_eq _ x13 x14 _ _ _ _ _ hm hi (cov_plane32 _ _ hY 11 inb_S16x256x128_S1x256x128_11_0_0) (load_planeOf harg14 x13 11 inb_S16x1x128_S1x1x128_11_0_0) (load_planeOf harg15 x14 11 inb_S16x1x128_S1x1x128_11_0_0) r l) x, ?_⟩
  refine List.forall_mem_cons.mpr ⟨fun x => flat_piece (actAt (stepY i x4 x5 x6 x7 x11 x12) x13 x14) 0 1280 inb_S256x2048_S256x128_0_1280 _ (fun r l => act10_eq _ x13 x14 _ _ _ _ _ hm hi (cov_plane32 _ _ hY 10 inb_S16x256x128_S1x256x128_10_0_0) (load_planeOf harg14 x13 10 inb_S16x1x128_S1x1x128_10_0_0) (load_planeOf harg15 x14 10 inb_S16x1x128_S1x1x128_10_0_0) r l) x, ?_⟩
  refine List.forall_mem_cons.mpr ⟨fun x => flat_piece (actAt (stepY i x4 x5 x6 x7 x11 x12) x13 x14) 0 1152 inb_S256x2048_S256x128_0_1152 _ (fun r l => act9_eq _ x13 x14 _ _ _ _ _ hm hi (cov_plane32 _ _ hY 9 inb_S16x256x128_S1x256x128_9_0_0) (load_planeOf harg14 x13 9 inb_S16x1x128_S1x1x128_9_0_0) (load_planeOf harg15 x14 9 inb_S16x1x128_S1x1x128_9_0_0) r l) x, ?_⟩
  refine List.forall_mem_cons.mpr ⟨fun x => flat_piece (actAt (stepY i x4 x5 x6 x7 x11 x12) x13 x14) 0 1024 inb_S256x2048_S256x128_0_1024 _ (fun r l => act8_eq _ x13 x14 _ _ _ _ _ hm hi (cov_plane32 _ _ hY 8 inb_S16x256x128_S1x256x128_8_0_0) (load_planeOf harg14 x13 8 inb_S16x1x128_S1x1x128_8_0_0) (load_planeOf harg15 x14 8 inb_S16x1x128_S1x1x128_8_0_0) r l) x, ?_⟩
  refine List.forall_mem_cons.mpr ⟨fun x => flat_piece (actAt (stepY i x4 x5 x6 x7 x11 x12) x13 x14) 0 896 inb_S256x2048_S256x128_0_896 _ (fun r l => act7_eq _ x13 x14 _ _ _ _ _ hm hi (cov_plane32 _ _ hY 7 inb_S16x256x128_S1x256x128_7_0_0) (load_planeOf harg14 x13 7 inb_S16x1x128_S1x1x128_7_0_0) (load_planeOf harg15 x14 7 inb_S16x1x128_S1x1x128_7_0_0) r l) x, ?_⟩
  refine List.forall_mem_cons.mpr ⟨fun x => flat_piece (actAt (stepY i x4 x5 x6 x7 x11 x12) x13 x14) 0 768 inb_S256x2048_S256x128_0_768 _ (fun r l => act6_eq _ x13 x14 _ _ _ _ _ hm hi (cov_plane32 _ _ hY 6 inb_S16x256x128_S1x256x128_6_0_0) (load_planeOf harg14 x13 6 inb_S16x1x128_S1x1x128_6_0_0) (load_planeOf harg15 x14 6 inb_S16x1x128_S1x1x128_6_0_0) r l) x, ?_⟩
  refine List.forall_mem_cons.mpr ⟨fun x => flat_piece (actAt (stepY i x4 x5 x6 x7 x11 x12) x13 x14) 0 640 inb_S256x2048_S256x128_0_640 _ (fun r l => act5_eq _ x13 x14 _ _ _ _ _ hm hi (cov_plane32 _ _ hY 5 inb_S16x256x128_S1x256x128_5_0_0) (load_planeOf harg14 x13 5 inb_S16x1x128_S1x1x128_5_0_0) (load_planeOf harg15 x14 5 inb_S16x1x128_S1x1x128_5_0_0) r l) x, ?_⟩
  refine List.forall_mem_cons.mpr ⟨fun x => flat_piece (actAt (stepY i x4 x5 x6 x7 x11 x12) x13 x14) 0 512 inb_S256x2048_S256x128_0_512 _ (fun r l => act4_eq _ x13 x14 _ _ _ _ _ hm hi (cov_plane32 _ _ hY 4 inb_S16x256x128_S1x256x128_4_0_0) (load_planeOf harg14 x13 4 inb_S16x1x128_S1x1x128_4_0_0) (load_planeOf harg15 x14 4 inb_S16x1x128_S1x1x128_4_0_0) r l) x, ?_⟩
  refine List.forall_mem_cons.mpr ⟨fun x => flat_piece (actAt (stepY i x4 x5 x6 x7 x11 x12) x13 x14) 0 384 inb_S256x2048_S256x128_0_384 _ (fun r l => act3_eq _ x13 x14 _ _ _ _ _ hm hi (cov_plane32 _ _ hY 3 inb_S16x256x128_S1x256x128_3_0_0) (load_planeOf harg14 x13 3 inb_S16x1x128_S1x1x128_3_0_0) (load_planeOf harg15 x14 3 inb_S16x1x128_S1x1x128_3_0_0) r l) x, ?_⟩
  refine List.forall_mem_cons.mpr ⟨fun x => flat_piece (actAt (stepY i x4 x5 x6 x7 x11 x12) x13 x14) 0 256 inb_S256x2048_S256x128_0_256 _ (fun r l => act2_eq _ x13 x14 _ _ _ _ _ hm hi (cov_plane32 _ _ hY 2 inb_S16x256x128_S1x256x128_2_0_0) (load_planeOf harg14 x13 2 inb_S16x1x128_S1x1x128_2_0_0) (load_planeOf harg15 x14 2 inb_S16x1x128_S1x1x128_2_0_0) r l) x, ?_⟩
  refine List.forall_mem_cons.mpr ⟨fun x => flat_piece (actAt (stepY i x4 x5 x6 x7 x11 x12) x13 x14) 0 128 inb_S256x2048_S256x128_0_128 _ (fun r l => act1_eq _ x13 x14 _ _ _ _ _ hm hi (cov_plane32 _ _ hY 1 inb_S16x256x128_S1x256x128_1_0_0) (load_planeOf harg14 x13 1 inb_S16x1x128_S1x1x128_1_0_0) (load_planeOf harg15 x14 1 inb_S16x1x128_S1x1x128_1_0_0) r l) x, ?_⟩
  refine List.forall_mem_cons.mpr ⟨fun x => flat_piece (actAt (stepY i x4 x5 x6 x7 x11 x12) x13 x14) 0 0 inb_S256x2048_S256x128_0_0 _ (fun r l => act0_eq _ x13 x14 _ _ _ _ _ _ hm hv (cov_plane32 _ _ hY 15 inb_S16x256x128_S1x256x128_15_0_0) (cov_plane32 _ _ hY 0 inb_S16x256x128_S1x256x128_0_0_0) (load_planeOf harg14 x13 0 inb_S16x1x128_S1x1x128_0_0_0) (load_planeOf harg15 x14 0 inb_S16x1x128_S1x1x128_0_0_0) r l) x, ?_⟩
  exact fun p hp => absurd hp List.not_mem_nil

theorem slabs_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (kernelRun0_B.sl.r_1 (F := Ideal) c i arg7 harg7 x6) (kernelRun0_B.sl.r_6 (F := Ideal) c arg5 harg5 x4) (harg1.unread x0) (harg2.unread x1) (harg3.unread x2) (harg9.unread x8) (harg10.unread x9) (harg12.unread x11) (harg13.unread x12) (harg16.unread x15) (arg21.view.writes (Elt Ideal) arg21.view.junk (kernelRun0_B.sl.HS0_48 (F := Ideal) c i arg5 harg5 arg6 harg6 arg7 harg7 arg8 harg8 x4 x5 x6 x7)) (harg23.unread xs2) k0_t1_loop.trips).2 = (slabs x0 x1 x2 xs2 x8 x9 x15) := by
  exact (loop_slabs Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (kernelRun0_B.sl.r_1 (F := Ideal) c i arg7 harg7 x6) (kernelRun0_B.sl.r_6 (F := Ideal) c arg5 harg5 x4) (harg1.unread x0) (harg2.unread x1) (harg3.unread x2) (harg9.unread x8) (harg10.unread x9) (harg12.unread x11) (harg13.unread x12) (harg16.unread x15) (arg21.view.writes (Elt Ideal) arg21.view.junk (kernelRun0_B.sl.HS0_48 (F := Ideal) c i arg5 harg5 arg6 harg6 arg7 harg7 arg8 harg8 x4 x5 x6 x7)) (harg23.unread xs2)).trans (slabs_congr (harg1.read_unread _) (harg2.read_unread _) (harg3.read_unread _) (harg23.read_unread _) (harg9.read_unread _) (harg10.read_unread _) (harg16.read_unread _))

theorem merged_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : (kernelRun0_B.sl.r_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x4 x5 x6 x7 x8 x9 x11 x12 x15 xs2) = mergedVec (slabs x0 x1 x2 xs2 x8 x9 x15) := by
  have hM := slabs_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2
  unfold kernelRun0_B.sl.r_7
  exact merged_eq _ _ _ _ _ _ _ _ _ (cov_plane16 _ _ hM 0 inb_S8x256x256_S1x256x256_0_0_0) (cov_plane16 _ _ hM 1 inb_S8x256x256_S1x256x256_1_0_0) (cov_plane16 _ _ hM 2 inb_S8x256x256_S1x256x256_2_0_0) (cov_plane16 _ _ hM 3 inb_S8x256x256_S1x256x256_3_0_0) (cov_plane16 _ _ hM 4 inb_S8x256x256_S1x256x256_4_0_0) (cov_plane16 _ _ hM 5 inb_S8x256x256_S1x256x256_5_0_0) (cov_plane16 _ _ hM 6 inb_S8x256x256_S1x256x256_6_0_0) (cov_plane16 _ _ hM 7 inb_S8x256x256_S1x256x256_7_0_0)

theorem result_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2 = k0_pay154 (F := Ideal) (mergedVec (slabs x0 x1 x2 xs2 x8 x9 x15)) x10 x3 x16 := by
  unfold out0_B_18
  refine (View.read_writes_eq_canon _ _ _ (fun y => View.cover_of_tiledL _ S256x2048.size (by sl_kernel_rfl) y)).trans ?_
  refine (canon_all _ _).trans ?_
  exact added_congr (merged_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2) (load_all harg11 x10 _) (load_all harg4 x3 _) (load_all harg17 x16 _)

theorem next_B (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : ¬cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) (xs2 : Vec Ideal S256x2048 .bf16) : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2 = k0_pay155 (F := Ideal) (mergedVec (slabs x0 x1 x2 xs2 x8 x9 x15)) x10 x3 x16 x17 := by
  unfold out0_B_19
  refine (View.read_writes_eq_canon _ _ _ (fun y => View.cover_of_tiledL _ S256x2048.size (by sl_kernel_rfl) y)).trans ?_
  refine (canon_all _ _).trans ?_
  exact renormed_congr (merged_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 xs2) (load_all harg11 x10 _) (load_all harg4 x3 _) (load_all harg17 x16 _) (load_all harg18 x17 _)

/-! ## The first step -/

theorem staged_A (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) : View.canon (kernelRun0_A.sl.HS0_48 (F := Ideal) c i arg5 harg5 arg6 harg6 arg7 harg7 arg8 harg8 x4 x5 x6 x7) = staged (k0_pay97 (F := Ideal) i x7 x5) (k0_pay99 (F := Ideal) x4) (k0_pay98 (F := Ideal) i x6) := by
  have e0 : (kernelRun0_A.sl.r (F := Ideal) c i arg6 harg6 arg8 harg8 x5 x7) = k0_pay97 (F := Ideal) i x7 x5 :=
    congrArg₂ (k0_pay97 (F := Ideal) i) (load_all harg8 x7 _) (load_all harg6 x5 _)
  have e1 : (kernelRun0_A.sl.r_1 (F := Ideal) c i arg7 harg7 x6) = k0_pay98 (F := Ideal) i x6 := congrArg (k0_pay98 (F := Ideal) i) (load_all harg7 x6 _)
  have e2 : (kernelRun0_A.sl.r_2 (F := Ideal) c arg5 harg5 x4) = k0_pay99 (F := Ideal) x4 := congrArg (k0_pay99 (F := Ideal)) (load_all harg5 x4 _)
  rw [← e0, ← e1, ← e2]
  funext y
  refine View.canon_apply_of_pieces (Val := Elt Ideal) (e := .f32) (S := S16x288x128) (staged (kernelRun0_A.sl.r (F := Ideal) c i arg6 harg6 arg8 harg8 x5 x7) (kernelRun0_A.sl.r_2 (F := Ideal) c arg5 harg5 x4) (kernelRun0_A.sl.r_1 (F := Ideal) c i arg7 harg7 x6)) _ ?_ y (View.cover_of_tiledBy _ ![1, 16, 128] (by sl_kernel_rfl) y)
  unfold kernelRun0_A.sl.HS0_48
  refine List.forall_mem_cons.mpr ⟨fun x => plane_piece (stagedAt _ _ _) 15 272 inb_S16x288x128_S1x16x128_15_272_0 _ (fun r l => (next15_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 15 r l _ rfl)) x, ?_⟩
  refine List.forall_mem_cons.mpr ⟨fun x => plane_piece (stagedAt _ _ _) 15 16 inb_S16x288x128_S1x256x128_15_16_0 _ (fun r l => (cur15_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 15 r l _ rfl)) x, ?_⟩
  refine List.forall_mem_cons.mpr ⟨fun x => plane_piece (stagedAt _ _ _) 15 0 inb_S16x288x128_S1x16x128_15_0_0 _ (fun r l => (prev15_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 15 r l _ rfl)) x, ?_⟩
  refine List.forall_mem_cons.mpr ⟨fun x => plane_piece (stagedAt _ _ _) 14 272 inb_S16x288x128_S1x16x128_14_272_0 _ (fun r l => (next14_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 14 r l _ rfl)) x, ?_⟩
  refine List.forall_mem_cons.mpr ⟨fun x => plane_piece (stagedAt _ _ _) 14 16 inb_S16x288x128_S1x256x128_14_16_0 _ (fun r l => (cur14_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 14 r l _ rfl)) x, ?_⟩
  refine List.forall_mem_cons.mpr ⟨fun x => plane_piece (stagedAt _ _ _) 14 0 inb_S16x288x128_S1x16x128_14_0_0 _ (fun r l => (prev14_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 14 r l _ rfl)) x, ?_⟩
  refine List.forall_mem_cons.mpr ⟨fun x => plane_piece (stagedAt _ _ _) 13 272 inb_S16x288x128_S1x16x128_13_272_0 _ (fun r l => (next13_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 13 r l _ rfl)) x, ?_⟩
  refine List.forall_mem_cons.mpr ⟨fun x => plane_piece (stagedAt _ _ _) 13 16 inb_S16x288x128_S1x256x128_13_16_0 _ (fun r l => (cur13_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 13 r l _ rfl)) x, ?_⟩
  refine List.forall_mem_cons.mpr ⟨fun x => plane_piece (stagedAt _ _ _) 13 0 inb_S16x288x128_S1x16x128_13_0_0 _ (fun r l => (prev13_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 13 r l _ rfl)) x, ?_⟩
  refine List.forall_mem_cons.mpr ⟨fun x => plane_piece (stagedAt _ _ _) 12 272 inb_S16x288x128_S1x16x128_12_272_0 _ (fun r l => (next12_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 12 r l _ rfl)) x, ?_⟩
  refine List.forall_mem_cons.mpr ⟨fun x => plane_piece (stagedAt _ _ _) 12 16 inb_S16x288x128_S1x256x128_12_16_0 _ (fun r l => (cur12_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 12 r l _ rfl)) x, ?_⟩
  refine List.forall_mem_cons.mpr ⟨fun x => plane_piece (stagedAt _ _ _) 12 0 inb_S16x288x128_S1x16x128_12_0_0 _ (fun r l => (prev12_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 12 r l _ rfl)) x, ?_⟩
  refine List.forall_mem_cons.mpr ⟨fun x => plane_piece (stagedAt _ _ _) 11 272 inb_S16x288x128_S1x16x128_11_272_0 _ (fun r l => (next11_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 11 r l _ rfl)) x, ?_⟩
  refine List.forall_mem_cons.mpr ⟨fun x => plane_piece (stagedAt _ _ _) 11 16 inb_S16x288x128_S1x256x128_11_16_0 _ (fun r l => (cur11_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 11 r l _ rfl)) x, ?_⟩
  refine List.forall_mem_cons.mpr ⟨fun x => plane_piece (stagedAt _ _ _) 11 0 inb_S16x288x128_S1x16x128_11_0_0 _ (fun r l => (prev11_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 11 r l _ rfl)) x, ?_⟩
  refine List.forall_mem_cons.mpr ⟨fun x => plane_piece (stagedAt _ _ _) 10 272 inb_S16x288x128_S1x16x128_10_272_0 _ (fun r l => (next10_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 10 r l _ rfl)) x, ?_⟩
  refine List.forall_mem_cons.mpr ⟨fun x => plane_piece (stagedAt _ _ _) 10 16 inb_S16x288x128_S1x256x128_10_16_0 _ (fun r l => (cur10_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 10 r l _ rfl)) x, ?_⟩
  refine List.forall_mem_cons.mpr ⟨fun x => plane_piece (stagedAt _ _ _) 10 0 inb_S16x288x128_S1x16x128_10_0_0 _ (fun r l => (prev10_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 10 r l _ rfl)) x, ?_⟩
  refine List.forall_mem_cons.mpr ⟨fun x => plane_piece (stagedAt _ _ _) 9 272 inb_S16x288x128_S1x16x128_9_272_0 _ (fun r l => (next9_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 9 r l _ rfl)) x, ?_⟩
  refine List.forall_mem_cons.mpr ⟨fun x => plane_piece (stagedAt _ _ _) 9 16 inb_S16x288x128_S1x256x128_9_16_0 _ (fun r l => (cur9_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 9 r l _ rfl)) x, ?_⟩
  refine List.forall_mem_cons.mpr ⟨fun x => plane_piece (stagedAt _ _ _) 9 0 inb_S16x288x128_S1x16x128_9_0_0 _ (fun r l => (prev9_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 9 r l _ rfl)) x, ?_⟩
  refine List.forall_mem_cons.mpr ⟨fun x => plane_piece (stagedAt _ _ _) 8 272 inb_S16x288x128_S1x16x128_8_272_0 _ (fun r l => (next8_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 8 r l _ rfl)) x, ?_⟩
  refine List.forall_mem_cons.mpr ⟨fun x => plane_piece (stagedAt _ _ _) 8 16 inb_S16x288x128_S1x256x128_8_16_0 _ (fun r l => (cur8_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 8 r l _ rfl)) x, ?_⟩
  refine List.forall_mem_cons.mpr ⟨fun x => plane_piece (stagedAt _ _ _) 8 0 inb_S16x288x128_S1x16x128_8_0_0 _ (fun r l => (prev8_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 8 r l _ rfl)) x, ?_⟩
  refine List.forall_mem_cons.mpr ⟨fun x => plane_piece (stagedAt _ _ _) 7 272 inb_S16x288x128_S1x16x128_7_272_0 _ (fun r l => (next7_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 7 r l _ rfl)) x, ?_⟩
  refine List.forall_mem_cons.mpr ⟨fun x => plane_piece (stagedAt _ _ _) 7 16 inb_S16x288x128_S1x256x128_7_16_0 _ (fun r l => (cur7_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 7 r l _ rfl)) x, ?_⟩
  refine List.forall_mem_cons.mpr ⟨fun x => plane_piece (stagedAt _ _ _) 7 0 inb_S16x288x128_S1x16x128_7_0_0 _ (fun r l => (prev7_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 7 r l _ rfl)) x, ?_⟩
  refine List.forall_mem_cons.mpr ⟨fun x => plane_piece (stagedAt _ _ _) 6 272 inb_S16x288x128_S1x16x128_6_272_0 _ (fun r l => (next6_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 6 r l _ rfl)) x, ?_⟩
  refine List.forall_mem_cons.mpr ⟨fun x => plane_piece (stagedAt _ _ _) 6 16 inb_S16x288x128_S1x256x128_6_16_0 _ (fun r l => (cur6_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 6 r l _ rfl)) x, ?_⟩
  refine List.forall_mem_cons.mpr ⟨fun x => plane_piece (stagedAt _ _ _) 6 0 inb_S16x288x128_S1x16x128_6_0_0 _ (fun r l => (prev6_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 6 r l _ rfl)) x, ?_⟩
  refine List.forall_mem_cons.mpr ⟨fun x => plane_piece (stagedAt _ _ _) 5 272 inb_S16x288x128_S1x16x128_5_272_0 _ (fun r l => (next5_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 5 r l _ rfl)) x, ?_⟩
  refine List.forall_mem_cons.mpr ⟨fun x => plane_piece (stagedAt _ _ _) 5 16 inb_S16x288x128_S1x256x128_5_16_0 _ (fun r l => (cur5_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 5 r l _ rfl)) x, ?_⟩
  refine List.forall_mem_cons.mpr ⟨fun x => plane_piece (stagedAt _ _ _) 5 0 inb_S16x288x128_S1x16x128_5_0_0 _ (fun r l => (prev5_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 5 r l _ rfl)) x, ?_⟩
  refine List.forall_mem_cons.mpr ⟨fun x => plane_piece (stagedAt _ _ _) 4 272 inb_S16x288x128_S1x16x128_4_272_0 _ (fun r l => (next4_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 4 r l _ rfl)) x, ?_⟩
  refine List.forall_mem_cons.mpr ⟨fun x => plane_piece (stagedAt _ _ _) 4 16 inb_S16x288x128_S1x256x128_4_16_0 _ (fun r l => (cur4_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 4 r l _ rfl)) x, ?_⟩
  refine List.forall_mem_cons.mpr ⟨fun x => plane_piece (stagedAt _ _ _) 4 0 inb_S16x288x128_S1x16x128_4_0_0 _ (fun r l => (prev4_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 4 r l _ rfl)) x, ?_⟩
  refine List.forall_mem_cons.mpr ⟨fun x => plane_piece (stagedAt _ _ _) 3 272 inb_S16x288x128_S1x16x128_3_272_0 _ (fun r l => (next3_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 3 r l _ rfl)) x, ?_⟩
  refine List.forall_mem_cons.mpr ⟨fun x => plane_piece (stagedAt _ _ _) 3 16 inb_S16x288x128_S1x256x128_3_16_0 _ (fun r l => (cur3_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 3 r l _ rfl)) x, ?_⟩
  refine List.forall_mem_cons.mpr ⟨fun x => plane_piece (stagedAt _ _ _) 3 0 inb_S16x288x128_S1x16x128_3_0_0 _ (fun r l => (prev3_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 3 r l _ rfl)) x, ?_⟩
  refine List.forall_mem_cons.mpr ⟨fun x => plane_piece (stagedAt _ _ _) 2 272 inb_S16x288x128_S1x16x128_2_272_0 _ (fun r l => (next2_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 2 r l _ rfl)) x, ?_⟩
  refine List.forall_mem_cons.mpr ⟨fun x => plane_piece (stagedAt _ _ _) 2 16 inb_S16x288x128_S1x256x128_2_16_0 _ (fun r l => (cur2_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 2 r l _ rfl)) x, ?_⟩
  refine List.forall_mem_cons.mpr ⟨fun x => plane_piece (stagedAt _ _ _) 2 0 inb_S16x288x128_S1x16x128_2_0_0 _ (fun r l => (prev2_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 2 r l _ rfl)) x, ?_⟩
  refine List.forall_mem_cons.mpr ⟨fun x => plane_piece (stagedAt _ _ _) 1 272 inb_S16x288x128_S1x16x128_1_272_0 _ (fun r l => (next1_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 1 r l _ rfl)) x, ?_⟩
  refine List.forall_mem_cons.mpr ⟨fun x => plane_piece (stagedAt _ _ _) 1 16 inb_S16x288x128_S1x256x128_1_16_0 _ (fun r l => (cur1_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 1 r l _ rfl)) x, ?_⟩
  refine List.forall_mem_cons.mpr ⟨fun x => plane_piece (stagedAt _ _ _) 1 0 inb_S16x288x128_S1x16x128_1_0_0 _ (fun r l => (prev1_at _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 1 r l _ rfl)) x, ?_⟩
  refine List.forall_mem_cons.mpr ⟨fun x => plane_piece (stagedAt _ _ _) 0 272 inb_S16x288x128_S1x16x128_0_272_0 _ (fun r l => (next0_at _ r l).trans (staged_next (kernelRun0_A.sl.r (F := Ideal) c i arg6 harg6 arg8 harg8 x5 x7) (kernelRun0_A.sl.r_2 (F := Ideal) c arg5 harg5 x4) (kernelRun0_A.sl.r_1 (F := Ideal) c i arg7 harg7 x6) 0 r l _ rfl)) x, ?_⟩
  refine List.forall_mem_cons.mpr ⟨fun x => plane_piece (stagedAt _ _ _) 0 16 inb_S16x288x128_S1x256x128_0_16_0 _ (fun r l => (cur0_at _ r l).trans (staged_cur (kernelRun0_A.sl.r (F := Ideal) c i arg6 harg6 arg8 harg8 x5 x7) (kernelRun0_A.sl.r_2 (F := Ideal) c arg5 harg5 x4) (kernelRun0_A.sl.r_1 (F := Ideal) c i arg7 harg7 x6) 0 r l _ rfl)) x, ?_⟩
  refine List.forall_mem_cons.mpr ⟨fun x => plane_piece (stagedAt _ _ _) 0 0 inb_S16x288x128_S1x16x128_0_0_0 _ (fun r l => (prev0_at _ _ _ r l).trans (staged_prev (kernelRun0_A.sl.r (F := Ideal) c i arg6 harg6 arg8 harg8 x5 x7) (kernelRun0_A.sl.r_2 (F := Ideal) c arg5 harg5 x4) (kernelRun0_A.sl.r_1 (F := Ideal) c i arg7 harg7 x6) 0 r l _ rfl)) x, ?_⟩
  exact fun p hp => absurd hp List.not_mem_nil

theorem conv_A (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) : View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (kernelRun0_A.sl.r_1 (F := Ideal) c i arg7 harg7 x6) (kernelRun0_A.sl.r_6 (F := Ideal) c arg5 harg5 x4) (harg1.unread x0) (harg2.unread x1) (harg3.unread x2) (harg9.unread x8) (harg10.unread x9) (harg12.unread x11) (harg13.unread x12) (harg16.unread x15) (arg21.view.writes (Elt Ideal) arg21.view.junk (kernelRun0_A.sl.HS0_48 (F := Ideal) c i arg5 harg5 arg6 harg6 arg7 harg7 arg8 harg8 x4 x5 x6 x7)) (arg23.view.writes (Elt Ideal) arg23.view.junk (kernelRun0_A.sl.HS2_1 (F := Ideal))) k0_t1_loop.trips).1 = (stepY i x4 x5 x6 x7 x11 x12) := by
  refine (loop_conv Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (kernelRun0_A.sl.r_1 (F := Ideal) c i arg7 harg7 x6) (kernelRun0_A.sl.r_6 (F := Ideal) c arg5 harg5 x4) (harg1.unread x0) (harg2.unread x1) (harg3.unread x2) (harg9.unread x8) (harg10.unread x9) (harg12.unread x11) (harg13.unread x12) (harg16.unread x15) (arg21.view.writes (Elt Ideal) arg21.view.junk (kernelRun0_A.sl.HS0_48 (F := Ideal) c i arg5 harg5 arg6 harg6 arg7 harg7 arg8 harg8 x4 x5 x6 x7)) (arg23.view.writes (Elt Ideal) arg23.view.junk (kernelRun0_A.sl.HS2_1 (F := Ideal)))).trans (convPlanes_congr ?_ (harg12.read_unread _) (harg13.read_unread _))
  rw [View.read_writes_eq_canon _ _ _ (View.cover_of_tiledBy _ ![1, 16, 128] (by sl_kernel_rfl))]
  exact staged_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17

theorem mean_A (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) : (kernelRun0_A.sl.r_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x4 x5 x6 x7 x8 x9 x11 x12 x15) = meanVec (stepY i x4 x5 x6 x7 x11 x12) := by
  have hY := conv_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
  unfold kernelRun0_A.sl.r_9 kernelRun0_A.sl.r_8
  exact mean_eq _ _ _ _ _ _ _ _ _ _ _ _ _ _ _ _ _ (cov_plane32 _ _ hY 0 inb_S16x256x128_S1x256x128_0_0_0) (cov_plane32 _ _ hY 1 inb_S16x256x128_S1x256x128_1_0_0) (cov_plane32 _ _ hY 2 inb_S16x256x128_S1x256x128_2_0_0) (cov_plane32 _ _ hY 3 inb_S16x256x128_S1x256x128_3_0_0) (cov_plane32 _ _ hY 4 inb_S16x256x128_S1x256x128_4_0_0) (cov_plane32 _ _ hY 5 inb_S16x256x128_S1x256x128_5_0_0) (cov_plane32 _ _ hY 6 inb_S16x256x128_S1x256x128_6_0_0) (cov_plane32 _ _ hY 7 inb_S16x256x128_S1x256x128_7_0_0) (cov_plane32 _ _ hY 8 inb_S16x256x128_S1x256x128_8_0_0) (cov_plane32 _ _ hY 9 inb_S16x256x128_S1x256x128_9_0_0) (cov_plane32 _ _ hY 10 inb_S16x256x128_S1x256x128_10_0_0) (cov_plane32 _ _ hY 11 inb_S16x256x128_S1x256x128_11_0_0) (cov_plane32 _ _ hY 12 inb_S16x256x128_S1x256x128_12_0_0) (cov_plane32 _ _ hY 13 inb_S16x256x128_S1x256x128_13_0_0) (cov_plane32 _ _ hY 14 inb_S16x256x128_S1x256x128_14_0_0) (cov_plane32 _ _ hY 15 inb_S16x256x128_S1x256x128_15_0_0)

theorem dev_A (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) : (kernelRun0_A.sl.r_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x4 x5 x6 x7 x8 x9 x11 x12 x15) = devVec (stepY i x4 x5 x6 x7 x11 x12) := by
  have hY := conv_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
  have hm := mean_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
  unfold kernelRun0_A.sl.r_14 kernelRun0_A.sl.r_11 kernelRun0_A.sl.r_10 kernelRun0_A.sl.r_12 kernelRun0_A.sl.r_13 kernelRun0_A.sl.r_8
  exact dev_eq _ _ hm _ _ _ _ _ _ _ _ _ _ _ _ _ _ _ _ (cov_plane32 _ _ hY 0 inb_S16x256x128_S1x256x128_0_0_0) (cov_plane32 _ _ hY 1 inb_S16x256x128_S1x256x128_1_0_0) (cov_plane32 _ _ hY 2 inb_S16x256x128_S1x256x128_2_0_0) (cov_plane32 _ _ hY 3 inb_S16x256x128_S1x256x128_3_0_0) (cov_plane32 _ _ hY 4 inb_S16x256x128_S1x256x128_4_0_0) (cov_plane32 _ _ hY 5 inb_S16x256x128_S1x256x128_5_0_0) (cov_plane32 _ _ hY 6 inb_S16x256x128_S1x256x128_6_0_0) (cov_plane32 _ _ hY 7 inb_S16x256x128_S1x256x128_7_0_0) (cov_plane32 _ _ hY 8 inb_S16x256x128_S1x256x128_8_0_0) (cov_plane32 _ _ hY 9 inb_S16x256x128_S1x256x128_9_0_0) (cov_plane32 _ _ hY 10 inb_S16x256x128_S1x256x128_10_0_0) (cov_plane32 _ _ hY 11 inb_S16x256x128_S1x256x128_11_0_0) (cov_plane32 _ _ hY 12 inb_S16x256x128_S1x256x128_12_0_0) (cov_plane32 _ _ hY 13 inb_S16x256x128_S1x256x128_13_0_0) (cov_plane32 _ _ hY 14 inb_S16x256x128_S1x256x128_14_0_0) (cov_plane32 _ _ hY 15 inb_S16x256x128_S1x256x128_15_0_0)

theorem inv_A (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) : (kernelRun0_A.sl.r_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x4 x5 x6 x7 x8 x9 x11 x12 x15) = invVec (stepY i x4 x5 x6 x7 x11 x12) := by
  have hY := conv_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
  unfold kernelRun0_A.sl.r_15
  exact inv_eq _ _ (mean_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17) _ (dev_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17) _ (cov_plane32 _ _ hY 15 inb_S16x256x128_S1x256x128_15_0_0)

theorem carried_A (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S16x2048 .bf16) (harg8 : arg8.IsWhole) (arg9 : Memref sig .tc .vmem S8x2048x256 .bf16) (harg9 : arg9.IsWhole) (arg10 : Memref sig .tc .vmem S8x2048x256 .bf16) (harg10 : arg10.IsWhole) (arg11 : Memref sig .tc .vmem S2048x2048 .bf16) (harg11 : arg11.IsWhole) (arg12 : Memref sig .tc .vmem S16x32x128 .f32) (harg12 : arg12.IsWhole) (arg13 : Memref sig .tc .vmem S16x1x128 .f32) (harg13 : arg13.IsWhole) (arg14 : Memref sig .tc .vmem S16x1x128 .f32) (harg14 : arg14.IsWhole) (arg15 : Memref sig .tc .vmem S16x1x128 .f32) (harg15 : arg15.IsWhole) (arg16 : Memref sig .tc .vmem S8x1x256 .f32) (harg16 : arg16.IsWhole) (arg17 : Memref sig .tc .vmem S1x2048 .f32) (harg17 : arg17.IsWhole) (arg18 : Memref sig .tc .vmem S1x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S16x288x128 .f32) (harg21 : arg21.IsWhole) (arg22 : Memref sig .tc .vmem S16x256x128 .f32) (harg22 : arg22.IsWhole) (arg23 : Memref sig .tc .vmem S256x2048 .bf16) (harg23 : arg23.IsWhole) (arg24 : Memref sig .tc .vmem S8x256x256 .bf16) (harg24 : arg24.IsWhole) (hc0 : cond0_0 i) (x0 : Vec Ideal S256x2048 .bf16) (x1 : Vec Ideal S256x2048 .bf16) (x2 : Vec Ideal S256x2048 .bf16) (x3 : Vec Ideal S256x2048 .f32) (x4 : Vec Ideal S256x2048 .bf16) (x5 : Vec Ideal S16x2048 .bf16) (x6 : Vec Ideal S16x2048 .bf16) (x7 : Vec Ideal S16x2048 .bf16) (x8 : Vec Ideal S8x2048x256 .bf16) (x9 : Vec Ideal S8x2048x256 .bf16) (x10 : Vec Ideal S2048x2048 .bf16) (x11 : Vec Ideal S16x32x128 .f32) (x12 : Vec Ideal S16x1x128 .f32) (x13 : Vec Ideal S16x1x128 .f32) (x14 : Vec Ideal S16x1x128 .f32) (x15 : Vec Ideal S8x1x256 .f32) (x16 : Vec Ideal S1x2048 .f32) (x17 : Vec Ideal S1x2048 .f32) : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 = acts (stepY i x4 x5 x6 x7 x11 x12) x13 x14 := by
  have hY := conv_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
  have hm := mean_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
  have hi := inv_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
  have hv := dev_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17
  have cov : ∀ y, ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17).2.2.1.take 16, y ∈ p.1.set := View.cover_of_tiledL _ ![256, 128] (by sl_kernel_rfl)
  funext y
  unfold sout0_A_2
  refine (congrFun (View.read_writes_eq_canon _ _ _ (fun y => (cov y).imp fun p hp => ⟨List.mem_of_mem_take hp.1, hp.2⟩)) y).trans ?_
  refine canon_blocks (e := .bf16) (S := S256x2048) (acts (stepY i x4 x5 x6 x7 x11 x12) x13 x14) ((kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17).2.2.1.drop 16) ((kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17).2.2.1.take 16) ?_ y (cov y)
  refine List.forall_mem_cons.mpr ⟨fun x => flat_piece (actAt (stepY i x4 x5 x6 x7 x11 x12) x13 x14) 0 1920 inb_S256x2048_S256x128_0_1920 _ (fun r l => act15_eq _ x13 x14 _ _ _ _ _ hm hi (cov_plane32 _ _ hY 15 inb_S16x256x128_S1x256x128_15_0_0) (load_planeOf harg14 x13 15 inb_S16x1x128_S1x1x128_15_0_0) (load_planeOf harg15 x14 15 inb_S16x1x128_S1x1x128_15_0_0) r l) x, ?_⟩
  refine List.forall_mem_cons.mpr ⟨fun x => flat_piece (actAt (stepY i x4 x5 x6 x7 x11 x12) x13 x14) 0 1792 inb_S256x2048_S256x128_0_1792 _ (fun r l => act14_eq _ x13 x14 _ _ _ _ _ hm hi (cov_plane32 _ _ hY 14 inb_S16x256x128_S1x256x128_14_0_0) (load_planeOf harg14 x13 14 inb_S16x1x128_S1x1x128_14_0_0) (load_planeOf harg15 x14 14 inb_S16x1x128_S1x1x128_14_0_0) r l) x, ?_⟩
  refine List.forall_mem_cons.mpr ⟨fun x => flat_piece (actAt (stepY i x4 x5 x6 x7 x11 x12) x13 x14) 0 1664 inb_S256x2048_S256x128_0_1664 _ (fun r l => act13_eq _ x13 x14 _ _ _ _ _ hm hi (cov_plane32 _ _ hY 13 inb_S16x256x128_S1x256x128_13_0_0) (load_planeOf harg14 x13 13 inb_S16x1x128_S1x1x128_13_0_0) (load_planeOf harg15 x14 13 inb_S16x1x128_S1x1x128_13_0_0) r l) x, ?_⟩
  refine List.forall_mem_cons.mpr ⟨fun x => flat_piece (actAt (stepY i x4 x5 x6 x7 x11 x12) x13 x14) 0 1536 inb_S256x2048_S256x128_0_1536 _ (fun r l => act12_eq _ x13 x14 _ _ _ _ _ hm hi (cov_plane32 _ _ hY 12 inb_S16x256x128_S1x256x128_12_0_0) (load_planeOf harg14 x13 12 inb_S16x1x128_S1x1x128_12_0_0) (load_planeOf harg15 x14 12 inb_S16x1x128_S1x1x128_12_0_0) r l) x, ?_⟩
  refine List.forall_mem_cons.mpr ⟨fun x => flat_piece (actAt (stepY i x4 x5 x6 x7 x11 x12) x13 x14) 0 1408 inb_S256x2048_S256x128_0_1408 _ (fun r l => act11_eq _ x13 x14 _ _ _ _ _ hm hi (cov_plane32 _ _ hY 11 inb_S16x256x128_S1x256x128_11_0_0) (load_planeOf harg14 x13 11 inb_S16x1x128_S1x1x128_11_0_0) (load_planeOf harg15 x14 11 inb_S16x1x128_S1x1x128_11_0_0) r l) x, ?_⟩
  refine List.forall_mem_cons.mpr ⟨fun x => flat_piece (actAt (stepY i x4 x5 x6 x7 x11 x12) x13 x14) 0 1280 inb_S256x2048_S256x128_0_1280 _ (fun r l => act10_eq _ x13 x14 _ _ _ _ _ hm hi (cov_plane32 _ _ hY 10 inb_S16x256x128_S1x256x128_10_0_0) (load_planeOf harg14 x13 10 inb_S16x1x128_S1x1x128_10_0_0) (load_planeOf harg15 x14 10 inb_S16x1x128_S1x1x128_10_0_0) r l) x, ?_⟩
  refine List.forall_mem_cons.mpr ⟨fun x => flat_piece (actAt (stepY i x4 x5 x6 x7 x11 x12) x13 x14) 0 1152 inb_S256x2048_S256x128_0_1152 _ (fun r l => act9_eq _ x13 x14 _ _ _ _ _ hm hi (cov_plane32 _ _ hY 9 inb_S16x256x128_S1x256x128_9_0_0) (load_planeOf harg14 x13 9 inb_S16x1x128_S1x1x128_9_0_0) (load_planeOf harg15 x14 9 inb_S16x1x128_S1x1x128_9_0_0) r l) x, ?_⟩
  refine List.forall_mem_cons.mpr ⟨fun x => flat_piece (actAt (stepY i x4 x5 x6 x7 x11 x12) x13 x14) 0 1024 inb_S256x2048_S256x128_0_1024 _ (fun r l => act8_eq _ x13 x14 _ _ _ _ _ hm hi (cov_plane32 _ _ hY 8 inb_S16x256x128_S1x256x128_8_0_0) (load_planeOf harg14 x13 8 inb_S16x1x128_S1x1x128_8_0_0) (load_planeOf harg15 x14 8 inb_S16x1x128_S1x1x128_8_0_0) r l) x, ?_⟩
  refine List.forall_mem_cons.mpr ⟨fun x => flat_piece (actAt (stepY i x4 x5 x6 x7 x11 x12) x13 x14) 0 896 inb_S256x2048_S256x128_0_896 _ (fun r l => act7_eq _ x13 x14 _ _ _ _ _ hm hi (cov_plane32 _ _ hY 7 inb_S16x256x128_S1x256x128_7_0_0) (load_planeOf harg14 x13 7 inb_S16x1x128_S1x1x128_7_0_0) (load_planeOf harg15 x14 7 inb_S16x1x128_S1x1x128_7_0_0) r l) x, ?_⟩
  refine List.forall_mem_cons.mpr ⟨fun x => flat_piece (actAt (stepY i x4 x5 x6 x7 x11 x12) x13 x14) 0 768 inb_S256x2048_S256x128_0_768 _ (fun r l => act6_eq _ x13 x14 _ _ _ _ _ hm hi (cov_plane32 _ _ hY 6 inb_S16x256x128_S1x256x128_6_0_0) (load_planeOf harg14 x13 6 inb_S16x1x128_S1x1x128_6_0_0) (load_planeOf harg15 x14 6 inb_S16x1x128_S1x1x128_6_0_0) r l) x, ?_⟩
  refine List.forall_mem_cons.mpr ⟨fun x => flat_piece (actAt (stepY i x4 x5 x6 x7 x11 x12) x13 x14) 0 640 inb_S256x2048_S256x128_0_640 _ (fun r l => act5_eq _ x13 x14 _ _ _ _ _ hm hi (cov_plane32 _ _ hY 5 inb_S16x256x128_S1x256x128_5_0_0) (load_planeOf harg14 x13 5 inb_S16x1x128_S1x1x128_5_0_0) (load_planeOf harg15 x14 5 inb_S16x1x128_S1x1x128_5_0_0) r l) x, ?_⟩
  refine List.forall_mem_cons.mpr ⟨fun x => flat_piece (actAt (stepY i x4 x5 x6 x7 x11 x12) x13 x14) 0 512 inb_S256x2048_S256x128_0_512 _ (fun r l => act4_eq _ x13 x14 _ _ _ _ _ hm hi (cov_plane32 _ _ hY 4 inb_S16x256x128_S1x256x128_4_0_0) (load_planeOf harg14 x13 4 inb_S16x1x128_S1x1x128_4_0_0) (load_planeOf harg15 x14 4 inb_S16x1x128_S1x1x128_4_0_0) r l) x, ?_⟩
  refine List.forall_mem_cons.mpr ⟨fun x => flat_piece (actAt (stepY i x4 x5 x6 x7 x11 x12) x13 x14) 0 384 inb_S256x2048_S256x128_0_384 _ (fun r l => act3_eq _ x13 x14 _ _ _ _ _ hm hi (cov_plane32 _ _ hY 3 inb_S16x256x128_S1x256x128_3_0_0) (load_planeOf harg14 x13 3 inb_S16x1x128_S1x1x128_3_0_0) (load_planeOf harg15 x14 3 inb_S16x1x128_S1x1x128_3_0_0) r l) x, ?_⟩
  refine List.forall_mem_cons.mpr ⟨fun x => flat_piece (actAt (stepY i x4 x5 x6 x7 x11 x12) x13 x14) 0 256 inb_S256x2048_S256x128_0_256 _ (fun r l => act2_eq _ x13 x14 _ _ _ _ _ hm hi (cov_plane32 _ _ hY 2 inb_S16x256x128_S1x256x128_2_0_0) (load_planeOf harg14 x13 2 inb_S16x1x128_S1x1x128_2_0_0) (load_planeOf harg15 x14 2 inb_S16x1x128_S1x1x128_2_0_0) r l) x, ?_⟩
  refine List.forall_mem_cons.mpr ⟨fun x => flat_piece (actAt (stepY i x4 x5 x6 x7 x11 x12) x13 x14) 0 128 inb_S256x2048_S256x128_0_128 _ (fun r l => act1_eq _ x13 x14 _ _ _ _ _ hm hi (cov_plane32 _ _ hY 1 inb_S16x256x128_S1x256x128_1_0_0) (load_planeOf harg14 x13 1 inb_S16x1x128_S1x1x128_1_0_0) (load_planeOf harg15 x14 1 inb_S16x1x128_S1x1x128_1_0_0) r l) x, ?_⟩
  refine List.forall_mem_cons.mpr ⟨fun x => flat_piece (actAt (stepY i x4 x5 x6 x7 x11 x12) x13 x14) 0 0 inb_S256x2048_S256x128_0_0 _ (fun r l => act0_eq _ x13 x14 _ _ _ _ _ _ hm hv (cov_plane32 _ _ hY 15 inb_S16x256x128_S1x256x128_15_0_0) (cov_plane32 _ _ hY 0 inb_S16x256x128_S1x256x128_0_0_0) (load_planeOf harg14 x13 0 inb_S16x1x128_S1x1x128_0_0_0) (load_planeOf harg15 x14 0 inb_S16x1x128_S1x1x128_0_0_0) r l) x, ?_⟩
  exact fun p hp => absurd hp List.not_mem_nil

end Cert.Layer

end
-- ==== Proof.Layer.MixBlocks.lean ====
/- WHAT THE MIXERS' OUTPUT KERNEL READS, over the extended reals: its blocks at each grid point as elements of its arguments' arrays. -/
module

public import proofs.«01_k».proof.Proof.Layer.MixMeaning
public import proofs.«01_k».proof.Proof.Layer.MixStep
public import proofs.«01_k».proof.Proof.Gen.Kernel3Ideal.Value
public import Idealize.ShloMosaic.Lib.Pipeline.ValueKit
public import Idealize.ShloMosaic.Lib.StableHlo.RunRead

@[expose] public section

set_option maxRecDepth 16384

noncomputable section

namespace Cert.Layer

open Idealize.ShloMosaic Idealize.ShloMosaic.TcCoe Idealize.ShloMosaic.Tactic
open Cert.Kernel3Ideal Cert.Kernel3Ideal.Gen

/-! ## What the host hands the kernel -/

theorem slab_weight_at (w : FVec Ideal S1x2048x2048 .f32) (s : Fin 8) (k : Fin 2048) (l : Fin 256) :
    truncf .bf16 (transpose S8x2048x256 [1, 0, 2] (shapeCast S2048x8x256 (shapeCast S2048x2048 w shapeCasts_S1x2048x2048_S2048x2048) shapeCasts_S2048x2048_S2048x8x256)
      transposes_S2048x8x256_S8x2048x256_1_0_2) bitsLt_bf16_f32 (ix3 s k l) = w (ix3 0 k ⟨256 * s.val + l.val, by omega⟩) := by
  pointwise
  exact congrArg w (congrArg (ix3 0 k) (Fin.ext (by simp only []; omega)))

theorem out_weight_at (w : FVec Ideal S1x2048x2048 .f32) (k j : Fin 2048) :
    truncf .bf16 (shapeCast S2048x2048 w shapeCasts_S1x2048x2048_S2048x2048) bitsLt_bf16_f32 (ix2 k j) = w (ix3 0 k j) := by
  pointwise

theorem slab_bias_at (b : FVec Ideal S1x2048 .f32) (s : Fin 8) (l : Fin 256) :
    shapeCast S8x1x256 (shapeCast S2048 b shapeCasts_S1x2048_S2048) shapeCasts_S2048_S8x1x256 (ix3 s 0 l) = b (ix2 0 ⟨256 * s.val + l.val, by omega⟩) := by
  pointwise
  exact congrArg b (congrArg (ix2 0) (Fin.ext (by simp only []; omega)))

theorem plane_gain_at (b : FVec Ideal S1x2048 .f32) (c : Fin 16) (l : Fin 128) :
    shapeCast S16x1x128 (shapeCast S2048 b shapeCasts_S1x2048_S2048) shapeCasts_S2048_S16x1x128 (ix3 c 0 l) = b (ix2 0 ⟨128 * c.val + l.val, by omega⟩) := by
  pointwise
  exact congrArg b (congrArg (ix2 0) (Fin.ext (by simp only []; omega)))

theorem row_gain_at (g : FVec Ideal S1x2048 .f32) (j : Fin 2048) :
    shapeCast S1x2048 (shapeCast S2048 g shapeCasts_S1x2048_S2048) shapeCasts_S2048_S1x2048 (ix2 0 j) = g (ix2 0 j) := by
  pointwise

/-- The taps' weights, one row of zeros after them. -/
theorem tap_plane_at (w : FVec Ideal S1x31x2048 .f32) (z : FVec Ideal S_ .f32) (c : Fin 16) (k : Fin 32) (hk : k.val < 31) (l : Fin 128) :
    transpose S16x32x128 [1, 0, 2] (shapeCast S32x16x128 (pad S32x2048 ![0, 0] ![1, 0] ![0, 0] (shapeCast S31x2048 w shapeCasts_S1x31x2048_S31x2048) z
      pads_S31x2048_S32x2048_010_000 h_S_) shapeCasts_S32x2048_S32x16x128) transposes_S32x16x128_S16x32x128_1_0_2 (ix3 c k l)
      = w (ix3 0 ⟨k.val, hk⟩ ⟨128 * c.val + l.val, by omega⟩) := by
  pointwise
  refine (dif_pos (show k.val < 31 ∧ c.val * 128 + l.val < 2048 by omega)).trans ?_
  exact congrArg w (congrArg (ix3 0 ⟨k.val, hk⟩) (Fin.ext (by simp only []; omega)))

variable (m : (ℓ : Loc nD τ sig) → Buf (Elt Ideal) ℓ)

/-! ## The kernel's arguments, as core `c` holds them -/

abbrev mixO (c : Dev nD) : FVec Ideal S8192x2048 .bf16 := m ((c.tc : Thread nD τ).loc main_arg0)
abbrev mixP (c : Dev nD) : FVec Ideal S8192x10240 .bf16 := m ((c.tc : Thread nD τ).loc main_arg1)
abbrev mixGlu (c : Dev nD) : FVec Ideal S8192x2048 .bf16 := m ((c.tc : Thread nD τ).loc main_arg2)
abbrev mixFront (c : Dev nD) : FVec Ideal S64x2048 .bf16 := m ((c.tc : Thread nD τ).loc main_arg3)
abbrev mixH (c : Dev nD) : FVec Ideal S8192x2048 .f32 := m ((c.tc : Thread nD τ).loc main_arg4)
abbrev mixWg (c : Dev nD) : FVec Ideal S1x2048x2048 .f32 := m ((c.tc : Thread nD τ).loc main_arg5)
abbrev mixWd (c : Dev nD) : FVec Ideal S1x31x2048 .f32 := m ((c.tc : Thread nD τ).loc main_arg6)
abbrev mixBd (c : Dev nD) : FVec Ideal S1x2048 .f32 := m ((c.tc : Thread nD τ).loc main_arg7)
abbrev mixLg (c : Dev nD) : FVec Ideal S1x2048 .f32 := m ((c.tc : Thread nD τ).loc main_arg8)
abbrev mixLb (c : Dev nD) : FVec Ideal S1x2048 .f32 := m ((c.tc : Thread nD τ).loc main_arg9)
abbrev mixWc (c : Dev nD) : FVec Ideal S1x2048x2048 .f32 := m ((c.tc : Thread nD τ).loc main_arg10)
abbrev mixBc (c : Dev nD) : FVec Ideal S1x2048 .f32 := m ((c.tc : Thread nD τ).loc main_arg11)
abbrev mixWo (c : Dev nD) : FVec Ideal S1x2048x2048 .f32 := m ((c.tc : Thread nD τ).loc main_arg12)
abbrev mixGp (c : Dev nD) : FVec Ideal S1x2048 .f32 := m ((c.tc : Thread nD τ).loc main_arg13)
abbrev mixGn (c : Dev nD) : FVec Ideal S1x2048 .f32 := m ((c.tc : Thread nD τ).loc main_arg14)

theorem mix_V7 (c : Dev nD) : V m c main_v7 = truncf .bf16 (transpose S8x2048x256 [1, 0, 2] (shapeCast S2048x8x256 (shapeCast S2048x2048 (mixWg m c) shapeCasts_S1x2048x2048_S2048x2048) shapeCasts_S2048x2048_S2048x8x256) transposes_S2048x8x256_S8x2048x256_1_0_2) bitsLt_bf16_f32 := by
  show StableHlo.after (hostOps0 ++ hostOps0_1 ++ hostOps0_2) _ _ = _
  after_reads_simp
  rfl
theorem mix_V11 (c : Dev nD) : V m c main_v11 = truncf .bf16 (transpose S8x2048x256 [1, 0, 2] (shapeCast S2048x8x256 (shapeCast S2048x2048 (mixWc m c) shapeCasts_S1x2048x2048_S2048x2048) shapeCasts_S2048x2048_S2048x8x256) transposes_S2048x8x256_S8x2048x256_1_0_2) bitsLt_bf16_f32 := by
  show StableHlo.after (hostOps0 ++ hostOps0_1 ++ hostOps0_2) _ _ = _
  after_reads_simp
  rfl
theorem mix_V13 (c : Dev nD) : V m c main_v13 = truncf .bf16 (shapeCast S2048x2048 (mixWo m c) shapeCasts_S1x2048x2048_S2048x2048) bitsLt_bf16_f32 := by
  show StableHlo.after (hostOps0 ++ hostOps0_1 ++ hostOps0_2) _ _ = _
  after_reads_simp
  rfl
theorem mix_V3 (c : Dev nD) : V m c main_v3 = transpose S16x32x128 [1, 0, 2] (shapeCast S32x16x128 (pad S32x2048 ![0, 0] ![1, 0] ![0, 0] (shapeCast S31x2048 (mixWd m c) shapeCasts_S1x31x2048_S31x2048) (sitofp .f32 (constantI S_ 32 0#32)) pads_S31x2048_S32x2048_010_000 h_S_) shapeCasts_S32x2048_S32x16x128) transposes_S32x16x128_S16x32x128_1_0_2 := by
  show StableHlo.after (hostOps0 ++ hostOps0_1 ++ hostOps0_2) _ _ = _
  after_reads_simp
  rfl
theorem mix_V15 (c : Dev nD) : V m c main_v15 = shapeCast S8x1x256 (shapeCast S2048 (mixBc m c) shapeCasts_S1x2048_S2048) shapeCasts_S2048_S8x1x256 := by
  show StableHlo.after (hostOps0 ++ hostOps0_1 ++ hostOps0_2) _ _ = _
  after_reads_simp
  rfl
theorem mix_V17 (c : Dev nD) : V m c main_v17 = shapeCast S16x1x128 (shapeCast S2048 (mixBd m c) shapeCasts_S1x2048_S2048) shapeCasts_S2048_S16x1x128 := by
  show StableHlo.after (hostOps0 ++ hostOps0_1 ++ hostOps0_2) _ _ = _
  after_reads_simp
  rfl
theorem mix_V19 (c : Dev nD) : V m c main_v19 = shapeCast S16x1x128 (shapeCast S2048 (mixLg m c) shapeCasts_S1x2048_S2048) shapeCasts_S2048_S16x1x128 := by
  show StableHlo.after (hostOps0 ++ hostOps0_1 ++ hostOps0_2) _ _ = _
  after_reads_simp
  rfl
theorem mix_V21 (c : Dev nD) : V m c main_v21 = shapeCast S16x1x128 (shapeCast S2048 (mixLb m c) shapeCasts_S1x2048_S2048) shapeCasts_S2048_S16x1x128 := by
  show StableHlo.after (hostOps0 ++ hostOps0_1 ++ hostOps0_2) _ _ = _
  after_reads_simp
  rfl
theorem mix_V23 (c : Dev nD) : V m c main_v23 = shapeCast S1x2048 (shapeCast S2048 (mixGp m c) shapeCasts_S1x2048_S2048) shapeCasts_S2048_S1x2048 := by
  show StableHlo.after (hostOps0 ++ hostOps0_1 ++ hostOps0_2) _ _ = _
  after_reads_simp
  rfl
theorem mix_V25 (c : Dev nD) : V m c main_v25 = shapeCast S1x2048 (shapeCast S2048 (mixGn m c) shapeCasts_S1x2048_S2048) shapeCasts_S2048_S1x2048 := by
  show StableHlo.after (hostOps0 ++ hostOps0_1 ++ hostOps0_2) _ _ = _
  after_reads_simp
  rfl

/-! ## Where the blocks lie -/

theorem mix_index0 : ∀ t : Fin grid0.N, cc0_transform_0 (grid0.coords t) = ![t.val - 1, 0] := by decide +kernel
theorem mix_index1 : ∀ t : Fin grid0.N, cc0_transform_1 (grid0.coords t) = ![t.val - 1, 3] := by decide +kernel
theorem mix_index2 : ∀ t : Fin grid0.N, cc0_transform_2 (grid0.coords t) = ![t.val - 1, 4] := by decide +kernel
theorem mix_index3 : ∀ t : Fin grid0.N, cc0_transform_3 (grid0.coords t) = ![t.val - 1, 0] := by decide +kernel
theorem mix_index4 : ∀ t : Fin grid0.N, cc0_transform_4 (grid0.coords t) = ![min t.val 31, 0] := by decide +kernel
theorem mix_index5 : ∀ t : Fin grid0.N, cc0_transform_5 (grid0.coords t) = ![16 * min t.val 31 - 1, 0] := by decide +kernel
theorem mix_index6 : ∀ t : Fin grid0.N, cc0_transform_6 (grid0.coords t) = ![min (16 * (min t.val 31 + 1)) 511, 0] := by decide +kernel
theorem mix_index7 : ∀ t : Fin grid0.N, cc0_transform_7 (grid0.coords t) = ![3, 0] := by decide +kernel
theorem mix_index18 : ∀ t : Fin grid0.N, cc0_transform_18 (grid0.coords t) = ![t.val - 1, 0] := by decide +kernel
theorem mix_index19 : ∀ t : Fin grid0.N, cc0_transform_19 (grid0.coords t) = ![t.val - 1, 0] := by decide +kernel

/-- The attention branch's rows. -/
theorem mix_block0 (c : Dev nD) (t : Fin cfg0.N) (r : Fin 256) (k : Fin 2048) (R : Fin 8192) (hR : R.val = 256 * (t.val - 1) + r.val) :
    (iblk m c 0 t : S256x2048.Idx → EReal) (ix2 r k) = mixO m c (ix2 R k) := by
  have e : (((cfg0.win 0).blk t).view.emb (ix2 r k)) = (ix2 R k : S8192x2048.Idx) := by
    funext a
    apply Fin.ext
    refine (Pipeline.Window.rect_emb_val (cfg0.win 0) t (ix2 r k) a).trans ?_
    have h := congrFun (mix_index0 t) a
    fin_cases a
    · show cc0_transform_0 (grid0.coords t) 0 * 256 + r.val = R.val
      rw [show cc0_transform_0 (grid0.coords t) 0 = t.val - 1 from h]; omega
    · show cc0_transform_0 (grid0.coords t) 1 * 2048 + k.val = k.val
      rw [show cc0_transform_0 (grid0.coords t) 1 = 0 from h]; omega
  show (V m c main_arg0 : S8192x2048.Idx → EReal) (((cfg0.win 0).blk t).view.emb (ix2 r k)) = _
  rw [e, V_main_arg0]

/-- The first branch's gates. -/
theorem mix_block1 (c : Dev nD) (t : Fin cfg0.N) (r : Fin 256) (k : Fin 2048) (R : Fin 8192) (hR : R.val = 256 * (t.val - 1) + r.val) (C : Fin 10240) (hC : C.val = 6144 + k.val) :
    (iblk m c 1 t : S256x2048.Idx → EReal) (ix2 r k) = mixP m c (ix2 R C) := by
  have e : (((cfg0.win 1).blk t).view.emb (ix2 r k)) = (ix2 R C : S8192x10240.Idx) := by
    funext a
    apply Fin.ext
    refine (Pipeline.Window.rect_emb_val (cfg0.win 1) t (ix2 r k) a).trans ?_
    have h := congrFun (mix_index1 t) a
    fin_cases a
    · show cc0_transform_1 (grid0.coords t) 0 * 256 + r.val = R.val
      rw [show cc0_transform_1 (grid0.coords t) 0 = t.val - 1 from h]; omega
    · show cc0_transform_1 (grid0.coords t) 1 * 2048 + k.val = C.val
      rw [show cc0_transform_1 (grid0.coords t) 1 = 3 from h]; omega
  show (V m c main_arg1 : S8192x10240.Idx → EReal) (((cfg0.win 1).blk t).view.emb (ix2 r k)) = _
  rw [e, V_main_arg1]

/-- The second branch's gates. -/
theorem mix_block2 (c : Dev nD) (t : Fin cfg0.N) (r : Fin 256) (k : Fin 2048) (R : Fin 8192) (hR : R.val = 256 * (t.val - 1) + r.val) (C : Fin 10240) (hC : C.val = 8192 + k.val) :
    (iblk m c 2 t : S256x2048.Idx → EReal) (ix2 r k) = mixP m c (ix2 R C) := by
  have e : (((cfg0.win 2).blk t).view.emb (ix2 r k)) = (ix2 R C : S8192x10240.Idx) := by
    funext a
    apply Fin.ext
    refine (Pipeline.Window.rect_emb_val (cfg0.win 2) t (ix2 r k) a).trans ?_
    have h := congrFun (mix_index2 t) a
    fin_cases a
    · show cc0_transform_2 (grid0.coords t) 0 * 256 + r.val = R.val
      rw [show cc0_transform_2 (grid0.coords t) 0 = t.val - 1 from h]; omega
    · show cc0_transform_2 (grid0.coords t) 1 * 2048 + k.val = C.val
      rw [show cc0_transform_2 (grid0.coords t) 1 = 4 from h]; omega
  show (V m c main_arg1 : S8192x10240.Idx → EReal) (((cfg0.win 2).blk t).view.emb (ix2 r k)) = _
  rw [e, V_main_arg1]

/-- The residual's rows. -/
theorem mix_block3 (c : Dev nD) (t : Fin cfg0.N) (r : Fin 256) (k : Fin 2048) (R : Fin 8192) (hR : R.val = 256 * (t.val - 1) + r.val) :
    (iblk m c 3 t : S256x2048.Idx → EReal) (ix2 r k) = mixH m c (ix2 R k) := by
  have e : (((cfg0.win 3).blk t).view.emb (ix2 r k)) = (ix2 R k : S8192x2048.Idx) := by
    funext a
    apply Fin.ext
    refine (Pipeline.Window.rect_emb_val (cfg0.win 3) t (ix2 r k) a).trans ?_
    have h := congrFun (mix_index3 t) a
    fin_cases a
    · show cc0_transform_3 (grid0.coords t) 0 * 256 + r.val = R.val
      rw [show cc0_transform_3 (grid0.coords t) 0 = t.val - 1 from h]; omega
    · show cc0_transform_3 (grid0.coords t) 1 * 2048 + k.val = k.val
      rw [show cc0_transform_3 (grid0.coords t) 1 = 0 from h]; omega
  show (V m c main_arg4 : S8192x2048.Idx → EReal) (((cfg0.win 3).blk t).view.emb (ix2 r k)) = _
  rw [e, V_main_arg4]

/-- The gated rows the convolution is at. -/
theorem mix_block4 (c : Dev nD) (t : Fin cfg0.N) (r : Fin 256) (k : Fin 2048) (R : Fin 8192) (hR : R.val = 256 * min t.val 31 + r.val) :
    (iblk m c 4 t : S256x2048.Idx → EReal) (ix2 r k) = mixGlu m c (ix2 R k) := by
  have e : (((cfg0.win 4).blk t).view.emb (ix2 r k)) = (ix2 R k : S8192x2048.Idx) := by
    funext a
    apply Fin.ext
    refine (Pipeline.Window.rect_emb_val (cfg0.win 4) t (ix2 r k) a).trans ?_
    have h := congrFun (mix_index4 t) a
    fin_cases a
    · show cc0_transform_4 (grid0.coords t) 0 * 256 + r.val = R.val
      rw [show cc0_transform_4 (grid0.coords t) 0 = min t.val 31 from h]; omega
    · show cc0_transform_4 (grid0.coords t) 1 * 2048 + k.val = k.val
      rw [show cc0_transform_4 (grid0.coords t) 1 = 0 from h]; omega
  show (V m c main_arg2 : S8192x2048.Idx → EReal) (((cfg0.win 4).blk t).view.emb (ix2 r k)) = _
  rw [e, V_main_arg2]

/-- The sixteen rows before them. -/
theorem mix_block5 (c : Dev nD) (t : Fin cfg0.N) (r : Fin 16) (k : Fin 2048) (R : Fin 8192) (hR : R.val = 16 * (16 * min t.val 31 - 1) + r.val) :
    (iblk m c 5 t : S16x2048.Idx → EReal) (ix2 r k) = mixGlu m c (ix2 R k) := by
  have e : (((cfg0.win 5).blk t).view.emb (ix2 r k)) = (ix2 R k : S8192x2048.Idx) := by
    funext a
    apply Fin.ext
    refine (Pipeline.Window.rect_emb_val (cfg0.win 5) t (ix2 r k) a).trans ?_
    have h := congrFun (mix_index5 t) a
    fin_cases a
    · show cc0_transform_5 (grid0.coords t) 0 * 16 + r.val = R.val
      rw [show cc0_transform_5 (grid0.coords t) 0 = 16 * min t.val 31 - 1 from h]; omega
    · show cc0_transform_5 (grid0.coords t) 1 * 2048 + k.val = k.val
      rw [show cc0_transform_5 (grid0.coords t) 1 = 0 from h]; omega
  show (V m c main_arg2 : S8192x2048.Idx → EReal) (((cfg0.win 5).blk t).view.emb (ix2 r k)) = _
  rw [e, V_main_arg2]

/-- The sixteen rows after them. -/
theorem mix_block6 (c : Dev nD) (t : Fin cfg0.N) (r : Fin 16) (k : Fin 2048) (R : Fin 8192) (hR : R.val = 16 * min (16 * (min t.val 31 + 1)) 511 + r.val) :
    (iblk m c 6 t : S16x2048.Idx → EReal) (ix2 r k) = mixGlu m c (ix2 R k) := by
  have e : (((cfg0.win 6).blk t).view.emb (ix2 r k)) = (ix2 R k : S8192x2048.Idx) := by
    funext a
    apply Fin.ext
    refine (Pipeline.Window.rect_emb_val (cfg0.win 6) t (ix2 r k) a).trans ?_
    have h := congrFun (mix_index6 t) a
    fin_cases a
    · show cc0_transform_6 (grid0.coords t) 0 * 16 + r.val = R.val
      rw [show cc0_transform_6 (grid0.coords t) 0 = min (16 * (min t.val 31 + 1)) 511 from h]; omega
    · show cc0_transform_6 (grid0.coords t) 1 * 2048 + k.val = k.val
      rw [show cc0_transform_6 (grid0.coords t) 1 = 0 from h]; omega
  show (V m c main_arg2 : S8192x2048.Idx → EReal) (((cfg0.win 6).blk t).view.emb (ix2 r k)) = _
  rw [e, V_main_arg2]

/-- The meta rows. -/
theorem mix_block7 (c : Dev nD) (t : Fin cfg0.N) (r : Fin 16) (k : Fin 2048) (R : Fin 64) (hR : R.val = 48 + r.val) :
    (iblk m c 7 t : S16x2048.Idx → EReal) (ix2 r k) = mixFront m c (ix2 R k) := by
  have e : (((cfg0.win 7).blk t).view.emb (ix2 r k)) = (ix2 R k : S64x2048.Idx) := by
    funext a
    apply Fin.ext
    refine (Pipeline.Window.rect_emb_val (cfg0.win 7) t (ix2 r k) a).trans ?_
    have h := congrFun (mix_index7 t) a
    fin_cases a
    · show cc0_transform_7 (grid0.coords t) 0 * 16 + r.val = R.val
      rw [show cc0_transform_7 (grid0.coords t) 0 = 3 from h]; omega
    · show cc0_transform_7 (grid0.coords t) 1 * 2048 + k.val = k.val
      rw [show cc0_transform_7 (grid0.coords t) 1 = 0 from h]; omega
  show (V m c main_arg3 : S64x2048.Idx → EReal) (((cfg0.win 7).blk t).view.emb (ix2 r k)) = _
  rw [e, V_main_arg3]

/-! ## The blocks that are whole arrays -/

theorem mix_whole8 (c : Dev nD) (t : Fin cfg0.N) : (iblk m c 8 t : S8x2048x256.Idx → EReal) = V m c main_v7 := by
  funext y
  have e : (((cfg0.win 8).blk t).view.emb y) = (y : S8x2048x256.Idx) := by
    funext a
    apply Fin.ext
    refine (Pipeline.Window.rect_emb_val (cfg0.win 8) t y a).trans ?_
    fin_cases a
    · show 0 * 8 + (y 0).val = (y 0).val; omega
    · show 0 * 2048 + (y 1).val = (y 1).val; omega
    · show 0 * 256 + (y 2).val = (y 2).val; omega
  show (V m c main_v7 : S8x2048x256.Idx → EReal) (((cfg0.win 8).blk t).view.emb y) = _
  rw [e]

theorem mix_whole9 (c : Dev nD) (t : Fin cfg0.N) : (iblk m c 9 t : S8x2048x256.Idx → EReal) = V m c main_v11 := by
  funext y
  have e : (((cfg0.win 9).blk t).view.emb y) = (y : S8x2048x256.Idx) := by
    funext a
    apply Fin.ext
    refine (Pipeline.Window.rect_emb_val (cfg0.win 9) t y a).trans ?_
    fin_cases a
    · show 0 * 8 + (y 0).val = (y 0).val; omega
    · show 0 * 2048 + (y 1).val = (y 1).val; omega
    · show 0 * 256 + (y 2).val = (y 2).val; omega
  show (V m c main_v11 : S8x2048x256.Idx → EReal) (((cfg0.win 9).blk t).view.emb y) = _
  rw [e]

theorem mix_whole10 (c : Dev nD) (t : Fin cfg0.N) : (iblk m c 10 t : S2048x2048.Idx → EReal) = V m c main_v13 := by
  funext y
  have e : (((cfg0.win 10).blk t).view.emb y) = (y : S2048x2048.Idx) := by
    funext a
    apply Fin.ext
    refine (Pipeline.Window.rect_emb_val (cfg0.win 10) t y a).trans ?_
    fin_cases a
    · show 0 * 2048 + (y 0).val = (y 0).val; omega
    · show 0 * 2048 + (y 1).val = (y 1).val; omega
  show (V m c main_v13 : S2048x2048.Idx → EReal) (((cfg0.win 10).blk t).view.emb y) = _
  rw [e]

theorem mix_whole11 (c : Dev nD) (t : Fin cfg0.N) : (iblk m c 11 t : S16x32x128.Idx → EReal) = V m c main_v3 := by
  funext y
  have e : (((cfg0.win 11).blk t).view.emb y) = (y : S16x32x128.Idx) := by
    funext a
    apply Fin.ext
    refine (Pipeline.Window.rect_emb_val (cfg0.win 11) t y a).trans ?_
    fin_cases a
    · show 0 * 16 + (y 0).val = (y 0).val; omega
    · show 0 * 32 + (y 1).val = (y 1).val; omega
    · show 0 * 128 + (y 2).val = (y 2).val; omega
  show (V m c main_v3 : S16x32x128.Idx → EReal) (((cfg0.win 11).blk t).view.emb y) = _
  rw [e]

theorem mix_whole12 (c : Dev nD) (t : Fin cfg0.N) : (iblk m c 12 t : S16x1x128.Idx → EReal) = V m c main_v17 := by
  funext y
  have e : (((cfg0.win 12).blk t).view.emb y) = (y : S16x1x128.Idx) := by
    funext a
    apply Fin.ext
    refine (Pipeline.Window.rect_emb_val (cfg0.win 12) t y a).trans ?_
    fin_cases a
    · show 0 * 16 + (y 0).val = (y 0).val; omega
    · show 0 * 1 + (y 1).val = (y 1).val; omega
    · show 0 * 128 + (y 2).val = (y 2).val; omega
  show (V m c main_v17 : S16x1x128.Idx → EReal) (((cfg0.win 12).blk t).view.emb y) = _
  rw [e]

theorem mix_whole13 (c : Dev nD) (t : Fin cfg0.N) : (iblk m c 13 t : S16x1x128.Idx → EReal) = V m c main_v19 := by
  funext y
  have e : (((cfg0.win 13).blk t).view.emb y) = (y : S16x1x128.Idx) := by
    funext a
    apply Fin.ext
    refine (Pipeline.Window.rect_emb_val (cfg0.win 13) t y a).trans ?_
    fin_cases a
    · show 0 * 16 + (y 0).val = (y 0).val; omega
    · show 0 * 1 + (y 1).val = (y 1).val; omega
    · show 0 * 128 + (y 2).val = (y 2).val; omega
  show (V m c main_v19 : S16x1x128.Idx → EReal) (((cfg0.win 13).blk t).view.emb y) = _
  rw [e]

theorem mix_whole14 (c : Dev nD) (t : Fin cfg0.N) : (iblk m c 14 t : S16x1x128.Idx → EReal) = V m c main_v21 := by
  funext y
  have e : (((cfg0.win 14).blk t).view.emb y) = (y : S16x1x128.Idx) := by
    funext a
    apply Fin.ext
    refine (Pipeline.Window.rect_emb_val (cfg0.win 14) t y a).trans ?_
    fin_cases a
    · show 0 * 16 + (y 0).val = (y 0).val; omega
    · show 0 * 1 + (y 1).val = (y 1).val; omega
    · show 0 * 128 + (y 2).val = (y 2).val; omega
  show (V m c main_v21 : S16x1x128.Idx → EReal) (((cfg0.win 14).blk t).view.emb y) = _
  rw [e]

theorem mix_whole15 (c : Dev nD) (t : Fin cfg0.N) : (iblk m c 15 t : S8x1x256.Idx → EReal) = V m c main_v15 := by
  funext y
  have e : (((cfg0.win 15).blk t).view.emb y) = (y : S8x1x256.Idx) := by
    funext a
    apply Fin.ext
    refine (Pipeline.Window.rect_emb_val (cfg0.win 15) t y a).trans ?_
    fin_cases a
    · show 0 * 8 + (y 0).val = (y 0).val; omega
    · show 0 * 1 + (y 1).val = (y 1).val; omega
    · show 0 * 256 + (y 2).val = (y 2).val; omega
  show (V m c main_v15 : S8x1x256.Idx → EReal) (((cfg0.win 15).blk t).view.emb y) = _
  rw [e]

theorem mix_whole16 (c : Dev nD) (t : Fin cfg0.N) : (iblk m c 16 t : S1x2048.Idx → EReal) = V m c main_v23 := by
  funext y
  have e : (((cfg0.win 16).blk t).view.emb y) = (y : S1x2048.Idx) := by
    funext a
    apply Fin.ext
    refine (Pipeline.Window.rect_emb_val (cfg0.win 16) t y a).trans ?_
    fin_cases a
    · show 0 * 1 + (y 0).val = (y 0).val; omega
    · show 0 * 2048 + (y 1).val = (y 1).val; omega
  show (V m c main_v23 : S1x2048.Idx → EReal) (((cfg0.win 16).blk t).view.emb y) = _
  rw [e]

theorem mix_whole17 (c : Dev nD) (t : Fin cfg0.N) : (iblk m c 17 t : S1x2048.Idx → EReal) = V m c main_v25 := by
  funext y
  have e : (((cfg0.win 17).blk t).view.emb y) = (y : S1x2048.Idx) := by
    funext a
    apply Fin.ext
    refine (Pipeline.Window.rect_emb_val (cfg0.win 17) t y a).trans ?_
    fin_cases a
    · show 0 * 1 + (y 0).val = (y 0).val; omega
    · show 0 * 2048 + (y 1).val = (y 1).val; omega
  show (V m c main_v25 : S1x2048.Idx → EReal) (((cfg0.win 17).blk t).view.emb y) = _
  rw [e]

theorem mix_block8 (c : Dev nD) (t : Fin cfg0.N) (s : Fin 8) (k : Fin 2048) (l : Fin 256) :
    (iblk m c 8 t : S8x2048x256.Idx → EReal) (ix3 s k l) = mixWg m c (ix3 0 k ⟨256 * s.val + l.val, by omega⟩) := by
  rw [mix_whole8, mix_V7]
  exact slab_weight_at (mixWg m c) s k l

theorem mix_block9 (c : Dev nD) (t : Fin cfg0.N) (s : Fin 8) (k : Fin 2048) (l : Fin 256) :
    (iblk m c 9 t : S8x2048x256.Idx → EReal) (ix3 s k l) = mixWc m c (ix3 0 k ⟨256 * s.val + l.val, by omega⟩) := by
  rw [mix_whole9, mix_V11]
  exact slab_weight_at (mixWc m c) s k l

theorem mix_block10 (c : Dev nD) (t : Fin cfg0.N) (k j : Fin 2048) :
    (iblk m c 10 t : S2048x2048.Idx → EReal) (ix2 k j) = mixWo m c (ix3 0 k j) := by
  rw [mix_whole10, mix_V13]
  exact out_weight_at (mixWo m c) k j

theorem mix_block11 (c : Dev nD) (t : Fin cfg0.N) (p : Fin 16) (k : Fin 32) (hk : k.val < 31) (l : Fin 128) :
    (iblk m c 11 t : S16x32x128.Idx → EReal) (ix3 p k l) = mixWd m c (ix3 0 ⟨k.val, hk⟩ ⟨128 * p.val + l.val, by omega⟩) := by
  rw [mix_whole11, mix_V3]
  exact tap_plane_at (mixWd m c) _ p k hk l

theorem mix_block15 (c : Dev nD) (t : Fin cfg0.N) (s : Fin 8) (l : Fin 256) :
    (iblk m c 15 t : S8x1x256.Idx → EReal) (ix3 s 0 l) = mixBc m c (ix2 0 ⟨256 * s.val + l.val, by omega⟩) := by
  rw [mix_whole15, mix_V15]
  exact slab_bias_at (mixBc m c) s l

theorem mix_block12 (c : Dev nD) (t : Fin cfg0.N) (p : Fin 16) (l : Fin 128) :
    (iblk m c 12 t : S16x1x128.Idx → EReal) (ix3 p 0 l) = mixBd m c (ix2 0 ⟨128 * p.val + l.val, by omega⟩) := by
  rw [mix_whole12, mix_V17]
  exact plane_gain_at (mixBd m c) p l

theorem mix_block13 (c : Dev nD) (t : Fin cfg0.N) (p : Fin 16) (l : Fin 128) :
    (iblk m c 13 t : S16x1x128.Idx → EReal) (ix3 p 0 l) = mixLg m c (ix2 0 ⟨128 * p.val + l.val, by omega⟩) := by
  rw [mix_whole13, mix_V19]
  exact plane_gain_at (mixLg m c) p l

theorem mix_block14 (c : Dev nD) (t : Fin cfg0.N) (p : Fin 16) (l : Fin 128) :
    (iblk m c 14 t : S16x1x128.Idx → EReal) (ix3 p 0 l) = mixLb m c (ix2 0 ⟨128 * p.val + l.val, by omega⟩) := by
  rw [mix_whole14, mix_V21]
  exact plane_gain_at (mixLb m c) p l

theorem mix_block16 (c : Dev nD) (t : Fin cfg0.N) (j : Fin 2048) : (iblk m c 16 t : S1x2048.Idx → EReal) (ix2 0 j) = mixGp m c (ix2 0 j) := by
  rw [mix_whole16, mix_V23]
  exact row_gain_at (mixGp m c) j

theorem mix_block17 (c : Dev nD) (t : Fin cfg0.N) (j : Fin 2048) : (iblk m c 17 t : S1x2048.Idx → EReal) (ix2 0 j) = mixGn m c (ix2 0 j) := by
  rw [mix_whole17, mix_V25]
  exact row_gain_at (mixGn m c) j

end Cert.Layer

end
-- ==== Proof.Layer.MixValues.lean ====
/- THE MIXERS' OUTPUT KERNEL'S VALUES over the extended reals: the convolution at each grid point, the rows it carries to the next, and the two
   arrays after the run. -/
module

public import proofs.«01_k».proof.Proof.Layer.MixBlocks
public import Idealize.ShloMosaic.Lib.Pipeline.Covers

@[expose] public section

set_option maxRecDepth 16384

noncomputable section

namespace Cert.Layer

open Idealize.ShloMosaic Idealize.ShloMosaic.TcCoe Idealize.ShloMosaic.Tactic
open Idealize.ShloMosaic.Pipeline (Window)
open Cert.Kernel3Ideal Cert.Kernel3Ideal.Gen

/-! ## The sequence's edges -/

/-- The tile's position in its sequence. -/
def posWord (i : grid0.Coords) : BitVec 32 :=
  let v0 : BitVec 32 := Scalar.minsi (BitVec.ofNat 32 (i 0).val) 31#32
  let v2 : BitVec 32 := Scalar.select (Scalar.cmpi .eq 32#32 0#32) 1#32 32#32
  let v3 : BitVec 32 := Scalar.remsi v0 v2
  Scalar.select (Scalar.andi (Scalar.xori (Scalar.cmpi .slt v3 0#32) (Scalar.cmpi .slt v2 0#32)) (Scalar.cmpi .ne v3 0#32)) (Scalar.addi v3 v2) v3

theorem first_bit : ∀ t : Fin grid0.N, Scalar.cmpi .eq (posWord (grid0.coords t)) 0#32 = if t.val = 0 then 1#1 else 0#1 := by decide +kernel
theorem last_bit : ∀ t : Fin grid0.N, Scalar.cmpi .eq (posWord (grid0.coords t)) 31#32 = if 31 ≤ t.val then 1#1 else 0#1 := by decide +kernel

/-- The rows before the tile: the meta rows at the sequence's start. -/
theorem before_at (t : Fin grid0.N) (v w : Vec Ideal S16x2048 .bf16) (r : Fin 16) (k : Fin 2048) :
    k0_pay97 (F := Ideal) (grid0.coords t) v w (ix2 r k) = if t.val = 0 then v (ix2 r k) else w (ix2 r k) := by
  show (Scalar.select (Scalar.cmpi .eq (posWord (grid0.coords t)) 0#32) v w : Vec Ideal S16x2048 .bf16) (ix2 r k) = _
  rw [first_bit]
  by_cases h : t.val = 0
  · rw [if_pos h, if_pos h]; rfl
  · rw [if_neg h, if_neg h]; rfl

/-- The rows after the tile: none at the sequence's end. -/
theorem after_at (t : Fin grid0.N) (v : Vec Ideal S16x2048 .bf16) (r : Fin 16) (k : Fin 2048) :
    k0_pay98 (F := Ideal) (grid0.coords t) v (ix2 r k) = if 31 ≤ t.val then 0 else v (ix2 r k) := by
  have e : k0_pay98 (F := Ideal) (grid0.coords t) v = Scalar.select (Scalar.cmpi .eq (posWord (grid0.coords t)) 31#32)
      (broadcast S16x2048 (Scalar.ofBits (F := Ideal) .f32 0x00000000#32)) (extf .f32 v bitsLt_bf16_f32) := rfl
  rw [e, last_bit]
  by_cases h : 31 ≤ t.val
  · rw [if_pos h, if_pos h]
    show Ideal.ofBits .f32 0x00000000#32 = 0
    simp
  · rw [if_neg h, if_neg h]; rfl

/-! ## The convolution at a point -/

theorem at3_ix {a b c : ℕ} (f : (⟨3, ![a, b, c]⟩ : Shape).Idx → EReal) {x y z : ℕ} (hx : x < a) (hy : y < b) (hz : z < c) :
    at3 f x y z = f (ix3 ⟨x, hx⟩ ⟨y, hy⟩ ⟨z, hz⟩) := dif_pos ⟨hx, hy, hz⟩

theorem at2_val {a b : ℕ} (f : (⟨2, ![a, b]⟩ : Shape).Idx → EReal) {x y : ℕ} (hx : x < a) (hy : y < b) :
    at2 f x y = f (ix2 ⟨x, hx⟩ ⟨y, hy⟩) := dif_pos ⟨hx, hy⟩

variable (m : (ℓ : Loc nD τ sig) → Buf (Elt Ideal) ℓ)

/-- The staged row `n` of tile `min t 31` is row `256 (min t 31) + n` of the sequence. -/
theorem staged_seq (c : Dev nD) (t : Fin cfg0.N) (p n l : ℕ) (hp : p < 16) (hn : n < 288) (hl : l < 128) (C : Fin 2048) (hC : C.val = 128 * p + l) :
    at3 (staged (k0_pay97 (F := Ideal) (grid0.coords t) (iblk m c 7 t) (iblk m c 5 t)) (k0_pay99 (F := Ideal) (iblk m c 4 t)) (k0_pay98 (F := Ideal) (grid0.coords t) (iblk m c 6 t))) p n l
      = seqAt (mixFront m c) (mixGlu m c) (256 * min t.val 31 + n) C := by
  have ht : t.val < 33 := lt_of_lt_of_eq t.isLt N_0
  rw [at3_ix _ hp hn hl]
  show stagedAt _ _ _ p n l = _
  unfold stagedAt seqAt
  by_cases h1 : n < 16
  · rw [if_pos h1, at2_val _ h1 (show 128 * p + l < 2048 by omega)]
    refine (before_at t (iblk m c 7 t) (iblk m c 5 t) ⟨n, h1⟩ ⟨128 * p + l, by omega⟩).trans ?_
    have eC : (⟨128 * p + l, by omega⟩ : Fin 2048) = C := Fin.ext hC.symm
    by_cases h0 : t.val = 0
    · rw [if_pos h0, dif_pos (by omega)]
      refine (mix_block7 m c t ⟨n, h1⟩ ⟨128 * p + l, by omega⟩ ⟨48 + n, by omega⟩ rfl).trans ?_
      exact congrArg (mixFront m c) (congrArg₂ ix2 (Fin.ext (by simp only []; omega)) eC)
    · rw [if_neg h0, dif_neg (by omega), dif_pos (by omega)]
      refine (mix_block5 m c t ⟨n, h1⟩ ⟨128 * p + l, by omega⟩ ⟨256 * min t.val 31 + n - 16, by omega⟩ (by simp only []; omega)).trans ?_
      exact congrArg (mixGlu m c) (congrArg₂ ix2 rfl eC)
  · rw [if_neg h1, dif_neg (show ¬ 256 * min t.val 31 + n < 16 by omega)]
    have eC : (⟨128 * p + l, by omega⟩ : Fin 2048) = C := Fin.ext hC.symm
    by_cases h2 : n < 272
    · rw [if_pos h2, at2_val _ (show n - 16 < 256 by omega) (show 128 * p + l < 2048 by omega), dif_pos (by omega)]
      refine (current_at (iblk m c 4 t) ⟨n - 16, by omega⟩ ⟨128 * p + l, by omega⟩).trans ?_
      refine (mix_block4 m c t ⟨n - 16, by omega⟩ ⟨128 * p + l, by omega⟩ ⟨256 * min t.val 31 + n - 16, by omega⟩ (by simp only []; omega)).trans ?_
      exact congrArg (mixGlu m c) (congrArg₂ ix2 rfl eC)
    · rw [if_neg h2, at2_val _ (show n - 272 < 16 by omega) (show 128 * p + l < 2048 by omega)]
      refine (after_at t (iblk m c 6 t) ⟨n - 272, by omega⟩ ⟨128 * p + l, by omega⟩).trans ?_
      by_cases h3 : 31 ≤ t.val
      · rw [if_pos h3, dif_neg (by omega)]
      · rw [if_neg h3, dif_pos (by omega)]
        refine (mix_block6 m c t ⟨n - 272, by omega⟩ ⟨128 * p + l, by omega⟩ ⟨256 * min t.val 31 + n - 16, by omega⟩ (by simp only []; omega)).trans ?_
        exact congrArg (mixGlu m c) (congrArg₂ ix2 rfl eC)

/-- What point `t` convolves. -/
abbrev convTile (c : Dev nD) (t : Fin cfg0.N) : S16x256x128.Idx → EReal :=
  stepY (grid0.coords t) (iblk m c 4 t) (iblk m c 5 t) (iblk m c 6 t) (iblk m c 7 t) (iblk m c 11 t) (iblk m c 12 t)

/-- Row `r` of what point `t` convolves is row `256 (min t 31) + r` of the convolution. -/
theorem conv_row (c : Dev nD) (t : Fin cfg0.N) (r : ℕ) (hr : r < 256) :
    planeRow (convTile m c t) r = convAt (mixFront m c) (mixGlu m c) (mixWd m c) (mixBd m c) (256 * min t.val 31 + r) := by
  funext k
  have hk := k.isLt
  unfold planeRow
  rw [at3_ix _ (show k.val / 128 < 16 by omega) hr (show k.val % 128 < 128 by omega)]
  show blockConv _ _ _ (k.val / 128) r (k.val % 128) = _
  unfold blockConv convAt
  refine congrArg₂ (· + ·) (Finset.sum_congr rfl fun q hq => congrArg₂ (· * ·) ?_ ?_) ?_
  · have hq' := Finset.mem_range.mp hq
    refine (staged_seq m c t (k.val / 128) (q + 1 + r) (k.val % 128) (by omega) (by omega) (by omega) k (by omega)).trans ?_
    exact congrArg (fun n => seqAt (mixFront m c) (mixGlu m c) n k) (by omega)
  · have hq' := Finset.mem_range.mp hq
    rw [at3_ix _ (show k.val / 128 < 16 by omega) (show q < 32 by omega) (show k.val % 128 < 128 by omega)]
    refine (mix_block11 m c t ⟨k.val / 128, by omega⟩ ⟨q, by omega⟩ hq' ⟨k.val % 128, by omega⟩).trans ?_
    unfold tapAt
    rw [dif_pos hq']
    exact congrArg (mixWd m c) (congrArg (ix3 0 ⟨q, hq'⟩) (Fin.ext (by simp only []; omega)))
  · rw [at3_ix _ (show k.val / 128 < 16 by omega) (show 0 < 1 by omega) (show k.val % 128 < 128 by omega)]
    refine (mix_block12 m c t ⟨k.val / 128, by omega⟩ ⟨k.val % 128, by omega⟩).trans ?_
    exact congrArg (mixBd m c) (congrArg (ix2 0) (Fin.ext (by simp only []; omega)))

/-- The rows point `t` carries to the next. -/
abbrev actTile (c : Dev nD) (t : Fin cfg0.N) : S256x2048.Idx → EReal := acts (convTile m c t) (iblk m c 13 t) (iblk m c 14 t)

theorem act_tile_at (c : Dev nD) (t : Fin cfg0.N) (r : Fin 256) (k : Fin 2048) :
    actTile m c t (ix2 r k) = convRow (mixFront m c) (mixGlu m c) (mixWd m c) (mixBd m c) (mixLg m c) (mixLb m c) (256 * min t.val 31 + r.val) k := by
  have hk := k.isLt
  show actAt (convTile m c t) (iblk m c 13 t) (iblk m c 14 t) r.val k.val = _
  unfold actAt convRow centred
  have e : at3 (convTile m c t) (k.val / 128) r.val (k.val % 128) = convAt (mixFront m c) (mixGlu m c) (mixWd m c) (mixBd m c) (256 * min t.val 31 + r.val) k :=
    congrFun (conv_row m c t r.val r.isLt) k
  have eg : at3 (iblk m c 13 t : S16x1x128.Idx → EReal) (k.val / 128) 0 (k.val % 128) = mixLg m c (ix2 0 k) := by
    rw [at3_ix _ (show k.val / 128 < 16 by omega) (show 0 < 1 by omega) (show k.val % 128 < 128 by omega)]
    refine (mix_block13 m c t ⟨k.val / 128, by omega⟩ ⟨k.val % 128, by omega⟩).trans ?_
    exact congrArg (mixLg m c) (congrArg (ix2 0) (Fin.ext (by simp only []; omega)))
  have eb : at3 (iblk m c 14 t : S16x1x128.Idx → EReal) (k.val / 128) 0 (k.val % 128) = mixLb m c (ix2 0 k) := by
    rw [at3_ix _ (show k.val / 128 < 16 by omega) (show 0 < 1 by omega) (show k.val % 128 < 128 by omega)]
    refine (mix_block14 m c t ⟨k.val / 128, by omega⟩ ⟨k.val % 128, by omega⟩).trans ?_
    exact congrArg (mixLb m c) (congrArg (ix2 0) (Fin.ext (by simp only []; omega)))
  rw [conv_row m c t r.val r.isLt, e, eg, eb]

/-- What every point leaves in the carried rows. -/
theorem carried_at (c : Dev nD) (t : Fin cfg0.N) : (outsAt0 m c t.val t.isLt).2.2 = actTile m c t := by
  by_cases h : t.val % 33 = 0
  · exact (congrArg (fun z => z.2.2) (outsAt0_A m c t h)).trans (carried_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))
  · exact (congrArg (fun z => z.2.2) (outsAt0_B m c t h)).trans (carried_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun q => h ((hcond0_0 t).mp q)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2)

/-! ## A point's rows of the outputs -/

/-- A merged row, from blocks that are the arguments' elements. -/
theorem merged_row (o : FVec Ideal S8192x2048 .bf16) (p : FVec Ideal S8192x10240 .bf16) (wg wc : FVec Ideal S1x2048x2048 .f32) (bc : FVec Ideal S1x2048 .f32)
    (x0 x1 x2 xs : S256x2048.Idx → EReal) (x8 x9 : S8x2048x256.Idx → EReal) (x15 : S8x1x256.Idx → EReal) (r : Fin 256) (R : Fin 8192) (y : Fin 2048 → EReal)
    (h0 : ∀ k : Fin 2048, x0 (ix2 r k) = o (ix2 R k)) (h1 : ∀ k : Fin 2048, x1 (ix2 r k) = p (ix2 R ⟨6144 + k.val, by omega⟩))
    (h2 : ∀ k : Fin 2048, x2 (ix2 r k) = p (ix2 R ⟨8192 + k.val, by omega⟩)) (hs : ∀ k : Fin 2048, xs (ix2 r k) = y k)
    (h8 : ∀ (s : Fin 8) (n : Fin 2048) (l : Fin 256), x8 (ix3 s n l) = wg (ix3 0 n ⟨256 * s.val + l.val, by omega⟩))
    (h9 : ∀ (s : Fin 8) (n : Fin 2048) (l : Fin 256), x9 (ix3 s n l) = wc (ix3 0 n ⟨256 * s.val + l.val, by omega⟩))
    (h15 : ∀ (s : Fin 8) (l : Fin 256), x15 (ix3 s 0 l) = bc (ix2 0 ⟨256 * s.val + l.val, by omega⟩)) (k : Fin 2048) :
    mergedVec (slabs x0 x1 x2 xs x8 x9 x15) (ix2 r k)
      = mergedAt (fun n => o (ix2 R n)) y (p (ix2 R ⟨6144 + k.val, by omega⟩)) (p (ix2 R ⟨8192 + k.val, by omega⟩)) wg wc bc k := by
  have hk := k.isLt
  have ek : (⟨256 * (k.val / 256) + k.val % 256, by omega⟩ : Fin 2048) = k := Fin.ext (by simp only []; omega)
  refine (merged_cat (slabs x0 x1 x2 xs x8 x9 x15) r k).trans ?_
  rw [at3_ix _ (show k.val / 256 < 8 by omega) r.isLt (show k.val % 256 < 256 by omega)]
  show slabAt x0 x1 x2 xs x8 x9 x15 (k.val / 256) r.val (k.val % 256) = _
  unfold slabAt mergedAt
  refine congrArg₂ (· + ·) (congrArg₂ (· * ·) ?_ (Finset.sum_congr rfl fun n _ => congrArg₂ (· * ·) ?_ ?_))
    (congrArg₂ (· * ·) ?_ (congrArg₂ (· + ·) (Finset.sum_congr rfl fun n _ => congrArg₂ (· * ·) ?_ ?_) ?_))
  · rw [at2_val _ r.isLt (show 256 * (k.val / 256) + k.val % 256 < 2048 by omega), ek]; exact h1 k
  · rw [at2_val _ r.isLt n.isLt]; exact h0 n
  · rw [at3_ix _ (show k.val / 256 < 8 by omega) n.isLt (show k.val % 256 < 256 by omega)]
    refine (h8 ⟨k.val / 256, by omega⟩ n ⟨k.val % 256, by omega⟩).trans ?_
    exact congrArg (fun q => wg (ix3 0 n q)) ek
  · rw [at2_val _ r.isLt (show 256 * (k.val / 256) + k.val % 256 < 2048 by omega), ek]; exact h2 k
  · rw [at2_val _ r.isLt n.isLt]; exact hs n
  · rw [at3_ix _ (show k.val / 256 < 8 by omega) n.isLt (show k.val % 256 < 256 by omega)]
    refine (h9 ⟨k.val / 256, by omega⟩ n ⟨k.val % 256, by omega⟩).trans ?_
    exact congrArg (fun q => wc (ix3 0 n q)) ek
  · rw [at3_ix _ (show k.val / 256 < 8 by omega) (show 0 < 1 by omega) (show k.val % 256 < 256 by omega)]
    refine (h15 ⟨k.val / 256, by omega⟩ ⟨k.val % 256, by omega⟩).trans ?_
    exact congrArg (fun q => bc (ix2 0 q)) ek

/-- The residual after the mixers, as a function of the kernel's arguments. -/
abbrev mixArr (c : Dev nD) (t : Fin 8192) (j : Fin 2048) : EReal :=
  mixOut (mixO m c) (mixP m c) (mixGlu m c) (mixFront m c) (mixH m c) (mixWg m c) (mixWd m c) (mixBd m c) (mixLg m c) (mixLb m c) (mixWc m c) (mixBc m c) (mixWo m c) (mixGp m c) t j

/-- The merged rows of point `t`, the carried rows being the point before's. -/
abbrev mergedTile (c : Dev nD) (t s : Fin cfg0.N) : FVec Ideal S256x2048 .bf16 :=
  mergedVec (slabs (iblk m c 0 t) (iblk m c 1 t) (iblk m c 2 t) (actTile m c s) (iblk m c 8 t) (iblk m c 9 t) (iblk m c 15 t))

theorem added_row (c : Dev nD) (t s : Fin cfg0.N) (hs : s.val + 1 = t.val) (r : Fin 256) (R : Fin 8192) (hR : R.val = 256 * (t.val - 1) + r.val) (j : Fin 2048) :
    k0_pay154 (F := Ideal) (mergedTile m c t s) (iblk m c 10 t) (iblk m c 3 t) (iblk m c 16 t) (ix2 r j) = mixArr m c R j := by
  have ht : t.val < 33 := lt_of_lt_of_eq t.isLt N_0
  refine (added_at (mergedTile m c t s) (iblk m c 10 t) (iblk m c 3 t) (iblk m c 16 t) r j).trans ?_
  unfold mixArr mixOut
  have hf : (fun j : Fin 2048 => ∑ k : Fin 2048, (mergedTile m c t s : S256x2048.Idx → EReal) (ix2 r k) * (iblk m c 10 t : S2048x2048.Idx → EReal) (ix2 k j))
      = mixedAt (fun k => mergedAt (fun n => mixO m c (ix2 R n)) (convRow (mixFront m c) (mixGlu m c) (mixWd m c) (mixBd m c) (mixLg m c) (mixLb m c) R.val)
          (mixP m c (ix2 R ⟨6144 + k.val, by omega⟩)) (mixP m c (ix2 R ⟨8192 + k.val, by omega⟩)) (mixWg m c) (mixWc m c) (mixBc m c) k) (mixWo m c) := by
    funext j
    unfold mixedAt
    refine Finset.sum_congr rfl fun k _ => congrArg₂ (· * ·) ?_ (mix_block10 m c t k j)
    refine merged_row (mixO m c) (mixP m c) (mixWg m c) (mixWc m c) (mixBc m c) _ _ _ _ _ _ _ r R _ (fun k => mix_block0 m c t r k R hR)
      (fun k => mix_block1 m c t r k R hR _ rfl) (fun k => mix_block2 m c t r k R hR _ rfl) (fun k => ?_)
      (mix_block8 m c t) (mix_block9 m c t) (mix_block15 m c t) k
    refine (act_tile_at m c s r k).trans ?_
    exact congrArg (fun n => convRow (mixFront m c) (mixGlu m c) (mixWd m c) (mixBd m c) (mixLg m c) (mixLb m c) n k) (by omega)
  exact congrFun (congr (congr (congrArg addNormed (mix_block3 m c t r j R hR)) hf) (mix_block16 m c t j)) j

theorem next_row (c : Dev nD) (t s : Fin cfg0.N) (hs : s.val + 1 = t.val) (r : Fin 256) (R : Fin 8192) (hR : R.val = 256 * (t.val - 1) + r.val) (j : Fin 2048) :
    k0_pay155 (F := Ideal) (mergedTile m c t s) (iblk m c 10 t) (iblk m c 3 t) (iblk m c 16 t) (iblk m c 17 t) (ix2 r j)
      = normedAt (mixArr m c R) (mixGn m c (ix2 0 j)) j := by
  refine (renormed_at (mergedTile m c t s) (iblk m c 10 t) (iblk m c 3 t) (iblk m c 16 t) (iblk m c 17 t) r j).trans ?_
  exact congrFun (congr (congrArg normedAt (funext fun k => added_row m c t s hs r R hR k)) (mix_block17 m c t j)) j

/-- The point before. -/
abbrev prior (t : Fin cfg0.N) : Fin cfg0.N := ⟨t.val - 1, Nat.lt_of_le_of_lt (Nat.sub_le _ _) t.isLt⟩

theorem stored18 (c : Dev nD) (t : Fin cfg0.N) (h : ¬t.val % 33 = 0) :
    (outsAt0 m c t.val t.isLt).1 = k0_pay154 (F := Ideal) (mergedTile m c t (prior t)) (iblk m c 10 t) (iblk m c 3 t) (iblk m c 16 t) := by
  have e := result_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun q => h ((hcond0_0 t).mp q)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2
  have e' := congrArg (fun z => z.1) (outsAt0_B m c t h)
  dsimp only at e'
  refine (e'.trans e).trans ?_
  have hc : (outsAt0 m c (t.val - 1) (Nat.lt_of_le_of_lt (Nat.sub_le _ _) t.isLt)).2.2 = actTile m c (prior t) := carried_at m c (prior t)
  rw [hc]

theorem stored19 (c : Dev nD) (t : Fin cfg0.N) (h : ¬t.val % 33 = 0) :
    (outsAt0 m c t.val t.isLt).2.1 = k0_pay155 (F := Ideal) (mergedTile m c t (prior t)) (iblk m c 10 t) (iblk m c 3 t) (iblk m c 16 t) (iblk m c 17 t) := by
  have e := next_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun q => h ((hcond0_0 t).mp q)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (outsAt0 m c (t.val - 1) (Nat.lt_of_le_of_lt (Nat.sub_le _ _) t.isLt)).2.2
  have e' := congrArg (fun z => z.2.1) (outsAt0_B m c t h)
  dsimp only at e'
  refine (e'.trans e).trans ?_
  have hc : (outsAt0 m c (t.val - 1) (Nat.lt_of_le_of_lt (Nat.sub_le _ _) t.isLt)).2.2 = actTile m c (prior t) := carried_at m c (prior t)
  rw [hc]

/-! ## The arrays -/

theorem mix_onto18 : ∀ (a : Fin 32) (b : Fin 1), ∃ t : Fin grid0.N, cc0_transform_18 (grid0.coords t) = ![a.val, b.val] := by decide +kernel
theorem mix_onto19 : ∀ (a : Fin 32) (b : Fin 1), ∃ t : Fin grid0.N, cc0_transform_19 (grid0.coords t) = ![a.val, b.val] := by decide +kernel

theorem mix_covers18 : (cfg0.win 18).Covers :=
  (cfg0.win 18).covers_of_indexMap_surj rfl (by decide : ∀ a, 0 < S256x2048.size a) fun β => by
    obtain ⟨t, ht⟩ := mix_onto18 (Fin.cast (by show (8192 + 256 - 1) / 256 = 32; rfl) (β (0 : Fin 2))) (Fin.cast (by show (2048 + 2048 - 1) / 2048 = 1; rfl) (β (1 : Fin 2)))
    refine ⟨grid0.coords t, fun a => ?_⟩
    have h := congrFun ht a
    fin_cases a <;> exact h
theorem mix_covers19 : (cfg0.win 19).Covers :=
  (cfg0.win 19).covers_of_indexMap_surj rfl (by decide : ∀ a, 0 < S256x2048.size a) fun β => by
    obtain ⟨t, ht⟩ := mix_onto19 (Fin.cast (by show (8192 + 256 - 1) / 256 = 32; rfl) (β (0 : Fin 2))) (Fin.cast (by show (2048 + 2048 - 1) / 2048 = 1; rfl) (β (1 : Fin 2)))
    refine ⟨grid0.coords t, fun a => ?_⟩
    have h := congrFun ht a
    fin_cases a <;> exact h

/-- The first point's output blocks are not written back: the second point's are the same blocks. -/
theorem flush18_pos : ∀ t : Fin cfg0.N, (cfg0.win 18).flush t = true → ¬t.val % 33 = 0 := by decide +kernel
theorem flush19_pos : ∀ t : Fin cfg0.N, (cfg0.win 19).flush t = true → ¬t.val % 33 = 0 := by decide +kernel

theorem mix_array18 (c : Dev nD) : (dats m 0 c).arrAt 18 cfg0.N = (fun y => mixArr m c (y 0) (y 1) : S8192x2048.Idx → EReal) := by
  refine (dats m 0 c).arrAt_eq_of_covers 18 _ mix_covers18 (fun t hf y => ?_)
  have hp := flush18_pos t hf
  have ht : t.val < 33 := lt_of_lt_of_eq t.isLt N_0
  have e0 : (((cfg0.win 18).blk t).view.emb y (0 : Fin 2) : Nat) = 256 * (t.val - 1) + (y (0 : Fin 2)).val := by
    refine (Window.rect_emb_val (cfg0.win 18) t y (0 : Fin 2)).trans ?_
    show cc0_transform_18 (grid0.coords t) 0 * 256 + (y (0 : Fin 2)).val = _
    rw [mix_index18 t]; show (t.val - 1) * 256 + _ = _; omega
  have e1 : ((cfg0.win 18).blk t).view.emb y (1 : Fin 2) = (y (1 : Fin 2) : Fin 2048) := by
    apply Fin.ext
    refine (Window.rect_emb_val (cfg0.win 18) t y (1 : Fin 2)).trans ?_
    show cc0_transform_18 (grid0.coords t) 1 * 2048 + (y (1 : Fin 2)).val = _
    rw [mix_index18 t]; show 0 * 2048 + _ = _; omega
  have h := added_row m c t (prior t) (by show t.val - 1 + 1 = t.val; omega) (y (0 : Fin 2)) (((cfg0.win 18).blk t).view.emb y (0 : Fin 2)) e0 (y (1 : Fin 2))
  show (dats m 0 c).after 18 t y = mixArr m c (((cfg0.win 18).blk t).view.emb y (0 : Fin 2)) (((cfg0.win 18).blk t).view.emb y (1 : Fin 2))
  rw [after0_18, stored18 m c t hp, e1, ← h]
  exact congrArg _ (eq_ix2 (y : S256x2048.Idx))

theorem mix_array19 (c : Dev nD) : (dats m 0 c).arrAt 19 cfg0.N = (fun y => normedAt (mixArr m c (y 0)) (mixGn m c (ix2 0 (y 1))) (y 1) : S8192x2048.Idx → EReal) := by
  refine (dats m 0 c).arrAt_eq_of_covers 19 _ mix_covers19 (fun t hf y => ?_)
  have hp := flush19_pos t hf
  have ht : t.val < 33 := lt_of_lt_of_eq t.isLt N_0
  have e0 : (((cfg0.win 19).blk t).view.emb y (0 : Fin 2) : Nat) = 256 * (t.val - 1) + (y (0 : Fin 2)).val := by
    refine (Window.rect_emb_val (cfg0.win 19) t y (0 : Fin 2)).trans ?_
    show cc0_transform_19 (grid0.coords t) 0 * 256 + (y (0 : Fin 2)).val = _
    rw [mix_index19 t]; show (t.val - 1) * 256 + _ = _; omega
  have e1 : ((cfg0.win 19).blk t).view.emb y (1 : Fin 2) = (y (1 : Fin 2) : Fin 2048) := by
    apply Fin.ext
    refine (Window.rect_emb_val (cfg0.win 19) t y (1 : Fin 2)).trans ?_
    show cc0_transform_19 (grid0.coords t) 1 * 2048 + (y (1 : Fin 2)).val = _
    rw [mix_index19 t]; show 0 * 2048 + _ = _; omega
  have h := next_row m c t (prior t) (by show t.val - 1 + 1 = t.val; omega) (y (0 : Fin 2)) (((cfg0.win 19).blk t).view.emb y (0 : Fin 2)) e0 (y (1 : Fin 2))
  show (dats m 0 c).after 19 t y = normedAt (mixArr m c (((cfg0.win 19).blk t).view.emb y (0 : Fin 2))) (mixGn m c (ix2 0 (((cfg0.win 19).blk t).view.emb y (1 : Fin 2))))
    (((cfg0.win 19).blk t).view.emb y (1 : Fin 2))
  rw [after0_19, stored19 m c t hp, e1, ← h]
  exact congrArg _ (eq_ix2 (y : S256x2048.Idx))

end Cert.Layer

end
-- ==== Proof.Layer.Meaning.lean ====
/- WHAT THE PROJECTIONS ARE over the extended reals, as functions of the layer's arrays alone: the normalised rows, their products with the
   columns of the weights, and the three outputs. Both programs are shown to compute these functions. -/
module

public import proofs.«01_k».proof.Proof.Layer.Spec
public import Idealize.ShloMosaic.Lib.Pointwise

@[expose] public section

noncomputable section

namespace Cert.Layer

open Idealize.ShloMosaic Idealize.ShloMosaic.TcCoe Idealize.ShloMosaic.Tactic
open Cert.Kernel

/-- Row `r` of the normalised rows at channel `k`: the row over the root of its mean square (with the layer's small constant), times the gain. -/
def normed (x : FVec Ideal S1x8192x2048 .f32) (g : FVec Ideal S1x2048 .f32) (r : Fin 8192) (k : Fin 2048) : EReal :=
  x (ix3 0 r k) * Ideal.rsqrt (Ideal.div (∑ k' : Fin 2048, x (ix3 0 r k') * x (ix3 0 r k')) (Ideal.ofBits .f32 0x45000000#32)
    + Ideal.ofBits .f32 0x358637BD#32) * g (ix2 0 k)

/-- Row `r` of the normalised rows times column `n` of the weights (both numbers taken modulo the arrays' extents, so that the function is
    total in them). -/
def proj (x : FVec Ideal S1x8192x2048 .f32) (g : FVec Ideal S1x2048 .f32) (w : FVec Ideal S1x2048x14368 .f32) (r n : Nat) : EReal :=
  ∑ k : Fin 2048, normed x g ⟨r % 8192, Nat.mod_lt _ (by decide)⟩ k * w (ix3 0 k ⟨n % 14368, Nat.mod_lt _ (by decide)⟩)

/-- The logistic function. -/
def logi (a : EReal) : EReal := Ideal.div 1 (1 + Ideal.exp (-a))

/-- The projections' output at row `r` and column `n`: 4096 plain columns, 2048 under `a · logi a`, 4096 under `logi`. -/
def projOut (x : FVec Ideal S1x8192x2048 .f32) (g : FVec Ideal S1x2048 .f32) (w : FVec Ideal S1x2048x14368 .f32) (r n : Nat) : EReal :=
  if n < 4096 then proj x g w r n
  else if n < 6144 then proj x g w r n * logi (proj x g w r n)
  else logi (proj x g w r (n + 4128))

/-- The gated output at row `r` and column `n`. -/
def gluOut (x : FVec Ideal S1x8192x2048 .f32) (g : FVec Ideal S1x2048 .f32) (w : FVec Ideal S1x2048x14368 .f32) (r n : Nat) : EReal :=
  proj x g w r (6176 + n) * logi (proj x g w r (8224 + n))

/-- The forget gates' inputs at row `r` and column `n`: 32 columns, then zeros. -/
def gateOut (x : FVec Ideal S1x8192x2048 .f32) (g : FVec Ideal S1x2048 .f32) (w : FVec Ideal S1x2048x14368 .f32) (r n : Nat) : EReal :=
  if n < 32 then proj x g w r (6144 + n) else 0

/-- The number the printed padding converts is zero. -/
theorem sitofp_zero : (FloatOps.sitofp .f32 (0#32 : BitVec 32) : Ideal .f32) = (0 : EReal) := by
  show (((0#32 : BitVec 32).toInt : ℝ) : EReal) = 0
  simp

end Cert.Layer

end
-- ==== Proof.Layer.Blocks.lean ====
/- THE BLOCKS THE KERNEL READS, over the extended reals, element by element: each input window's block at a point as elements of the layer's
   arrays. -/
module

public import proofs.«01_k».proof.Proof.Layer.Meaning
public import proofs.«01_k».proof.Proof.Layer.Data
public import Idealize.ShloMosaic.Lib.Pipeline.ValueKit

@[expose] public section

set_option maxRecDepth 16384

noncomputable section

namespace Cert.Layer

open Idealize.ShloMosaic Idealize.ShloMosaic.TcCoe Idealize.ShloMosaic.Tactic
open Cert.Kernel Cert.Kernel.Gen

/-! ## What the host hands the kernel -/

theorem rows_cast_at (x : FVec Ideal S1x8192x2048 .f32) (r : Fin 8192) (k : Fin 2048) :
    shapeCast S8192x2048 x shapeCasts_S1x8192x2048_S8192x2048 (ix2 r k) = x (ix3 0 r k) := by
  pointwise

theorem gain_cast_at (g : FVec Ideal S1x2048 .f32) (k : Fin 2048) :
    shapeCast S1x2048 (shapeCast S2048 g shapeCasts_S1x2048_S2048) shapeCasts_S2048_S1x2048 (ix2 0 k) = g (ix2 0 k) := by
  pointwise

theorem weight_at (w : FVec Ideal S1x2048x14368 .f32) (n : Fin 14368) (k : Fin 2048) :
    truncf .bf16 (transpose S14368x2048 [1, 0] (shapeCast S2048x14368 w shapeCasts_S1x2048x14368_S2048x14368) transposes_S2048x14368_S14368x2048_1_0) bitsLt_bf16_f32 (ix2 n k)
      = w (ix3 0 k n) := by
  pointwise

theorem gate_weight_at (w : FVec Ideal S1x2048x14368 .f32) (n : Fin 128) (k : Fin 2048) :
    truncf .bf16 (pad S128x2048 ![0, 0] ![96, 0] ![0, 0] (extractStridedSlice S32x2048 ![6144, 0] (transpose S14368x2048 [1, 0]
      (shapeCast S2048x14368 w shapeCasts_S1x2048x14368_S2048x14368) transposes_S2048x14368_S14368x2048_1_0)
      slices_S14368x2048_S32x2048_6144_0) (sitofp .f32 (constantI S_ 32 0#32)) pads_S32x2048_S128x2048_0960_000 h_S_) bitsLt_bf16_f32 (ix2 n k)
      = if n.val < 32 then w (ix3 0 k ⟨(6144 + n.val) % 14368, Nat.mod_lt _ (by decide)⟩) else 0 := by
  pointwise
  simp only [sitofp_zero]
  by_cases h : n.val < 32
  · rw [dif_pos h, if_pos h]
    exact congrArg w (congrArg (ix3 0 k) (Fin.ext (Nat.mod_eq_of_lt (by omega)).symm))
  · rw [dif_neg h, if_neg h]

variable (m : (ℓ : Loc nD τ sig) → Buf (Elt Ideal) ℓ) (hO : Ok m)

/-- The layer's input, its normalisation's gains and its weights, as core `c` holds them. -/
abbrev argX (c : Dev nD) : FVec Ideal S1x8192x2048 .f32 := m (c, Proc.devRef .tc main_arg0)
abbrev argG (c : Dev nD) : FVec Ideal S1x2048 .f32 := m (c, Proc.devRef .tc main_arg1)
abbrev argW (c : Dev nD) : FVec Ideal S1x2048x14368 .f32 := m (c, Proc.devRef .tc main_arg2)

/-! ## The windows' blocks -/

theorem coords0 : ∀ t : Fin grid0.N, ((grid0.coords t) 0).val = t.val / 7 ∧ ((grid0.coords t) 1).val = t.val % 7 := by decide +kernel

theorem index0 : ∀ t : Fin grid0.N, cc0_transform_0 (grid0.coords t) = ![t.val / 7, 0] := by decide +kernel
theorem index1 : ∀ t : Fin grid0.N, cc0_transform_1 (grid0.coords t) = ![0, 0] := by decide +kernel
theorem index2 : ∀ t : Fin grid0.N, cc0_transform_2 (grid0.coords t) = ![0, 0] := by decide +kernel

/-- Row `1024 i + r` of the layer's input. -/
theorem block0_at (c : Dev nD) (t : Fin grid0.N) (r : Fin 1024) (k : Fin 2048) : (iblk m hO c 0 t : S1024x2048.Idx → EReal) (ix2 r k)
    = argX m c (ix3 0 ⟨(1024 * (t.val / 7) + r.val) % 8192, Nat.mod_lt _ (by decide)⟩ k) := by
  have ht := lt56 t
  have e : (((cfgM m hO).win 0).blk t).view.emb (ix2 r k) = (ix2 ⟨(1024 * (t.val / 7) + r.val) % 8192, Nat.mod_lt _ (by decide)⟩ k : S8192x2048.Idx) := by
    funext a
    apply Fin.ext
    refine (Pipeline.Window.rect_emb_val ((cfgM m hO).win 0) t (ix2 r k) a).trans ?_
    have h := congrFun (index0 t) a
    fin_cases a
    · show cc0_transform_0 (grid0.coords t) 0 * 1024 + r.val = (1024 * (t.val / 7) + r.val) % 8192
      rw [show cc0_transform_0 (grid0.coords t) 0 = t.val / 7 from h, Nat.mod_eq_of_lt (by omega)]; omega
    · show cc0_transform_0 (grid0.coords t) 1 * 2048 + k.val = k.val
      rw [show cc0_transform_0 (grid0.coords t) 1 = 0 from h]; omega
  show (V m c main_v8 : S8192x2048.Idx → EReal) ((((cfgM m hO).win 0).blk t).view.emb (ix2 r k)) = _
  rw [e, V_main_v8]
  exact rows_cast_at (argX m c) _ k

/-- The gains. -/
theorem block1_at (c : Dev nD) (t : Fin grid0.N) (k : Fin 2048) : (iblk m hO c 1 t : S1x2048.Idx → EReal) (ix2 0 k) = argG m c (ix2 0 k) := by
  have e : (((cfgM m hO).win 1).blk t).view.emb (ix2 0 k) = (ix2 0 k : S1x2048.Idx) := by
    funext a
    apply Fin.ext
    refine (Pipeline.Window.rect_emb_val ((cfgM m hO).win 1) t (ix2 0 k) a).trans ?_
    have h := congrFun (index1 t) a
    fin_cases a
    · show cc0_transform_1 (grid0.coords t) 0 * 1 + 0 = 0
      rw [show cc0_transform_1 (grid0.coords t) 0 = 0 from h]
    · show cc0_transform_1 (grid0.coords t) 1 * 2048 + k.val = k.val
      rw [show cc0_transform_1 (grid0.coords t) 1 = 0 from h]; omega
  show (V m c main_v10 : S1x2048.Idx → EReal) ((((cfgM m hO).win 1).blk t).view.emb (ix2 0 k)) = _
  rw [e, V_main_v10]
  exact gain_cast_at (argG m c) k

/-- The forget gates' columns of the weights, then zeros. -/
theorem block2_at (c : Dev nD) (t : Fin grid0.N) (n : Fin 128) (k : Fin 2048) : (iblk m hO c 2 t : S128x2048.Idx → EReal) (ix2 n k)
    = if n.val < 32 then argW m c (ix3 0 k ⟨(6144 + n.val) % 14368, Nat.mod_lt _ (by decide)⟩) else 0 := by
  have e : (((cfgM m hO).win 2).blk t).view.emb (ix2 n k) = (ix2 n k : S128x2048.Idx) := by
    funext a
    apply Fin.ext
    refine (Pipeline.Window.rect_emb_val ((cfgM m hO).win 2) t (ix2 n k) a).trans ?_
    have h := congrFun (index2 t) a
    fin_cases a
    · show cc0_transform_2 (grid0.coords t) 0 * 128 + n.val = n.val
      rw [show cc0_transform_2 (grid0.coords t) 0 = 0 from h]; omega
    · show cc0_transform_2 (grid0.coords t) 1 * 2048 + k.val = k.val
      rw [show cc0_transform_2 (grid0.coords t) 1 = 0 from h]; omega
  show (V m c main_v7 : S128x2048.Idx → EReal) ((((cfgM m hO).win 2).blk t).view.emb (ix2 n k)) = _
  rw [e, V_main_v7]
  exact gate_weight_at (argW m c) n k

/-- The left element window: the columns of the weights from its table's start. -/
theorem block3_at (c : Dev nD) (t : Fin grid0.N) (n : Fin 1024) (k : Fin 2048) : (iblk m hO c 3 t : S1024x2048.Idx → EReal) (ix2 n k)
    = argW m c (ix3 0 k ⟨(startL (t.val % 7) + n.val) % 14368, Nat.mod_lt _ (by decide)⟩) := by
  have hs : startL (t.val % 7) + 1024 ≤ 14368 := (start_le ⟨t.val % 7, Nat.mod_lt _ (by decide)⟩).1
  have e : (((cfgM m hO).win 3).blk t).view.emb (ix2 n k) = (ix2 ⟨(startL (t.val % 7) + n.val) % 14368, Nat.mod_lt _ (by decide)⟩ k : S14368x2048.Idx) := by
    funext a
    apply Fin.ext
    refine (Pipeline.Window.rect_emb_val_off ((cfgM m hO).win 3) t (ix2 n k) a).trans ?_
    have h := congrFun (tr3 m (grid0.coords t)) a
    rw [(coords0 t).2] at h
    fin_cases a
    · show cc0_transform_3 k0_off1_inb numel1_S1 (tbl m) (grid0.coords t) 0 + n.val = (startL (t.val % 7) + n.val) % 14368
      rw [show cc0_transform_3 k0_off1_inb numel1_S1 (tbl m) (grid0.coords t) 0 = startL (t.val % 7) from h, Nat.mod_eq_of_lt (a := startL (t.val % 7) + n.val) (by omega)]
    · show cc0_transform_3 k0_off1_inb numel1_S1 (tbl m) (grid0.coords t) 1 + k.val = k.val
      rw [show cc0_transform_3 k0_off1_inb numel1_S1 (tbl m) (grid0.coords t) 1 = 0 from h]; omega
  show (V m c main_v2 : S14368x2048.Idx → EReal) ((((cfgM m hO).win 3).blk t).view.emb (ix2 n k)) = _
  rw [e, V_main_v2]
  exact weight_at (argW m c) _ k

/-- The right element window. -/
theorem block4_at (c : Dev nD) (t : Fin grid0.N) (n : Fin 1024) (k : Fin 2048) : (iblk m hO c 4 t : S1024x2048.Idx → EReal) (ix2 n k)
    = argW m c (ix3 0 k ⟨(startR (t.val % 7) + n.val) % 14368, Nat.mod_lt _ (by decide)⟩) := by
  have hs : startR (t.val % 7) + 1024 ≤ 14368 := (start_le ⟨t.val % 7, Nat.mod_lt _ (by decide)⟩).2
  have e : (((cfgM m hO).win 4).blk t).view.emb (ix2 n k) = (ix2 ⟨(startR (t.val % 7) + n.val) % 14368, Nat.mod_lt _ (by decide)⟩ k : S14368x2048.Idx) := by
    funext a
    apply Fin.ext
    refine (Pipeline.Window.rect_emb_val_off ((cfgM m hO).win 4) t (ix2 n k) a).trans ?_
    have h := congrFun (tr4 m (grid0.coords t)) a
    rw [(coords0 t).2] at h
    fin_cases a
    · show cc0_transform_4 k0_off1_inb numel1_S1 (tbl m) (grid0.coords t) 0 + n.val = (startR (t.val % 7) + n.val) % 14368
      rw [show cc0_transform_4 k0_off1_inb numel1_S1 (tbl m) (grid0.coords t) 0 = startR (t.val % 7) from h, Nat.mod_eq_of_lt (a := startR (t.val % 7) + n.val) (by omega)]
    · show cc0_transform_4 k0_off1_inb numel1_S1 (tbl m) (grid0.coords t) 1 + k.val = k.val
      rw [show cc0_transform_4 k0_off1_inb numel1_S1 (tbl m) (grid0.coords t) 1 = 0 from h]; omega
  show (V m c main_v2 : S14368x2048.Idx → EReal) ((((cfgM m hO).win 4).blk t).view.emb (ix2 n k)) = _
  rw [e, V_main_v2]
  exact weight_at (argW m c) _ k

end Cert.Layer

end
-- ==== Proof.Layer.Values.lean ====
/- THE BLOCKS THE KERNEL LEAVES, over the extended reals, element by element: each is the function of Meaning.lean at the element's place in
   its array. -/
module

public import proofs.«01_k».proof.Proof.Layer.Blocks

@[expose] public section

set_option maxRecDepth 16384

noncomputable section

namespace Cert.Layer

open Idealize.ShloMosaic Idealize.ShloMosaic.TcCoe Idealize.ShloMosaic.Tactic
open Cert.Kernel Cert.Kernel.Gen

/-! ## The body's operations at an index -/

theorem pay1_at (x : Vec Ideal S1024x2048 .f32) (g : Vec Ideal S1x2048 .f32) (r : Fin 1024) (k : Fin 2048) :
    k0_pay1 x g (ix2 r k) = x (ix2 r k) * Ideal.rsqrt (Ideal.div (∑ k' : Fin 2048, x (ix2 r k') * x (ix2 r k')) (Ideal.ofBits .f32 0x45000000#32)
      + Ideal.ofBits .f32 0x358637BD#32) * g (ix2 0 k) := by
  pointwise [k0_pay1]

theorem pay3_at (x : Vec Ideal S1024x2048 .f32) (g : Vec Ideal S1x2048 .f32) (w : Vec Ideal S128x2048 .bf16) (r : Fin 1024) (n : Fin 128) :
    k0_pay3 x g w (ix2 r n) = ∑ k : Fin 2048, k0_pay1 x g (ix2 r k) * w (ix2 n k) := by
  pointwise [k0_pay3]

theorem prod_at (a b : Piece256 Ideal) (r s : Fin 256) : prod256 a b (ix2 r s) = ∑ k : Fin 2048, a (ix2 r k) * b (ix2 s k) := by
  pointwise [prod256]

theorem plain_at (a b : Piece256 Ideal) (r s : Fin 256) : plain256 a b (ix2 r s) = prod256 a b (ix2 r s) := by
  pointwise [plain256]

theorem logistic_at (a : FVec Ideal S256x256 .f32) (r s : Fin 256) : logistic256 a (ix2 r s) = logi (a (ix2 r s)) := by
  pointwise [logistic256]
  rw [zero_sub]; rfl

theorem swish_at (a b : Piece256 Ideal) (r s : Fin 256) : swish256 a b (ix2 r s) = prod256 a b (ix2 r s) * logi (prod256 a b (ix2 r s)) := by
  rw [← logistic_at]
  pointwise [swish256]

theorem sigm_at (a b : Piece256 Ideal) (r s : Fin 256) : sigm256 a b (ix2 r s) = logi (prod256 a b (ix2 r s)) := by
  rw [← logistic_at]
  pointwise [sigm256]

theorem glu_at (a b b' : Piece256 Ideal) (r s : Fin 256) : glu256 a b b' (ix2 r s) = prod256 a b (ix2 r s) * logi (prod256 a b' (ix2 r s)) := by
  rw [← logistic_at]
  pointwise [glu256]

theorem rows_at (u : Vec Ideal S1024x2048 .bf16) (n : Nat) (r : Fin 256) (k : Fin 2048) :
    rows256 u n (ix2 r k) = u (ix2 ⟨(256 * n + r.val) % 1024, Nat.mod_lt _ (by decide)⟩ k) := by
  refine congrArg u (funext fun a => ?_)
  fin_cases a <;> rfl

theorem inPiece_at (r : Fin 1024) (n : Fin 2048) : inPiece (s := S1024x2048) rfl (ix2 r n)
    = (ix2 ⟨r.val % 256, Nat.mod_lt _ (by decide)⟩ ⟨n.val % 256, Nat.mod_lt _ (by decide)⟩ : S256x256.Idx) := by
  funext a
  fin_cases a <;> rfl

theorem inPiece_at' (r : Fin 1024) (n : Fin 1024) : inPiece (s := S1024x1024) rfl (ix2 r n)
    = (ix2 ⟨r.val % 256, Nat.mod_lt _ (by decide)⟩ ⟨n.val % 256, Nat.mod_lt _ (by decide)⟩ : S256x256.Idx) := by
  funext a
  fin_cases a <;> rfl

/-- The normalisation of a block's row that is row `R` of the layer's input. -/
theorem pay1_normed (x : Vec Ideal S1024x2048 .f32) (g : Vec Ideal S1x2048 .f32) (X : FVec Ideal S1x8192x2048 .f32) (G : FVec Ideal S1x2048 .f32)
    (R : Fin 8192) (r : Fin 1024) (k : Fin 2048) (hx : ∀ k, x (ix2 r k) = X (ix3 0 R k)) (hg : g (ix2 0 k) = G (ix2 0 k)) :
    k0_pay1 x g (ix2 r k) = normed X G R k := by
  rw [pay1_at, hg, normed]
  simp only [hx]

/-- The products with the forget gates' columns, of which the block holds 32 and zeros after them. -/
theorem pay3_gate (x : Vec Ideal S1024x2048 .f32) (g : Vec Ideal S1x2048 .f32) (w : Vec Ideal S128x2048 .bf16)
    (X : FVec Ideal S1x8192x2048 .f32) (G : FVec Ideal S1x2048 .f32) (W : FVec Ideal S1x2048x14368 .f32)
    (R : Nat) (r : Fin 1024) (n : Fin 128) (hu : ∀ k, k0_pay1 x g (ix2 r k) = normed X G ⟨R % 8192, Nat.mod_lt _ (by decide)⟩ k)
    (hw : ∀ k, w (ix2 n k) = if n.val < 32 then W (ix3 0 k ⟨(6144 + n.val) % 14368, Nat.mod_lt _ (by decide)⟩) else 0) :
    k0_pay3 x g w (ix2 r n) = gateOut X G W R n.val := by
  rw [pay3_at, gateOut, proj]
  by_cases h : n.val < 32
  · rw [if_pos h]
    refine Finset.sum_congr rfl fun k _ => ?_
    rw [hu, hw, if_pos h]
  · rw [if_neg h]
    refine Finset.sum_eq_zero fun k _ => ?_
    rw [hw, if_neg h, mul_zero]

/-! ## The normalised rows and their products -/

variable (m : (ℓ : Loc nD τ sig) → Buf (Elt Ideal) ℓ) (hO : Ok m)

/-- The scratch's row `r` in row block `i` is row `1024 i + r` of the normalised rows. -/
theorem uRow_normed (c : Dev nD) (i : Nat) (hi : i < 8) (r : Fin 1024) (k : Fin 2048) :
    uRow m hO c i (ix2 r k) = normed (argX m c) (argG m c) ⟨(1024 * i + r.val) % 8192, Nat.mod_lt _ (by decide)⟩ k := by
  have hp : (pt i 0).val / 7 = i := by rw [pt_val hi (by decide)]; omega
  refine pay1_normed _ _ (argX m c) (argG m c) _ r k (fun k' => ?_) (block1_at m hO c (pt i 0) k)
  refine (block0_at m hO c (pt i 0) r k').trans ?_
  rw [hp]

/-- A product of pieces of the normalised rows and of a window whose row `n` is column `o + n` of the weights. -/
theorem prod_proj (c : Dev nD) (i : Nat) (hi : i < 8) (wb : Vec Ideal S1024x2048 .bf16) (o : Nat)
    (hw : ∀ (n : Fin 1024) (k : Fin 2048), wb (ix2 n k) = argW m c (ix3 0 k ⟨(o + n.val) % 14368, Nat.mod_lt _ (by decide)⟩))
    (r : Fin 1024) (n : Nat) (hn : n < 1024) :
    prod256 (rows256 (uRow m hO c i) (r.val / 256)) (rows256 wb (n / 256))
        (ix2 ⟨r.val % 256, Nat.mod_lt _ (by decide)⟩ ⟨n % 256, Nat.mod_lt _ (by decide)⟩)
      = proj (argX m c) (argG m c) (argW m c) (1024 * i + r.val) (o + n) := by
  rw [prod_at, proj]
  refine Finset.sum_congr rfl fun k _ => ?_
  rw [rows_at, rows_at, uRow_normed m hO c i hi, hw]
  have e1 : (256 * (r.val / 256) + r.val % 256) % 1024 = r.val := by omega
  have e2 : (256 * (n / 256) + n % 256) % 1024 = n := by omega
  simp only [e1, e2]

/-- The column of the weights that a row of the two element windows at column group `j` is. -/
def colOf (j n : Nat) : Nat := if n < 1024 then startL j + n else startR j + (n - 1024)

theorem windowL (c : Dev nD) (i j : Nat) (hi : i < 8) (hj : j < 7) (n : Fin 1024) (k : Fin 2048) :
    (iblk m hO c 3 (pt i j) : S1024x2048.Idx → EReal) (ix2 n k) = argW m c (ix3 0 k ⟨(startL j + n.val) % 14368, Nat.mod_lt _ (by decide)⟩) := by
  have hp : (pt i j).val % 7 = j := by rw [pt_val hi hj]; omega
  refine (block3_at m hO c (pt i j) n k).trans ?_; rw [hp]

theorem windowR (c : Dev nD) (i j : Nat) (hi : i < 8) (hj : j < 7) (n : Fin 1024) (k : Fin 2048) :
    (iblk m hO c 4 (pt i j) : S1024x2048.Idx → EReal) (ix2 n k) = argW m c (ix3 0 k ⟨(startR j + n.val) % 14368, Nat.mod_lt _ (by decide)⟩) := by
  have hp : (pt i j).val % 7 = j := by rw [pt_val hi hj]; omega
  refine (block4_at m hO c (pt i j) n k).trans ?_; rw [hp]

/-- A block tiled by an activation `f` of the products: `f` of the projection at the element's place. -/
theorem tiled_proj (c : Dev nD) (i j : Nat) (hi : i < 8) (hj : j < 7) (p : Piece256 Ideal → Piece256 Ideal → FVec Ideal S256x256 .bf16)
    (f : EReal → EReal) (hp : ∀ a b r s, p a b (ix2 r s) = f (prod256 a b (ix2 r s))) (r : Fin 1024) (n : Fin 2048) :
    tiled p (uRow m hO c i) (iblk m hO c 3 (pt i j)) (iblk m hO c 4 (pt i j)) (ix2 r n)
      = f (proj (argX m c) (argG m c) (argW m c) (1024 * i + r.val) (colOf j n.val)) := by
  show p (rows256 (uRow m hO c i) (r.val / 256)) (if n.val < 1024 then rows256 (iblk m hO c 3 (pt i j)) (n.val / 256)
    else rows256 (iblk m hO c 4 (pt i j)) (n.val / 256 - 4)) (inPiece (s := S1024x2048) rfl (ix2 r n)) = _
  rw [inPiece_at, hp]
  congr 1
  unfold colOf
  by_cases h : n.val < 1024
  · rw [if_pos h, if_pos h]
    exact prod_proj m hO c i hi _ _ (windowL m hO c i j hi hj) r n.val h
  · rw [if_neg h, if_neg h]
    have e := prod_proj m hO c i hi _ _ (windowR m hO c i j hi hj) r (n.val - 1024) (by omega)
    have e1 : (n.val - 1024) / 256 = n.val / 256 - 4 := by omega
    have e2 : (n.val - 1024) % 256 = n.val % 256 := by omega
    simp only [e1, e2] at e
    exact e

/-- A gated block. -/
theorem tiledGlu_proj (c : Dev nD) (i j : Nat) (hi : i < 8) (hj : j < 7) (r n : Fin 1024) :
    tiledGlu (uRow m hO c i) (iblk m hO c 3 (pt i j)) (iblk m hO c 4 (pt i j)) (ix2 r n)
      = proj (argX m c) (argG m c) (argW m c) (1024 * i + r.val) (startL j + n.val)
        * logi (proj (argX m c) (argG m c) (argW m c) (1024 * i + r.val) (startR j + n.val)) := by
  show glu256 (rows256 (uRow m hO c i) (r.val / 256)) (rows256 (iblk m hO c 3 (pt i j)) (n.val / 256))
    (rows256 (iblk m hO c 4 (pt i j)) (n.val / 256)) (inPiece (s := S1024x1024) rfl (ix2 r n)) = _
  rw [inPiece_at', glu_at, prod_proj m hO c i hi _ _ (windowL m hO c i j hi hj) r n.val n.isLt,
    prod_proj m hO c i hi _ _ (windowR m hO c i j hi hj) r n.val n.isLt]

/-! ## The three outputs' blocks -/

/-- The column block of the projections' output that column group `j` leaves. -/
def colBlock (j : Nat) : Nat := ([0, 1, 2, 2, 2, 3, 4] : List Nat).getD j 0

theorem out5_at (c : Dev nD) (i j : Nat) (hi : i < 8) (hj : j < 7) (r : Fin 1024) (n : Fin 2048) :
    out5 m hO c i j (ix2 r n) = projOut (argX m c) (argG m c) (argW m c) (1024 * i + r.val) (2048 * colBlock j + n.val) := by
  have hn := n.isLt
  have hc : ∀ (j o : Nat), startL j = o → startR j = o + 1024 → colOf j n.val = o + n.val := by
    intro j o h1 h2
    unfold colOf
    split <;> omega
  unfold out5 projOut
  by_cases h2 : j < 2
  · rw [if_pos h2, tiled_proj m hO c i j hi hj plain256 id plain_at]
    obtain rfl | rfl : j = 0 ∨ j = 1 := by omega
    · rw [if_pos (by show 2048 * 0 + n.val < 4096; omega), hc 0 0 rfl rfl]
      rfl
    · rw [if_pos (by show 2048 * 1 + n.val < 4096; omega), hc 1 2048 rfl rfl]
      rfl
  rw [if_neg h2]
  by_cases h5 : j < 5
  · rw [if_pos h5, tiled_proj m hO c i 2 hi (by decide) swish256 (fun a => a * logi a) swish_at, hc 2 4096 rfl rfl]
    have hb : colBlock j = 2 := by
      obtain rfl | rfl | rfl : j = 2 ∨ j = 3 ∨ j = 4 := by omega
      all_goals rfl
    rw [hb, if_neg (by omega), if_pos (by omega)]
  · rw [if_neg h5, tiled_proj m hO c i j hi hj sigm256 logi sigm_at]
    obtain rfl | rfl : j = 5 ∨ j = 6 := by omega
    · rw [if_neg (by show ¬ 2048 * 3 + n.val < 4096; omega), if_neg (by show ¬ 2048 * 3 + n.val < 6144; omega), hc 5 10272 rfl rfl,
        show 2048 * colBlock 5 + n.val + 4128 = 10272 + n.val by show 2048 * 3 + n.val + 4128 = _; omega]
    · rw [if_neg (by show ¬ 2048 * 4 + n.val < 4096; omega), if_neg (by show ¬ 2048 * 4 + n.val < 6144; omega), hc 6 12320 rfl rfl,
        show 2048 * colBlock 6 + n.val + 4128 = 12320 + n.val by show 2048 * 4 + n.val + 4128 = _; omega]

theorem out6_at (c : Dev nD) (i j : Nat) (hi : i < 8) (r n : Fin 1024) :
    out6 m hO c i j (ix2 r n) = gluOut (argX m c) (argG m c) (argW m c) (1024 * i + r.val) ((if j < 4 then 0 else 1024) + n.val) := by
  unfold out6 gluOut
  by_cases h : j < 4
  · rw [if_pos h, if_pos h, tiledGlu_proj m hO c i 3 hi (by decide), show startL 3 + n.val = 6176 + (0 + n.val) by show 6176 + n.val = _; omega,
      show startR 3 + n.val = 8224 + (0 + n.val) by show 8224 + n.val = _; omega]
  · rw [if_neg h, if_neg h, tiledGlu_proj m hO c i 4 hi (by decide), show startL 4 + n.val = 6176 + (1024 + n.val) by show 7200 + n.val = _; omega,
      show startR 4 + n.val = 8224 + (1024 + n.val) by show 9248 + n.val = _; omega]

theorem out7_at (c : Dev nD) (i : Nat) (hi : i < 8) (r : Fin 1024) (n : Fin 128) :
    out7 m hO c i (ix2 r n) = gateOut (argX m c) (argG m c) (argW m c) (1024 * i + r.val) n.val :=
  pay3_gate _ _ _ (argX m c) (argG m c) (argW m c) (1024 * i + r.val) r n (uRow_normed m hO c i hi r) (block2_at m hO c (pt i 0) n)

end Cert.Layer

end
-- ==== Proof.Layer.Arrays.lean ====
/- THE KERNEL'S THREE OUTPUT ARRAYS AFTER THE RUN, over the extended reals: every element is the function of Meaning.lean at its row and
   column, the written-back blocks tiling each array. -/
module

public import proofs.«01_k».proof.Proof.Layer.Values
public import Idealize.ShloMosaic.Lib.Pipeline.Covers

@[expose] public section

set_option maxRecDepth 16384

noncomputable section

namespace Cert.Layer

open Idealize.ShloMosaic Idealize.ShloMosaic.TcCoe Idealize.ShloMosaic.Tactic
open Idealize.ShloMosaic.Pipeline (Window)
open Cert.Kernel Cert.Kernel.Gen

/-! ## Where the outputs' blocks lie -/

theorem index5 : ∀ t : Fin grid0.N, cc0_transform_5 (grid0.coords t) = ![t.val / 7, colBlock (t.val % 7)] := by decide +kernel
theorem index6 : ∀ t : Fin grid0.N, cc0_transform_6 (grid0.coords t) = ![t.val / 7, if t.val % 7 < 4 then 0 else 1] := by decide +kernel
theorem index7 : ∀ t : Fin grid0.N, cc0_transform_7 (grid0.coords t) = ![t.val / 7, 0] := by decide +kernel

theorem onto5 : ∀ (a : Fin 8) (b : Fin 5), ∃ t : Fin grid0.N, cc0_transform_5 (grid0.coords t) = ![a.val, b.val] := by decide +kernel
theorem onto6 : ∀ (a : Fin 8) (b : Fin 2), ∃ t : Fin grid0.N, cc0_transform_6 (grid0.coords t) = ![a.val, b.val] := by decide +kernel
theorem onto7 : ∀ (a : Fin 8) (b : Fin 1), ∃ t : Fin grid0.N, cc0_transform_7 (grid0.coords t) = ![a.val, b.val] := by decide +kernel

variable (m : (ℓ : Loc nD τ sig) → Buf (Elt Ideal) ℓ) (hO : Ok m)

theorem covers5 : ((cfgM m hO).win 5).Covers :=
  ((cfgM m hO).win 5).covers_of_indexMap_surj rfl (by decide : ∀ a, 0 < S1024x2048.size a) fun β => by
    obtain ⟨t, ht⟩ := onto5 (Fin.cast (by show (8192 + 1024 - 1) / 1024 = 8; rfl) (β (0 : Fin 2))) (Fin.cast (by show (10240 + 2048 - 1) / 2048 = 5; rfl) (β (1 : Fin 2)))
    refine ⟨grid0.coords t, fun a => ?_⟩
    have h := congrFun ht a
    fin_cases a <;> exact h
theorem covers6 : ((cfgM m hO).win 6).Covers :=
  ((cfgM m hO).win 6).covers_of_indexMap_surj rfl (by decide : ∀ a, 0 < S1024x1024.size a) fun β => by
    obtain ⟨t, ht⟩ := onto6 (Fin.cast (by show (8192 + 1024 - 1) / 1024 = 8; rfl) (β (0 : Fin 2))) (Fin.cast (by show (2048 + 1024 - 1) / 1024 = 2; rfl) (β (1 : Fin 2)))
    refine ⟨grid0.coords t, fun a => ?_⟩
    have h := congrFun ht a
    fin_cases a <;> exact h
theorem covers7 : ((cfgM m hO).win 7).Covers :=
  ((cfgM m hO).win 7).covers_of_indexMap_surj rfl (by decide : ∀ a, 0 < S1024x128.size a) fun β => by
    obtain ⟨t, ht⟩ := onto7 (Fin.cast (by show (8192 + 1024 - 1) / 1024 = 8; rfl) (β (0 : Fin 2))) (Fin.cast (by show (128 + 128 - 1) / 128 = 1; rfl) (β (1 : Fin 2)))
    refine ⟨grid0.coords t, fun a => ?_⟩
    have h := congrFun ht a
    fin_cases a <;> exact h

/-! ## The arrays -/

/-- The projections' output. -/
theorem array5 (c : Dev nD) : (datL m hO 0 c).arrAt 5 (cfgM m hO).N
    = (fun y => projOut (argX m c) (argG m c) (argW m c) (y 0).val (y 1).val : S8192x10240.Idx → EReal) := by
  refine (datL m hO 0 c).arrAt_eq_of_covers 5 _ (covers5 m hO) (fun t hf y => ?_)
  have ht := lt56 t
  have e0 : ((((cfgM m hO).win 5).blk t).view.emb y (0 : Fin 2) : Nat) = 1024 * (t.val / 7) + (y (0 : Fin 2)).val := by
    refine (Window.rect_emb_val ((cfgM m hO).win 5) t y (0 : Fin 2)).trans ?_
    show cc0_transform_5 (grid0.coords t) 0 * 1024 + (y (0 : Fin 2)).val = _
    rw [index5 t]; show t.val / 7 * 1024 + _ = _; omega
  have e1 : ((((cfgM m hO).win 5).blk t).view.emb y (1 : Fin 2) : Nat) = 2048 * colBlock (t.val % 7) + (y (1 : Fin 2)).val := by
    refine (Window.rect_emb_val ((cfgM m hO).win 5) t y (1 : Fin 2)).trans ?_
    show cc0_transform_5 (grid0.coords t) 1 * 2048 + (y (1 : Fin 2)).val = _
    rw [index5 t]; show colBlock (t.val % 7) * 2048 + _ = _; omega
  have h := out5_at m hO c (t.val / 7) (t.val % 7) (by omega) (by omega) (y (0 : Fin 2)) (y (1 : Fin 2))
  show (datL m hO 0 c).after 5 t y = projOut (argX m c) (argG m c) (argW m c) ((((cfgM m hO).win 5).blk t).view.emb y (0 : Fin 2)).val
    ((((cfgM m hO).win 5).blk t).view.emb y (1 : Fin 2)).val
  rw [after_5, e0, e1, ← h]
  exact congrArg (out5 m hO c (t.val / 7) (t.val % 7)) (eq_ix2 (y : S1024x2048.Idx))

/-- The gated output. -/
theorem array6 (c : Dev nD) : (datL m hO 0 c).arrAt 6 (cfgM m hO).N
    = (fun y => gluOut (argX m c) (argG m c) (argW m c) (y 0).val (y 1).val : S8192x2048.Idx → EReal) := by
  refine (datL m hO 0 c).arrAt_eq_of_covers 6 _ (covers6 m hO) (fun t hf y => ?_)
  have ht := lt56 t
  have e0 : ((((cfgM m hO).win 6).blk t).view.emb y (0 : Fin 2) : Nat) = 1024 * (t.val / 7) + (y (0 : Fin 2)).val := by
    refine (Window.rect_emb_val ((cfgM m hO).win 6) t y (0 : Fin 2)).trans ?_
    show cc0_transform_6 (grid0.coords t) 0 * 1024 + (y (0 : Fin 2)).val = _
    rw [index6 t]; show t.val / 7 * 1024 + _ = _; omega
  have e1 : ((((cfgM m hO).win 6).blk t).view.emb y (1 : Fin 2) : Nat) = (if t.val % 7 < 4 then 0 else 1024) + (y (1 : Fin 2)).val := by
    refine (Window.rect_emb_val ((cfgM m hO).win 6) t y (1 : Fin 2)).trans ?_
    show cc0_transform_6 (grid0.coords t) 1 * 1024 + (y (1 : Fin 2)).val = _
    rw [index6 t]; show (if t.val % 7 < 4 then 0 else 1) * 1024 + _ = _; split <;> omega
  have h := out6_at m hO c (t.val / 7) (t.val % 7) (by omega) (y (0 : Fin 2)) (y (1 : Fin 2))
  show (datL m hO 0 c).after 6 t y = gluOut (argX m c) (argG m c) (argW m c) ((((cfgM m hO).win 6).blk t).view.emb y (0 : Fin 2)).val
    ((((cfgM m hO).win 6).blk t).view.emb y (1 : Fin 2)).val
  rw [after_6, e0, e1, ← h]
  exact congrArg (out6 m hO c (t.val / 7) (t.val % 7)) (eq_ix2 (y : S1024x1024.Idx))

/-- The forget gates' inputs. -/
theorem array7 (c : Dev nD) : (datL m hO 0 c).arrAt 7 (cfgM m hO).N
    = (fun y => gateOut (argX m c) (argG m c) (argW m c) (y 0).val (y 1).val : S8192x128.Idx → EReal) := by
  refine (datL m hO 0 c).arrAt_eq_of_covers 7 _ (covers7 m hO) (fun t hf y => ?_)
  have ht := lt56 t
  have e0 : ((((cfgM m hO).win 7).blk t).view.emb y (0 : Fin 2) : Nat) = 1024 * (t.val / 7) + (y (0 : Fin 2)).val := by
    refine (Window.rect_emb_val ((cfgM m hO).win 7) t y (0 : Fin 2)).trans ?_
    show cc0_transform_7 (grid0.coords t) 0 * 1024 + (y (0 : Fin 2)).val = _
    rw [index7 t]; show t.val / 7 * 1024 + _ = _; omega
  have e1 : ((((cfgM m hO).win 7).blk t).view.emb y (1 : Fin 2) : Nat) = (y (1 : Fin 2)).val := by
    refine (Window.rect_emb_val ((cfgM m hO).win 7) t y (1 : Fin 2)).trans ?_
    show cc0_transform_7 (grid0.coords t) 1 * 128 + (y (1 : Fin 2)).val = _
    rw [index7 t]; show 0 * 128 + _ = _; omega
  have h := out7_at m hO c (t.val / 7) (by omega) (y (0 : Fin 2)) (y (1 : Fin 2))
  show (datL m hO 0 c).after 7 t y = gateOut (argX m c) (argG m c) (argW m c) ((((cfgM m hO).win 7).blk t).view.emb y (0 : Fin 2)).val
    ((((cfgM m hO).win 7).blk t).view.emb y (1 : Fin 2)).val
  rw [after_7, e0, e1, ← h]
  exact congrArg (out7 m hO c (t.val / 7)) (eq_ix2 (y : S1024x128.Idx))

end Cert.Layer

end
-- ==== Proof.Layer.Reference.lean ====
/- THE REFERENCE's results: its composed terms as functions of one matrix of projections, that matrix and those functions read at an index
   (the functions of Meaning.lean), and the reference's run ending at them. -/
module

public import proofs.«01_k».proof.Proof.Layer.Meaning
public import proofs.«01_k».proof.Proof.Gen.ReferenceIdeal.Run

@[expose] public section

set_option maxRecDepth 16384

noncomputable section

namespace Cert.Layer

open Idealize.ShloMosaic Idealize.ShloMosaic.TcCoe Idealize.ShloMosaic.Tactic
open Idealize.SL Idealize.SL.Sem
open Cert.ReferenceIdeal Cert.ReferenceIdeal.Gen Cert.ReferenceIdeal.Value

/-- The reference's normalised rows. -/
def refNormed (x : FVec Ideal S1x8192x2048 .f32) (g : FVec Ideal S1x2048 .f32) : FVec Ideal S8192x2048 .f32 :=
  mulf (mulf (shapeCast _ x shapeCasts_S1x8192x2048_S8192x2048)
      (broadcastInDim S8192x2048 ![0, 1] bcast_S8192x1_S8192x2048_0_1
        (Host.rsqrt (addf (Host.divf (broadcastInDim S8192x1 ![0] bcast_S8192_S8192x1_0
            (Host.reduceAdd (mulf (shapeCast _ x shapeCasts_S1x8192x2048_S8192x2048) (shapeCast _ x shapeCasts_S1x8192x2048_S8192x2048))
              (constant S_ .f32 0x00000000#32) reducesTo_S8192x2048_S8192_d1 h_S_))
            (broadcastInDim S8192x1 ![] bcast_S_S8192x1 (constant S_ .f32 0x45000000#32)))
          (broadcastInDim S8192x1 ![] bcast_S_S8192x1 (constant S_ .f32 0x358637BD#32))))))
    (broadcastInDim S8192x2048 ![0, 1] bcast_S1x2048_S8192x2048_0_1
      (broadcastInDim S1x2048 ![1] bcast_S2048_S1x2048_1 (shapeCast _ g shapeCasts_S1x2048_S2048)))

/-- The reference's matrix of projections. -/
def refProj (x : FVec Ideal S1x8192x2048 .f32) (g : FVec Ideal S1x2048 .f32) (w : FVec Ideal S1x2048x14368 .f32) : FVec Ideal S8192x14368 .f32 :=
  Host.dotGeneral dot_S8192x2048_S2048x14368_S8192x14368_1_0_0_1_n_n none (refNormed x g) (shapeCast _ w shapeCasts_S1x2048x14368_S2048x14368)

/-- The reference's first result, of the matrix of projections. -/
def ref0 (p : FVec Ideal S8192x14368 .f32) : FVec Ideal S8192x10240 .bf16 :=
  truncf .bf16 (concatenate S8192x10240 1
    [⟨S8192x1024, extractStridedSlice S8192x1024 ![0, 0] p slices_S8192x14368_S8192x1024_0_0⟩,
     ⟨S8192x1024, extractStridedSlice S8192x1024 ![0, 1024] p slices_S8192x14368_S8192x1024_0_1024⟩,
     ⟨S8192x2048, extractStridedSlice S8192x2048 ![0, 2048] p slices_S8192x14368_S8192x2048_0_2048⟩,
     ⟨S8192x2048, mulf (extractStridedSlice S8192x2048 ![0, 4096] p slices_S8192x14368_S8192x2048_0_4096)
        (Host.divf (broadcastInDim S8192x2048 ![] bcast_S_S8192x2048 (constant S_ .f32 0x3F800000#32))
          (addf (broadcastInDim S8192x2048 ![] bcast_S_S8192x2048 (constant S_ .f32 0x3F800000#32))
            (Host.exp (Host.negf (extractStridedSlice S8192x2048 ![0, 4096] p slices_S8192x14368_S8192x2048_0_4096)))))⟩,
     ⟨S8192x4096, Host.divf (broadcastInDim S8192x4096 ![] bcast_S_S8192x4096 (constant S_ .f32 0x3F800000#32))
        (addf (broadcastInDim S8192x4096 ![] bcast_S_S8192x4096 (constant S_ .f32 0x3F800000#32))
          (Host.exp (Host.negf (extractStridedSlice S8192x4096 ![0, 10272] p slices_S8192x14368_S8192x4096_0_10272))))⟩]
    concatenates_S8192x1024_S8192x1024_S8192x2048_S8192x2048_S8192x4096_S8192x10240_d1) bitsLt_bf16_f32

/-- The reference's second result. -/
def ref1 (p : FVec Ideal S8192x14368 .f32) : FVec Ideal S8192x2048 .bf16 :=
  truncf .bf16 (mulf (extractStridedSlice S8192x2048 ![0, 0] (extractStridedSlice S8192x4096 ![0, 6176] p slices_S8192x14368_S8192x4096_0_6176)
      slices_S8192x4096_S8192x2048_0_0)
    (Host.divf (broadcastInDim S8192x2048 ![] bcast_S_S8192x2048 (constant S_ .f32 0x3F800000#32))
      (addf (broadcastInDim S8192x2048 ![] bcast_S_S8192x2048 (constant S_ .f32 0x3F800000#32))
        (Host.exp (Host.negf (extractStridedSlice S8192x2048 ![0, 2048] (extractStridedSlice S8192x4096 ![0, 6176] p slices_S8192x14368_S8192x4096_0_6176)
          slices_S8192x4096_S8192x2048_0_2048)))))) bitsLt_bf16_f32

/-- The reference's third result. -/
def ref2 (p : FVec Ideal S8192x14368 .f32) : FVec Ideal S8192x128 .bf16 :=
  truncf .bf16 (pad S8192x128 ![0, 0] ![0, 96] ![0, 0] (concatenate S8192x32 1
      [⟨S8192x16, extractStridedSlice S8192x16 ![0, 6144] p slices_S8192x14368_S8192x16_0_6144⟩,
       ⟨S8192x16, extractStridedSlice S8192x16 ![0, 6160] p slices_S8192x14368_S8192x16_0_6160⟩]
      concatenates_S8192x16_S8192x16_S8192x32_d1) (sitofp .f32 (constantI S_ 32 0#32)) pads_S8192x32_S8192x128_000_0960 h_S_) bitsLt_bf16_f32

/-- The reference's normalised rows at an index. -/
theorem refNormed_at (x : FVec Ideal S1x8192x2048 .f32) (g : FVec Ideal S1x2048 .f32) (r : Fin 8192) (k : Fin 2048) :
    refNormed x g (ix2 r k) = normed x g r k := by
  pointwise [refNormed, normed]

/-- The matrix of projections at an index. -/
theorem refProj_at (x : FVec Ideal S1x8192x2048 .f32) (g : FVec Ideal S1x2048 .f32) (w : FVec Ideal S1x2048x14368 .f32) (r : Fin 8192) (n : Fin 14368) :
    refProj x g w (ix2 r n) = proj x g w r n := by
  pointwise [refProj]
  simp only [refNormed_at, proj, Nat.mod_eq_of_lt r.isLt, Nat.mod_eq_of_lt n.isLt, Fin.eta]

/-- The first result at an index. -/
theorem ref0_at (x : FVec Ideal S1x8192x2048 .f32) (g : FVec Ideal S1x2048 .f32) (w : FVec Ideal S1x2048x14368 .f32) (r : Fin 8192) (n : Fin 10240) :
    ref0 (refProj x g w) (ix2 r n) = projOut x g w r n := by
  pointwise [ref0]
  simp only [refProj_at]
  have hn := n.isLt
  rcases r with ⟨r, hr⟩
  rcases n with ⟨n, _⟩
  simp only at hn ⊢
  simp only [projOut, logi]
  by_cases h1 : n < 1024
  · rw [dif_pos h1, if_pos (by omega)]
  rw [dif_neg h1]
  by_cases h2 : n - 1024 < 1024
  · rw [dif_pos h2, if_pos (by omega), show 1024 + (n - 1024) = n by omega]
  rw [dif_neg h2]
  by_cases h3 : n - 1024 - 1024 < 2048
  · rw [dif_pos h3, if_pos (by omega), show 2048 + (n - 1024 - 1024) = n by omega]
  rw [dif_neg h3]
  by_cases h4 : n - 1024 - 1024 - 2048 < 2048
  · rw [dif_pos h4, if_neg (by omega), if_pos (by omega), show 4096 + (n - 1024 - 1024 - 2048) = n by omega]
  · rw [dif_neg h4, if_neg (by omega), if_neg (by omega), show 10272 + (n - 1024 - 1024 - 2048 - 2048) = n + 4128 by omega]

/-- The second result at an index. -/
theorem ref1_at (x : FVec Ideal S1x8192x2048 .f32) (g : FVec Ideal S1x2048 .f32) (w : FVec Ideal S1x2048x14368 .f32) (r : Fin 8192) (n : Fin 2048) :
    ref1 (refProj x g w) (ix2 r n) = gluOut x g w r n := by
  pointwise [ref1]
  simp only [refProj_at, gluOut, logi, show 6176 + (2048 + n.val) = 8224 + n.val by omega]

/-- The third result at an index. -/
theorem ref2_at (x : FVec Ideal S1x8192x2048 .f32) (g : FVec Ideal S1x2048 .f32) (w : FVec Ideal S1x2048x14368 .f32) (r : Fin 8192) (n : Fin 128) :
    ref2 (refProj x g w) (ix2 r n) = gateOut x g w r n := by
  pointwise [ref2]
  simp only [refProj_at, gateOut, sitofp_zero]
  by_cases h : n.val < 32
  · rw [dif_pos h, if_pos h]
    by_cases h' : n.val < 16
    · rw [dif_pos h']
    · rw [dif_neg h', show 6160 + (n.val - 16) = 6144 + n.val by omega]
  · rw [dif_neg h, if_neg h]

/-- The reference's run: each result is its function of the matrix of projections, and the arguments are as they were. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = ref0 (refProj (m ((c.tc : Thread nD τ).loc main_arg0)) (m ((c.tc : Thread nD τ).loc main_arg1)) (m ((c.tc : Thread nD τ).loc main_arg2)))
      ∧ r.2.mem ((c.tc : Thread nD τ).loc main_v45) = ref1 (refProj (m ((c.tc : Thread nD τ).loc main_arg0)) (m ((c.tc : Thread nD τ).loc main_arg1)) (m ((c.tc : Thread nD τ).loc main_arg2)))
      ∧ r.2.mem ((c.tc : Thread nD τ).loc main_v46) = ref2 (refProj (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.Layer
end
-- ==== Proof.Layer.MlpValues.lean ====
/- THE FEED-FORWARD KERNEL'S VALUES over the extended reals: what its body stores, element by element, the blocks it reads as elements of its
   arguments, the sum one pass over the hidden units leaves, and the array after the run. -/
module

public import proofs.«01_k».proof.Proof.Layer.MlpMeaning
public import proofs.«01_k».proof.Proof.Gen.Kernel2Ideal.Value
public import Idealize.ShloMosaic.Lib.Pipeline.ValueKit
public import Idealize.ShloMosaic.Lib.StableHlo.RunRead

@[expose] public section

set_option maxRecDepth 16384

noncomputable section

namespace Cert.Layer

open Idealize.ShloMosaic Idealize.ShloMosaic.TcCoe Idealize.ShloMosaic.Tactic
open Cert.Kernel2Ideal Cert.Kernel2Ideal.Gen

/-! ## What the body stores -/

theorem mlp_zero_at (r : Fin 512) (j : Fin 2048) : k0_pay1 (F := Ideal) (ix2 r j) = 0 := by
  pointwise [k0_pay1]

/-- One tile of the hidden units, added to what was there. -/
theorem mlp_tile_at (u : Vec Ideal S512x2048 .bf16) (w : Vec Ideal S2048x1024 .bf16) (a : Vec Ideal S512x2048 .f32) (d : Vec Ideal S1024x2048 .bf16)
    (r : Fin 512) (j : Fin 2048) : k0_pay2 u w a d (ix2 r j) = a (ix2 r j) + ∑ n : Fin 1024,
      max (∑ k : Fin 2048, u (ix2 r k) * w (ix2 k n)) 0 * max (∑ k : Fin 2048, u (ix2 r k) * w (ix2 k n)) 0 * d (ix2 n j) := by
  pointwise [k0_pay2]

theorem mlp_end_at (h a : Vec Ideal S512x2048 .f32) (g : Vec Ideal S1x2048 .f32) (r : Fin 512) (j : Fin 2048) :
    k0_pay3 h a g (ix2 r j) = addNormed (h (ix2 r j)) (fun k => a (ix2 r k)) (g (ix2 0 j)) j := by
  pointwise [k0_pay3, addNormed]

/-! ## What the host hands the kernel -/

theorem up_at (w : FVec Ideal S1x2048x8192 .f32) (k : Fin 2048) (n : Fin 8192) :
    truncf .bf16 (shapeCast S2048x8192 w shapeCasts_S1x2048x8192_S2048x8192) bitsLt_bf16_f32 (ix2 k n) = w (ix3 0 k n) := by
  pointwise

theorem down_at (d : FVec Ideal S1x8192x2048 .f32) (n : Fin 8192) (j : Fin 2048) :
    truncf .bf16 (shapeCast S8192x2048 d shapeCasts_S1x8192x2048_S8192x2048) bitsLt_bf16_f32 (ix2 n j) = d (ix3 0 n j) := by
  pointwise

theorem post_gain_at (g : FVec Ideal S1x2048 .f32) (j : Fin 2048) :
    shapeCast S1x2048 (shapeCast S2048 g shapeCasts_S1x2048_S2048) shapeCasts_S2048_S1x2048 (ix2 0 j) = g (ix2 0 j) := by
  pointwise

variable (m : (ℓ : Loc nD τ sig) → Buf (Elt Ideal) ℓ)

/-- The kernel's arguments, as core `c` holds them: normalised rows, residual, the two matrices of weights, gains. -/
abbrev mlpU (c : Dev nD) : FVec Ideal S8192x2048 .bf16 := m ((c.tc : Thread nD τ).loc main_arg0)
abbrev mlpH (c : Dev nD) : FVec Ideal S8192x2048 .f32 := m ((c.tc : Thread nD τ).loc main_arg1)
abbrev mlpW (c : Dev nD) : FVec Ideal S1x2048x8192 .f32 := m ((c.tc : Thread nD τ).loc main_arg2)
abbrev mlpD (c : Dev nD) : FVec Ideal S1x8192x2048 .f32 := m ((c.tc : Thread nD τ).loc main_arg3)
abbrev mlpG (c : Dev nD) : FVec Ideal S1x2048 .f32 := m ((c.tc : Thread nD τ).loc main_arg4)

theorem mlp_V1 (c : Dev nD) : V m c main_v1 = truncf .bf16 (shapeCast S2048x8192 (mlpW m c) shapeCasts_S1x2048x8192_S2048x8192) bitsLt_bf16_f32 := by
  show StableHlo.after hostOps0 _ _ = _
  after_reads_simp
  rfl
theorem mlp_V3 (c : Dev nD) : V m c main_v3 = truncf .bf16 (shapeCast S8192x2048 (mlpD m c) shapeCasts_S1x8192x2048_S8192x2048) bitsLt_bf16_f32 := by
  show StableHlo.after hostOps0 _ _ = _
  after_reads_simp
  rfl
theorem mlp_V5 (c : Dev nD) : V m c main_v5 = shapeCast S1x2048 (shapeCast S2048 (mlpG m c) shapeCasts_S1x2048_S2048) shapeCasts_S2048_S1x2048 := by
  show StableHlo.after hostOps0 _ _ = _
  after_reads_simp
  rfl

/-! ## The blocks read -/

theorem mlp_index0 : ∀ t : Fin grid0.N, cc0_transform_0 (grid0.coords t) = ![t.val / 8, 0] := by decide +kernel
theorem mlp_index1 : ∀ t : Fin grid0.N, cc0_transform_1 (grid0.coords t) = ![t.val / 8, 0] := by decide +kernel
theorem mlp_index2 : ∀ t : Fin grid0.N, cc0_transform_2 (grid0.coords t) = ![0, t.val % 8] := by decide +kernel
theorem mlp_index3 : ∀ t : Fin grid0.N, cc0_transform_3 (grid0.coords t) = ![t.val % 8, 0] := by decide +kernel
theorem mlp_index4 : ∀ t : Fin grid0.N, cc0_transform_4 (grid0.coords t) = ![0, 0] := by decide +kernel

/-- Row `512 b + r` of the normalised rows, at any point of row block `b`. -/
theorem mlp_block0 (c : Dev nD) (t : Fin cfg0.N) (b s : Nat) (hs : s < 8) (ht : t.val = 8 * b + s) (r : Fin 512) (k : Fin 2048) (R : Fin 8192) (hR : R.val = 512 * b + r.val) :
    (iblk m c 0 t : S512x2048.Idx → EReal) (ix2 r k) = mlpU m c (ix2 R k) := by
  have e : (((cfg0.win 0).blk t).view.emb (ix2 r k)) = (ix2 R k : S8192x2048.Idx) := by
    funext a
    apply Fin.ext
    refine (Pipeline.Window.rect_emb_val (cfg0.win 0) t (ix2 r k) a).trans ?_
    have h := congrFun (mlp_index0 t) a
    fin_cases a
    · show cc0_transform_0 (grid0.coords t) 0 * 512 + r.val = R.val
      rw [show cc0_transform_0 (grid0.coords t) 0 = t.val / 8 from h]; omega
    · show cc0_transform_0 (grid0.coords t) 1 * 2048 + k.val = k.val
      rw [show cc0_transform_0 (grid0.coords t) 1 = 0 from h]; omega
  show (V m c main_arg0 : S8192x2048.Idx → EReal) (((cfg0.win 0).blk t).view.emb (ix2 r k)) = _
  rw [e, V_main_arg0]

/-- The same row of the residual. -/
theorem mlp_block1 (c : Dev nD) (t : Fin cfg0.N) (b s : Nat) (hs : s < 8) (ht : t.val = 8 * b + s) (r : Fin 512) (k : Fin 2048) (R : Fin 8192) (hR : R.val = 512 * b + r.val) :
    (iblk m c 1 t : S512x2048.Idx → EReal) (ix2 r k) = mlpH m c (ix2 R k) := by
  have e : (((cfg0.win 1).blk t).view.emb (ix2 r k)) = (ix2 R k : S8192x2048.Idx) := by
    funext a
    apply Fin.ext
    refine (Pipeline.Window.rect_emb_val (cfg0.win 1) t (ix2 r k) a).trans ?_
    have h := congrFun (mlp_index1 t) a
    fin_cases a
    · show cc0_transform_1 (grid0.coords t) 0 * 512 + r.val = R.val
      rw [show cc0_transform_1 (grid0.coords t) 0 = t.val / 8 from h]; omega
    · show cc0_transform_1 (grid0.coords t) 1 * 2048 + k.val = k.val
      rw [show cc0_transform_1 (grid0.coords t) 1 = 0 from h]; omega
  show (V m c main_arg1 : S8192x2048.Idx → EReal) (((cfg0.win 1).blk t).view.emb (ix2 r k)) = _
  rw [e, V_main_arg1]

/-- The weights of hidden unit `1024 s + n`, at a point of pass `s` over the hidden units. -/
theorem mlp_block2 (c : Dev nD) (t : Fin cfg0.N) (b s : Nat) (hs : s < 8) (ht : t.val = 8 * b + s) (k : Fin 2048) (n : Fin 1024) (N : Fin 8192) (hN : N.val = s * 1024 + n.val) :
    (iblk m c 2 t : S2048x1024.Idx → EReal) (ix2 k n) = mlpW m c (ix3 0 k N) := by
  have e : (((cfg0.win 2).blk t).view.emb (ix2 k n)) = (ix2 k N : S2048x8192.Idx) := by
    funext a
    apply Fin.ext
    refine (Pipeline.Window.rect_emb_val (cfg0.win 2) t (ix2 k n) a).trans ?_
    have h := congrFun (mlp_index2 t) a
    fin_cases a
    · show cc0_transform_2 (grid0.coords t) 0 * 2048 + k.val = k.val
      rw [show cc0_transform_2 (grid0.coords t) 0 = 0 from h]; omega
    · show cc0_transform_2 (grid0.coords t) 1 * 1024 + n.val = N.val
      rw [show cc0_transform_2 (grid0.coords t) 1 = t.val % 8 from h]; omega
  show (V m c main_v1 : S2048x8192.Idx → EReal) (((cfg0.win 2).blk t).view.emb (ix2 k n)) = _
  rw [e, mlp_V1]
  exact up_at (mlpW m c) k N

/-- That unit's weights back to the channels. -/
theorem mlp_block3 (c : Dev nD) (t : Fin cfg0.N) (b s : Nat) (hs : s < 8) (ht : t.val = 8 * b + s) (n : Fin 1024) (j : Fin 2048) (N : Fin 8192) (hN : N.val = s * 1024 + n.val) :
    (iblk m c 3 t : S1024x2048.Idx → EReal) (ix2 n j) = mlpD m c (ix3 0 N j) := by
  have e : (((cfg0.win 3).blk t).view.emb (ix2 n j)) = (ix2 N j : S8192x2048.Idx) := by
    funext a
    apply Fin.ext
    refine (Pipeline.Window.rect_emb_val (cfg0.win 3) t (ix2 n j) a).trans ?_
    have h := congrFun (mlp_index3 t) a
    fin_cases a
    · show cc0_transform_3 (grid0.coords t) 0 * 1024 + n.val = N.val
      rw [show cc0_transform_3 (grid0.coords t) 0 = t.val % 8 from h]; omega
    · show cc0_transform_3 (grid0.coords t) 1 * 2048 + j.val = j.val
      rw [show cc0_transform_3 (grid0.coords t) 1 = 0 from h]; omega
  show (V m c main_v3 : S8192x2048.Idx → EReal) (((cfg0.win 3).blk t).view.emb (ix2 n j)) = _
  rw [e, mlp_V3]
  exact down_at (mlpD m c) N j

/-- The gains. -/
theorem mlp_block4 (c : Dev nD) (t : Fin cfg0.N) (j : Fin 2048) : (iblk m c 4 t : S1x2048.Idx → EReal) (ix2 0 j) = mlpG m c (ix2 0 j) := by
  have e : (((cfg0.win 4).blk t).view.emb (ix2 0 j)) = (ix2 0 j : S1x2048.Idx) := by
    funext a
    apply Fin.ext
    refine (Pipeline.Window.rect_emb_val (cfg0.win 4) t (ix2 0 j) a).trans ?_
    have h := congrFun (mlp_index4 t) a
    fin_cases a
    · show cc0_transform_4 (grid0.coords t) 0 * 1 + 0 = 0
      rw [show cc0_transform_4 (grid0.coords t) 0 = 0 from h]
    · show cc0_transform_4 (grid0.coords t) 1 * 2048 + j.val = j.val
      rw [show cc0_transform_4 (grid0.coords t) 1 = 0 from h]; omega
  show (V m c main_v5 : S1x2048.Idx → EReal) (((cfg0.win 4).blk t).view.emb (ix2 0 j)) = _
  rw [e, mlp_V5]
  exact post_gain_at (mlpG m c) j

/-! ## The sum over the passes -/

/-- What pass `s` over the hidden units adds at row `R` and channel `j`. -/
def passSum (u : FVec Ideal S8192x2048 .bf16) (w : FVec Ideal S1x2048x8192 .f32) (d : FVec Ideal S1x8192x2048 .f32) (R : Fin 8192) (j : Fin 2048) (s : Nat) : EReal :=
  ∑ n : Fin 1024, hidden u w R ⟨(s * 1024 + n.val) % 8192, Nat.mod_lt _ (by decide)⟩ * d (ix3 0 ⟨(s * 1024 + n.val) % 8192, Nat.mod_lt _ (by decide)⟩ j)

/-- The eight passes together are the sum over the hidden units. -/
theorem passes_eq (u : FVec Ideal S8192x2048 .bf16) (w : FVec Ideal S1x2048x8192 .f32) (d : FVec Ideal S1x8192x2048 .f32) (R : Fin 8192) (j : Fin 2048) :
    ∑ s ∈ Finset.range 8, passSum u w d R j s = fed u w d R j := by
  rw [Finset.sum_range]
  refine Fin.sum_mul_add_congr (f := fun n : Fin 8192 => hidden u w R n * d (ix3 0 n j)) fun s k hl => ?_
  simp only [Nat.mod_eq_of_lt hl]

/-- One point's stored tile, from blocks that are the arguments' elements. -/
theorem tile_pass (U : FVec Ideal S8192x2048 .bf16) (W : FVec Ideal S1x2048x8192 .f32) (D : FVec Ideal S1x8192x2048 .f32)
    (u : Vec Ideal S512x2048 .bf16) (w : Vec Ideal S2048x1024 .bf16) (a : Vec Ideal S512x2048 .f32) (d : Vec Ideal S1024x2048 .bf16)
    (r : Fin 512) (j : Fin 2048) (R : Fin 8192) (s : Nat)
    (hu : ∀ k : Fin 2048, u (ix2 r k) = U (ix2 R k))
    (hw : ∀ (k : Fin 2048) (n : Fin 1024), w (ix2 k n) = W (ix3 0 k ⟨(s * 1024 + n.val) % 8192, Nat.mod_lt _ (by decide)⟩))
    (hd : ∀ n : Fin 1024, d (ix2 n j) = D (ix3 0 ⟨(s * 1024 + n.val) % 8192, Nat.mod_lt _ (by decide)⟩ j)) :
    k0_pay2 u w a d (ix2 r j) = a (ix2 r j) + passSum U W D R j s := by
  rw [mlp_tile_at]
  refine congrArg (a (ix2 r j) + ·) (Finset.sum_congr rfl fun n _ => ?_)
  have e : ∑ k : Fin 2048, u (ix2 r k) * w (ix2 k n) = ∑ k : Fin 2048, U (ix2 R k) * W (ix3 0 k ⟨(s * 1024 + n.val) % 8192, Nat.mod_lt _ (by decide)⟩) :=
    Finset.sum_congr rfl fun k _ => by rw [hu, hw]
  rw [e, hd]
  rfl

/-- One point's stored tile. -/
theorem tile_at (c : Dev nD) (t : Fin cfg0.N) (b s : Nat) (hs : s < 8) (ht : t.val = 8 * b + s) (a : Vec Ideal S512x2048 .f32)
    (r : Fin 512) (j : Fin 2048) (R : Fin 8192) (hR : R.val = 512 * b + r.val) :
    k0_pay2 (iblk m c 0 t) (iblk m c 2 t) a (iblk m c 3 t) (ix2 r j) = a (ix2 r j) + passSum (mlpU m c) (mlpW m c) (mlpD m c) R j s :=
  tile_pass (mlpU m c) (mlpW m c) (mlpD m c) (iblk m c 0 t) (iblk m c 2 t) a (iblk m c 3 t) r j R s
    (fun k => mlp_block0 m c t b s hs ht r k R hR)
    (fun k n => mlp_block2 m c t b s hs ht k n _ (Nat.mod_eq_of_lt (a := s * 1024 + n.val) (by omega)))
    (fun n => mlp_block3 m c t b s hs ht n j _ (Nat.mod_eq_of_lt (a := s * 1024 + n.val) (by omega)))

/-- What the output's staging buffer holds before the last pass: the sum of the passes so far. -/
theorem partial_at (c : Dev nD) (b : Nat) (r : Fin 512) (R : Fin 8192) (hR : R.val = 512 * b + r.val) : ∀ (s : Nat) (hs : s < 7) (h : 8 * b + s < cfg0.N) (j : Fin 2048),
    (Pipeline.accAt (Value.reset5 m c) (Value.step5 m c) (8 * b) s h : S512x2048.Idx → EReal) (ix2 r j)
      = ∑ q ∈ Finset.range (s + 1), passSum (mlpU m c) (mlpW m c) (mlpD m c) R j q
  | 0, _, h, j => by
    refine (tile_at m c ⟨8 * b, h⟩ b 0 (by omega) rfl (k0_pay1 (F := Ideal)) r j R hR).trans ?_
    rw [mlp_zero_at, zero_add, Finset.sum_range_one]
  | s + 1, hs, h, j => by
    have ih := partial_at c b r R hR s (by omega) (by omega) j
    refine (congrFun (?_ : Value.step5 m c (8 * b + (s + 1)) h (Pipeline.accAt (Value.reset5 m c) (Value.step5 m c) (8 * b) s (by omega))
      = k0_pay2 (iblk m c 0 ⟨8 * b + (s + 1), h⟩) (iblk m c 2 ⟨8 * b + (s + 1), h⟩) (Pipeline.accAt (Value.reset5 m c) (Value.step5 m c) (8 * b) s (by omega)) (iblk m c 3 ⟨8 * b + (s + 1), h⟩)) (ix2 r j)).trans ?_
    · unfold Value.step5
      rw [if_pos (by omega)]
    · refine (tile_at m c ⟨8 * b + (s + 1), h⟩ b (s + 1) (by omega) rfl _ r j R hR).trans ?_
      rw [Finset.sum_range_succ _ (s + 1)]
      exact congrArg (· + _) ih

/-- What the last pass leaves: the feed-forward part's output. -/
theorem block_at (c : Dev nD) (b : Nat) (r : Fin 512) (R : Fin 8192) (hR : R.val = 512 * b + r.val) (h : 8 * b + 7 < cfg0.N) (j : Fin 2048) :
    (Pipeline.accAt (Value.reset5 m c) (Value.step5 m c) (8 * b) 7 h : S512x2048.Idx → EReal) (ix2 r j)
      = mlpOut (mlpU m c) (mlpH m c) (mlpW m c) (mlpD m c) (mlpG m c) R j := by
  refine (congrFun (?_ : Value.step5 m c (8 * b + 7) h (Pipeline.accAt (Value.reset5 m c) (Value.step5 m c) (8 * b) 6 (by omega))
      = k0_pay3 (iblk m c 1 ⟨8 * b + 7, h⟩) (k0_pay2 (iblk m c 0 ⟨8 * b + 7, h⟩) (iblk m c 2 ⟨8 * b + 7, h⟩)
          (Pipeline.accAt (Value.reset5 m c) (Value.step5 m c) (8 * b) 6 (by omega)) (iblk m c 3 ⟨8 * b + 7, h⟩)) (iblk m c 4 ⟨8 * b + 7, h⟩)) (ix2 r j)).trans ?_
  · unfold Value.step5
    rw [if_neg (by omega), if_pos (by omega)]
  · refine (mlp_end_at (iblk m c 1 ⟨8 * b + 7, h⟩) _ (iblk m c 4 ⟨8 * b + 7, h⟩) r j).trans ?_
    have hf : (fun k : Fin 2048 => (k0_pay2 (iblk m c 0 ⟨8 * b + 7, h⟩) (iblk m c 2 ⟨8 * b + 7, h⟩)
          (Pipeline.accAt (Value.reset5 m c) (Value.step5 m c) (8 * b) 6 (by omega)) (iblk m c 3 ⟨8 * b + 7, h⟩) : S512x2048.Idx → EReal) (ix2 r k))
        = fed (mlpU m c) (mlpW m c) (mlpD m c) R := by
      funext k
      refine (tile_at m c ⟨8 * b + 7, h⟩ b 7 (by omega) rfl _ r k R hR).trans ?_
      rw [← passes_eq, Finset.sum_range_succ _ 7]
      exact congrArg (· + _) (partial_at m c b r R hR 6 (by omega) (by omega) k)
    exact congrFun (congr (congr (congrArg addNormed (mlp_block1 m c ⟨8 * b + 7, h⟩ b 7 (by omega) rfl r j R hR)) hf) (mlp_block4 m c ⟨8 * b + 7, h⟩ j)) j

/-- The array after the run. -/
theorem mlp_array (c : Dev nD) : Value.G5 m c = (fun y => mlpOut (mlpU m c) (mlpH m c) (mlpW m c) (mlpD m c) (mlpG m c) (y 0) (y 1) : S8192x2048.Idx → EReal) := by
  funext y
  have h0 : (y (0 : Fin 2)).val < 8192 := (y 0).isLt
  have h1 : (y (1 : Fin 2)).val < 2048 := (y 1).isLt
  have hr : Value.run5Of y = (y (0 : Fin 2)).val / 512 := by
    show 1 * ((y (0 : Fin 2)).val / 512 - 0) + 1 * ((y (1 : Fin 2)).val / 2048 - 0) = _
    omega
  have hb : 8 * Value.run5Of y + 7 < cfg0.N := by rw [show cfg0.N = 128 from N_0, hr]; omega
  unfold Value.G5
  rw [dif_pos hb]
  have hl : Value.loc5Of y = (ix2 ⟨(y (0 : Fin 2)).val % 512, Nat.mod_lt _ (by decide)⟩ (y 1) : S512x2048.Idx) := by
    funext a
    apply Fin.ext
    fin_cases a
    · rfl
    · exact Nat.mod_eq_of_lt h1
  rw [hl]
  exact block_at m c (Value.run5Of y) ⟨(y (0 : Fin 2)).val % 512, Nat.mod_lt _ (by decide)⟩ (y 0)
    (by rw [hr]; show (y (0 : Fin 2)).val = 512 * ((y (0 : Fin 2)).val / 512) + (y (0 : Fin 2)).val % 512; omega) hb (y 1)

end Cert.Layer

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Layer.Launch
public import proofs.«01_k».proof.Proof.Layer.Same
public import proofs.«01_k».proof.Proof.Layer.MixValues
public import proofs.«01_k».proof.Proof.Layer.Arrays
public import proofs.«01_k».proof.Proof.Layer.Reference
public import proofs.«01_k».proof.Proof.Layer.MlpMeaning
public import proofs.«01_k».proof.Proof.Layer.MlpValues
public import Idealize.ShloMosaic.Adequacy
public import Idealize.ShloMosaic.Init

@[expose] public section

noncomputable section

namespace Cert.Proof

open Idealize.ShloMosaic Idealize.SL.Sem Cert.Kernel

/-- The kernel's frame: the layer's run at machine floats. -/
theorem frame_kernel : Cert.quiescent_Kernel := fun m ρ _ => Cert.Layer.frame_layer (F := Bits) m ρ

/-- The ideal kernel's frame: the same run at ideal floats. -/
theorem frame_ideal : Cert.quiescent_KernelIdeal := fun m ρ _ =>
  Cert.Layer.run_same m ρ _ (Cert.Layer.frame_layer (F := Ideal) m ρ)

/-- The reference's frame: a straight line of host operations, with no semaphore at all. -/
theorem frame_reference : Cert.quiescent_ReferenceIdeal := fun m ρ _ =>
  (θ_run Cert.ReferenceIdeal.defs _ _).mono
    (fun r h => ⟨fun c => ⟨(h c).2.2.2.1, (h c).2.2.2.2.1, (h c).2.2.2.2.2⟩, Idealize.ShloMosaic.sem_eq_zero_of_no_sems (by decide) r.2⟩)
    (Cert.ReferenceIdeal.Value.run (F := Ideal) m ρ)

/-- The kernel's run over the extended reals: each output array at the layer's function of the arguments. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11_0) = (fun y => Cert.Layer.projOut (Cert.Layer.argX m c) (Cert.Layer.argG m c) (Cert.Layer.argW m c) (y 0).val (y 1).val : S8192x10240.Idx → EReal)
      ∧ r.2.mem ((c.tc : Thread nD τ).loc main_v11_1) = (fun y => Cert.Layer.gluOut (Cert.Layer.argX m c) (Cert.Layer.argG m c) (Cert.Layer.argW m c) (y 0).val (y 1).val : S8192x2048.Idx → EReal)
      ∧ r.2.mem ((c.tc : Thread nD τ).loc main_v11_2) = (fun y => Cert.Layer.gateOut (Cert.Layer.argX m c) (Cert.Layer.argG m c) (Cert.Layer.argW m c) (y 0).val (y 1).val : S8192x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h.1 c).1 5).trans (Cert.Layer.array5 m (Cert.Layer.ok_tables m) c), ((h.1 c).1 6).trans (Cert.Layer.array6 m (Cert.Layer.ok_tables m) c),
      ((h.1 c).1 7).trans (Cert.Layer.array7 m (Cert.Layer.ok_tables m) c),
      ((h.1 c).2 main_arg0 (by decide : main_arg0 ∈ Pipeline.restRefs sig spec0)).trans (Gen.V_main_arg0 m c),
      ((h.1 c).2 main_arg1 (by decide : main_arg1 ∈ Pipeline.restRefs sig spec0)).trans (Gen.V_main_arg1 m c),
      ((h.1 c).2 main_arg2 (by decide : main_arg2 ∈ Pipeline.restRefs sig spec0)).trans (Gen.V_main_arg2 m c)⟩)
    (Cert.Layer.run_layer m ρ (Cert.Layer.ok_tables m))

/-- The equation: both programs end with the layer's three functions of the arguments. -/
theorem equation : Cert.algebraic_KernelIdeal_ReferenceIdeal := fun m ρ m' ρ' _ hag => by
  refine ⟨fun c => (fun y => Cert.Layer.projOut (Cert.Layer.argX m c) (Cert.Layer.argG m c) (Cert.Layer.argW m c) (y 0).val (y 1).val : S8192x10240.Idx → EReal),
    fun c => (fun y => Cert.Layer.gluOut (Cert.Layer.argX m c) (Cert.Layer.argG m c) (Cert.Layer.argW m c) (y 0).val (y 1).val : S8192x2048.Idx → EReal),
    fun c => (fun y => Cert.Layer.gateOut (Cert.Layer.argX m c) (Cert.Layer.argG m c) (Cert.Layer.argW m c) (y 0).val (y 1).val : S8192x128.Idx → EReal),
    Cert.Layer.run_same m ρ _ (run_kernel m ρ), ?_⟩
  refine (θ_run Cert.ReferenceIdeal.defs _ _).mono (fun r h c => ?_) (Cert.Layer.run_reference m' ρ')
  obtain ⟨h0, h1, h2, ha⟩ := h c
  obtain ⟨e0, e1, e2⟩ := hag c
  rw [e0, e1, e2] at h0 h1 h2
  refine ⟨h0.trans ?_, h1.trans ?_, h2.trans ?_, ha⟩
  · funext y
    exact (congrArg _ (eq_ix2 y)).trans (Cert.Layer.ref0_at (Cert.Layer.argX m c) (Cert.Layer.argG m c) (Cert.Layer.argW m c) (y 0) (y 1))
  · funext y
    exact (congrArg _ (eq_ix2 y)).trans (Cert.Layer.ref1_at (Cert.Layer.argX m c) (Cert.Layer.argG m c) (Cert.Layer.argW m c) (y 0) (y 1))
  · funext y
    exact (congrArg _ (eq_ix2 y)).trans (Cert.Layer.ref2_at (Cert.Layer.argX m c) (Cert.Layer.argG m c) (Cert.Layer.argW m c) (y 0) (y 1))

/-! ## The feed-forward part -/

/-- The feed-forward kernel's frame: the same run at machine floats, its text being the ideal kernel's. -/
theorem frame_kernel2 : Cert.quiescent_Kernel2 := fun m ρ _ => Cert.Layer.run_same2 m ρ _ (Cert.Kernel2Ideal.Gen.frame (F := Bits) m ρ)

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The equation: both programs end with the feed-forward part's function of the arguments. -/
theorem equation2 : Cert.algebraic_Kernel2Ideal_Reference2Ideal := fun m ρ m' ρ' _ hag => by
  refine ⟨fun c => (fun y => Cert.Layer.mlpOut (Cert.Layer.mlpU m c) (Cert.Layer.mlpH m c) (Cert.Layer.mlpW m c) (Cert.Layer.mlpD m c) (Cert.Layer.mlpG m c) (y 0) (y 1) : Cert.Kernel2Ideal.S8192x2048.Idx → EReal),
    (θ_run Cert.Kernel2Ideal.defs _ _).mono (fun _ h c => ⟨(h c).1.trans (Cert.Layer.mlp_array m c), (h c).2⟩) (Cert.Kernel2Ideal.Value.run (F := Ideal) m ρ), ?_⟩
  refine (θ_run Cert.Reference2Ideal.defs _ _).mono (fun r h c => ?_) (Cert.Layer.run_reference2 m' ρ')
  obtain ⟨h0, ha⟩ := h c
  obtain ⟨e0, e1, e2, e3, e4⟩ := hag c
  rw [e0, e1, e2, e3, e4] at h0
  refine ⟨h0.trans ?_, ha⟩
  funext y
  exact (congrArg _ (eq_ix2 y)).trans (Cert.Layer.refMlp_at (Cert.Layer.mlpU m c) (Cert.Layer.mlpH m c) (Cert.Layer.mlpW m c) (Cert.Layer.mlpD m c) (Cert.Layer.mlpG m c) (y 0) (y 1))

/-! ## The mixers' output -/

/-- The kernel's frame: the same run at machine floats, its text being the ideal kernel's. -/
theorem frame_kernel3 : Cert.quiescent_Kernel3 := fun m ρ _ => Cert.Layer.run_same3 m ρ _ (Cert.Kernel3Ideal.Gen.frame (F := Bits) m ρ)

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The equation: both programs end with the residual after the mixers and with its normalised rows, as functions of the arguments. -/
theorem equation3 : Cert.algebraic_Kernel3Ideal_Reference3Ideal := fun m ρ m' ρ' _ hag => by
  refine ⟨fun c => (fun y => Cert.Layer.mixArr m c (y 0) (y 1) : Cert.Kernel3Ideal.S8192x2048.Idx → EReal),
    fun c => (fun y => Cert.Layer.normedAt (Cert.Layer.mixArr m c (y 0)) (Cert.Layer.mixGn m c (ix2 0 (y 1))) (y 1) : Cert.Kernel3Ideal.S8192x2048.Idx → EReal),
    (θ_run Cert.Kernel3Ideal.defs _ _).mono (fun _ h c => ⟨(h c).1.trans (Cert.Layer.mix_array18 m c), (h c).2.1.trans (Cert.Layer.mix_array19 m c), (h c).2.2⟩)
      (Cert.Kernel3Ideal.Value.run_blocks (F := Ideal) m ρ), ?_⟩
  refine (θ_run Cert.Reference3Ideal.defs _ _).mono (fun r h c => ?_) (Cert.Layer.run_reference3 m' ρ')
  obtain ⟨h0, h1, ha⟩ := h c
  obtain ⟨e0, e1, e2, e3, e4, e5, e6, e7, e8, e9, e10, e11, e12, e13, e14⟩ := hag c
  rw [e0, e1, e2, e3, e4, e5, e6, e7, e8, e9, e10, e11, e12, e13] at h0
  rw [e0, e1, e2, e3, e4, e5, e6, e7, e8, e9, e10, e11, e12, e13, e14] at h1
  have g : ∀ (t : Fin 8192) (j : Fin 2048), Cert.Layer.refMixOut (Cert.Layer.mixO m c) (Cert.Layer.mixP m c) (Cert.Layer.mixGlu m c) (Cert.Layer.mixFront m c)
      (Cert.Layer.mixH m c) (Cert.Layer.mixWg m c) (Cert.Layer.mixWd m c) (Cert.Layer.mixBd m c) (Cert.Layer.mixLg m c) (Cert.Layer.mixLb m c) (Cert.Layer.mixWc m c)
      (Cert.Layer.mixBc m c) (Cert.Layer.mixWo m c) (Cert.Layer.mixGp m c) (ix2 t j) = Cert.Layer.mixArr m c t j := fun t j => Cert.Layer.refMixOut_at _ _ _ _ _ _ _ _ _ _ _ _ _ _ t j
  refine ⟨h0.trans ?_, h1.trans ?_, ha⟩
  · funext y
    exact (congrArg _ (eq_ix2 y)).trans (g (y 0) (y 1))
  · funext y
    refine (congrArg _ (eq_ix2 y)).trans ((Cert.Layer.refNext_at _ _ (y 0) (y 1)).trans ?_)
    exact congrArg (fun f => Cert.Layer.normedAt f (Cert.Layer.mixGn m c (ix2 0 (y 1))) (y 1)) (funext fun k => g (y 0) k)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_ideal, frame_reference, frame_kernel2, frame_ideal2, frame_reference2, frame_kernel3, frame_ideal3, frame_reference3,
  trivial, equation, trivial, equation2, trivial, equation3⟩

end Cert.Proof

end
